-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def preserves_Kernel_KernelIdeal : Prop :=
  IdealRules.named_const.Statement Cert.KernelIdeal.κ "neg" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v61) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)) →
    ∃ (v0 : (c : Dev Cert.Kernel3Ideal.nD) → Buf (Elt Ideal) ((c.tc : Thread Cert.Kernel3Ideal.nD Cert.Kernel3Ideal.τ).loc Cert.Kernel3Ideal.main_v40)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v40) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v106) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v10)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v45) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v10)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v10) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v46) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S8x4352x512 : Shape := ⟨3, ![8, 4352, 512]⟩
abbrev S2x8x15x31 : Shape := ⟨4, ![2, 8, 15, 31]⟩
abbrev S_ : Shape := ⟨0, ![]⟩
abbrev S1x8x15x31 : Shape := ⟨4, ![1, 8, 15, 31]⟩
abbrev S8x15x31 : Shape := ⟨3, ![8, 15, 31]⟩

class Facts : Prop where
  bcast_S_S8x4352x512 : S_.BroadcastsInDim S8x4352x512 (![] : Fin 0 → Fin S8x4352x512.rank)
  slices_S2x8x15x31_S1x8x15x31_0_0_0_0 : S2x8x15x31.Slices ![0, 0, 0, 0] S1x8x15x31
  shapeCasts_S1x8x15x31_S8x15x31 : S1x8x15x31.ShapeCasts S8x15x31
  bcast_S_S8x15x31 : S_.BroadcastsInDim S8x15x31 (![] : Fin 0 → Fin S8x15x31.rank)

variable [Facts]

def fn {F : FTy → Type} [FloatOps F] (main_arg0 : FVec F S8x4352x512 .f32) (main_arg1 : FVec F S8x4352x512 .f32) (main_arg2 : FVec F S8x4352x512 .f32) (main_arg3 : FVec F S2x8x15x31 .f32) : IVec S8x4352x512 1 × IVec S8x4352x512 1 × IVec S8x15x31 1 :=
  let main_v0 : FVec F S8x4352x512 .f32 := Host.absf main_arg0
  let main_cst : FVec F S_ .f32 := constant S_ .f32 0x7F800000#32
  let main_v1 : FVec F S8x4352x512 .f32 := broadcastInDim S8x4352x512 ![] bcast_S_S8x4352x512 main_cst
  let main_v2 : IVec S8x4352x512 1 := cmpf .olt main_v0 main_v1
  let main_v3 : FVec F S8x4352x512 .f32 := Host.absf main_arg1
  let main_cst_0 : FVec F S_ .f32 := constant S_ .f32 0x7F800000#32
  let main_v4 : FVec F S8x4352x512 .f32 := broadcastInDim S8x4352x512 ![] bcast_S_S8x4352x512 main_cst_0
  let main_v5 : IVec S8x4352x512 1 := cmpf .olt main_v3 main_v4
  let main_v6 : FVec F S1x8x15x31 .f32 := (extractStridedSlice S1x8x15x31 ![0, 0, 0, 0] · slices_S2x8x15x31_S1x8x15x31_0_0_0_0) main_arg3
  let main_v7 : FVec F S8x15x31 .f32 := shapeCast S8x15x31 main_v6 shapeCasts_S1x8x15x31_S8x15x31
  let main_v8 : FVec F S8x15x31 .f32 := Host.absf main_v7
  let main_cst_1 : FVec F S_ .f32 := constant S_ .f32 0x7F800000#32
  let main_v9 : FVec F S8x15x31 .f32 := broadcastInDim S8x15x31 ![] bcast_S_S8x15x31 main_cst_1
  let main_v10 : IVec S8x15x31 1 := cmpf .olt main_v8 main_v9
  (main_v2, main_v5, main_v10)
-- ==== Kernel.lean ====
abbrev S8x4352x512 : Shape := ⟨3, ![8, 4352, 512]⟩
abbrev S2x8x15x31 : Shape := ⟨4, ![2, 8, 15, 31]⟩
abbrev S64x64 : Shape := ⟨2, ![64, 64]⟩
abbrev S_ : Shape := ⟨0, ![]⟩
abbrev S64x64x1 : Shape := ⟨3, ![64, 64, 1]⟩
abbrev S2x8x15x64x64 : Shape := ⟨5, ![2, 8, 15, 64, 64]⟩
abbrev S2x8x14x64x64 : Shape := ⟨5, ![2, 8, 14, 64, 64]⟩
abbrev S2x8x14x64x128 : Shape := ⟨5, ![2, 8, 14, 64, 128]⟩
abbrev S1x256x512 : Shape := ⟨3, ![1, 256, 512]⟩
abbrev S1x704x512 : Shape := ⟨3, ![1, 704, 512]⟩
abbrev S1x8x14x64x128 : Shape := ⟨5, ![1, 8, 14, 64, 128]⟩
abbrev S384x768 : Shape := ⟨2, ![384, 768]⟩
abbrev S64x128 : Shape := ⟨2, ![64, 128]⟩
abbrev S1x64x128 : Shape := ⟨3, ![1, 64, 128]⟩
abbrev S1x512x128 : Shape := ⟨3, ![1, 512, 128]⟩
abbrev S512x128 : Shape := ⟨2, ![512, 128]⟩
abbrev S1x256x128 : Shape := ⟨3, ![1, 256, 128]⟩
abbrev S256x128 : Shape := ⟨2, ![256, 128]⟩
abbrev S768x128 : Shape := ⟨2, ![768, 128]⟩
abbrev S128x128 : Shape := ⟨2, ![128, 128]⟩
abbrev S128x768 : Shape := ⟨2, ![128, 768]⟩
abbrev S1x1x1x64x128 : Shape := ⟨5, ![1, 1, 1, 64, 128]⟩
abbrev S64x512 : Shape := ⟨2, ![64, 512]⟩
abbrev S128x512 : Shape := ⟨2, ![128, 512]⟩
abbrev S128x256 : Shape := ⟨2, ![128, 256]⟩
abbrev S128 : Shape := ⟨1, ![128]⟩
abbrev S128x1 : Shape := ⟨2, ![128, 1]⟩

abbrev nBuf : Space → Nat
  | .hbm => 28
  | .vmem => 15
  | .smem => 0
  | _ => 0

abbrev bufTy : (tb : Table) → Fin (tcTables nBuf tb) → BufTy
  | .hbm, ⟨0, _⟩ => ⟨S8x4352x512, .f32⟩
  | .hbm, ⟨1, _⟩ => ⟨S8x4352x512, .f32⟩
  | .hbm, ⟨2, _⟩ => ⟨S8x4352x512, .f32⟩
  | .hbm, ⟨3, _⟩ => ⟨S2x8x15x31, .f32⟩
  | .hbm, ⟨4, _⟩ => ⟨S64x64, .i32⟩
  | .hbm, ⟨5, _⟩ => ⟨S64x64, .i1⟩
  | .hbm, ⟨6, _⟩ => ⟨S64x64, .i1⟩
  | .hbm, ⟨7, _⟩ => ⟨S_, .f32⟩
  | .hbm, ⟨8, _⟩ => ⟨S8x4352x512, .f32⟩
  | .hbm, ⟨9, _⟩ => ⟨S8x4352x512, .f32⟩
  | .hbm, ⟨10, _⟩ => ⟨S8x4352x512, .bf16⟩
  | .hbm, ⟨11, _⟩ => ⟨S8x4352x512, .bf16⟩
  | .hbm, ⟨12, _⟩ => ⟨S8x4352x512, .bf16⟩
  | .hbm, ⟨13, _⟩ => ⟨S_, .i32⟩
  | .hbm, ⟨14, _⟩ => ⟨S64x64, .i32⟩
  | .hbm, ⟨15, _⟩ => ⟨S64x64, .i32⟩
  | .hbm, ⟨16, _⟩ => ⟨S64x64, .i32⟩
  | .hbm, ⟨17, _⟩ => ⟨S64x64x1, .i32⟩
  | .hbm, ⟨18, _⟩ => ⟨S2x8x15x64x64, .f32⟩
  | .hbm, ⟨19, _⟩ => ⟨S_, .f32⟩
  | .hbm, ⟨20, _⟩ => ⟨S_, .f32⟩
  | .hbm, ⟨21, _⟩ => ⟨S2x8x15x64x64, .i1⟩
  | .hbm, ⟨22, _⟩ => ⟨S2x8x15x64x64, .f32⟩
  | .hbm, ⟨23, _⟩ => ⟨S2x8x15x64x64, .f32⟩
  | .hbm, ⟨24, _⟩ => ⟨S2x8x14x64x64, .f32⟩
  | .hbm, ⟨25, _⟩ => ⟨S2x8x14x64x64, .f32⟩
  | .hbm, ⟨26, _⟩ => ⟨S2x8x14x64x128, .f32⟩
  | .hbm, ⟨27, _⟩ => ⟨S8x4352x512, .bf16⟩
  | .local _ .vmem, ⟨0, _⟩ => ⟨S1x256x512, .bf16⟩
  | .local _ .vmem, ⟨1, _⟩ => ⟨S1x256x512, .bf16⟩
  | .local _ .vmem, ⟨2, _⟩ => ⟨S1x704x512, .bf16⟩
  | .local _ .vmem, ⟨3, _⟩ => ⟨S1x704x512, .bf16⟩
  | .local _ .vmem, ⟨4, _⟩ => ⟨S1x704x512, .bf16⟩
  | .local _ .vmem, ⟨5, _⟩ => ⟨S1x704x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x512, .bf16⟩
  | .local _ .vmem, ⟨9, _⟩ => ⟨S1x256x512, .bf16⟩
  | .local _ .vmem, ⟨10, _⟩ => ⟨S1x8x14x64x128, .f32⟩
  | .local _ .vmem, ⟨11, _⟩ => ⟨S1x256x512, .bf16⟩
  | .local _ .vmem, ⟨12, _⟩ => ⟨S1x256x512, .bf16⟩
  | .local _ .vmem, ⟨13, _⟩ => ⟨S384x768, .f32⟩
  | .local _ .vmem, ⟨14, _⟩ => ⟨S384x768, .bf16⟩
  | _, _ => ⟨S8x4352x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_2 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 17], ![false, false]⟩

def k0_mult1 (i : grid0.Coords) : BitVec 32 :=
  let arg1 : BitVec 32 := BitVec.ofNat 32 (i 1).val
  let c4_i32_1 : BitVec 32 := 4#32
  let v8 : BitVec 32 := Scalar.muli arg1 c4_i32_1
  let c0_i32_2 : BitVec 32 := 0#32
  let v9 : BitVec 32 := Scalar.addi v8 c0_i32_2
  let c64_i32_3 : BitVec 32 := 64#32
  let v10 : BitVec 1 := Scalar.cmpi .sge v9 c64_i32_3
  let c0_i32_7 : BitVec 32 := 0#32
  let c56_i32_6 : BitVec 32 := 56#32
  let c0_i32_5 : BitVec 32 := 0#32
  let c4_i32_4 : BitVec 32 := 4#32
  let v11 : BitVec 32 := Scalar.subi v9 c4_i32_4
  let v12 : BitVec 32 := Scalar.maxsi c0_i32_5 v11
  let v13 : BitVec 32 := Scalar.minsi c56_i32_6 v12
  let c56_i32 : BitVec 32 := 56#32
  let c0_i32 : BitVec 32 := 0#32
  let c4_i32 : BitVec 32 := 4#32
  let v3 : BitVec 32 := Scalar.muli arg1 c4_i32
  let c4_i32_0 : BitVec 32 := 4#32
  let v4 : BitVec 32 := Scalar.subi v3 c4_i32_0
  let v5 : BitVec 32 := Scalar.maxsi c0_i32 v4
  let v6 : BitVec 32 := Scalar.minsi c56_i32 v5
  let c53_i32 : BitVec 32 := 53#32
  let v7 : BitVec 32 := Scalar.minsi v6 c53_i32
  let v14 : BitVec 32 := Scalar.subi v13 v7
  let v15 : BitVec 32 := Scalar.select v10 c0_i32_7 v14
  let c64_i32_8 : BitVec 32 := 64#32
  let v16 : BitVec 32 := Scalar.muli v15 c64_i32_8
  v16
def k0_mult2 (i : grid0.Coords) : BitVec 32 :=
  let arg1 : BitVec 32 := BitVec.ofNat 32 (i 1).val
  let c4_i32_11 : BitVec 32 := 4#32
  let v22 : BitVec 32 := Scalar.muli arg1 c4_i32_11
  let c1_i32 : BitVec 32 := 1#32
  let v23 : BitVec 32 := Scalar.addi v22 c1_i32
  let c64_i32_12 : BitVec 32 := 64#32
  let v24 : BitVec 1 := Scalar.cmpi .sge v23 c64_i32_12
  let c0_i32_16 : BitVec 32 := 0#32
  let c56_i32_15 : BitVec 32 := 56#32
  let c0_i32_14 : BitVec 32 := 0#32
  let c4_i32_13 : BitVec 32 := 4#32
  let v25 : BitVec 32 := Scalar.subi v23 c4_i32_13
  let v26 : BitVec 32 := Scalar.maxsi c0_i32_14 v25
  let v27 : BitVec 32 := Scalar.minsi c56_i32_15 v26
  let c56_i32 : BitVec 32 := 56#32
  let c0_i32 : BitVec 32 := 0#32
  let c4_i32 : BitVec 32 := 4#32
  let v3 : BitVec 32 := Scalar.muli arg1 c4_i32
  let c4_i32_0 : BitVec 32 := 4#32
  let v4 : BitVec 32 := Scalar.subi v3 c4_i32_0
  let v5 : BitVec 32 := Scalar.maxsi c0_i32 v4
  let v6 : BitVec 32 := Scalar.minsi c56_i32 v5
  let c53_i32 : BitVec 32 := 53#32
  let v7 : BitVec 32 := Scalar.minsi v6 c53_i32
  let v28 : BitVec 32 := Scalar.subi v27 v7
  let v29 : BitVec 32 := Scalar.select v24 c0_i32_16 v28
  let c64_i32_17 : BitVec 32 := 64#32
  let v30 : BitVec 32 := Scalar.muli v29 c64_i32_17
  v30
def k0_mult3 (i : grid0.Coords) : BitVec 32 :=
  let arg1 : BitVec 32 := BitVec.ofNat 32 (i 1).val
  let c4_i32_22 : BitVec 32 := 4#32
  let v36 : BitVec 32 := Scalar.muli arg1 c4_i32_22
  let c2_i32 : BitVec 32 := 2#32
  let v37 : BitVec 32 := Scalar.addi v36 c2_i32
  let c64_i32_23 : BitVec 32 := 64#32
  let v38 : BitVec 1 := Scalar.cmpi .sge v37 c64_i32_23
  let c0_i32_27 : BitVec 32 := 0#32
  let c56_i32_26 : BitVec 32 := 56#32
  let c0_i32_25 : BitVec 32 := 0#32
  let c4_i32_24 : BitVec 32 := 4#32
  let v39 : BitVec 32 := Scalar.subi v37 c4_i32_24
  let v40 : BitVec 32 := Scalar.maxsi c0_i32_25 v39
  let v41 : BitVec 32 := Scalar.minsi c56_i32_26 v40
  let c56_i32 : BitVec 32 := 56#32
  let c0_i32 : BitVec 32 := 0#32
  let c4_i32 : BitVec 32 := 4#32
  let v3 : BitVec 32 := Scalar.muli arg1 c4_i32
  let c4_i32_0 : BitVec 32 := 4#32
  let v4 : BitVec 32 := Scalar.subi v3 c4_i32_0
  let v5 : BitVec 32 := Scalar.maxsi c0_i32 v4
  let v6 : BitVec 32 := Scalar.minsi c56_i32 v5
  let c53_i32 : BitVec 32 := 53#32
  let v7 : BitVec 32 := Scalar.minsi v6 c53_i32
  let v42 : BitVec 32 := Scalar.subi v41 v7
  let v43 : BitVec 32 := Scalar.select v38 c0_i32_27 v42
  let c64_i32_28 : BitVec 32 := 64#32
  let v44 : BitVec 32 := Scalar.muli v43 c64_i32_28
  v44
def k0_mult4 (i : grid0.Coords) : BitVec 32 :=
  let arg1 : BitVec 32 := BitVec.ofNat 32 (i 1).val
  let c4_i32_33 : BitVec 32 := 4#32
  let v50 : BitVec 32 := Scalar.muli arg1 c4_i32_33
  let c3_i32 : BitVec 32 := 3#32
  let v51 : BitVec 32 := Scalar.addi v50 c3_i32
  let c64_i32_34 : BitVec 32 := 64#32
  let v52 : BitVec 1 := Scalar.cmpi .sge v51 c64_i32_34
  let c0_i32_38 : BitVec 32 := 0#32
  let c56_i32_37 : BitVec 32 := 56#32
  let c0_i32_36 : BitVec 32 := 0#32
  let c4_i32_35 : BitVec 32 := 4#32
  let v53 : BitVec 32 := Scalar.subi v51 c4_i32_35
  let v54 : BitVec 32 := Scalar.maxsi c0_i32_36 v53
  let v55 : BitVec 32 := Scalar.minsi c56_i32_37 v54
  let c56_i32 : BitVec 32 := 56#32
  let c0_i32 : BitVec 32 := 0#32
  let c4_i32 : BitVec 32 := 4#32
  let v3 : BitVec 32 := Scalar.muli arg1 c4_i32
  let c4_i32_0 : BitVec 32 := 4#32
  let v4 : BitVec 32 := Scalar.subi v3 c4_i32_0
  let v5 : BitVec 32 := Scalar.maxsi c0_i32 v4
  let v6 : BitVec 32 := Scalar.minsi c56_i32 v5
  let c53_i32 : BitVec 32 := 53#32
  let v7 : BitVec 32 := Scalar.minsi v6 c53_i32
  let v56 : BitVec 32 := Scalar.subi v55 v7
  let v57 : BitVec 32 := Scalar.select v52 c0_i32_38 v56
  let c64_i32_39 : BitVec 32 := 64#32
  let v58 : BitVec 32 := Scalar.muli v57 c64_i32_39
  v58
def k0_off1 (i : grid0.Coords) (c0_i32_2 : BitVec 32) : Fin 3 → Nat :=
  let c0_46 : Index := 0#32
  let arg1 : BitVec 32 := BitVec.ofNat 32 (i 1).val
  let c4_i32_1 : BitVec 32 := 4#32
  let v8 : BitVec 32 := Scalar.muli arg1 c4_i32_1
  let v9 : BitVec 32 := Scalar.addi v8 c0_i32_2
  let c64_i32_3 : BitVec 32 := 64#32
  let v10 : BitVec 1 := Scalar.cmpi .sge v9 c64_i32_3
  let c0_i32_7 : BitVec 32 := 0#32
  let c56_i32_6 : BitVec 32 := 56#32
  let c0_i32_5 : BitVec 32 := 0#32
  let c4_i32_4 : BitVec 32 := 4#32
  let v11 : BitVec 32 := Scalar.subi v9 c4_i32_4
  let v12 : BitVec 32 := Scalar.maxsi c0_i32_5 v11
  let v13 : BitVec 32 := Scalar.minsi c56_i32_6 v12
  let c56_i32 : BitVec 32 := 56#32
  let c0_i32 : BitVec 32 := 0#32
  let c4_i32 : BitVec 32 := 4#32
  let v3 : BitVec 32 := Scalar.muli arg1 c4_i32
  let c4_i32_0 : BitVec 32 := 4#32
  let v4 : BitVec 32 := Scalar.subi v3 c4_i32_0
  let v5 : BitVec 32 := Scalar.maxsi c0_i32 v4
  let v6 : BitVec 32 := Scalar.minsi c56_i32 v5
  let c53_i32 : BitVec 32 := 53#32
  let v7 : BitVec 32 := Scalar.minsi v6 c53_i32
  let v14 : BitVec 32 := Scalar.subi v13 v7
  let v15 : BitVec 32 := Scalar.select v10 c0_i32_7 v14
  let c64_i32_8 : BitVec 32 := 64#32
  let v16 : BitVec 32 := Scalar.muli v15 c64_i32_8
  let v17 : BitVec 32 := v16
  let v66 : Index := Scalar.indexCast v17
  let c0_47 : Index := 0#32
  ![0, v66.toNat, 0]
def k0_off2 (i : grid0.Coords) (c0_i32_2 : BitVec 32) (c0_i32_55 : BitVec 32) : Fin 5 → Nat :=
  let c0_56 : Index := 0#32
  let c0_57 : Index := 0#32
  let arg1 : BitVec 32 := BitVec.ofNat 32 (i 1).val
  let c4_i32_1 : BitVec 32 := 4#32
  let v8 : BitVec 32 := Scalar.muli arg1 c4_i32_1
  let v9 : BitVec 32 := Scalar.addi v8 c0_i32_2
  let c64_i32_3 : BitVec 32 := 64#32
  let v10 : BitVec 1 := Scalar.cmpi .sge v9 c64_i32_3
  let c0_i32_9 : BitVec 32 := 0#32
  let c7_i32 : BitVec 32 := 7#32
  let c56_i32_6 : BitVec 32 := 56#32
  let c0_i32_5 : BitVec 32 := 0#32
  let c4_i32_4 : BitVec 32 := 4#32
  let v11 : BitVec 32 := Scalar.subi v9 c4_i32_4
  let v12 : BitVec 32 := Scalar.maxsi c0_i32_5 v11
  let v13 : BitVec 32 := Scalar.minsi c56_i32_6 v12
  let v18 : BitVec 32 := Scalar.subi v9 v13
  let v19 : BitVec 32 := Scalar.subi c7_i32 v18
  let v20 : BitVec 32 := Scalar.select v10 c0_i32_9 v19
  let v79 : BitVec 32 := Scalar.addi v20 c0_i32_55
  let v80 : Index := Scalar.indexCast v79
  let c0_58 : Index := 0#32
  let c0_59 : Index := 0#32
  ![0, 0, v80.toNat, 0, 0]
def k0_off3 (i : grid0.Coords) (c0_i32_2 : BitVec 32) (c0_i32_74 : BitVec 32) : Fin 5 → Nat :=
  let c0_75 : Index := 0#32
  let c1 : Index := 1#32
  let arg1 : BitVec 32 := BitVec.ofNat 32 (i 1).val
  let c4_i32_1 : BitVec 32 := 4#32
  let v8 : BitVec 32 := Scalar.muli arg1 c4_i32_1
  let v9 : BitVec 32 := Scalar.addi v8 c0_i32_2
  let c64_i32_3 : BitVec 32 := 64#32
  let v10 : BitVec 1 := Scalar.cmpi .sge v9 c64_i32_3
  let c0_i32_9 : BitVec 32 := 0#32
  let c7_i32 : BitVec 32 := 7#32
  let c56_i32_6 : BitVec 32 := 56#32
  let c0_i32_5 : BitVec 32 := 0#32
  let c4_i32_4 : BitVec 32 := 4#32
  let v11 : BitVec 32 := Scalar.subi v9 c4_i32_4
  let v12 : BitVec 32 := Scalar.maxsi c0_i32_5 v11
  let v13 : BitVec 32 := Scalar.minsi c56_i32_6 v12
  let v18 : BitVec 32 := Scalar.subi v9 v13
  let v19 : BitVec 32 := Scalar.subi c7_i32 v18
  let v20 : BitVec 32 := Scalar.select v10 c0_i32_9 v19
  let v96 : BitVec 32 := Scalar.addi v20 c0_i32_74
  let v97 : Index := Scalar.indexCast v96
  let c0_76 : Index := 0#32
  let c0_77 : Index := 0#32
  ![0, 1, v97.toNat, 0, 0]
def k0_off4 (i : grid0.Coords) (c0_i32_2 : BitVec 32) : Fin 3 → Nat :=
  let c0_98 : Index := 0#32
  let arg1 : BitVec 32 := BitVec.ofNat 32 (i 1).val
  let c4_i32_1 : BitVec 32 := 4#32
  let v8 : BitVec 32 := Scalar.muli arg1 c4_i32_1
  let v9 : BitVec 32 := Scalar.addi v8 c0_i32_2
  let c64_i32_3 : BitVec 32 := 64#32
  let v10 : BitVec 1 := Scalar.cmpi .sge v9 c64_i32_3
  let c0_i32_7 : BitVec 32 := 0#32
  let c56_i32_6 : BitVec 32 := 56#32
  let c0_i32_5 : BitVec 32 := 0#32
  let c4_i32_4 : BitVec 32 := 4#32
  let v11 : BitVec 32 := Scalar.subi v9 c4_i32_4
  let v12 : BitVec 32 := Scalar.maxsi c0_i32_5 v11
  let v13 : BitVec 32 := Scalar.minsi c56_i32_6 v12
  let c56_i32 : BitVec 32 := 56#32
  let c0_i32 : BitVec 32 := 0#32
  let c4_i32 : BitVec 32 := 4#32
  let v3 : BitVec 32 := Scalar.muli arg1 c4_i32
  let c4_i32_0 : BitVec 32 := 4#32
  let v4 : BitVec 32 := Scalar.subi v3 c4_i32_0
  let v5 : BitVec 32 := Scalar.maxsi c0_i32 v4
  let v6 : BitVec 32 := Scalar.minsi c56_i32 v5
  let c53_i32 : BitVec 32 := 53#32
  let v7 : BitVec 32 := Scalar.minsi v6 c53_i32
  let v14 : BitVec 32 := Scalar.subi v13 v7
  let v15 : BitVec 32 := Scalar.select v10 c0_i32_7 v14
  let c64_i32_8 : BitVec 32 := 64#32
  let v16 : BitVec 32 := Scalar.muli v15 c64_i32_8
  let v17 : BitVec 32 := v16
  let v127 : Index := Scalar.indexCast v17
  let c128_99 : Index := 128#32
  ![0, v127.toNat, 128]
def k0_off5 (i : grid0.Coords) (c0_i32_2 : BitVec 32) (c0_i32_107 : BitVec 32) : Fin 5 → Nat :=
  let c0_108 : Index := 0#32
  let c2 : Index := 2#32
  let arg1 : BitVec 32 := BitVec.ofNat 32 (i 1).val
  let c4_i32_1 : BitVec 32 := 4#32
  let v8 : BitVec 32 := Scalar.muli arg1 c4_i32_1
  let v9 : BitVec 32 := Scalar.addi v8 c0_i32_2
  let c64_i32_3 : BitVec 32 := 64#32
  let v10 : BitVec 1 := Scalar.cmpi .sge v9 c64_i32_3
  let c0_i32_9 : BitVec 32 := 0#32
  let c7_i32 : BitVec 32 := 7#32
  let c56_i32_6 : BitVec 32 := 56#32
  let c0_i32_5 : BitVec 32 := 0#32
  let c4_i32_4 : BitVec 32 := 4#32
  let v11 : BitVec 32 := Scalar.subi v9 c4_i32_4
  let v12 : BitVec 32 := Scalar.maxsi c0_i32_5 v11
  let v13 : BitVec 32 := Scalar.minsi c56_i32_6 v12
  let v18 : BitVec 32 := Scalar.subi v9 v13
  let v19 : BitVec 32 := Scalar.subi c7_i32 v18
  let v20 : BitVec 32 := Scalar.select v10 c0_i32_9 v19
  let v140 : BitVec 32 := Scalar.addi v20 c0_i32_107
  let v141 : Index := Scalar.indexCast v140
  let c0_109 : Index := 0#32
  let c0_110 : Index := 0#32
  ![0, 2, v141.toNat, 0, 0]
def k0_off6 (i : grid0.Coords) (c0_i32_2 : BitVec 32) (c0_i32_126 : BitVec 32) : Fin 5 → Nat :=
  let c0_127 : Index := 0#32
  let c3 : Index := 3#32
  let arg1 : BitVec 32 := BitVec.ofNat 32 (i 1).val
  let c4_i32_1 : BitVec 32 := 4#32
  let v8 : BitVec 32 := Scalar.muli arg1 c4_i32_1
  let v9 : BitVec 32 := Scalar.addi v8 c0_i32_2
  let c64_i32_3 : BitVec 32 := 64#32
  let v10 : BitVec 1 := Scalar.cmpi .sge v9 c64_i32_3
  let c0_i32_9 : BitVec 32 := 0#32
  let c7_i32 : BitVec 32 := 7#32
  let c56_i32_6 : BitVec 32 := 56#32
  let c0_i32_5 : BitVec 32 := 0#32
  let c4_i32_4 : BitVec 32 := 4#32
  let v11 : BitVec 32 := Scalar.subi v9 c4_i32_4
  let v12 : BitVec 32 := Scalar.maxsi c0_i32_5 v11
  let v13 : BitVec 32 := Scalar.minsi c56_i32_6 v12
  let v18 : BitVec 32 := Scalar.subi v9 v13
  let v19 : BitVec 32 := Scalar.subi c7_i32 v18
  let v20 : BitVec 32 := Scalar.select v10 c0_i32_9 v19
  let v157 : BitVec 32 := Scalar.addi v20 c0_i32_126
  let v158 : Index := Scalar.indexCast v157
  let c0_128 : Index := 0#32
  let c0_129 : Index := 0#32
  ![0, 3, v158.toNat, 0, 0]
def k0_off7 (i : grid0.Coords) (c0_i32_2 : BitVec 32) : Fin 3 → Nat :=
  let c0_158 : Index := 0#32
  let arg1 : BitVec 32 := BitVec.ofNat 32 (i 1).val
  let c4_i32_1 : BitVec 32 := 4#32
  let v8 : BitVec 32 := Scalar.muli arg1 c4_i32_1
  let v9 : BitVec 32 := Scalar.addi v8 c0_i32_2
  let c64_i32_3 : BitVec 32 := 64#32
  let v10 : BitVec 1 := Scalar.cmpi .sge v9 c64_i32_3
  let c0_i32_7 : BitVec 32 := 0#32
  let c56_i32_6 : BitVec 32 := 56#32
  let c0_i32_5 : BitVec 32 := 0#32
  let c4_i32_4 : BitVec 32 := 4#32
  let v11 : BitVec 32 := Scalar.subi v9 c4_i32_4
  let v12 : BitVec 32 := Scalar.maxsi c0_i32_5 v11
  let v13 : BitVec 32 := Scalar.minsi c56_i32_6 v12
  let c56_i32 : BitVec 32 := 56#32
  let c0_i32 : BitVec 32 := 0#32
  let c4_i32 : BitVec 32 := 4#32
  let v3 : BitVec 32 := Scalar.muli arg1 c4_i32
  let c4_i32_0 : BitVec 32 := 4#32
  let v4 : BitVec 32 := Scalar.subi v3 c4_i32_0
  let v5 : BitVec 32 := Scalar.maxsi c0_i32 v4
  let v6 : BitVec 32 := Scalar.minsi c56_i32 v5
  let c53_i32 : BitVec 32 := 53#32
  let v7 : BitVec 32 := Scalar.minsi v6 c53_i32
  let v14 : BitVec 32 := Scalar.subi v13 v7
  let v15 : BitVec 32 := Scalar.select v10 c0_i32_7 v14
  let c64_i32_8 : BitVec 32 := 64#32
  let v16 : BitVec 32 := Scalar.muli v15 c64_i32_8
  let v17 : BitVec 32 := v16
  let v202 : Index := Scalar.indexCast v17
  let c256_159 : Index := 256#32
  ![0, v202.toNat, 256]
def k0_off8 (i : grid0.Coords) (c0_i32_2 : BitVec 32) (c0_i32_167 : BitVec 32) : Fin 5 → Nat :=
  let c0_168 : Index := 0#32
  let c4 : Index := 4#32
  let arg1 : BitVec 32 := BitVec.ofNat 32 (i 1).val
  let c4_i32_1 : BitVec 32 := 4#32
  let v8 : BitVec 32 := Scalar.muli arg1 c4_i32_1
  let v9 : BitVec 32 := Scalar.addi v8 c0_i32_2
  let c64_i32_3 : BitVec 32 := 64#32
  let v10 : BitVec 1 := Scalar.cmpi .sge v9 c64_i32_3
  let c0_i32_9 : BitVec 32 := 0#32
  let c7_i32 : BitVec 32 := 7#32
  let c56_i32_6 : BitVec 32 := 56#32
  let c0_i32_5 : BitVec 32 := 0#32
  let c4_i32_4 : BitVec 32 := 4#32
  let v11 : BitVec 32 := Scalar.subi v9 c4_i32_4
  let v12 : BitVec 32 := Scalar.maxsi c0_i32_5 v11
  let v13 : BitVec 32 := Scalar.minsi c56_i32_6 v12
  let v18 : BitVec 32 := Scalar.subi v9 v13
  let v19 : BitVec 32 := Scalar.subi c7_i32 v18
  let v20 : BitVec 32 := Scalar.select v10 c0_i32_9 v19
  let v215 : BitVec 32 := Scalar.addi v20 c0_i32_167
  let v216 : Index := Scalar.indexCast v215
  let c0_169 : Index := 0#32
  let c0_170 : Index := 0#32
  ![0, 4, v216.toNat, 0, 0]
def k0_off9 (i : grid0.Coords) (c0_i32_2 : BitVec 32) (c0_i32_186 : BitVec 32) : Fin 5 → Nat :=
  let c0_187 : Index := 0#32
  let c5 : Index := 5#32
  let arg1 : BitVec 32 := BitVec.ofNat 32 (i 1).val
  let c4_i32_1 : BitVec 32 := 4#32
  let v8 : BitVec 32 := Scalar.muli arg1 c4_i32_1
  let v9 : BitVec 32 := Scalar.addi v8 c0_i32_2
  let c64_i32_3 : BitVec 32 := 64#32
  let v10 : BitVec 1 := Scalar.cmpi .sge v9 c64_i32_3
  let c0_i32_9 : BitVec 32 := 0#32
  let c7_i32 : BitVec 32 := 7#32
  let c56_i32_6 : BitVec 32 := 56#32
  let c0_i32_5 : BitVec 32 := 0#32
  let c4_i32_4 : BitVec 32 := 4#32
  let v11 : BitVec 32 := Scalar.subi v9 c4_i32_4
  let v12 : BitVec 32 := Scalar.maxsi c0_i32_5 v11
  let v13 : BitVec 32 := Scalar.minsi c56_i32_6 v12
  let v18 : BitVec 32 := Scalar.subi v9 v13
  let v19 : BitVec 32 := Scalar.subi c7_i32 v18
  let v20 : BitVec 32 := Scalar.select v10 c0_i32_9 v19
  let v232 : BitVec 32 := Scalar.addi v20 c0_i32_186
  let v233 : Index := Scalar.indexCast v232
  let c0_188 : Index := 0#32
  let c0_189 : Index := 0#32
  ![0, 5, v233.toNat, 0, 0]
def k0_off10 (i : grid0.Coords) (c0_i32_2 : BitVec 32) : Fin 3 → Nat :=
  let c0_229 : Index := 0#32
  let arg1 : BitVec 32 := BitVec.ofNat 32 (i 1).val
  let c4_i32_1 : BitVec 32 := 4#32
  let v8 : BitVec 32 := Scalar.muli arg1 c4_i32_1
  let v9 : BitVec 32 := Scalar.addi v8 c0_i32_2
  let c64_i32_3 : BitVec 32 := 64#32
  let v10 : BitVec 1 := Scalar.cmpi .sge v9 c64_i32_3
  let c0_i32_7 : BitVec 32 := 0#32
  let c56_i32_6 : BitVec 32 := 56#32
  let c0_i32_5 : BitVec 32 := 0#32
  let c4_i32_4 : BitVec 32 := 4#32
  let v11 : BitVec 32 := Scalar.subi v9 c4_i32_4
  let v12 : BitVec 32 := Scalar.maxsi c0_i32_5 v11
  let v13 : BitVec 32 := Scalar.minsi c56_i32_6 v12
  let c56_i32 : BitVec 32 := 56#32
  let c0_i32 : BitVec 32 := 0#32
  let c4_i32 : BitVec 32 := 4#32
  let v3 : BitVec 32 := Scalar.muli arg1 c4_i32
  let c4_i32_0 : BitVec 32 := 4#32
  let v4 : BitVec 32 := Scalar.subi v3 c4_i32_0
  let v5 : BitVec 32 := Scalar.maxsi c0_i32 v4
  let v6 : BitVec 32 := Scalar.minsi c56_i32 v5
  let c53_i32 : BitVec 32 := 53#32
  let v7 : BitVec 32 := Scalar.minsi v6 c53_i32
  let v14 : BitVec 32 := Scalar.subi v13 v7
  let v15 : BitVec 32 := Scalar.select v10 c0_i32_7 v14
  let c64_i32_8 : BitVec 32 := 64#32
  let v16 : BitVec 32 := Scalar.muli v15 c64_i32_8
  let v17 : BitVec 32 := v16
  let v294 : Index := Scalar.indexCast v17
  let c384_230 : Index := 384#32
  ![0, v294.toNat, 384]
def k0_off11 (i : grid0.Coords) (c0_i32_2 : BitVec 32) (c0_i32_238 : BitVec 32) : Fin 5 → Nat :=
  let c0_239 : Index := 0#32
  let c6 : Index := 6#32
  let arg1 : BitVec 32 := BitVec.ofNat 32 (i 1).val
  let c4_i32_1 : BitVec 32 := 4#32
  let v8 : BitVec 32 := Scalar.muli arg1 c4_i32_1
  let v9 : BitVec 32 := Scalar.addi v8 c0_i32_2
  let c64_i32_3 : BitVec 32 := 64#32
  let v10 : BitVec 1 := Scalar.cmpi .sge v9 c64_i32_3
  let c0_i32_9 : BitVec 32 := 0#32
  let c7_i32 : BitVec 32 := 7#32
  let c56_i32_6 : BitVec 32 := 56#32
  let c0_i32_5 : BitVec 32 := 0#32
  let c4_i32_4 : BitVec 32 := 4#32
  let v11 : BitVec 32 := Scalar.subi v9 c4_i32_4
  let v12 : BitVec 32 := Scalar.maxsi c0_i32_5 v11
  let v13 : BitVec 32 := Scalar.minsi c56_i32_6 v12
  let v18 : BitVec 32 := Scalar.subi v9 v13
  let v19 : BitVec 32 := Scalar.subi c7_i32 v18
  let v20 : BitVec 32 := Scalar.select v10 c0_i32_9 v19
  let v307 : BitVec 32 := Scalar.addi v20 c0_i32_238
  let v308 : Index := Scalar.indexCast v307
  let c0_240 : Index := 0#32
  let c0_241 : Index := 0#32
  ![0, 6, v308.toNat, 0, 0]
def k0_off12 (i : grid0.Coords) (c0_i32_2 : BitVec 32) (c0_i32_257 : BitVec 32) : Fin 5 → Nat :=
  let c0_258 : Index := 0#32
  let c7 : Index := 7#32
  let arg1 : BitVec 32 := BitVec.ofNat 32 (i 1).val
  let c4_i32_1 : BitVec 32 := 4#32
  let v8 : BitVec 32 := Scalar.muli arg1 c4_i32_1
  let v9 : BitVec 32 := Scalar.addi v8 c0_i32_2
  let c64_i32_3 : BitVec 32 := 64#32
  let v10 : BitVec 1 := Scalar.cmpi .sge v9 c64_i32_3
  let c0_i32_9 : BitVec 32 := 0#32
  let c7_i32 : BitVec 32 := 7#32
  let c56_i32_6 : BitVec 32 := 56#32
  let c0_i32_5 : BitVec 32 := 0#32
  let c4_i32_4 : BitVec 32 := 4#32
  let v11 : BitVec 32 := Scalar.subi v9 c4_i32_4
  let v12 : BitVec 32 := Scalar.maxsi c0_i32_5 v11
  let v13 : BitVec 32 := Scalar.minsi c56_i32_6 v12
  let v18 : BitVec 32 := Scalar.subi v9 v13
  let v19 : BitVec 32 := Scalar.subi c7_i32 v18
  let v20 : BitVec 32 := Scalar.select v10 c0_i32_9 v19
  let v324 : BitVec 32 := Scalar.addi v20 c0_i32_257
  let v325 : Index := Scalar.indexCast v324
  let c0_259 : Index := 0#32
  let c0_260 : Index := 0#32
  ![0, 7, v325.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c4_i32_0 : BitVec 32 := 4#32
  let v1 : BitVec 32 := Scalar.subi v0 c4_i32_0
  let c0_i32 : BitVec 32 := 0#32
  let c56_i32 : BitVec 32 := 56#32
  let v2 : BitVec 32 := Scalar.maxsi c0_i32 v1
  let v3 : BitVec 32 := Scalar.minsi c56_i32 v2
  let c53_i32 : BitVec 32 := 53#32
  let v4 : BitVec 32 := Scalar.minsi v3 c53_i32
  let c64_i32 : BitVec 32 := 64#32
  let v5 : BitVec 32 := Scalar.muli v4 c64_i32
  let c0_i32_1 : BitVec 32 := 0#32
  let c0_i32_2 : BitVec 32 := 0#32
  ![arg0.toNat, v5.toNat, c0_i32_1.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c4_i32_0 : BitVec 32 := 4#32
  let v1 : BitVec 32 := Scalar.subi v0 c4_i32_0
  let c0_i32 : BitVec 32 := 0#32
  let c56_i32 : BitVec 32 := 56#32
  let v2 : BitVec 32 := Scalar.maxsi c0_i32 v1
  let v3 : BitVec 32 := Scalar.minsi c56_i32 v2
  let c53_i32 : BitVec 32 := 53#32
  let v4 : BitVec 32 := Scalar.minsi v3 c53_i32
  let c64_i32 : BitVec 32 := 64#32
  let v5 : BitVec 32 := Scalar.muli v4 c64_i32
  let c0_i32_1 : BitVec 32 := 0#32
  let c0_i32_2 : BitVec 32 := 0#32
  ![arg0.toNat, v5.toNat, c0_i32_1.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let c0_i32 : BitVec 32 := 0#32
  let c0_i32_0 : BitVec 32 := 0#32
  ![arg0.toNat, c16_i32.toNat, c0_i32.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let c0_i32 : BitVec 32 := 0#32
  let c0_i32_0 : BitVec 32 := 0#32
  ![arg0.toNat, c16_i32.toNat, c0_i32.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x704x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x704x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x8x14x64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "neg" => some ⊥
  | _ => none
-- ==== ReferenceIdeal.lean ====
abbrev S8x4352x512 : Shape := ⟨3, ![8, 4352, 512]⟩
abbrev S2x8x15x31 : Shape := ⟨4, ![2, 8, 15, 31]⟩
abbrev S8x4096x512 : Shape := ⟨3, ![8, 4096, 512]⟩
abbrev S8x4096x8x64 : Shape := ⟨4, ![8, 4096, 8, 64]⟩
abbrev S8x256x512 : Shape := ⟨3, ![8, 256, 512]⟩
abbrev S8x256x8x64 : Shape := ⟨4, ![8, 256, 8, 64]⟩
abbrev S4096 : Shape := ⟨1, ![4096]⟩
abbrev S_ : Shape := ⟨0, ![]⟩
abbrev S4096x1 : Shape := ⟨2, ![4096, 1]⟩
abbrev S8 : Shape := ⟨1, ![8]⟩
abbrev S1x8 : Shape := ⟨2, ![1, 8]⟩
abbrev S4096x8 : Shape := ⟨2, ![4096, 8]⟩
abbrev S16 : Shape := ⟨1, ![16]⟩
abbrev S1x16 : Shape := ⟨2, ![1, 16]⟩
abbrev S4096x16 : Shape := ⟨2, ![4096, 16]⟩
abbrev S4096x8x1 : Shape := ⟨3, ![4096, 8, 1]⟩
abbrev S4096x1x16 : Shape := ⟨3, ![4096, 1, 16]⟩
abbrev S4096x8x16 : Shape := ⟨3, ![4096, 8, 16]⟩
abbrev S4096x128 : Shape := ⟨2, ![4096, 128]⟩
abbrev S1x8x15x31 : Shape := ⟨4, ![1, 8, 15, 31]⟩
abbrev S8x15x31 : Shape := ⟨3, ![8, 15, 31]⟩
abbrev S4096x8x16x1 : Shape := ⟨4, ![4096, 8, 16, 1]⟩
abbrev S4096x8x16x2 : Shape := ⟨4, ![4096, 8, 16, 2]⟩
abbrev S8x4096x8x16 : Shape := ⟨4, ![8, 4096, 8, 16]⟩
abbrev S8x4096x128 : Shape := ⟨3, ![8, 4096, 128]⟩
abbrev S4096x128x1 : Shape := ⟨3, ![4096, 128, 1]⟩
abbrev S8x4096x128x8x64 : Shape := ⟨5, ![8, 4096, 128, 8, 64]⟩
abbrev S8x8x4096x128 : Shape := ⟨4, ![8, 8, 4096, 128]⟩
abbrev S1x8x4096x128 : Shape := ⟨4, ![1, 8, 4096, 128]⟩
abbrev S8x8x4096x256 : Shape := ⟨4, ![8, 8, 4096, 256]⟩
abbrev S8x8x4096x384 : Shape := ⟨4, ![8, 8, 4096, 384]⟩
abbrev S8x8x4096 : Shape := ⟨3, ![8, 8, 4096]⟩
abbrev S8x8x4096x1 : Shape := ⟨4, ![8, 8, 4096, 1]⟩
abbrev S8x8x64x4096 : Shape := ⟨4, ![8, 8, 64, 4096]⟩
abbrev S8x8x256x256 : Shape := ⟨4, ![8, 8, 256, 256]⟩
abbrev S8x8x256 : Shape := ⟨3, ![8, 8, 256]⟩
abbrev S8x8x256x1 : Shape := ⟨4, ![8, 8, 256, 1]⟩
abbrev S8x8x64x256 : Shape := ⟨4, ![8, 8, 64, 256]⟩
abbrev S8x4352x8x64 : Shape := ⟨4, ![8, 4352, 8, 64]⟩

abbrev nBuf : Space → Nat
  | .hbm => 210
  | .vmem => 0
  | .smem => 0
  | _ => 0

abbrev hbmTy0_0 (i : Nat) : BufTy := match i % 128 with
  | 0 => ⟨S8x4352x512, .f32⟩
  | 1 => ⟨S8x4352x512, .f32⟩
  | 2 => ⟨S8x4352x512, .f32⟩
  | 3 => ⟨S2x8x15x31, .f32⟩
  | 4 => ⟨S8x4096x512, .f32⟩
  | 5 => ⟨S8x4096x8x64, .f32⟩
  | 6 => ⟨S8x4096x512, .f32⟩
  | 7 => ⟨S8x4096x8x64, .f32⟩
  | 8 => ⟨S8x4096x512, .f32⟩
  | 9 => ⟨S8x4096x8x64, .f32⟩
  | 10 => ⟨S8x256x512, .f32⟩
  | 11 => ⟨S8x256x8x64, .f32⟩
  | 12 => ⟨S8x256x512, .f32⟩
  | 13 => ⟨S8x256x8x64, .f32⟩
  | 14 => ⟨S8x256x512, .f32⟩
  | 15 => ⟨S8x256x8x64, .f32⟩
  | 16 => ⟨S4096, .i32⟩
  | 17 => ⟨S_, .i32⟩
  | 18 => ⟨S_, .i32⟩
  | 19 => ⟨S4096, .i32⟩
  | 20 => ⟨S4096, .i32⟩
  | 21 => ⟨S4096, .i32⟩
  | 22 => ⟨S_, .i32⟩
  | 23 => ⟨S4096, .i32⟩
  | 24 => ⟨S4096, .i1⟩
  | 25 => ⟨S4096, .i32⟩
  | 26 => ⟨S4096, .i32⟩
  | 27 => ⟨S_, .i32⟩
  | 28 => ⟨S4096, .i32⟩
  | 29 => ⟨S4096, .i1⟩
  | 30 => ⟨S4096, .i1⟩
  | 31 => ⟨S_, .i32⟩
  | 32 => ⟨S4096, .i32⟩
  | 33 => ⟨S4096, .i32⟩
  | 34 => ⟨S4096, .i32⟩
  | 35 => ⟨S_, .i32⟩
  | 36 => ⟨S_, .i32⟩
  | 37 => ⟨S_, .i32⟩
  | 38 => ⟨S_, .i1⟩
  | 39 => ⟨S_, .i32⟩
  | 40 => ⟨S_, .i32⟩
  | 41 => ⟨S4096, .i32⟩
  | 42 => ⟨S4096, .i32⟩
  | 43 => ⟨S_, .i32⟩
  | 44 => ⟨S4096, .i32⟩
  | 45 => ⟨S4096, .i1⟩
  | 46 => ⟨S_, .i32⟩
  | 47 => ⟨S4096, .i32⟩
  | 48 => ⟨S4096, .i1⟩
  | 49 => ⟨S_, .i32⟩
  | 50 => ⟨S_, .i1⟩
  | 51 => ⟨S4096, .i1⟩
  | 52 => ⟨S4096, .i1⟩
  | 53 => ⟨S4096, .i1⟩
  | 54 => ⟨S4096, .i32⟩
  | 55 => ⟨S4096, .i32⟩
  | 56 => ⟨S4096, .i32⟩
  | 57 => ⟨S_, .i32⟩
  | 58 => ⟨S4096, .i32⟩
  | 59 => ⟨S4096, .i32⟩
  | 60 => ⟨S_, .i32⟩
  | 61 => ⟨S_, .i32⟩
  | 62 => ⟨S_, .i32⟩
  | 63 => ⟨S4096, .i32⟩
  | 64 => ⟨S4096, .i32⟩
  | 65 => ⟨S_, .i32⟩
  | 66 => ⟨S4096, .i32⟩
  | 67 => ⟨S4096, .i32⟩
  | 68 => ⟨S4096x1, .i32⟩
  | 69 => ⟨S8, .i32⟩
  | 70 => ⟨S1x8, .i32⟩
  | 71 => ⟨S4096x8, .i32⟩
  | 72 => ⟨S4096x8, .i32⟩
  | 73 => ⟨S4096x8, .i32⟩
  | 74 => ⟨S_, .i32⟩
  | 75 => ⟨S4096, .i32⟩
  | 76 => ⟨S4096, .i32⟩
  | 77 => ⟨S_, .i32⟩
  | 78 => ⟨S_, .i32⟩
  | 79 => ⟨S_, .i32⟩
  | 80 => ⟨S4096, .i32⟩
  | 81 => ⟨S4096, .i32⟩
  | 82 => ⟨S_, .i32⟩
  | 83 => ⟨S4096, .i32⟩
  | 84 => ⟨S4096, .i32⟩
  | 85 => ⟨S4096x1, .i32⟩
  | 86 => ⟨S16, .i32⟩
  | 87 => ⟨S1x16, .i32⟩
  | 88 => ⟨S4096x16, .i32⟩
  | 89 => ⟨S4096x16, .i32⟩
  | 90 => ⟨S4096x16, .i32⟩
  | 91 => ⟨S4096x8x1, .i32⟩
  | 92 => ⟨S_, .i32⟩
  | 93 => ⟨S4096x8x1, .i32⟩
  | 94 => ⟨S4096x8x1, .i32⟩
  | 95 => ⟨S4096x1x16, .i32⟩
  | 96 => ⟨S4096x8x16, .i32⟩
  | 97 => ⟨S4096x8x16, .i32⟩
  | 98 => ⟨S4096x8x16, .i32⟩
  | 99 => ⟨S4096x128, .i32⟩
  | 100 => ⟨S1x8x15x31, .f32⟩
  | 101 => ⟨S8x15x31, .f32⟩
  | 102 => ⟨S4096x1, .i32⟩
  | 103 => ⟨S4096x8, .i32⟩
  | 104 => ⟨S4096x8, .i32⟩
  | 105 => ⟨S_, .i32⟩
  | 106 => ⟨S4096x8, .i32⟩
  | 107 => ⟨S4096x8, .i32⟩
  | 108 => ⟨S4096x8x1, .i32⟩
  | 109 => ⟨S4096x1, .i32⟩
  | 110 => ⟨S4096x16, .i32⟩
  | 111 => ⟨S4096x16, .i32⟩
  | 112 => ⟨S_, .i32⟩
  | 113 => ⟨S4096x16, .i32⟩
  | 114 => ⟨S4096x16, .i32⟩
  | 115 => ⟨S4096x1x16, .i32⟩
  | 116 => ⟨S_, .i32⟩
  | 117 => ⟨S4096x8x1, .i32⟩
  | 118 => ⟨S4096x8x1, .i1⟩
  | 119 => ⟨S_, .i32⟩
  | 120 => ⟨S4096x8x1, .i32⟩
  | 121 => ⟨S4096x8x1, .i32⟩
  | 122 => ⟨S4096x8x1, .i32⟩
  | 123 => ⟨S_, .i32⟩
  | 124 => ⟨S4096x1x16, .i32⟩
  | 125 => ⟨S4096x1x16, .i1⟩
  | 126 => ⟨S_, .i32⟩
  | 127 => ⟨S4096x1x16, .i32⟩
  | _ => ⟨S8x4352x512, .f32⟩

abbrev hbmTy0_1 (i : Nat) : BufTy := match i % 128 with
  | 0 => ⟨S4096x1x16, .i32⟩
  | 1 => ⟨S4096x1x16, .i32⟩
  | 2 => ⟨S4096x8x16, .i32⟩
  | 3 => ⟨S4096x8x16, .i32⟩
  | 4 => ⟨S4096x8x16x1, .i32⟩
  | 5 => ⟨S4096x8x16x1, .i32⟩
  | 6 => ⟨S4096x8x16x2, .i32⟩
  | 7 => ⟨S8x4096x8x16, .f32⟩
  | 8 => ⟨S8x4096x128, .f32⟩
  | 9 => ⟨S_, .i32⟩
  | 10 => ⟨S4096x128, .i32⟩
  | 11 => ⟨S4096x128, .i1⟩
  | 12 => ⟨S_, .i32⟩
  | 13 => ⟨S4096x128, .i32⟩
  | 14 => ⟨S4096x128, .i32⟩
  | 15 => ⟨S4096x128, .i32⟩
  | 16 => ⟨S4096x128x1, .i32⟩
  | 17 => ⟨S8x4096x128x8x64, .f32⟩
  | 18 => ⟨S_, .i32⟩
  | 19 => ⟨S4096x128, .i32⟩
  | 20 => ⟨S4096x128, .i1⟩
  | 21 => ⟨S_, .i32⟩
  | 22 => ⟨S4096x128, .i32⟩
  | 23 => ⟨S4096x128, .i32⟩
  | 24 => ⟨S4096x128, .i32⟩
  | 25 => ⟨S4096x128x1, .i32⟩
  | 26 => ⟨S8x4096x128x8x64, .f32⟩
  | 27 => ⟨S8x8x4096x128, .f32⟩
  | 28 => ⟨S_, .f32⟩
  | 29 => ⟨S8x8x4096x128, .f32⟩
  | 30 => ⟨S8x8x4096x128, .f32⟩
  | 31 => ⟨S1x8x4096x128, .f32⟩
  | 32 => ⟨S8x8x4096x128, .f32⟩
  | 33 => ⟨S8x8x4096x128, .f32⟩
  | 34 => ⟨S8x8x4096x256, .f32⟩
  | 35 => ⟨S_, .f32⟩
  | 36 => ⟨S8x8x4096x256, .f32⟩
  | 37 => ⟨S8x8x4096x256, .f32⟩
  | 38 => ⟨S8x8x4096x384, .f32⟩
  | 39 => ⟨S_, .f32⟩
  | 40 => ⟨S8x8x4096, .f32⟩
  | 41 => ⟨S_, .f32⟩
  | 42 => ⟨S8x8x4096, .f32⟩
  | 43 => ⟨S8x8x4096, .f32⟩
  | 44 => ⟨S8x8x4096x1, .f32⟩
  | 45 => ⟨S8x8x4096x384, .f32⟩
  | 46 => ⟨S8x8x4096x384, .f32⟩
  | 47 => ⟨S8x8x4096x384, .f32⟩
  | 48 => ⟨S_, .f32⟩
  | 49 => ⟨S8x8x4096, .f32⟩
  | 50 => ⟨S8x8x4096x1, .f32⟩
  | 51 => ⟨S8x8x4096x384, .f32⟩
  | 52 => ⟨S8x8x4096x384, .f32⟩
  | 53 => ⟨S8x8x4096x128, .f32⟩
  | 54 => ⟨S8x8x4096x256, .f32⟩
  | 55 => ⟨S8x4096x8x64, .f32⟩
  | 56 => ⟨S8x8x64x4096, .f32⟩
  | 57 => ⟨S8x4096x8x64, .f32⟩
  | 58 => ⟨S8x4096x8x64, .f32⟩
  | 59 => ⟨S8x8x256x256, .f32⟩
  | 60 => ⟨S_, .f32⟩
  | 61 => ⟨S8x8x256x256, .f32⟩
  | 62 => ⟨S8x8x256x256, .f32⟩
  | 63 => ⟨S_, .f32⟩
  | 64 => ⟨S8x8x256, .f32⟩
  | 65 => ⟨S_, .f32⟩
  | 66 => ⟨S8x8x256, .f32⟩
  | 67 => ⟨S8x8x256, .f32⟩
  | 68 => ⟨S8x8x256x1, .f32⟩
  | 69 => ⟨S8x8x256x256, .f32⟩
  | 70 => ⟨S8x8x256x256, .f32⟩
  | 71 => ⟨S8x8x256x256, .f32⟩
  | 72 => ⟨S_, .f32⟩
  | 73 => ⟨S8x8x256, .f32⟩
  | 74 => ⟨S8x8x256x1, .f32⟩
  | 75 => ⟨S8x8x256x256, .f32⟩
  | 76 => ⟨S8x8x256x256, .f32⟩
  | 77 => ⟨S8x8x64x256, .f32⟩
  | 78 => ⟨S8x256x8x64, .f32⟩
  | 79 => ⟨S8x4352x8x64, .f32⟩
  | 80 => ⟨S8x4352x512, .f32⟩
  | 81 => ⟨S8x4352x512, .bf16⟩
  | _ => ⟨S8x4352x512, .f32⟩

abbrev hbmTy (i : Nat) : BufTy := match i / 128 with
  | 0 => hbmTy0_0 i
  | 1 => hbmTy0_1 i
  | _ => ⟨S8x4352x512, .f32⟩

abbrev bufTy : (tb : Table) → Fin (tcTables nBuf tb) → BufTy
  | .hbm, ⟨i, _⟩ => hbmTy i
  | _, _ => ⟨S8x4352x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_c : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_0 : Ref sig .tc := ⟨.hbm, 31, rfl⟩
abbrev main_call0_v12 : Ref sig .tc := ⟨.hbm, 32, rfl⟩
abbrev main_call0_v13 : Ref sig .tc := ⟨.hbm, 33, rfl⟩
abbrev main_v13 : Ref sig .tc := ⟨.hbm, 34, rfl⟩
abbrev main_c_0 : Ref sig .tc := ⟨.hbm, 35, rfl⟩
abbrev main_call1_v0 : Ref sig .tc := ⟨.hbm, 36, rfl⟩
abbrev main_call1_c : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_c_1 : Ref sig .tc := ⟨.hbm, 43, rfl⟩
abbrev main_call1_v5 : Ref sig .tc := ⟨.hbm, 44, rfl⟩
abbrev main_call1_v6 : Ref sig .tc := ⟨.hbm, 45, rfl⟩
abbrev main_call1_c_2 : Ref sig .tc := ⟨.hbm, 46, rfl⟩
abbrev main_call1_v7 : Ref sig .tc := ⟨.hbm, 47, rfl⟩
abbrev main_call1_v8 : Ref sig .tc := ⟨.hbm, 48, rfl⟩
abbrev main_call1_c_3 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_v14 : Ref sig .tc := ⟨.hbm, 56, rfl⟩
abbrev main_c_1 : Ref sig .tc := ⟨.hbm, 57, rfl⟩
abbrev main_v15 : Ref sig .tc := ⟨.hbm, 58, rfl⟩
abbrev main_v16 : Ref sig .tc := ⟨.hbm, 59, rfl⟩
abbrev main_c_2 : Ref sig .tc := ⟨.hbm, 60, rfl⟩
abbrev main_c_3 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_c_4 : Ref sig .tc := ⟨.hbm, 74, rfl⟩
abbrev main_v24 : Ref sig .tc := ⟨.hbm, 75, rfl⟩
abbrev main_v25 : Ref sig .tc := ⟨.hbm, 76, rfl⟩
abbrev main_c_5 : Ref sig .tc := ⟨.hbm, 77, rfl⟩
abbrev main_c_6 : Ref sig .tc := ⟨.hbm, 78, rfl⟩
abbrev main_call3_v0 : Ref sig .tc := ⟨.hbm, 79, rfl⟩
abbrev main_call3_v1 : Ref sig .tc := ⟨.hbm, 80, rfl⟩
abbrev main_call3_v2 : Ref sig .tc := ⟨.hbm, 81, rfl⟩
abbrev main_call3_v3 : Ref sig .tc := ⟨.hbm, 82, rfl⟩
abbrev main_call3_v4 : Ref sig .tc := ⟨.hbm, 83, rfl⟩
abbrev main_v26 : Ref sig .tc := ⟨.hbm, 84, rfl⟩
abbrev main_v27 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev main_c_7 : Ref sig .tc := ⟨.hbm, 92, rfl⟩
abbrev main_v34 : Ref sig .tc := ⟨.hbm, 93, rfl⟩
abbrev main_v35 : Ref sig .tc := ⟨.hbm, 94, rfl⟩
abbrev main_v36 : Ref sig .tc := ⟨.hbm, 95, rfl⟩
abbrev main_v37 : Ref sig .tc := ⟨.hbm, 96, rfl⟩
abbrev main_v38 : Ref sig .tc := ⟨.hbm, 97, rfl⟩
abbrev main_v39 : Ref sig .tc := ⟨.hbm, 98, rfl⟩
abbrev main_v40 : Ref sig .tc := ⟨.hbm, 99, rfl⟩
abbrev main_v41 : Ref sig .tc := ⟨.hbm, 100, rfl⟩
abbrev main_v42 : Ref sig .tc := ⟨.hbm, 101, rfl⟩
abbrev main_v43 : Ref sig .tc := ⟨.hbm, 102, rfl⟩
abbrev main_v44 : Ref sig .tc := ⟨.hbm, 103, rfl⟩
abbrev main_v45 : Ref sig .tc := ⟨.hbm, 104, rfl⟩
abbrev main_c_8 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩
abbrev main_v49 : Ref sig .tc := ⟨.hbm, 109, rfl⟩
abbrev main_v50 : Ref sig .tc := ⟨.hbm, 110, rfl⟩
abbrev main_v51 : Ref sig .tc := ⟨.hbm, 111, rfl⟩
abbrev main_c_9 : Ref sig .tc := ⟨.hbm, 112, rfl⟩
abbrev main_v52 : Ref sig .tc := ⟨.hbm, 113, rfl⟩
abbrev main_v53 : Ref sig .tc := ⟨.hbm, 114, rfl⟩
abbrev main_v54 : Ref sig .tc := ⟨.hbm, 115, rfl⟩
abbrev main_c_10 : Ref sig .tc := ⟨.hbm, 116, rfl⟩
abbrev main_v55 : Ref sig .tc := ⟨.hbm, 117, rfl⟩
abbrev main_v56 : Ref sig .tc := ⟨.hbm, 118, rfl⟩
abbrev main_c_11 : Ref sig .tc := ⟨.hbm, 119, rfl⟩
abbrev main_v57 : Ref sig .tc := ⟨.hbm, 120, rfl⟩
abbrev main_v58 : Ref sig .tc := ⟨.hbm, 121, rfl⟩
abbrev main_v59 : Ref sig .tc := ⟨.hbm, 122, rfl⟩
abbrev main_c_12 : Ref sig .tc := ⟨.hbm, 123, rfl⟩
abbrev main_v60 : Ref sig .tc := ⟨.hbm, 124, rfl⟩
abbrev main_v61 : Ref sig .tc := ⟨.hbm, 125, rfl⟩
abbrev main_c_13 : Ref sig .tc := ⟨.hbm, 126, rfl⟩
abbrev main_v62 : Ref sig .tc := ⟨.hbm, 127, rfl⟩
abbrev main_v63 : Ref sig .tc := ⟨.hbm, 128, rfl⟩
abbrev main_v64 : Ref sig .tc := ⟨.hbm, 129, rfl⟩
abbrev main_v65 : Ref sig .tc := ⟨.hbm, 130, rfl⟩
abbrev main_v66 : Ref sig .tc := ⟨.hbm, 131, rfl⟩
abbrev main_v67 : Ref sig .tc := ⟨.hbm, 132, rfl⟩
abbrev main_v68 : Ref sig .tc := ⟨.hbm, 133, rfl⟩
abbrev main_v69 : Ref sig .tc := ⟨.hbm, 134, rfl⟩
abbrev main_v70 : Ref sig .tc := ⟨.hbm, 135, rfl⟩
abbrev main_v71 : Ref sig .tc := ⟨.hbm, 136, rfl⟩
abbrev main_c_14 : Ref sig .tc := ⟨.hbm, 137, rfl⟩
abbrev main_v72 : Ref sig .tc := ⟨.hbm, 138, rfl⟩
abbrev main_v73 : Ref sig .tc := ⟨.hbm, 139, rfl⟩
abbrev main_c_15 : Ref sig .tc := ⟨.hbm, 140, rfl⟩
abbrev main_v74 : Ref sig .tc := ⟨.hbm, 141, rfl⟩
abbrev main_v75 : Ref sig .tc := ⟨.hbm, 142, rfl⟩
abbrev main_v76 : Ref sig .tc := ⟨.hbm, 143, rfl⟩
abbrev main_v77 : Ref sig .tc := ⟨.hbm, 144, rfl⟩
abbrev main_v78 : Ref sig .tc := ⟨.hbm, 145, rfl⟩
abbrev main_c_16 : Ref sig .tc := ⟨.hbm, 146, rfl⟩
abbrev main_v79 : Ref sig .tc := ⟨.hbm, 147, rfl⟩
abbrev main_v80 : Ref sig .tc := ⟨.hbm, 148, rfl⟩
abbrev main_c_17 : Ref sig .tc := ⟨.hbm, 149, rfl⟩
abbrev main_v81 : Ref sig .tc := ⟨.hbm, 150, rfl⟩
abbrev main_v82 : Ref sig .tc := ⟨.hbm, 151, rfl⟩
abbrev main_v83 : Ref sig .tc := ⟨.hbm, 152, rfl⟩
abbrev main_v84 : Ref sig .tc := ⟨.hbm, 153, rfl⟩
abbrev main_v85 : Ref sig .tc := ⟨.hbm, 154, rfl⟩
abbrev main_v86 : Ref sig .tc := ⟨.hbm, 155, rfl⟩
abbrev main_cst : Ref sig .tc := ⟨.hbm, 156, rfl⟩
abbrev main_v87 : Ref sig .tc := ⟨.hbm, 157, rfl⟩
abbrev main_v88 : Ref sig .tc := ⟨.hbm, 158, rfl⟩
abbrev main_v89 : Ref sig .tc := ⟨.hbm, 159, rfl⟩
abbrev main_v90 : Ref sig .tc := ⟨.hbm, 160, rfl⟩
abbrev main_v91 : Ref sig .tc := ⟨.hbm, 161, rfl⟩
abbrev main_v92 : Ref sig .tc := ⟨.hbm, 162, rfl⟩
abbrev main_cst_18 : Ref sig .tc := ⟨.hbm, 163, rfl⟩
abbrev main_v93 : Ref sig .tc := ⟨.hbm, 164, rfl⟩
abbrev main_v94 : Ref sig .tc := ⟨.hbm, 165, rfl⟩
abbrev main_v95 : Ref sig .tc := ⟨.hbm, 166, rfl⟩
abbrev main_cst_19 : Ref sig .tc := ⟨.hbm, 167, rfl⟩
abbrev main_v96 : Ref sig .tc := ⟨.hbm, 168, rfl⟩
abbrev main_cst_20 : Ref sig .tc := ⟨.hbm, 169, rfl⟩
abbrev main_v97 : Ref sig .tc := ⟨.hbm, 170, rfl⟩
abbrev main_v98 : Ref sig .tc := ⟨.hbm, 171, rfl⟩
abbrev main_v99 : Ref sig .tc := ⟨.hbm, 172, rfl⟩
abbrev main_v100 : Ref sig .tc := ⟨.hbm, 173, rfl⟩
abbrev main_v101 : Ref sig .tc := ⟨.hbm, 174, rfl⟩
abbrev main_v102 : Ref sig .tc := ⟨.hbm, 175, rfl⟩
abbrev main_cst_21 : Ref sig .tc := ⟨.hbm, 176, rfl⟩
abbrev main_v103 : Ref sig .tc := ⟨.hbm, 177, rfl⟩
abbrev main_v104 : Ref sig .tc := ⟨.hbm, 178, rfl⟩
abbrev main_v105 : Ref sig .tc := ⟨.hbm, 179, rfl⟩
abbrev main_v106 : Ref sig .tc := ⟨.hbm, 180, rfl⟩
abbrev main_v107 : Ref sig .tc := ⟨.hbm, 181, rfl⟩
abbrev main_v108 : Ref sig .tc := ⟨.hbm, 182, rfl⟩
abbrev main_v109 : Ref sig .tc := ⟨.hbm, 183, rfl⟩
abbrev main_v110 : Ref sig .tc := ⟨.hbm, 184, rfl⟩
abbrev main_v111 : Ref sig .tc := ⟨.hbm, 185, rfl⟩
abbrev main_v112 : Ref sig .tc := ⟨.hbm, 186, rfl⟩
abbrev main_v113 : Ref sig .tc := ⟨.hbm, 187, rfl⟩
abbrev main_cst_22 : Ref sig .tc := ⟨.hbm, 188, rfl⟩
abbrev main_v114 : Ref sig .tc := ⟨.hbm, 189, rfl⟩
abbrev main_v115 : Ref sig .tc := ⟨.hbm, 190, rfl⟩
abbrev main_cst_23 : Ref sig .tc := ⟨.hbm, 191, rfl⟩
abbrev main_v116 : Ref sig .tc := ⟨.hbm, 192, rfl⟩
abbrev main_cst_24 : Ref sig .tc := ⟨.hbm, 193, rfl⟩
abbrev main_v117 : Ref sig .tc := ⟨.hbm, 194, rfl⟩
abbrev main_v118 : Ref sig .tc := ⟨.hbm, 195, rfl⟩
abbrev main_v119 : Ref sig .tc := ⟨.hbm, 196, rfl⟩
abbrev main_v120 : Ref sig .tc := ⟨.hbm, 197, rfl⟩
abbrev main_v121 : Ref sig .tc := ⟨.hbm, 198, rfl⟩
abbrev main_v122 : Ref sig .tc := ⟨.hbm, 199, rfl⟩
abbrev main_cst_25 : Ref sig .tc := ⟨.hbm, 200, rfl⟩
abbrev main_v123 : Ref sig .tc := ⟨.hbm, 201, rfl⟩
abbrev main_v124 : Ref sig .tc := ⟨.hbm, 202, rfl⟩
abbrev main_v125 : Ref sig .tc := ⟨.hbm, 203, rfl⟩
abbrev main_v126 : Ref sig .tc := ⟨.hbm, 204, rfl⟩
abbrev main_v127 : Ref sig .tc := ⟨.hbm, 205, rfl⟩
abbrev main_v128 : Ref sig .tc := ⟨.hbm, 206, rfl⟩
abbrev main_v129 : Ref sig .tc := ⟨.hbm, 207, rfl⟩
abbrev main_v130 : Ref sig .tc := ⟨.hbm, 208, rfl⟩
abbrev main_v131 : Ref sig .tc := ⟨.hbm, 209, rfl⟩

abbrev nD : Nat := 1
abbrev τ : Topo := Topo.v7x

variable {F : FTy → Type} [FloatOps F]
-- ==== Kernel2.lean ====
abbrev S8x4096x1024 : Shape := ⟨3, ![8, 4096, 1024]⟩
abbrev S8x9216 : Shape := ⟨2, ![8, 9216]⟩
abbrev S2x3x1024 : Shape := ⟨3, ![2, 3, 1024]⟩
abbrev S2x1024x2816 : Shape := ⟨3, ![2, 1024, 2816]⟩
abbrev S2x2816x1024 : Shape := ⟨3, ![2, 2816, 1024]⟩
abbrev S1024 : Shape := ⟨1, ![1024]⟩
abbrev S8x9x1024 : Shape := ⟨3, ![8, 9, 1024]⟩
abbrev S_ : Shape := ⟨0, ![]⟩
abbrev S16x9x1024 : Shape := ⟨3, ![16, 9, 1024]⟩
abbrev S1x3x1024 : Shape := ⟨3, ![1, 3, 1024]⟩
abbrev S3x1024 : Shape := ⟨2, ![3, 1024]⟩
abbrev S1x1024 : Shape := ⟨2, ![1, 1024]⟩
abbrev S2x256x1024 : Shape := ⟨3, ![2, 256, 1024]⟩
abbrev S2x9x1024 : Shape := ⟨3, ![2, 9, 1024]⟩
abbrev S1x1024x2816 : Shape := ⟨3, ![1, 1024, 2816]⟩
abbrev S1x2816x1024 : Shape := ⟨3, ![1, 2816, 1024]⟩
abbrev S512x2816 : Shape := ⟨2, ![512, 2816]⟩
abbrev S1x256x1024 : Shape := ⟨3, ![1, 256, 1024]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩
abbrev S512x1024 : Shape := ⟨2, ![512, 1024]⟩
abbrev S1x1024x256 : Shape := ⟨3, ![1, 1024, 256]⟩
abbrev S1024x256 : Shape := ⟨2, ![1024, 256]⟩
abbrev S512x256 : Shape := ⟨2, ![512, 256]⟩
abbrev S2816x1024 : Shape := ⟨2, ![2816, 1024]⟩

abbrev nBuf : Space → Nat
  | .hbm => 18
  | .vmem => 12
  | .smem => 0
  | _ => 0

abbrev bufTy : (tb : Table) → Fin (tcTables nBuf tb) → BufTy
  | .hbm, ⟨0, _⟩ => ⟨S8x4096x1024, .f32⟩
  | .hbm, ⟨1, _⟩ => ⟨S8x9216, .f32⟩
  | .hbm, ⟨2, _⟩ => ⟨S2x3x1024, .f32⟩
  | .hbm, ⟨3, _⟩ => ⟨S2x1024x2816, .f32⟩
  | .hbm, ⟨4, _⟩ => ⟨S2x1024x2816, .f32⟩
  | .hbm, ⟨5, _⟩ => ⟨S2x2816x1024, .f32⟩
  | .hbm, ⟨6, _⟩ => ⟨S1024, .f32⟩
  | .hbm, ⟨7, _⟩ => ⟨S8x9x1024, .f32⟩
  | .hbm, ⟨8, _⟩ => ⟨S_, .f32⟩
  | .hbm, ⟨9, _⟩ => ⟨S8x9x1024, .f32⟩
  | .hbm, ⟨10, _⟩ => ⟨S16x9x1024, .f32⟩
  | .hbm, ⟨11, _⟩ => ⟨S1x3x1024, .f32⟩
  | .hbm, ⟨12, _⟩ => ⟨S3x1024, .f32⟩
  | .hbm, ⟨13, _⟩ => ⟨S2x1024x2816, .bf16⟩
  | .hbm, ⟨14, _⟩ => ⟨S2x1024x2816, .bf16⟩
  | .hbm, ⟨15, _⟩ => ⟨S2x2816x1024, .bf16⟩
  | .hbm, ⟨16, _⟩ => ⟨S1x1024, .f32⟩
  | .hbm, ⟨17, _⟩ => ⟨S8x4096x1024, .f32⟩
  | .local _ .vmem, ⟨0, _⟩ => ⟨S2x256x1024, .f32⟩
  | .local _ .vmem, ⟨1, _⟩ => ⟨S2x256x1024, .f32⟩
  | .local _ .vmem, ⟨2, _⟩ => ⟨S2x9x1024, .f32⟩
  | .local _ .vmem, ⟨3, _⟩ => ⟨S2x9x1024, .f32⟩
  | .local _ .vmem, ⟨4, _⟩ => ⟨S3x1024, .f32⟩
  | .local _ .vmem, ⟨5, _⟩ => ⟨S1x1024x2816, .bf16⟩
  | .local _ .vmem, ⟨6, _⟩ => ⟨S1x1024x2816, .bf16⟩
  | .local _ .vmem, ⟨7, _⟩ => ⟨S1x2816x1024, .bf16⟩
  | .local _ .vmem, ⟨8, _⟩ => ⟨S1x1024, .f32⟩
  | .local _ .vmem, ⟨9, _⟩ => ⟨S2x256x1024, .f32⟩
  | .local _ .vmem, ⟨10, _⟩ => ⟨S2x256x1024, .f32⟩
  | .local _ .vmem, ⟨11, _⟩ => ⟨S512x2816, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 1 := Scalar.cmpi .sge arg0 c16_i32
  let c4_i32 : BitVec 32 := 4#32
  let v1 : BitVec 32 := Scalar.select v0 c4_i32 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S2x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S2x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference2Ideal.lean ====
abbrev S8x4096x1024 : Shape := ⟨3, ![8, 4096, 1024]⟩
abbrev S8x9216 : Shape := ⟨2, ![8, 9216]⟩
abbrev S2x3x1024 : Shape := ⟨3, ![2, 3, 1024]⟩
abbrev S2x1024x2816 : Shape := ⟨3, ![2, 1024, 2816]⟩
abbrev S2x2816x1024 : Shape := ⟨3, ![2, 2816, 1024]⟩
abbrev S1024 : Shape := ⟨1, ![1024]⟩
abbrev S8x1x9216 : Shape := ⟨3, ![8, 1, 9216]⟩
abbrev S8x1x1024 : Shape := ⟨3, ![8, 1, 1024]⟩
abbrev S1x3x1024 : Shape := ⟨3, ![1, 3, 1024]⟩
abbrev S3x1024 : Shape := ⟨2, ![3, 1024]⟩
abbrev S1x1024 : Shape := ⟨2, ![1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S8x4096x2816 : Shape := ⟨3, ![8, 4096, 2816]⟩
abbrev S1x2816x1024 : Shape := ⟨3, ![1, 2816, 1024]⟩
abbrev S2816x1024 : Shape := ⟨2, ![2816, 1024]⟩

abbrev nBuf : Space → Nat
  | .hbm => 85
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x9216, .f32⟩
  | .hbm, ⟨2, _⟩ => ⟨S2x3x1024, .f32⟩
  | .hbm, ⟨3, _⟩ => ⟨S2x1024x2816, .f32⟩
  | .hbm, ⟨4, _⟩ => ⟨S2x1024x2816, .f32⟩
  | .hbm, ⟨5, _⟩ => ⟨S2x2816x1024, .f32⟩
  | .hbm, ⟨6, _⟩ => ⟨S1024, .f32⟩
  | .hbm, ⟨7, _⟩ => ⟨S8x1x9216, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S1x3x1024, .f32⟩
  | .hbm, ⟨18, _⟩ => ⟨S3x1024, .f32⟩
  | .hbm, ⟨19, _⟩ => ⟨S1x1024, .f32⟩
  | .hbm, ⟨20, _⟩ => ⟨S1024, .f32⟩
  | .hbm, ⟨21, _⟩ => ⟨S8x4096x1024, .f32⟩
  | .hbm, ⟨22, _⟩ => ⟨S_, .f32⟩
  | .hbm, ⟨23, _⟩ => ⟨S8x4096, .f32⟩
  | .hbm, ⟨24, _⟩ => ⟨S8x4096x1, .f32⟩
  | .hbm, ⟨25, _⟩ => ⟨S_, .f32⟩
  | .hbm, ⟨26, _⟩ => ⟨S8x4096x1, .f32⟩
  | .hbm, ⟨27, _⟩ => ⟨S8x4096x1, .f32⟩
  | .hbm, ⟨28, _⟩ => ⟨S_, .f32⟩
  | .hbm, ⟨29, _⟩ => ⟨S8x4096x1, .f32⟩
  | .hbm, ⟨30, _⟩ => ⟨S8x4096x1, .f32⟩
  | .hbm, ⟨31, _⟩ => ⟨S8x4096x1, .f32⟩
  | .hbm, ⟨32, _⟩ => ⟨S8x4096x1024, .f32⟩
  | .hbm, ⟨33, _⟩ => ⟨S8x4096x1024, .f32⟩
  | .hbm, ⟨34, _⟩ => ⟨S1x1x1024, .f32⟩
  | .hbm, ⟨35, _⟩ => ⟨S8x4096x1024, .f32⟩
  | .hbm, ⟨36, _⟩ => ⟨S8x4096x1024, .f32⟩
  | .hbm, ⟨37, _⟩ => ⟨S_, .f32⟩
  | .hbm, ⟨38, _⟩ => ⟨S8x1x1024, .f32⟩
  | .hbm, ⟨39, _⟩ => ⟨S8x1x1024, .f32⟩
  | .hbm, ⟨40, _⟩ => ⟨S8x4096x1024, .f32⟩
  | .hbm, ⟨41, _⟩ => ⟨S8x4096x1024, .f32⟩
  | .hbm, ⟨42, _⟩ => ⟨S8x4096x1024, .f32⟩
  | .hbm, ⟨43, _⟩ => ⟨S8x4096x1024, .f32⟩
  | .hbm, ⟨44, _⟩ => ⟨S1x1024x2816, .f32⟩
  | .hbm, ⟨45, _⟩ => ⟨S1024x2816, .f32⟩
  | .hbm, ⟨46, _⟩ => ⟨S8x4096x2816, .f32⟩
  | .hbm, ⟨47, _⟩ => ⟨S8x4096x2816, .f32⟩
  | .hbm, ⟨48, _⟩ => ⟨S8x4096x2816, .f32⟩
  | .hbm, ⟨49, _⟩ => ⟨S_, .f32⟩
  | .hbm, ⟨50, _⟩ => ⟨S8x4096x2816, .f32⟩
  | .hbm, ⟨51, _⟩ => ⟨S8x4096x2816, .f32⟩
  | .hbm, ⟨52, _⟩ => ⟨S_, .f32⟩
  | .hbm, ⟨53, _⟩ => ⟨S8x4096x2816, .f32⟩
  | .hbm, ⟨54, _⟩ => ⟨S8x4096x2816, .f32⟩
  | .hbm, ⟨55, _⟩ => ⟨S8x4096x2816, .f32⟩
  | .hbm, ⟨56, _⟩ => ⟨S1x1024x2816, .f32⟩
  | .hbm, ⟨57, _⟩ => ⟨S1024x2816, .f32⟩
  | .hbm, ⟨58, _⟩ => ⟨S8x4096x2816, .f32⟩
  | .hbm, ⟨59, _⟩ => ⟨S8x4096x2816, .f32⟩
  | .hbm, ⟨60, _⟩ => ⟨S1x2816x1024, .f32⟩
  | .hbm, ⟨61, _⟩ => ⟨S2816x1024, .f32⟩
  | .hbm, ⟨62, _⟩ => ⟨S8x4096x1024, .f32⟩
  | .hbm, ⟨63, _⟩ => ⟨S_, .f32⟩
  | .hbm, ⟨64, _⟩ => ⟨S8x1x1024, .f32⟩
  | .hbm, ⟨65, _⟩ => ⟨S8x1x1024, .f32⟩
  | .hbm, ⟨66, _⟩ => ⟨S8x4096x1024, .f32⟩
  | .hbm, ⟨67, _⟩ => ⟨S8x4096x1024, .f32⟩
  | .hbm, ⟨68, _⟩ => ⟨S8x4096x1024, .f32⟩
  | .hbm, ⟨69, _⟩ => ⟨S8x4096x1024, .f32⟩
  | .hbm, ⟨70, _⟩ => ⟨S_, .f32⟩
  | .hbm, ⟨71, _⟩ => ⟨S8x4096, .f32⟩
  | .hbm, ⟨72, _⟩ => ⟨S8x4096x1, .f32⟩
  | .hbm, ⟨73, _⟩ => ⟨S_, .f32⟩
  | .hbm, ⟨74, _⟩ => ⟨S8x4096x1, .f32⟩
  | .hbm, ⟨75, _⟩ => ⟨S8x4096x1, .f32⟩
  | .hbm, ⟨76, _⟩ => ⟨S_, .f32⟩
  | .hbm, ⟨77, _⟩ => ⟨S8x4096x1, .f32⟩
  | .hbm, ⟨78, _⟩ => ⟨S8x4096x1, .f32⟩
  | .hbm, ⟨79, _⟩ => ⟨S8x4096x1, .f32⟩
  | .hbm, ⟨80, _⟩ => ⟨S8x4096x1024, .f32⟩
  | .hbm, ⟨81, _⟩ => ⟨S8x4096x1024, .f32⟩
  | .hbm, ⟨82, _⟩ => ⟨S1x1x1024, .f32⟩
  | .hbm, ⟨83, _⟩ => ⟨S8x4096x1024, .f32⟩
  | .hbm, ⟨84, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_3 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_4 : Ref sig .tc := ⟨.hbm, 70, rfl⟩
abbrev main_v50 : Ref sig .tc := ⟨.hbm, 71, rfl⟩
abbrev main_v51 : Ref sig .tc := ⟨.hbm, 72, rfl⟩
abbrev main_cst_5 : Ref sig .tc := ⟨.hbm, 73, rfl⟩
abbrev main_v52 : Ref sig .tc := ⟨.hbm, 74, rfl⟩
abbrev main_v53 : Ref sig .tc := ⟨.hbm, 75, rfl⟩
abbrev main_cst_6 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩

abbrev nD : Nat := 1
abbrev τ : Topo := Topo.v7x

variable {F : FTy → Type} [FloatOps F]
-- ==== Kernel3.lean ====
abbrev S8x4352x1024 : Shape := ⟨3, ![8, 4352, 1024]⟩
abbrev S8x9216 : Shape := ⟨2, ![8, 9216]⟩
abbrev S2x3x1024 : Shape := ⟨3, ![2, 3, 1024]⟩
abbrev S8x4352x384 : Shape := ⟨3, ![8, 4352, 384]⟩
abbrev S8x4096x512 : Shape := ⟨3, ![8, 4096, 512]⟩
abbrev S2x384 : Shape := ⟨2, ![2, 384]⟩
abbrev S2x1024x5760 : Shape := ⟨3, ![2, 1024, 5760]⟩
abbrev S2x384x384 : Shape := ⟨3, ![2, 384, 384]⟩
abbrev S2x384x1024 : Shape := ⟨3, ![2, 384, 1024]⟩
abbrev S2x512x1024 : Shape := ⟨3, ![2, 512, 1024]⟩
abbrev S2x1024x1024 : Shape := ⟨3, ![2, 1024, 1024]⟩
abbrev S8 : Shape := ⟨1, ![8]⟩
abbrev S8x9x1024 : Shape := ⟨3, ![8, 9, 1024]⟩
abbrev S_ : Shape := ⟨0, ![]⟩
abbrev S16x9x1024 : Shape := ⟨3, ![16, 9, 1024]⟩
abbrev S8x4096x8x64 : Shape := ⟨4, ![8, 4096, 8, 64]⟩
abbrev S8x1 : Shape := ⟨2, ![8, 1]⟩
abbrev S2x1024x3072 : Shape := ⟨3, ![2, 1024, 3072]⟩
abbrev S2x8x64x1024 : Shape := ⟨4, ![2, 8, 64, 1024]⟩
abbrev S1x3x1024 : Shape := ⟨3, ![1, 3, 1024]⟩
abbrev S3x1024 : Shape := ⟨2, ![3, 1024]⟩
abbrev S4352x8x384 : Shape := ⟨3, ![4352, 8, 384]⟩
abbrev S34816x3x128 : Shape := ⟨3, ![34816, 3, 128]⟩
abbrev S3x34816x128 : Shape := ⟨3, ![3, 34816, 128]⟩
abbrev S1x384 : Shape := ⟨2, ![1, 384]⟩
abbrev S384 : Shape := ⟨1, ![384]⟩
abbrev S8x4096x1024 : Shape := ⟨3, ![8, 4096, 1024]⟩
abbrev S2x256x1024 : Shape := ⟨3, ![2, 256, 1024]⟩
abbrev S2x9x1024 : Shape := ⟨3, ![2, 9, 1024]⟩
abbrev S3x2048x128 : Shape := ⟨3, ![3, 2048, 128]⟩
abbrev S2x256x512 : Shape := ⟨3, ![2, 256, 512]⟩
abbrev S1x1024x3072 : Shape := ⟨3, ![1, 1024, 3072]⟩
abbrev S1x384x384 : Shape := ⟨3, ![1, 384, 384]⟩
abbrev S1x384x1024 : Shape := ⟨3, ![1, 384, 1024]⟩
abbrev S1x512x1024 : Shape := ⟨3, ![1, 512, 1024]⟩
abbrev S1x1024x1024 : Shape := ⟨3, ![1, 1024, 1024]⟩
abbrev S1x256x1024 : Shape := ⟨3, ![1, 256, 1024]⟩
abbrev S256x1024 : Shape := ⟨2, ![256, 1024]⟩
abbrev S1x1024 : Shape := ⟨2, ![1, 1024]⟩
abbrev S1x1x1024 : Shape := ⟨3, ![1, 1, 1024]⟩
abbrev S256 : Shape := ⟨1, ![256]⟩
abbrev S256x1 : Shape := ⟨2, ![256, 1]⟩
abbrev S512x1024 : Shape := ⟨2, ![512, 1024]⟩
abbrev S1024x1024 : Shape := ⟨2, ![1024, 1024]⟩
abbrev S1x256x128 : Shape := ⟨3, ![1, 256, 128]⟩
abbrev S256x128 : Shape := ⟨2, ![256, 128]⟩
abbrev S256x384 : Shape := ⟨2, ![256, 384]⟩
abbrev S512x384 : Shape := ⟨2, ![512, 384]⟩
abbrev S384x384 : Shape := ⟨2, ![384, 384]⟩
abbrev S384x1024 : Shape := ⟨2, ![384, 1024]⟩
abbrev S1x256x512 : Shape := ⟨3, ![1, 256, 512]⟩
abbrev S256x512 : Shape := ⟨2, ![256, 512]⟩
abbrev S512x512 : Shape := ⟨2, ![512, 512]⟩

abbrev nBuf : Space → Nat
  | .hbm => 62
  | .vmem => 24
  | .smem => 0
  | _ => 0

abbrev bufTy : (tb : Table) → Fin (tcTables nBuf tb) → BufTy
  | .hbm, ⟨0, _⟩ => ⟨S8x4352x1024, .f32⟩
  | .hbm, ⟨1, _⟩ => ⟨S8x9216, .f32⟩
  | .hbm, ⟨2, _⟩ => ⟨S2x3x1024, .f32⟩
  | .hbm, ⟨3, _⟩ => ⟨S8x4352x384, .f32⟩
  | .hbm, ⟨4, _⟩ => ⟨S8x4352x384, .f32⟩
  | .hbm, ⟨5, _⟩ => ⟨S8x4352x384, .f32⟩
  | .hbm, ⟨6, _⟩ => ⟨S8x4096x512, .f32⟩
  | .hbm, ⟨7, _⟩ => ⟨S8x4096x512, .f32⟩
  | .hbm, ⟨8, _⟩ => ⟨S2x384, .f32⟩
  | .hbm, ⟨9, _⟩ => ⟨S2x1024x5760, .f32⟩
  | .hbm, ⟨10, _⟩ => ⟨S2x384x384, .f32⟩
  | .hbm, ⟨11, _⟩ => ⟨S2x384x1024, .f32⟩
  | .hbm, ⟨12, _⟩ => ⟨S2x512x1024, .f32⟩
  | .hbm, ⟨13, _⟩ => ⟨S2x512x1024, .f32⟩
  | .hbm, ⟨14, _⟩ => ⟨S2x1024x1024, .f32⟩
  | .hbm, ⟨15, _⟩ => ⟨S8, .i32⟩
  | .hbm, ⟨16, _⟩ => ⟨S8, .i1⟩
  | .hbm, ⟨17, _⟩ => ⟨S8, .i1⟩
  | .hbm, ⟨18, _⟩ => ⟨S8x9x1024, .f32⟩
  | .hbm, ⟨19, _⟩ => ⟨S_, .f32⟩
  | .hbm, ⟨20, _⟩ => ⟨S8x9x1024, .f32⟩
  | .hbm, ⟨21, _⟩ => ⟨S16x9x1024, .f32⟩
  | .hbm, ⟨22, _⟩ => ⟨S8x4096x8x64, .f32⟩
  | .hbm, ⟨23, _⟩ => ⟨S_, .i32⟩
  | .hbm, ⟨24, _⟩ => ⟨S8, .i32⟩
  | .hbm, ⟨25, _⟩ => ⟨S8, .i32⟩
  | .hbm, ⟨26, _⟩ => ⟨S8, .i32⟩
  | .hbm, ⟨27, _⟩ => ⟨S8x1, .i32⟩
  | .hbm, ⟨28, _⟩ => ⟨S8x4096x8x64, .f32⟩
  | .hbm, ⟨29, _⟩ => ⟨S8x4096x512, .f32⟩
  | .hbm, ⟨30, _⟩ => ⟨S8x4096x512, .bf16⟩
  | .hbm, ⟨31, _⟩ => ⟨S2x1024x3072, .f32⟩
  | .hbm, ⟨32, _⟩ => ⟨S2x1024x3072, .bf16⟩
  | .hbm, ⟨33, _⟩ => ⟨S2x8x64x1024, .f32⟩
  | .hbm, ⟨34, _⟩ => ⟨S_, .i32⟩
  | .hbm, ⟨35, _⟩ => ⟨S8, .i32⟩
  | .hbm, ⟨36, _⟩ => ⟨S8, .i32⟩
  | .hbm, ⟨37, _⟩ => ⟨S8, .i32⟩
  | .hbm, ⟨38, _⟩ => ⟨S8x1, .i32⟩
  | .hbm, ⟨39, _⟩ => ⟨S2x8x64x1024, .f32⟩
  | .hbm, ⟨40, _⟩ => ⟨S2x512x1024, .f32⟩
  | .hbm, ⟨41, _⟩ => ⟨S2x512x1024, .bf16⟩
  | .hbm, ⟨42, _⟩ => ⟨S1x3x1024, .f32⟩
  | .hbm, ⟨43, _⟩ => ⟨S3x1024, .f32⟩
  | .hbm, ⟨44, _⟩ => ⟨S4352x8x384, .f32⟩
  | .hbm, ⟨45, _⟩ => ⟨S34816x3x128, .f32⟩
  | .hbm, ⟨46, _⟩ => ⟨S3x34816x128, .f32⟩
  | .hbm, ⟨47, _⟩ => ⟨S4352x8x384, .f32⟩
  | .hbm, ⟨48, _⟩ => ⟨S34816x3x128, .f32⟩
  | .hbm, ⟨49, _⟩ => ⟨S3x34816x128, .f32⟩
  | .hbm, ⟨50, _⟩ => ⟨S4352x8x384, .f32⟩
  | .hbm, ⟨51, _⟩ => ⟨S34816x3x128, .f32⟩
  | .hbm, ⟨52, _⟩ => ⟨S3x34816x128, .f32⟩
  | .hbm, ⟨53, _⟩ => ⟨S8x4096x512, .bf16⟩
  | .hbm, ⟨54, _⟩ => ⟨S1x384, .f32⟩
  | .hbm, ⟨55, _⟩ => ⟨S384, .f32⟩
  | .hbm, ⟨56, _⟩ => ⟨S2x384x384, .bf16⟩
  | .hbm, ⟨57, _⟩ => ⟨S2x384x1024, .bf16⟩
  | .hbm, ⟨58, _⟩ => ⟨S2x512x1024, .bf16⟩
  | .hbm, ⟨59, _⟩ => ⟨S2x1024x1024, .bf16⟩
  | .hbm, ⟨60, _⟩ => ⟨S1x384, .f32⟩
  | .hbm, ⟨61, _⟩ => ⟨S8x4096x1024, .f32⟩
  | .local _ .vmem, ⟨0, _⟩ => ⟨S2x256x1024, .f32⟩
  | .local _ .vmem, ⟨1, _⟩ => ⟨S2x256x1024, .f32⟩
  | .local _ .vmem, ⟨2, _⟩ => ⟨S2x9x1024, .f32⟩
  | .local _ .vmem, ⟨3, _⟩ => ⟨S2x9x1024, .f32⟩
  | .local _ .vmem, ⟨4, _⟩ => ⟨S3x1024, .f32⟩
  | .local _ .vmem, ⟨5, _⟩ => ⟨S3x2048x128, .f32⟩
  | .local _ .vmem, ⟨6, _⟩ => ⟨S3x2048x128, .f32⟩
  | .local _ .vmem, ⟨7, _⟩ => ⟨S3x2048x128, .f32⟩
  | .local _ .vmem, ⟨8, _⟩ => ⟨S3x2048x128, .f32⟩
  | .local _ .vmem, ⟨9, _⟩ => ⟨S3x2048x128, .f32⟩
  | .local _ .vmem, ⟨10, _⟩ => ⟨S3x2048x128, .f32⟩
  | .local _ .vmem, ⟨11, _⟩ => ⟨S2x256x512, .bf16⟩
  | .local _ .vmem, ⟨12, _⟩ => ⟨S2x256x512, .bf16⟩
  | .local _ .vmem, ⟨13, _⟩ => ⟨S2x256x512, .bf16⟩
  | .local _ .vmem, ⟨14, _⟩ => ⟨S2x256x512, .bf16⟩
  | .local _ .vmem, ⟨15, _⟩ => ⟨S1x384, .f32⟩
  | .local _ .vmem, ⟨16, _⟩ => ⟨S1x1024x3072, .bf16⟩
  | .local _ .vmem, ⟨17, _⟩ => ⟨S1x384x384, .bf16⟩
  | .local _ .vmem, ⟨18, _⟩ => ⟨S1x384x1024, .bf16⟩
  | .local _ .vmem, ⟨19, _⟩ => ⟨S1x512x1024, .bf16⟩
  | .local _ .vmem, ⟨20, _⟩ => ⟨S1x512x1024, .bf16⟩
  | .local _ .vmem, ⟨21, _⟩ => ⟨S1x1024x1024, .bf16⟩
  | .local _ .vmem, ⟨22, _⟩ => ⟨S2x256x1024, .f32⟩
  | .local _ .vmem, ⟨23, _⟩ => ⟨S2x256x1024, .f32⟩
  | _, _ => ⟨S8x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_c_0 : Ref sig .tc := ⟨.hbm, 16, rfl⟩
abbrev main_c_1 : Ref sig .tc := ⟨.hbm, 17, rfl⟩
abbrev main_v0 : Ref sig .tc := ⟨.hbm, 18, rfl⟩
abbrev main_cst : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c_2 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_c_3 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨2, ![16, 4], ![false, false]⟩

def k0_off1 (i : grid0.Coords) (c0_i32 : BitVec 32) : Fin 3 → Nat :=
  let c0_33 : Index := 0#32
  let arg1 : BitVec 32 := BitVec.ofNat 32 (i 1).val
  let c2_i32 : BitVec 32 := 2#32
  let v61 : BitVec 32 := Scalar.muli arg1 c2_i32
  let v62 : BitVec 32 := Scalar.addi v61 c0_i32
  let v63 : Index := Scalar.indexCast v62
  let c0_34 : Index := 0#32
  ![0, v63.toNat, 0]
def k0_off2 (i : grid0.Coords) (c0_i32_38 : BitVec 32) : Fin 3 → Nat :=
  let c1_39 : Index := 1#32
  let arg1 : BitVec 32 := BitVec.ofNat 32 (i 1).val
  let c2_i32_37 : BitVec 32 := 2#32
  let v70 : BitVec 32 := Scalar.muli arg1 c2_i32_37
  let v71 : BitVec 32 := Scalar.addi v70 c0_i32_38
  let v72 : Index := Scalar.indexCast v71
  let c0_40 : Index := 0#32
  ![1, v72.toNat, 0]
def k0_off3 (i : grid0.Coords) (c0_i32_44 : BitVec 32) : Fin 3 → Nat :=
  let c2 : Index := 2#32
  let arg1 : BitVec 32 := BitVec.ofNat 32 (i 1).val
  let c2_i32_43 : BitVec 32 := 2#32
  let v79 : BitVec 32 := Scalar.muli arg1 c2_i32_43
  let v80 : BitVec 32 := Scalar.addi v79 c0_i32_44
  let v81 : Index := Scalar.indexCast v80
  let c0_45 : Index := 0#32
  ![2, v81.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 1 := Scalar.cmpi .sge arg0 c16_i32
  let c4_i32 : BitVec 32 := 4#32
  let v1 : BitVec 32 := Scalar.select v0 c4_i32 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S2x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S3x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S3x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S3x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024x3072 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x384x384 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x384x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S2x256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference3Ideal.lean ====
abbrev S8x4352x1024 : Shape := ⟨3, ![8, 4352, 1024]⟩
abbrev S8x9216 : Shape := ⟨2, ![8, 9216]⟩
abbrev S2x3x1024 : Shape := ⟨3, ![2, 3, 1024]⟩
abbrev S8x4352x384 : Shape := ⟨3, ![8, 4352, 384]⟩
abbrev S8x4096x512 : Shape := ⟨3, ![8, 4096, 512]⟩
abbrev S2x384 : Shape := ⟨2, ![2, 384]⟩
abbrev S2x1024x5760 : Shape := ⟨3, ![2, 1024, 5760]⟩
abbrev S2x384x384 : Shape := ⟨3, ![2, 384, 384]⟩
abbrev S2x384x1024 : Shape := ⟨3, ![2, 384, 1024]⟩
abbrev S2x512x1024 : Shape := ⟨3, ![2, 512, 1024]⟩
abbrev S2x1024x1024 : Shape := ⟨3, ![2, 1024, 1024]⟩
abbrev S8x4096x1024 : Shape := ⟨3, ![8, 4096, 1024]⟩
abbrev S8x3072 : Shape := ⟨2, ![8, 3072]⟩
abbrev S8x1x3072 : Shape := ⟨3, ![8, 1, 3072]⟩
abbrev S8x1x1024 : Shape := ⟨3, ![8, 1, 1024]⟩
abbrev S1x3x1024 : Shape := ⟨3, ![1, 3, 1024]⟩
abbrev S3x1024 : Shape := ⟨2, ![3, 1024]⟩
abbrev S1x1024 : Shape := ⟨2, ![1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1x1024x5760 : Shape := ⟨3, ![1, 1024, 5760]⟩
abbrev S1024x5760 : Shape := ⟨2, ![1024, 5760]⟩
abbrev S1024x3072 : Shape := ⟨2, ![1024, 3072]⟩
abbrev S8x4096x3072 : Shape := ⟨3, ![8, 4096, 3072]⟩
abbrev S1x384 : Shape := ⟨2, ![1, 384]⟩
abbrev S384 : Shape := ⟨1, ![384]⟩
abbrev S8x4096x384 : Shape := ⟨3, ![8, 4096, 384]⟩
abbrev S1x1x384 : Shape := ⟨3, ![1, 1, 384]⟩
abbrev S1x384x384 : Shape := ⟨3, ![1, 384, 384]⟩
abbrev S384x384 : Shape := ⟨2, ![384, 384]⟩
abbrev S1x384x1024 : Shape := ⟨3, ![1, 384, 1024]⟩
abbrev S384x1024 : Shape := ⟨2, ![384, 1024]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 138
  | .vmem => 0
  | .smem => 0
  | _ => 0

abbrev hbmTy0_0 (i : Nat) : BufTy := match i % 128 with
  | 0 => ⟨S8x4352x1024, .f32⟩
  | 1 => ⟨S8x9216, .f32⟩
  | 2 => ⟨S2x3x1024, .f32⟩
  | 3 => ⟨S8x4352x384, .f32⟩
  | 4 => ⟨S8x4352x384, .f32⟩
  | 5 => ⟨S8x4352x384, .f32⟩
  | 6 => ⟨S8x4096x512, .f32⟩
  | 7 => ⟨S8x4096x512, .f32⟩
  | 8 => ⟨S2x384, .f32⟩
  | 9 => ⟨S2x1024x5760, .f32⟩
  | 10 => ⟨S2x384x384, .f32⟩
  | 11 => ⟨S2x384x1024, .f32⟩
  | 12 => ⟨S2x512x1024, .f32⟩
  | 13 => ⟨S2x512x1024, .f32⟩
  | 14 => ⟨S2x1024x1024, .f32⟩
  | 15 => ⟨S8x4096x1024, .f32⟩
  | 16 => ⟨S8x3072, .f32⟩
  | 17 => ⟨S8x1x3072, .f32⟩
  | 18 => ⟨S8x1x1024, .f32⟩
  | 19 => ⟨S8x1x1024, .f32⟩
  | 20 => ⟨S8x1x1024, .f32⟩
  | 21 => ⟨S1x3x1024, .f32⟩
  | 22 => ⟨S3x1024, .f32⟩
  | 23 => ⟨S1x1024, .f32⟩
  | 24 => ⟨S1024, .f32⟩
  | 25 => ⟨S8x4096x1024, .f32⟩
  | 26 => ⟨S_, .f32⟩
  | 27 => ⟨S8x4096, .f32⟩
  | 28 => ⟨S8x4096x1, .f32⟩
  | 29 => ⟨S_, .f32⟩
  | 30 => ⟨S8x4096x1, .f32⟩
  | 31 => ⟨S8x4096x1, .f32⟩
  | 32 => ⟨S_, .f32⟩
  | 33 => ⟨S8x4096x1, .f32⟩
  | 34 => ⟨S8x4096x1, .f32⟩
  | 35 => ⟨S8x4096x1, .f32⟩
  | 36 => ⟨S8x4096x1024, .f32⟩
  | 37 => ⟨S8x4096x1024, .f32⟩
  | 38 => ⟨S1x1x1024, .f32⟩
  | 39 => ⟨S8x4096x1024, .f32⟩
  | 40 => ⟨S8x4096x1024, .f32⟩
  | 41 => ⟨S_, .f32⟩
  | 42 => ⟨S8x1x1024, .f32⟩
  | 43 => ⟨S8x1x1024, .f32⟩
  | 44 => ⟨S8x4096x1024, .f32⟩
  | 45 => ⟨S8x4096x1024, .f32⟩
  | 46 => ⟨S8x4096x1024, .f32⟩
  | 47 => ⟨S8x4096x1024, .f32⟩
  | 48 => ⟨S1x1024x5760, .f32⟩
  | 49 => ⟨S1024x5760, .f32⟩
  | 50 => ⟨S1024x3072, .f32⟩
  | 51 => ⟨S8x4096x3072, .f32⟩
  | 52 => ⟨S8x4096x1024, .f32⟩
  | 53 => ⟨S8x4096x1024, .f32⟩
  | 54 => ⟨S8x4096x1024, .f32⟩
  | 55 => ⟨S1x384, .f32⟩
  | 56 => ⟨S384, .f32⟩
  | 57 => ⟨S8x4096x384, .f32⟩
  | 58 => ⟨S1x1x384, .f32⟩
  | 59 => ⟨S8x4096x384, .f32⟩
  | 60 => ⟨S8x4096x384, .f32⟩
  | 61 => ⟨S8x4096x384, .f32⟩
  | 62 => ⟨S8x4096x384, .f32⟩
  | 63 => ⟨S8x4096x384, .f32⟩
  | 64 => ⟨S8x4096x384, .f32⟩
  | 65 => ⟨S8x4096x384, .f32⟩
  | 66 => ⟨S8x4096x384, .f32⟩
  | 67 => ⟨S_, .f32⟩
  | 68 => ⟨S8x4096x384, .f32⟩
  | 69 => ⟨S8x4096x384, .f32⟩
  | 70 => ⟨S8x4096x384, .f32⟩
  | 71 => ⟨S_, .f32⟩
  | 72 => ⟨S8x4096x384, .f32⟩
  | 73 => ⟨S8x4096x384, .f32⟩
  | 74 => ⟨S8x4096x384, .f32⟩
  | 75 => ⟨S_, .f32⟩
  | 76 => ⟨S8x4096x384, .f32⟩
  | 77 => ⟨S8x4096x384, .f32⟩
  | 78 => ⟨S_, .f32⟩
  | 79 => ⟨S8x4096x384, .f32⟩
  | 80 => ⟨S8x4096x384, .f32⟩
  | 81 => ⟨S8x4096x384, .f32⟩
  | 82 => ⟨S1x384x384, .f32⟩
  | 83 => ⟨S384x384, .f32⟩
  | 84 => ⟨S8x4096x384, .f32⟩
  | 85 => ⟨S8x4096x384, .f32⟩
  | 86 => ⟨S8x4096x384, .f32⟩
  | 87 => ⟨S_, .f32⟩
  | 88 => ⟨S8x4096x384, .f32⟩
  | 89 => ⟨S8x4096x384, .f32⟩
  | 90 => ⟨S_, .f32⟩
  | 91 => ⟨S8x4096x384, .f32⟩
  | 92 => ⟨S8x4096x384, .f32⟩
  | 93 => ⟨S8x4096x384, .f32⟩
  | 94 => ⟨S8x4096x1024, .f32⟩
  | 95 => ⟨S8x4096x1024, .f32⟩
  | 96 => ⟨S_, .f32⟩
  | 97 => ⟨S8x4096x1024, .f32⟩
  | 98 => ⟨S8x4096x1024, .f32⟩
  | 99 => ⟨S_, .f32⟩
  | 100 => ⟨S8x4096x1024, .f32⟩
  | 101 => ⟨S8x4096x1024, .f32⟩
  | 102 => ⟨S1x384x1024, .f32⟩
  | 103 => ⟨S384x1024, .f32⟩
  | 104 => ⟨S8x4096x1024, .f32⟩
  | 105 => ⟨S8x4096x1024, .f32⟩
  | 106 => ⟨S8x4096x1024, .f32⟩
  | 107 => ⟨S8x4096x1024, .f32⟩
  | 108 => ⟨S_, .f32⟩
  | 109 => ⟨S8x4096x1024, .f32⟩
  | 110 => ⟨S8x4096x1024, .f32⟩
  | 111 => ⟨S_, .f32⟩
  | 112 => ⟨S8x4096x1024, .f32⟩
  | 113 => ⟨S8x4096x1024, .f32⟩
  | 114 => ⟨S1x512x1024, .f32⟩
  | 115 => ⟨S512x1024, .f32⟩
  | 116 => ⟨S8x4096x1024, .f32⟩
  | 117 => ⟨S8x4096x1024, .f32⟩
  | 118 => ⟨S8x4096x1024, .f32⟩
  | 119 => ⟨S8x4096x1024, .f32⟩
  | 120 => ⟨S8x4096x1024, .f32⟩
  | 121 => ⟨S_, .f32⟩
  | 122 => ⟨S8x4096x1024, .f32⟩
  | 123 => ⟨S8x4096x1024, .f32⟩
  | 124 => ⟨S_, .f32⟩
  | 125 => ⟨S8x4096x1024, .f32⟩
  | 126 => ⟨S8x4096x1024, .f32⟩
  | 127 => ⟨S1x512x1024, .f32⟩
  | _ => ⟨S8x4352x1024, .f32⟩

abbrev hbmTy0_1 (i : Nat) : BufTy := match i % 128 with
  | 0 => ⟨S512x1024, .f32⟩
  | 1 => ⟨S8x4096x1024, .f32⟩
  | 2 => ⟨S8x4096x1024, .f32⟩
  | 3 => ⟨S8x4096x1024, .f32⟩
  | 4 => ⟨S1x1024x1024, .f32⟩
  | 5 => ⟨S1024x1024, .f32⟩
  | 6 => ⟨S8x4096x1024, .f32⟩
  | 7 => ⟨S8x4096x1024, .f32⟩
  | 8 => ⟨S8x4096x1024, .f32⟩
  | 9 => ⟨S8x4096x1024, .f32⟩
  | _ => ⟨S8x4352x1024, .f32⟩

abbrev hbmTy (i : Nat) : BufTy := match i / 128 with
  | 0 => hbmTy0_0 i
  | 1 => hbmTy0_1 i
  | _ => ⟨S8x4352x1024, .f32⟩

abbrev bufTy : (tb : Table) → Fin (tcTables nBuf tb) → BufTy
  | .hbm, ⟨i, _⟩ => hbmTy i
  | _, _ => ⟨S8x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_cst_0 : Ref sig .tc := ⟨.hbm, 29, rfl⟩
abbrev main_v13 : Ref sig .tc := ⟨.hbm, 30, rfl⟩
abbrev main_v14 : Ref sig .tc := ⟨.hbm, 31, rfl⟩
abbrev main_cst_1 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_2 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_3 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_4 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_5 : Ref sig .tc := ⟨.hbm, 75, rfl⟩
abbrev main_v54 : Ref sig .tc := ⟨.hbm, 76, rfl⟩
abbrev main_v55 : Ref sig .tc := ⟨.hbm, 77, rfl⟩
abbrev main_cst_6 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_7 : Ref sig .tc := ⟨.hbm, 87, rfl⟩
abbrev main_v64 : Ref sig .tc := ⟨.hbm, 88, rfl⟩
abbrev main_v65 : Ref sig .tc := ⟨.hbm, 89, rfl⟩
abbrev main_cst_8 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_9 : Ref sig .tc := ⟨.hbm, 96, rfl⟩
abbrev main_v71 : Ref sig .tc := ⟨.hbm, 97, rfl⟩
abbrev main_v72 : Ref sig .tc := ⟨.hbm, 98, rfl⟩
abbrev main_cst_10 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_11 : Ref sig .tc := ⟨.hbm, 108, rfl⟩
abbrev main_v81 : Ref sig .tc := ⟨.hbm, 109, rfl⟩
abbrev main_v82 : Ref sig .tc := ⟨.hbm, 110, rfl⟩
abbrev main_cst_12 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_cst_13 : Ref sig .tc := ⟨.hbm, 121, rfl⟩
abbrev main_v92 : Ref sig .tc := ⟨.hbm, 122, rfl⟩
abbrev main_v93 : Ref sig .tc := ⟨.hbm, 123, rfl⟩
abbrev main_cst_14 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩

abbrev nD : Nat := 1
abbrev τ : Topo := Topo.v7x

variable {F : FTy → Type} [FloatOps F]
-- ==== Kernel4.lean ====
abbrev S8x4352x1024 : Shape := ⟨3, ![8, 4352, 1024]⟩
abbrev S8x9216 : Shape := ⟨2, ![8, 9216]⟩
abbrev S9216 : Shape := ⟨1, ![9216]⟩
abbrev S2x3x1024 : Shape := ⟨3, ![2, 3, 1024]⟩
abbrev S2x1024x2816 : Shape := ⟨3, ![2, 1024, 2816]⟩
abbrev S2x2816x1024 : Shape := ⟨3, ![2, 2816, 1024]⟩
abbrev S1x9x1024 : Shape := ⟨3, ![1, 9, 1024]⟩
abbrev S2x9x1024 : Shape := ⟨3, ![2, 9, 1024]⟩
abbrev S8x9x1024 : Shape := ⟨3, ![8, 9, 1024]⟩
abbrev S_ : Shape := ⟨0, ![]⟩
abbrev S6x9x1024 : Shape := ⟨3, ![6, 9, 1024]⟩
abbrev S16x9x1024 : Shape := ⟨3, ![16, 9, 1024]⟩
abbrev S1x3x1024 : Shape := ⟨3, ![1, 3, 1024]⟩
abbrev S3x1024 : Shape := ⟨2, ![3, 1024]⟩
abbrev S2x256x1024 : Shape := ⟨3, ![2, 256, 1024]⟩
abbrev S1x1024x2816 : Shape := ⟨3, ![1, 1024, 2816]⟩
abbrev S1x2816x1024 : Shape := ⟨3, ![1, 2816, 1024]⟩
abbrev S512x2816 : Shape := ⟨2, ![512, 2816]⟩
abbrev S1x256x1024 : Shape := ⟨3, ![1, 256, 1024]⟩
abbrev S256x1024 : Shape := ⟨2, ![256, 1024]⟩
abbrev S1x1024 : Shape := ⟨2, ![1, 1024]⟩
abbrev S1x1x1024 : Shape := ⟨3, ![1, 1, 1024]⟩
abbrev S256 : Shape := ⟨1, ![256]⟩
abbrev S256x1 : Shape := ⟨2, ![256, 1]⟩
abbrev S512x1024 : Shape := ⟨2, ![512, 1024]⟩
abbrev S1x1024x256 : Shape := ⟨3, ![1, 1024, 256]⟩
abbrev S1024x256 : Shape := ⟨2, ![1024, 256]⟩
abbrev S512x256 : Shape := ⟨2, ![512, 256]⟩
abbrev S2816x1024 : Shape := ⟨2, ![2816, 1024]⟩

abbrev nBuf : Space → Nat
  | .hbm => 19
  | .vmem => 11
  | .smem => 0
  | _ => 0

abbrev bufTy : (tb : Table) → Fin (tcTables nBuf tb) → BufTy
  | .hbm, ⟨0, _⟩ => ⟨S8x4352x1024, .f32⟩
  | .hbm, ⟨1, _⟩ => ⟨S8x9216, .f32⟩
  | .hbm, ⟨2, _⟩ => ⟨S9216, .f32⟩
  | .hbm, ⟨3, _⟩ => ⟨S2x3x1024, .f32⟩
  | .hbm, ⟨4, _⟩ => ⟨S2x1024x2816, .f32⟩
  | .hbm, ⟨5, _⟩ => ⟨S2x1024x2816, .f32⟩
  | .hbm, ⟨6, _⟩ => ⟨S2x2816x1024, .f32⟩
  | .hbm, ⟨7, _⟩ => ⟨S1x9x1024, .f32⟩
  | .hbm, ⟨8, _⟩ => ⟨S2x9x1024, .f32⟩
  | .hbm, ⟨9, _⟩ => ⟨S8x9x1024, .f32⟩
  | .hbm, ⟨10, _⟩ => ⟨S_, .f32⟩
  | .hbm, ⟨11, _⟩ => ⟨S6x9x1024, .f32⟩
  | .hbm, ⟨12, _⟩ => ⟨S16x9x1024, .f32⟩
  | .hbm, ⟨13, _⟩ => ⟨S1x3x1024, .f32⟩
  | .hbm, ⟨14, _⟩ => ⟨S3x1024, .f32⟩
  | .hbm, ⟨15, _⟩ => ⟨S2x1024x2816, .bf16⟩
  | .hbm, ⟨16, _⟩ => ⟨S2x1024x2816, .bf16⟩
  | .hbm, ⟨17, _⟩ => ⟨S2x2816x1024, .bf16⟩
  | .hbm, ⟨18, _⟩ => ⟨S8x4352x1024, .f32⟩
  | .local _ .vmem, ⟨0, _⟩ => ⟨S2x256x1024, .f32⟩
  | .local _ .vmem, ⟨1, _⟩ => ⟨S2x256x1024, .f32⟩
  | .local _ .vmem, ⟨2, _⟩ => ⟨S2x9x1024, .f32⟩
  | .local _ .vmem, ⟨3, _⟩ => ⟨S2x9x1024, .f32⟩
  | .local _ .vmem, ⟨4, _⟩ => ⟨S3x1024, .f32⟩
  | .local _ .vmem, ⟨5, _⟩ => ⟨S1x1024x2816, .bf16⟩
  | .local _ .vmem, ⟨6, _⟩ => ⟨S1x1024x2816, .bf16⟩
  | .local _ .vmem, ⟨7, _⟩ => ⟨S1x2816x1024, .bf16⟩
  | .local _ .vmem, ⟨8, _⟩ => ⟨S2x256x1024, .f32⟩
  | .local _ .vmem, ⟨9, _⟩ => ⟨S2x256x1024, .f32⟩
  | .local _ .vmem, ⟨10, _⟩ => ⟨S512x2816, .bf16⟩
  | _, _ => ⟨S8x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![17, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 1 := Scalar.cmpi .sge arg0 c16_i32
  let c4_i32 : BitVec 32 := 4#32
  let v1 : BitVec 32 := Scalar.select v0 c4_i32 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S2x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference4Ideal.lean ====
abbrev S8x4352x1024 : Shape := ⟨3, ![8, 4352, 1024]⟩
abbrev S8x9216 : Shape := ⟨2, ![8, 9216]⟩
abbrev S9216 : Shape := ⟨1, ![9216]⟩
abbrev S2x3x1024 : Shape := ⟨3, ![2, 3, 1024]⟩
abbrev S2x1024x2816 : Shape := ⟨3, ![2, 1024, 2816]⟩
abbrev S2x2816x1024 : Shape := ⟨3, ![2, 2816, 1024]⟩
abbrev S8x3072 : Shape := ⟨2, ![8, 3072]⟩
abbrev S8x1x3072 : Shape := ⟨3, ![8, 1, 3072]⟩
abbrev S8x4096x3072 : Shape := ⟨3, ![8, 4096, 3072]⟩
abbrev S3072 : Shape := ⟨1, ![3072]⟩
abbrev S1x1x3072 : Shape := ⟨3, ![1, 1, 3072]⟩
abbrev S8x256x3072 : Shape := ⟨3, ![8, 256, 3072]⟩
abbrev S8x4352x3072 : Shape := ⟨3, ![8, 4352, 3072]⟩
abbrev S_ : Shape := ⟨0, ![]⟩
abbrev S8x4352 : Shape := ⟨2, ![8, 4352]⟩
abbrev S8x4352x1 : Shape := ⟨3, ![8, 4352, 1]⟩
abbrev S1x3x1024 : Shape := ⟨3, ![1, 3, 1024]⟩
abbrev S3x1024 : Shape := ⟨2, ![3, 1024]⟩
abbrev S1x1024 : Shape := ⟨2, ![1, 1024]⟩
abbrev S1024 : Shape := ⟨1, ![1024]⟩
abbrev S1x1x1024 : Shape := ⟨3, ![1, 1, 1024]⟩
abbrev S1x1024x2816 : Shape := ⟨3, ![1, 1024, 2816]⟩
abbrev S1024x2816 : Shape := ⟨2, ![1024, 2816]⟩
abbrev S8x4352x2816 : Shape := ⟨3, ![8, 4352, 2816]⟩
abbrev S1x2816x1024 : Shape := ⟨3, ![1, 2816, 1024]⟩
abbrev S2816x1024 : Shape := ⟨2, ![2816, 1024]⟩

abbrev nBuf : Space → Nat
  | .hbm => 66
  | .vmem => 0
  | .smem => 0
  | _ => 0

abbrev bufTy : (tb : Table) → Fin (tcTables nBuf tb) → BufTy
  | .hbm, ⟨0, _⟩ => ⟨S8x4352x1024, .f32⟩
  | .hbm, ⟨1, _⟩ => ⟨S8x9216, .f32⟩
  | .hbm, ⟨2, _⟩ => ⟨S9216, .f32⟩
  | .hbm, ⟨3, _⟩ => ⟨S2x3x1024, .f32⟩
  | .hbm, ⟨4, _⟩ => ⟨S2x1024x2816, .f32⟩
  | .hbm, ⟨5, _⟩ => ⟨S2x1024x2816, .f32⟩
  | .hbm, ⟨6, _⟩ => ⟨S2x2816x1024, .f32⟩
  | .hbm, ⟨7, _⟩ => ⟨S8x3072, .f32⟩
  | .hbm, ⟨8, _⟩ => ⟨S8x1x3072, .f32⟩
  | .hbm, ⟨9, _⟩ => ⟨S8x4096x3072, .f32⟩
  | .hbm, ⟨10, _⟩ => ⟨S3072, .f32⟩
  | .hbm, ⟨11, _⟩ => ⟨S1x1x3072, .f32⟩
  | .hbm, ⟨12, _⟩ => ⟨S8x256x3072, .f32⟩
  | .hbm, ⟨13, _⟩ => ⟨S8x4352x3072, .f32⟩
  | .hbm, ⟨14, _⟩ => ⟨S8x4352x1024, .f32⟩
  | .hbm, ⟨15, _⟩ => ⟨S8x4352x1024, .f32⟩
  | .hbm, ⟨16, _⟩ => ⟨S8x4352x1024, .f32⟩
  | .hbm, ⟨17, _⟩ => ⟨S8x4352x1024, .f32⟩
  | .hbm, ⟨18, _⟩ => ⟨S_, .f32⟩
  | .hbm, ⟨19, _⟩ => ⟨S8x4352, .f32⟩
  | .hbm, ⟨20, _⟩ => ⟨S8x4352x1, .f32⟩
  | .hbm, ⟨21, _⟩ => ⟨S_, .f32⟩
  | .hbm, ⟨22, _⟩ => ⟨S8x4352x1, .f32⟩
  | .hbm, ⟨23, _⟩ => ⟨S8x4352x1, .f32⟩
  | .hbm, ⟨24, _⟩ => ⟨S_, .f32⟩
  | .hbm, ⟨25, _⟩ => ⟨S8x4352x1, .f32⟩
  | .hbm, ⟨26, _⟩ => ⟨S8x4352x1, .f32⟩
  | .hbm, ⟨27, _⟩ => ⟨S8x4352x1, .f32⟩
  | .hbm, ⟨28, _⟩ => ⟨S8x4352x1024, .f32⟩
  | .hbm, ⟨29, _⟩ => ⟨S8x4352x1024, .f32⟩
  | .hbm, ⟨30, _⟩ => ⟨S1x3x1024, .f32⟩
  | .hbm, ⟨31, _⟩ => ⟨S3x1024, .f32⟩
  | .hbm, ⟨32, _⟩ => ⟨S1x1024, .f32⟩
  | .hbm, ⟨33, _⟩ => ⟨S1024, .f32⟩
  | .hbm, ⟨34, _⟩ => ⟨S1x1x1024, .f32⟩
  | .hbm, ⟨35, _⟩ => ⟨S8x4352x1024, .f32⟩
  | .hbm, ⟨36, _⟩ => ⟨S8x4352x1024, .f32⟩
  | .hbm, ⟨37, _⟩ => ⟨S_, .f32⟩
  | .hbm, ⟨38, _⟩ => ⟨S8x4352x1024, .f32⟩
  | .hbm, ⟨39, _⟩ => ⟨S8x4352x1024, .f32⟩
  | .hbm, ⟨40, _⟩ => ⟨S8x4352x1024, .f32⟩
  | .hbm, ⟨41, _⟩ => ⟨S8x4352x1024, .f32⟩
  | .hbm, ⟨42, _⟩ => ⟨S1x1024x2816, .f32⟩
  | .hbm, ⟨43, _⟩ => ⟨S1024x2816, .f32⟩
  | .hbm, ⟨44, _⟩ => ⟨S8x4352x2816, .f32⟩
  | .hbm, ⟨45, _⟩ => ⟨S8x4352x2816, .f32⟩
  | .hbm, ⟨46, _⟩ => ⟨S8x4352x2816, .f32⟩
  | .hbm, ⟨47, _⟩ => ⟨S_, .f32⟩
  | .hbm, ⟨48, _⟩ => ⟨S8x4352x2816, .f32⟩
  | .hbm, ⟨49, _⟩ => ⟨S8x4352x2816, .f32⟩
  | .hbm, ⟨50, _⟩ => ⟨S_, .f32⟩
  | .hbm, ⟨51, _⟩ => ⟨S8x4352x2816, .f32⟩
  | .hbm, ⟨52, _⟩ => ⟨S8x4352x2816, .f32⟩
  | .hbm, ⟨53, _⟩ => ⟨S8x4352x2816, .f32⟩
  | .hbm, ⟨54, _⟩ => ⟨S1x1024x2816, .f32⟩
  | .hbm, ⟨55, _⟩ => ⟨S1024x2816, .f32⟩
  | .hbm, ⟨56, _⟩ => ⟨S8x4352x2816, .f32⟩
  | .hbm, ⟨57, _⟩ => ⟨S8x4352x2816, .f32⟩
  | .hbm, ⟨58, _⟩ => ⟨S1x2816x1024, .f32⟩
  | .hbm, ⟨59, _⟩ => ⟨S2816x1024, .f32⟩
  | .hbm, ⟨60, _⟩ => ⟨S8x4352x1024, .f32⟩
  | .hbm, ⟨61, _⟩ => ⟨S_, .f32⟩
  | .hbm, ⟨62, _⟩ => ⟨S8x4352x1024, .f32⟩
  | .hbm, ⟨63, _⟩ => ⟨S8x4352x1024, .f32⟩
  | .hbm, ⟨64, _⟩ => ⟨S8x4352x1024, .f32⟩
  | .hbm, ⟨65, _⟩ => ⟨S8x4352x1024, .f32⟩
  | _, _ => ⟨S8x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_3 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩

abbrev nD : Nat := 1
abbrev τ : Topo := Topo.v7x

variable {F : FTy → Type} [FloatOps F]
-- ==== Kernel5.lean ====
abbrev S8x4096x1024 : Shape := ⟨3, ![8, 4096, 1024]⟩
abbrev S8x256x1024 : Shape := ⟨3, ![8, 256, 1024]⟩
abbrev S8x9216 : Shape := ⟨2, ![8, 9216]⟩
abbrev S9216 : Shape := ⟨1, ![9216]⟩
abbrev S2x3x1024 : Shape := ⟨3, ![2, 3, 1024]⟩
abbrev S2x1024x2816 : Shape := ⟨3, ![2, 1024, 2816]⟩
abbrev S2x2816x1024 : Shape := ⟨3, ![2, 2816, 1024]⟩
abbrev S1x9x1024 : Shape := ⟨3, ![1, 9, 1024]⟩
abbrev S2x9x1024 : Shape := ⟨3, ![2, 9, 1024]⟩
abbrev S8x9x1024 : Shape := ⟨3, ![8, 9, 1024]⟩
abbrev S_ : Shape := ⟨0, ![]⟩
abbrev S6x9x1024 : Shape := ⟨3, ![6, 9, 1024]⟩
abbrev S16x9x1024 : Shape := ⟨3, ![16, 9, 1024]⟩
abbrev S1x3x1024 : Shape := ⟨3, ![1, 3, 1024]⟩
abbrev S3x1024 : Shape := ⟨2, ![3, 1024]⟩
abbrev S8x4352x1024 : Shape := ⟨3, ![8, 4352, 1024]⟩
abbrev S2x256x1024 : Shape := ⟨3, ![2, 256, 1024]⟩
abbrev S1x1024x2816 : Shape := ⟨3, ![1, 1024, 2816]⟩
abbrev S1x2816x1024 : Shape := ⟨3, ![1, 2816, 1024]⟩
abbrev S512x2816 : Shape := ⟨2, ![512, 2816]⟩
abbrev S1x256x1024 : Shape := ⟨3, ![1, 256, 1024]⟩
abbrev S256x1024 : Shape := ⟨2, ![256, 1024]⟩
abbrev S1x1024 : Shape := ⟨2, ![1, 1024]⟩
abbrev S1x1x1024 : Shape := ⟨3, ![1, 1, 1024]⟩
abbrev S256 : Shape := ⟨1, ![256]⟩
abbrev S256x1 : Shape := ⟨2, ![256, 1]⟩
abbrev S512x1024 : Shape := ⟨2, ![512, 1024]⟩
abbrev S1x1024x256 : Shape := ⟨3, ![1, 1024, 256]⟩
abbrev S1024x256 : Shape := ⟨2, ![1024, 256]⟩
abbrev S512x256 : Shape := ⟨2, ![512, 256]⟩
abbrev S2816x1024 : Shape := ⟨2, ![2816, 1024]⟩

abbrev nBuf : Space → Nat
  | .hbm => 20
  | .vmem => 13
  | .smem => 0
  | _ => 0

abbrev bufTy : (tb : Table) → Fin (tcTables nBuf tb) → BufTy
  | .hbm, ⟨0, _⟩ => ⟨S8x4096x1024, .f32⟩
  | .hbm, ⟨1, _⟩ => ⟨S8x256x1024, .f32⟩
  | .hbm, ⟨2, _⟩ => ⟨S8x9216, .f32⟩
  | .hbm, ⟨3, _⟩ => ⟨S9216, .f32⟩
  | .hbm, ⟨4, _⟩ => ⟨S2x3x1024, .f32⟩
  | .hbm, ⟨5, _⟩ => ⟨S2x1024x2816, .f32⟩
  | .hbm, ⟨6, _⟩ => ⟨S2x1024x2816, .f32⟩
  | .hbm, ⟨7, _⟩ => ⟨S2x2816x1024, .f32⟩
  | .hbm, ⟨8, _⟩ => ⟨S1x9x1024, .f32⟩
  | .hbm, ⟨9, _⟩ => ⟨S2x9x1024, .f32⟩
  | .hbm, ⟨10, _⟩ => ⟨S8x9x1024, .f32⟩
  | .hbm, ⟨11, _⟩ => ⟨S_, .f32⟩
  | .hbm, ⟨12, _⟩ => ⟨S6x9x1024, .f32⟩
  | .hbm, ⟨13, _⟩ => ⟨S16x9x1024, .f32⟩
  | .hbm, ⟨14, _⟩ => ⟨S1x3x1024, .f32⟩
  | .hbm, ⟨15, _⟩ => ⟨S3x1024, .f32⟩
  | .hbm, ⟨16, _⟩ => ⟨S2x1024x2816, .bf16⟩
  | .hbm, ⟨17, _⟩ => ⟨S2x1024x2816, .bf16⟩
  | .hbm, ⟨18, _⟩ => ⟨S2x2816x1024, .bf16⟩
  | .hbm, ⟨19, _⟩ => ⟨S8x4352x1024, .f32⟩
  | .local _ .vmem, ⟨0, _⟩ => ⟨S2x256x1024, .f32⟩
  | .local _ .vmem, ⟨1, _⟩ => ⟨S2x256x1024, .f32⟩
  | .local _ .vmem, ⟨2, _⟩ => ⟨S2x256x1024, .f32⟩
  | .local _ .vmem, ⟨3, _⟩ => ⟨S2x256x1024, .f32⟩
  | .local _ .vmem, ⟨4, _⟩ => ⟨S2x9x1024, .f32⟩
  | .local _ .vmem, ⟨5, _⟩ => ⟨S2x9x1024, .f32⟩
  | .local _ .vmem, ⟨6, _⟩ => ⟨S3x1024, .f32⟩
  | .local _ .vmem, ⟨7, _⟩ => ⟨S1x1024x2816, .bf16⟩
  | .local _ .vmem, ⟨8, _⟩ => ⟨S1x1024x2816, .bf16⟩
  | .local _ .vmem, ⟨9, _⟩ => ⟨S1x2816x1024, .bf16⟩
  | .local _ .vmem, ⟨10, _⟩ => ⟨S2x256x1024, .f32⟩
  | .local _ .vmem, ⟨11, _⟩ => ⟨S2x256x1024, .f32⟩
  | .local _ .vmem, ⟨12, _⟩ => ⟨S512x2816, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![17, 4], ![false, false]⟩

def cc0_transform_0 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  ![arg1.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![arg1.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 1 := Scalar.cmpi .sge arg0 c16_i32
  let c4_i32 : BitVec 32 := 4#32
  let v1 : BitVec 32 := Scalar.select v0 c4_i32 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S2x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x9x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S2x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference5Ideal.lean ====
abbrev S8x4096x1024 : Shape := ⟨3, ![8, 4096, 1024]⟩
abbrev S8x256x1024 : Shape := ⟨3, ![8, 256, 1024]⟩
abbrev S8x9216 : Shape := ⟨2, ![8, 9216]⟩
abbrev S9216 : Shape := ⟨1, ![9216]⟩
abbrev S2x3x1024 : Shape := ⟨3, ![2, 3, 1024]⟩
abbrev S2x1024x2816 : Shape := ⟨3, ![2, 1024, 2816]⟩
abbrev S2x2816x1024 : Shape := ⟨3, ![2, 2816, 1024]⟩
abbrev S8x4352x1024 : Shape := ⟨3, ![8, 4352, 1024]⟩
abbrev S8x3072 : Shape := ⟨2, ![8, 3072]⟩
abbrev S8x1x3072 : Shape := ⟨3, ![8, 1, 3072]⟩
abbrev S8x4096x3072 : Shape := ⟨3, ![8, 4096, 3072]⟩
abbrev S3072 : Shape := ⟨1, ![3072]⟩
abbrev S1x1x3072 : Shape := ⟨3, ![1, 1, 3072]⟩
abbrev S8x256x3072 : Shape := ⟨3, ![8, 256, 3072]⟩
abbrev S8x4352x3072 : Shape := ⟨3, ![8, 4352, 3072]⟩
abbrev S_ : Shape := ⟨0, ![]⟩
abbrev S8x4352 : Shape := ⟨2, ![8, 4352]⟩
abbrev S8x4352x1 : Shape := ⟨3, ![8, 4352, 1]⟩
abbrev S1x3x1024 : Shape := ⟨3, ![1, 3, 1024]⟩
abbrev S3x1024 : Shape := ⟨2, ![3, 1024]⟩
abbrev S1x1024 : Shape := ⟨2, ![1, 1024]⟩
abbrev S1024 : Shape := ⟨1, ![1024]⟩
abbrev S1x1x1024 : Shape := ⟨3, ![1, 1, 1024]⟩
abbrev S1x1024x2816 : Shape := ⟨3, ![1, 1024, 2816]⟩
abbrev S1024x2816 : Shape := ⟨2, ![1024, 2816]⟩
abbrev S8x4352x2816 : Shape := ⟨3, ![8, 4352, 2816]⟩
abbrev S1x2816x1024 : Shape := ⟨3, ![1, 2816, 1024]⟩
abbrev S2816x1024 : Shape := ⟨2, ![2816, 1024]⟩

abbrev nBuf : Space → Nat
  | .hbm => 68
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x256x1024, .f32⟩
  | .hbm, ⟨2, _⟩ => ⟨S8x9216, .f32⟩
  | .hbm, ⟨3, _⟩ => ⟨S9216, .f32⟩
  | .hbm, ⟨4, _⟩ => ⟨S2x3x1024, .f32⟩
  | .hbm, ⟨5, _⟩ => ⟨S2x1024x2816, .f32⟩
  | .hbm, ⟨6, _⟩ => ⟨S2x1024x2816, .f32⟩
  | .hbm, ⟨7, _⟩ => ⟨S2x2816x1024, .f32⟩
  | .hbm, ⟨8, _⟩ => ⟨S8x4352x1024, .f32⟩
  | .hbm, ⟨9, _⟩ => ⟨S8x3072, .f32⟩
  | .hbm, ⟨10, _⟩ => ⟨S8x1x3072, .f32⟩
  | .hbm, ⟨11, _⟩ => ⟨S8x4096x3072, .f32⟩
  | .hbm, ⟨12, _⟩ => ⟨S3072, .f32⟩
  | .hbm, ⟨13, _⟩ => ⟨S1x1x3072, .f32⟩
  | .hbm, ⟨14, _⟩ => ⟨S8x256x3072, .f32⟩
  | .hbm, ⟨15, _⟩ => ⟨S8x4352x3072, .f32⟩
  | .hbm, ⟨16, _⟩ => ⟨S8x4352x1024, .f32⟩
  | .hbm, ⟨17, _⟩ => ⟨S8x4352x1024, .f32⟩
  | .hbm, ⟨18, _⟩ => ⟨S8x4352x1024, .f32⟩
  | .hbm, ⟨19, _⟩ => ⟨S8x4352x1024, .f32⟩
  | .hbm, ⟨20, _⟩ => ⟨S_, .f32⟩
  | .hbm, ⟨21, _⟩ => ⟨S8x4352, .f32⟩
  | .hbm, ⟨22, _⟩ => ⟨S8x4352x1, .f32⟩
  | .hbm, ⟨23, _⟩ => ⟨S_, .f32⟩
  | .hbm, ⟨24, _⟩ => ⟨S8x4352x1, .f32⟩
  | .hbm, ⟨25, _⟩ => ⟨S8x4352x1, .f32⟩
  | .hbm, ⟨26, _⟩ => ⟨S_, .f32⟩
  | .hbm, ⟨27, _⟩ => ⟨S8x4352x1, .f32⟩
  | .hbm, ⟨28, _⟩ => ⟨S8x4352x1, .f32⟩
  | .hbm, ⟨29, _⟩ => ⟨S8x4352x1, .f32⟩
  | .hbm, ⟨30, _⟩ => ⟨S8x4352x1024, .f32⟩
  | .hbm, ⟨31, _⟩ => ⟨S8x4352x1024, .f32⟩
  | .hbm, ⟨32, _⟩ => ⟨S1x3x1024, .f32⟩
  | .hbm, ⟨33, _⟩ => ⟨S3x1024, .f32⟩
  | .hbm, ⟨34, _⟩ => ⟨S1x1024, .f32⟩
  | .hbm, ⟨35, _⟩ => ⟨S1024, .f32⟩
  | .hbm, ⟨36, _⟩ => ⟨S1x1x1024, .f32⟩
  | .hbm, ⟨37, _⟩ => ⟨S8x4352x1024, .f32⟩
  | .hbm, ⟨38, _⟩ => ⟨S8x4352x1024, .f32⟩
  | .hbm, ⟨39, _⟩ => ⟨S_, .f32⟩
  | .hbm, ⟨40, _⟩ => ⟨S8x4352x1024, .f32⟩
  | .hbm, ⟨41, _⟩ => ⟨S8x4352x1024, .f32⟩
  | .hbm, ⟨42, _⟩ => ⟨S8x4352x1024, .f32⟩
  | .hbm, ⟨43, _⟩ => ⟨S8x4352x1024, .f32⟩
  | .hbm, ⟨44, _⟩ => ⟨S1x1024x2816, .f32⟩
  | .hbm, ⟨45, _⟩ => ⟨S1024x2816, .f32⟩
  | .hbm, ⟨46, _⟩ => ⟨S8x4352x2816, .f32⟩
  | .hbm, ⟨47, _⟩ => ⟨S8x4352x2816, .f32⟩
  | .hbm, ⟨48, _⟩ => ⟨S8x4352x2816, .f32⟩
  | .hbm, ⟨49, _⟩ => ⟨S_, .f32⟩
  | .hbm, ⟨50, _⟩ => ⟨S8x4352x2816, .f32⟩
  | .hbm, ⟨51, _⟩ => ⟨S8x4352x2816, .f32⟩
  | .hbm, ⟨52, _⟩ => ⟨S_, .f32⟩
  | .hbm, ⟨53, _⟩ => ⟨S8x4352x2816, .f32⟩
  | .hbm, ⟨54, _⟩ => ⟨S8x4352x2816, .f32⟩
  | .hbm, ⟨55, _⟩ => ⟨S8x4352x2816, .f32⟩
  | .hbm, ⟨56, _⟩ => ⟨S1x1024x2816, .f32⟩
  | .hbm, ⟨57, _⟩ => ⟨S1024x2816, .f32⟩
  | .hbm, ⟨58, _⟩ => ⟨S8x4352x2816, .f32⟩
  | .hbm, ⟨59, _⟩ => ⟨S8x4352x2816, .f32⟩
  | .hbm, ⟨60, _⟩ => ⟨S1x2816x1024, .f32⟩
  | .hbm, ⟨61, _⟩ => ⟨S2816x1024, .f32⟩
  | .hbm, ⟨62, _⟩ => ⟨S8x4352x1024, .f32⟩
  | .hbm, ⟨63, _⟩ => ⟨S_, .f32⟩
  | .hbm, ⟨64, _⟩ => ⟨S8x4352x1024, .f32⟩
  | .hbm, ⟨65, _⟩ => ⟨S8x4352x1024, .f32⟩
  | .hbm, ⟨66, _⟩ => ⟨S8x4352x1024, .f32⟩
  | .hbm, ⟨67, _⟩ => ⟨S8x4352x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_2 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_3 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩

abbrev nD : Nat := 1
abbrev τ : Topo := Topo.v7x

variable {F : FTy → Type} [FloatOps F]
-- ==== Proof.RefDigits.lean ====
module

public import proofs.«01_k».proof.Proof.Gen.ReferenceIdeal.Read
public import Idealize.ShloMosaic.Lib.Pointwise

@[expose] public section

set_option maxRecDepth 16384

noncomputable section

namespace Cert.ReferenceIdeal.Attn

open Cert.ReferenceIdeal Cert.ReferenceIdeal.Gen Cert.ReferenceIdeal.Read
open Idealize.ShloMosaic Idealize.ShloMosaic.TcCoe Idealize.ShloMosaic.Tactic

/-! The row and the column of a query, and where its neighbourhood begins, as the reference computes them. -/

/-- The first row of the neighbourhood of a query in row `r`. -/
def rowStart (r : Nat) : Nat := min (r - 4) 56
/-- The first column of the neighbourhood of a query in column `c`. -/
def colStart (c : Nat) : Nat := min (c - 8) 48

theorem v13_at : ∀ t : Fin 4096, val_main_v13 (F := Ideal) (ix1 t) = BitVec.ofNat 32 (t.val / 64) := by
  decide +kernel

theorem v14_at : ∀ t : Fin 4096, val_main_v14 (F := Ideal) (ix1 t) = BitVec.ofNat 32 (t.val % 64) := by
  decide +kernel

theorem v17_at : ∀ t : Fin 4096, val_main_v17 (F := Ideal) (ix1 t) = BitVec.ofNat 32 (rowStart (t.val / 64)) := by
  decide +kernel

theorem v26_at : ∀ t : Fin 4096, val_main_v26 (F := Ideal) (ix1 t) = BitVec.ofNat 32 (colStart (t.val % 64)) := by
  decide +kernel

end Cert.ReferenceIdeal.Attn

end
-- ==== Proof.RefIndex.lean ====
module

public import proofs.«01_k».proof.Proof.RefDigits
public import Idealize.ShloMosaic.Lib.Pointwise

@[expose] public section

set_option maxRecDepth 16384

noncomputable section

namespace Cert.ReferenceIdeal.Attn

open Cert.ReferenceIdeal Cert.ReferenceIdeal.Gen Cert.ReferenceIdeal.Read
open Idealize.ShloMosaic Idealize.ShloMosaic.TcCoe Idealize.ShloMosaic.Tactic

/-! Which keys and which entries of the bias table the reference's gathers read. -/

/-- The gather of keys or values, at an index. -/
theorem gather_kv_apply (x : (⟨S8x4096x8x64, .f32⟩ : BufTy).Contents (Elt Ideal)) (idx : IVec S4096x128x1 32)
    (b : Fin 8) (t : Fin 4096) (n : Fin 128) (h : Fin 8) (d : Fin 64) :
    Host.gather gather_S8x4096x8x64_S4096x128x1_S8x4096x128x8x64_034_1_n_n_1_2_81864 x idx (ix5 b t n h d)
      = x (ix4 b ⟨min (idx (ix3 t n 0)).toInt.toNat 4095, by omega⟩ h d) := by
  unfold Host.gather
  congr 1
  funext a
  refine Fin.ext ?_
  show GatherDims.start _ _ idx a + GatherDims.batchCoord _ _ a + GatherDims.offCoord _ _ a = _
  rw [GatherDims.batchCoord_eq_zero _ _ _ List.not_mem_nil]
  have ha : a = 0 ∨ a = 1 ∨ a = 2 ∨ a = 3 := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr rfl))
  rcases ha with rfl | rfl | rfl | rfl
  · unfold GatherDims.start
    rw [dif_neg (show ¬ (0 : Fin 4) ∈ gather_S8x4096x8x64_S4096x128x1_S8x4096x128x8x64_034_1_n_n_1_2_81864.startIndexMap from (by decide : ¬ (0 : Fin 4) ∈ ([1] : List (Fin 4))))]
    simp only [Nat.zero_add]
    rfl
  · rw [GatherDims.offCoord_eq_zero _ _ _ (fun h => ((GatherDims.mem_sKept _ _).mp h).1 (List.mem_singleton.mpr rfl))]
    simp only [Nat.add_zero]
    unfold GatherDims.start
    rw [dif_pos (show (1 : Fin 4) ∈ gather_S8x4096x8x64_S4096x128x1_S8x4096x128x8x64_034_1_n_n_1_2_81864.startIndexMap from (by decide : (1 : Fin 4) ∈ ([1] : List (Fin 4))))]
    have hsi : ∀ q, q.val = 0 → gather_S8x4096x8x64_S4096x128x1_S8x4096x128x8x64_034_1_n_n_1_2_81864.siIdx (ix5 b t n h d) q = ix3 t n 0 := by
      intro q hq
      obtain ⟨q, hq'⟩ := q
      obtain rfl : q = 0 := hq
      funext b; refine Fin.ext ?_
      match b with
      | ⟨0, _⟩ => rfl
      | ⟨1, _⟩ => rfl
      | ⟨2, _⟩ => rfl
    exact congrArg (fun z => min (idx z).toInt.toNat 4095) (hsi _ rfl)
  · unfold GatherDims.start
    rw [dif_neg (show ¬ (2 : Fin 4) ∈ gather_S8x4096x8x64_S4096x128x1_S8x4096x128x8x64_034_1_n_n_1_2_81864.startIndexMap from (by decide : ¬ (2 : Fin 4) ∈ ([1] : List (Fin 4))))]
    simp only [Nat.zero_add]
    rfl
  · unfold GatherDims.start
    rw [dif_neg (show ¬ (3 : Fin 4) ∈ gather_S8x4096x8x64_S4096x128x1_S8x4096x128x8x64_034_1_n_n_1_2_81864.startIndexMap from (by decide : ¬ (3 : Fin 4) ∈ ([1] : List (Fin 4))))]
    simp only [Nat.zero_add]
    rfl

/-- The gather of the bias, at an index. -/
theorem gather_bias_apply (x : (⟨S8x15x31, .f32⟩ : BufTy).Contents (Elt Ideal)) (idx : IVec S4096x8x16x2 32)
    (h : Fin 8) (t : Fin 4096) (a : Fin 8) (c : Fin 16) :
    Host.gather gather_S8x15x31_S4096x8x16x2_S8x4096x8x16_0_12_n_n_12_3_811 x idx (ix4 h t a c)
      = x (ix3 h ⟨min (idx (ix4 t a c 0)).toInt.toNat 14, by omega⟩ ⟨min (idx (ix4 t a c 1)).toInt.toNat 30, by omega⟩) := by
  unfold Host.gather
  congr 1
  funext e
  refine Fin.ext ?_
  show GatherDims.start _ _ idx e + GatherDims.batchCoord _ _ e + GatherDims.offCoord _ _ e = _
  rw [GatherDims.batchCoord_eq_zero _ _ _ List.not_mem_nil]
  have ha : e = 0 ∨ e = 1 ∨ e = 2 := by
    match e with
    | ⟨0, _⟩ => exact Or.inl rfl
    | ⟨1, _⟩ => exact Or.inr (Or.inl rfl)
    | ⟨2, _⟩ => exact Or.inr (Or.inr rfl)
  have hsi : ∀ (k : Fin 2) q, q.val = k.val → gather_S8x15x31_S4096x8x16x2_S8x4096x8x16_0_12_n_n_12_3_811.siIdx (ix4 h t a c) q = ix4 t a c k := by
    intro k q hq
    obtain ⟨q, hq'⟩ := q
    obtain rfl : q = k.val := hq
    funext b; refine Fin.ext ?_
    match b with
    | ⟨0, _⟩ => rfl
    | ⟨1, _⟩ => rfl
    | ⟨2, _⟩ => rfl
    | ⟨3, _⟩ => rfl
  rcases ha with rfl | rfl | rfl
  · unfold GatherDims.start
    rw [dif_neg (show ¬ (0 : Fin 3) ∈ gather_S8x15x31_S4096x8x16x2_S8x4096x8x16_0_12_n_n_12_3_811.startIndexMap from (by decide : ¬ (0 : Fin 3) ∈ ([1, 2] : List (Fin 3))))]
    simp only [Nat.zero_add]
    rfl
  · rw [GatherDims.offCoord_eq_zero _ _ _ (fun h => ((GatherDims.mem_sKept _ _).mp h).1 (show (1 : Fin 3) ∈ ([1, 2] : List (Fin 3)) by decide))]
    simp only [Nat.add_zero]
    unfold GatherDims.start
    rw [dif_pos (show (1 : Fin 3) ∈ gather_S8x15x31_S4096x8x16x2_S8x4096x8x16_0_12_n_n_12_3_811.startIndexMap from (by decide : (1 : Fin 3) ∈ ([1, 2] : List (Fin 3))))]
    exact congrArg (fun z => min (idx z).toInt.toNat 14) (hsi 0 _ rfl)
  · rw [GatherDims.offCoord_eq_zero _ _ _ (fun h => ((GatherDims.mem_sKept _ _).mp h).1 (show (2 : Fin 3) ∈ ([1, 2] : List (Fin 3)) by decide))]
    simp only [Nat.add_zero]
    unfold GatherDims.start
    rw [dif_pos (show (2 : Fin 3) ∈ gather_S8x15x31_S4096x8x16x2_S8x4096x8x16_0_12_n_n_12_3_811.startIndexMap from (by decide : (2 : Fin 3) ∈ ([1, 2] : List (Fin 3))))]
    exact congrArg (fun z => min (idx z).toInt.toNat 30) (hsi 1 _ rfl)

theorem v17_lt (t : Fin 4096) : rowStart (t.val / 64) ≤ 56 := by unfold rowStart; omega
theorem v26_lt (t : Fin 4096) : colStart (t.val % 64) ≤ 48 := by unfold colStart; omega

/-- The key of neighbour `n` of query `t`. -/
def keyOf (t : Fin 4096) (n : Fin 128) : Fin 4096 :=
  ⟨(rowStart (t.val / 64) + n.val / 16) * 64 + (colStart (t.val % 64) + n.val % 16), by
    have := v17_lt t; have := v26_lt t; have := n.isLt; omega⟩

theorem v40_at (t : Fin 4096) (n : Fin 128) : val_main_v40 (F := Ideal) (ix2 t n) = BitVec.ofNat 32 (keyOf t n).val := by
  have hn := n.isLt
  have ht := t.isLt
  rw [val_main_v40_apply]
  have e : idx_main_v40 (ix2 t n) = ix3 t ⟨n.val / 16, by omega⟩ ⟨n.val % 16, by omega⟩ := by idx_ext
  rw [e, val_main_v39_apply, val_main_v37_apply, val_main_v35_apply, val_main_v33_apply, val_main_v34_apply, val_main_v23_apply,
    val_main_v21_apply, val_main_v18_apply, val_main_v22_apply, val_main_v20_apply, val_main_v38_apply, val_main_v36_apply,
    val_main_v32_apply, val_main_v30_apply, val_main_v27_apply, val_main_v31_apply, val_main_v29_apply]
  have e1 : idx_main_v18 (idx_main_v21 (idx_main_v33 (idx_main_v37 (ix3 t (⟨n.val / 16, by omega⟩ : Fin 8) (⟨n.val % 16, by omega⟩ : Fin 16))))) = ix1 t := by idx_ext
  have e2 : idx_main_v27 (idx_main_v30 (idx_main_v36 (idx_main_v38 (ix3 t (⟨n.val / 16, by omega⟩ : Fin 8) (⟨n.val % 16, by omega⟩ : Fin 16))))) = ix1 t := by idx_ext
  rw [e1, e2, v17_at, v26_at]
  show (BitVec.ofNat 32 _ + BitVec.ofNat 32 (n.val / 16)) * BitVec.ofNat 32 64 + (BitVec.ofNat 32 _ + BitVec.ofNat 32 (n.val % 16)) = _
  simp only [← BitVec.ofNat_add, ← BitVec.ofNat_mul]
  rfl

theorem start_key : ∀ K : Fin 4096, min (Scalar.select (IntOp.cmpi .slt (BitVec.ofNat 32 K.val) 0#32) (BitVec.ofNat 32 K.val + 4096#32)
    (BitVec.ofNat 32 K.val)).toInt.toNat 4095 = K.val := by
  decide +kernel

theorem start_row : ∀ (r : Fin 64) (a : Fin 8), min (Scalar.select (IntOp.cmpi .slt (BitVec.ofNat 32 (rowStart r.val) + BitVec.ofNat 32 a.val - BitVec.ofNat 32 r.val + 7#32) 0#32)
    (BitVec.ofNat 32 (rowStart r.val) + BitVec.ofNat 32 a.val - BitVec.ofNat 32 r.val + 7#32 + 15#32)
    (BitVec.ofNat 32 (rowStart r.val) + BitVec.ofNat 32 a.val - BitVec.ofNat 32 r.val + 7#32)).toInt.toNat 14 = rowStart r.val + a.val + 7 - r.val := by
  decide +kernel

theorem start_col : ∀ (c : Fin 64) (e : Fin 16), min (Scalar.select (IntOp.cmpi .slt (BitVec.ofNat 32 (colStart c.val) + BitVec.ofNat 32 e.val - BitVec.ofNat 32 c.val + 15#32) 0#32)
    (BitVec.ofNat 32 (colStart c.val) + BitVec.ofNat 32 e.val - BitVec.ofNat 32 c.val + 15#32 + 31#32)
    (BitVec.ofNat 32 (colStart c.val) + BitVec.ofNat 32 e.val - BitVec.ofNat 32 c.val + 15#32)).toInt.toNat 30 = colStart c.val + e.val + 15 - c.val := by
  decide +kernel

end Cert.ReferenceIdeal.Attn

end
-- ==== Proof.Maths.lean ====
/- The mathematics of attention with a mask, over the extended reals: a softmax over many keys, all but a few masked by
   −∞, is the softmax over the few. -/
module

public import Idealize.ShloMosaic.PureOps.Ideal
public import Idealize.ShloMosaic.PureOps.Ideal.Laws
public import Idealize.ShloMosaic.Lib.IdealHost

@[expose] public section

noncomputable section

namespace Cert.Attn

open Idealize.ShloMosaic

/-- A real factor that is not negative goes into a finite sum, whatever the terms. -/
theorem mul_sum_of_nonneg {ι : Type*} (s : Finset ι) (f : ι → EReal) (c : ℝ) (hc : 0 ≤ c) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (by exact_mod_cast hc) (EReal.coe_ne_top c), ih]

/-- The weighted sum of `v` under the softmax of the scores `s`, as the kernel forms it: the sum first, the quotient
    after. -/
def late {ι : Type*} [Fintype ι] (s v : ι → EReal) : EReal :=
  (∑ i, Ideal.exp (s i - Finset.univ.fold max ⊥ s) * v i) * Ideal.div 1 (∑ i, Ideal.exp (s i - Finset.univ.fold max ⊥ s))

/-- The same with the weights normalised first. -/
def early {ι : Type*} [Fintype ι] (s v : ι → EReal) : EReal :=
  ∑ i, Ideal.div (Ideal.exp (s i - Finset.univ.fold max ⊥ s)) (∑ k, Ideal.exp (s k - Finset.univ.fold max ⊥ s)) * v i

/-- The maximum of finitely many reals, at least one, is one of them. -/
theorem fold_max_real {κ : Type*} [Fintype κ] [Nonempty κ] (r : κ → ℝ) :
    ∃ k, Finset.univ.fold max (⊥ : EReal) (fun i => (r i : EReal)) = r k := by
  obtain ⟨k, -, hk⟩ := Finset.exists_mem_eq_sup' (s := Finset.univ) Finset.univ_nonempty (fun i : κ => (r i : EReal))
  refine ⟨k, ?_⟩
  rw [← hk, Finset.sup'_eq_sup]
  rfl

/-- Keys whose score is `⊥` don't move the maximum. -/
theorem fold_max_of_injective {ι κ : Type*} [Fintype ι] [Fintype κ] (s : ι → EReal) (g : κ → ι)
    (hout : ∀ i, i ∉ Set.range g → s i = ⊥) :
    Finset.univ.fold max ⊥ s = Finset.univ.fold max ⊥ (fun k => s (g k)) := by
  show Finset.univ.sup s = Finset.univ.sup (fun k => s (g k))
  apply le_antisymm
  · refine Finset.sup_le fun i _ => ?_
    by_cases h : i ∈ Set.range g
    · obtain ⟨k, rfl⟩ := h
      exact Finset.le_sup (f := fun k => s (g k)) (Finset.mem_univ k)
    · rw [hout i h]; exact bot_le
  · exact Finset.sup_le fun k _ => Finset.le_sup (f := s) (Finset.mem_univ (g k))

/-- Attention over all keys `ι`, those outside the range of `g` masked by `⊥` and the others' scores real, is attention
    over the keys `κ` alone, and the quotient may be taken before or after the sum. The values may be infinite. -/
theorem late_eq_early {ι κ : Type*} [Fintype ι] [Fintype κ] [Nonempty κ] (s v : ι → EReal) (g : κ → ι)
    (hg : Function.Injective g) (r : κ → ℝ) (hr : ∀ k, s (g k) = r k) (hout : ∀ i, i ∉ Set.range g → s i = ⊥) :
    late s v = early (fun k => s (g k)) (fun k => v (g k)) := by
  unfold late early
  rw [fold_max_of_injective s g hout]
  obtain ⟨k₀, hk₀⟩ := fold_max_real r
  have hM : Finset.univ.fold max ⊥ (fun k => s (g k)) = (r k₀ : EReal) := by
    rw [← hk₀]; congr 1; funext k; exact hr k
  rw [hM]
  have he : ∀ k, Ideal.exp (s (g k) - (r k₀ : EReal)) = ((Real.exp (r k - r k₀) : ℝ) : EReal) := fun k => by
    rw [hr k, ← EReal.coe_sub]; rfl
  have hz : ∀ i, i ∉ Set.range g → Ideal.exp (s i - (r k₀ : EReal)) = 0 := fun i hi => by
    rw [hout i hi]; rfl
  rw [← Fintype.sum_of_injective g hg (fun k => Ideal.exp (s (g k) - (r k₀ : EReal)) * v (g k)) _
      (fun i hi => by rw [hz i hi, zero_mul]) (fun k => rfl),
    ← Fintype.sum_of_injective g hg (fun k => Ideal.exp (s (g k) - (r k₀ : EReal))) _
      (fun i hi => hz i hi) (fun k => rfl)]
  have hden : (∑ k, Ideal.exp (s (g k) - (r k₀ : EReal))) = ((∑ k, Real.exp (r k - r k₀) : ℝ) : EReal) := by
    rw [Finset.sum_congr rfl fun k _ => he k]
    exact (map_sum (⟨⟨Real.toEReal, EReal.coe_zero⟩, EReal.coe_add⟩ : ℝ →+ EReal) _ _).symm
  rw [hden]
  have hpos : 0 < ∑ k, Real.exp (r k - r k₀) := Finset.sum_pos (fun k _ => Real.exp_pos _) Finset.univ_nonempty
  generalize (∑ k, Real.exp (r k - r k₀)) = D at hpos ⊢
  have hD : (D : EReal) ≠ 0 := by exact_mod_cast hpos.ne'
  have hdiv : ∀ x : EReal, Ideal.div x D = ((D⁻¹ : ℝ) : EReal) * x := fun x => by
    unfold Ideal.div; rw [if_neg hD, mul_comm, EReal.coe_inv]
  rw [hdiv, mul_one, mul_comm, mul_sum_of_nonneg _ _ _ (inv_nonneg.2 hpos.le)]
  exact Finset.sum_congr rfl fun k _ => by rw [hdiv, mul_assoc]

end Cert.Attn

end
-- ==== Proof.Ref.lean ====
module

public import proofs.«01_k».proof.Proof.RefIndex
public import proofs.«01_k».proof.Proof.Maths

@[expose] public section

set_option maxRecDepth 16384

noncomputable section

namespace Cert.ReferenceIdeal.Attn

open Cert.ReferenceIdeal Cert.ReferenceIdeal.Gen Cert.ReferenceIdeal.Read
open Idealize.ShloMosaic Idealize.ShloMosaic.TcCoe Idealize.ShloMosaic.Tactic

/-! The reference at an index: softmax attention of a latent query to its neighbourhood and the context, and of a
context query to the context. -/

/-- A batch of tokens. -/
abbrev Tok : Type := (⟨S8x4352x512, .f32⟩ : BufTy).Contents (Elt Ideal)
/-- The bias table. -/
abbrev Tab : Type := (⟨S2x8x15x31, .f32⟩ : BufTy).Contents (Elt Ideal)

/-- Entry `d` of head `h`. -/
def lane (h : Fin 8) (d : Fin 64) : Fin 512 := ⟨64 * h.val + d.val, by have := h.isLt; have := d.isLt; omega⟩
/-- Latent token `t`. -/
def lat (t : Fin 4096) : Fin 4352 := ⟨t.val, by have := t.isLt; omega⟩
/-- Context token `t`. -/
def con (t : Fin 256) : Fin 4352 := ⟨4096 + t.val, by have := t.isLt; omega⟩

/-- The product of a query with a key, scaled by an eighth. -/
def dotQK (x0 x1 : Tok) (b h : Fin 8) (t u : Fin 4352) : EReal :=
  (∑ d : Fin 64, x0 (ix3 b t (lane h d)) * x1 (ix3 b u (lane h d))) * Ideal.ofBits .f32 0x3E000000#32

/-- The row of the bias table for neighbour `n` of query `t`. -/
def biasRow (t : Fin 4096) (n : Fin 128) : Fin 15 :=
  ⟨rowStart (t.val / 64) + n.val / 16 + 7 - t.val / 64, by have := t.isLt; have := n.isLt; unfold rowStart; omega⟩
/-- The column of the bias table for neighbour `n` of query `t`. -/
def biasCol (t : Fin 4096) (n : Fin 128) : Fin 31 :=
  ⟨colStart (t.val % 64) + n.val % 16 + 15 - t.val % 64, by have := t.isLt; have := n.isLt; unfold colStart; omega⟩

theorem v1_at (x : Tok) (b : Fin 8) (t : Fin 4096) (h : Fin 8) (d : Fin 64) :
    val_main_v1 (F := Ideal) x (ix4 b t h d) = x (ix3 b (lat t) (lane h d)) := by
  have := b.isLt; have := t.isLt; have := h.isLt; have := d.isLt
  rw [val_main_v1_apply, val_main_v0_apply]
  refine congrArg x ?_
  unfold lat lane
  idx_ext

theorem v3_at (x : Tok) (b : Fin 8) (t : Fin 4096) (h : Fin 8) (d : Fin 64) :
    val_main_v3 (F := Ideal) x (ix4 b t h d) = x (ix3 b (lat t) (lane h d)) := v1_at x b t h d

theorem v5_at (x : Tok) (b : Fin 8) (t : Fin 4096) (h : Fin 8) (d : Fin 64) :
    val_main_v5 (F := Ideal) x (ix4 b t h d) = x (ix3 b (lat t) (lane h d)) := v1_at x b t h d

theorem v7_at (x : Tok) (b : Fin 8) (t : Fin 256) (h : Fin 8) (d : Fin 64) :
    val_main_v7 (F := Ideal) x (ix4 b t h d) = x (ix3 b (con t) (lane h d)) := by
  have := b.isLt; have := t.isLt; have := h.isLt; have := d.isLt
  rw [val_main_v7_apply, val_main_v6_apply]
  refine congrArg x ?_
  unfold con lane
  idx_ext

theorem v9_at (x : Tok) (b : Fin 8) (t : Fin 256) (h : Fin 8) (d : Fin 64) :
    val_main_v9 (F := Ideal) x (ix4 b t h d) = x (ix3 b (con t) (lane h d)) := v7_at x b t h d

theorem v11_at (x : Tok) (b : Fin 8) (t : Fin 256) (h : Fin 8) (d : Fin 64) :
    val_main_v11 (F := Ideal) x (ix4 b t h d) = x (ix3 b (con t) (lane h d)) := v7_at x b t h d

/-- The gathered keys. -/
theorem v78_at (x : Tok) (b : Fin 8) (t : Fin 4096) (n : Fin 128) (h : Fin 8) (d : Fin 64) :
    val_main_v78 (F := Ideal) x (ix5 b t n h d) = x (ix3 b (lat (keyOf t n)) (lane h d)) := by
  unfold val_main_v78
  rw [gather_kv_apply, v3_at]
  congr 2
  refine congrArg lat (Fin.ext ?_)
  show min (BitVec.toInt (val_main_v77 (F := Ideal) (ix3 t n 0))).toNat 4095 = _
  have e : idx_main_v77 (ix3 t n (0 : Fin 1)) = ix2 t n := by idx_ext
  rw [val_main_v77_apply, e, val_main_v76_apply, val_main_v73_apply, val_main_v75_apply, v40_at]
  exact start_key (keyOf t n)

/-- The gathered values. -/
theorem v85_at (x : Tok) (b : Fin 8) (t : Fin 4096) (n : Fin 128) (h : Fin 8) (d : Fin 64) :
    val_main_v85 (F := Ideal) x (ix5 b t n h d) = x (ix3 b (lat (keyOf t n)) (lane h d)) := v78_at x b t n h d

theorem v48_at (t : Fin 4096) (a : Fin 8) : val_main_v48 (F := Ideal) (ix3 t a (0 : Fin 1))
    = BitVec.ofNat 32 (rowStart (t.val / 64)) + BitVec.ofNat 32 a.val - BitVec.ofNat 32 (t.val / 64) + 7#32 := by
  have e : idx_main_v48 (ix3 t a (0 : Fin 1)) = ix2 t a := by idx_ext
  have e1 : idx_main_v18 (idx_main_v21 (ix2 t a)) = ix1 t := by idx_ext
  have e2 : idx_main_v43 (idx_main_v44 (ix2 t a)) = ix1 t := by idx_ext
  rw [val_main_v48_apply, e, val_main_v47_apply, val_main_v45_apply, val_main_v23_apply, val_main_v21_apply, val_main_v18_apply, e1, v17_at,
    val_main_v22_apply, val_main_v20_apply, val_main_v44_apply, val_main_v43_apply, e2, v13_at]
  rfl

theorem v54_at (t : Fin 4096) (a : Fin 16) : val_main_v54 (F := Ideal) (ix3 t (0 : Fin 1) a)
    = BitVec.ofNat 32 (colStart (t.val % 64)) + BitVec.ofNat 32 a.val - BitVec.ofNat 32 (t.val % 64) + 15#32 := by
  have e : idx_main_v54 (ix3 t (0 : Fin 1) a) = ix2 t a := by idx_ext
  have e1 : idx_main_v27 (idx_main_v30 (ix2 t a)) = ix1 t := by idx_ext
  have e2 : idx_main_v49 (idx_main_v50 (ix2 t a)) = ix1 t := by idx_ext
  rw [val_main_v54_apply, e, val_main_v53_apply, val_main_v51_apply, val_main_v32_apply, val_main_v30_apply, val_main_v27_apply, e1, v26_at,
    val_main_v31_apply, val_main_v29_apply, val_main_v50_apply, val_main_v49_apply, e2, v14_at]
  rfl

/-- The gathered bias. -/
theorem v71_at (x : Tab) (h : Fin 8) (t : Fin 4096) (n : Fin 128) :
    val_main_v71 (F := Ideal) x (ix3 h t n) = x (ix4 0 h (biasRow t n) (biasCol t n)) := by
  have hn := n.isLt
  have ht := t.isLt
  have hh := h.isLt
  have e : idx_main_v71 (ix3 h t n) = ix4 h t ⟨n.val / 16, by omega⟩ ⟨n.val % 16, by omega⟩ := by idx_ext
  rw [val_main_v71_apply, e]
  unfold val_main_v70
  rw [gather_bias_apply, val_main_v42_apply, val_main_v41_apply]
  have h0 : val_main_v69 (F := Ideal) (ix4 t ⟨n.val / 16, by omega⟩ ⟨n.val % 16, by omega⟩ 0) = val_main_v59 (F := Ideal) (ix3 t ⟨n.val / 16, by omega⟩ 0) := by
    unfold val_main_v69
    pointwise
    rw [val_main_v67_apply, val_main_v65_apply]
    exact congrArg _ (by idx_ext)
  have h1 : val_main_v69 (F := Ideal) (ix4 t ⟨n.val / 16, by omega⟩ ⟨n.val % 16, by omega⟩ 1) = val_main_v64 (F := Ideal) (ix3 t 0 ⟨n.val % 16, by omega⟩) := by
    unfold val_main_v69
    pointwise
    rw [val_main_v68_apply, val_main_v66_apply]
    exact congrArg _ (by idx_ext)
  have r0 : min (BitVec.toInt (val_main_v69 (F := Ideal) (ix4 t ⟨n.val / 16, by omega⟩ ⟨n.val % 16, by omega⟩ 0))).toNat 14 = (biasRow t n).val := by
    rw [h0, val_main_v59_apply, val_main_v56_apply, val_main_v58_apply, v48_at]
    exact start_row ⟨t.val / 64, by omega⟩ ⟨n.val / 16, by omega⟩
  have r1 : min (BitVec.toInt (val_main_v69 (F := Ideal) (ix4 t ⟨n.val / 16, by omega⟩ ⟨n.val % 16, by omega⟩ 1))).toNat 30 = (biasCol t n).val := by
    rw [h1, val_main_v64_apply, val_main_v61_apply, val_main_v63_apply, v54_at]
    exact start_col ⟨t.val % 64, by omega⟩ ⟨n.val % 16, by omega⟩
  have f0 : (⟨min (BitVec.toInt (val_main_v69 (F := Ideal) (ix4 t ⟨n.val / 16, by omega⟩ ⟨n.val % 16, by omega⟩ 0))).toNat 14, by omega⟩ : Fin 15) = biasRow t n := Fin.ext r0
  have f1 : (⟨min (BitVec.toInt (val_main_v69 (F := Ideal) (ix4 t ⟨n.val / 16, by omega⟩ ⟨n.val % 16, by omega⟩ 1))).toNat 30, by omega⟩ : Fin 31) = biasCol t n := Fin.ext r1
  rw [f0, f1]
  refine congrArg x ?_
  have := (biasRow t n).isLt
  have := (biasCol t n).isLt
  idx_ext

/-- The scores of a latent query: its neighbourhood first, then the context. -/
def refS (x0 x1 : Tok) (x3 : Tab) (b h : Fin 8) (t : Fin 4096) (y : Fin 384) : EReal :=
  if hy : y.val < 128 then dotQK x0 x1 b h (lat t) (lat (keyOf t ⟨y.val, hy⟩)) + x3 (ix4 0 h (biasRow t ⟨y.val, hy⟩) (biasCol t ⟨y.val, hy⟩))
  else dotQK x0 x1 b h (lat t) (con ⟨y.val - 128, by have := y.isLt; omega⟩)

/-- The values a latent query attends to. -/
def refV (x2 : Tok) (b h : Fin 8) (t : Fin 4096) (d : Fin 64) (y : Fin 384) : EReal :=
  if hy : y.val < 128 then x2 (ix3 b (lat (keyOf t ⟨y.val, hy⟩)) (lane h d))
  else x2 (ix3 b (con ⟨y.val - 128, by have := y.isLt; omega⟩) (lane h d))

theorem v91_at (x0 x1 : Tok) (x3 : Tab) (b h : Fin 8) (t : Fin 4096) (n : Fin 128) :
    val_main_v91 (F := Ideal) x0 x1 x3 (ix4 b h t n)
      = dotQK x0 x1 b h (lat t) (lat (keyOf t n)) + x3 (ix4 0 h (biasRow t n) (biasCol t n)) := by
  have e : idx_main_v89 (idx_main_v90 (ix4 b h t n)) = ix3 h t n := by idx_ext
  have e1 : ∀ k, lidx_main_v86 (ix4 b h t n) k = ix4 b t h k := fun k => by idx_ext
  have e2 : ∀ k, ridx_main_v86 (ix4 b h t n) k = ix5 b t n h k := fun k => by idx_ext
  rw [val_main_v91_apply, val_main_v90_apply, val_main_v89_apply, e, v71_at, val_main_v88_apply, val_main_v86_apply]
  simp only [e1, e2, v1_at, v78_at]
  rfl

theorem v94_at (x0 x1 : Tok) (b h : Fin 8) (t : Fin 4096) (n : Fin 256) :
    val_main_v94 (F := Ideal) x0 x1 (ix4 b h t n) = dotQK x0 x1 b h (lat t) (con n) := by
  have e1 : ∀ k, lidx_main_v92 (ix4 b h t n) k = ix4 b t h k := fun k => by idx_ext
  have e2 : ∀ k, ridx_main_v92 (ix4 b h t n) k = ix4 b n h k := fun k => by idx_ext
  rw [val_main_v94_apply, val_main_v92_apply]
  simp only [e1, e2, v1_at, v9_at]
  rfl

theorem v95_at (x0 x1 : Tok) (x3 : Tab) (b h : Fin 8) (t : Fin 4096) (y : Fin 384) :
    val_main_v95 (F := Ideal) x0 x1 x3 (ix4 b h t y) = refS x0 x1 x3 b h t y := by
  unfold val_main_v95
  pointwise
  unfold refS
  by_cases hy : y.val < 128
  · rw [dif_pos hy, dif_pos hy]
    exact v91_at x0 x1 x3 b h t ⟨y.val, hy⟩
  · rw [dif_neg hy, dif_neg hy]
    exact v94_at x0 x1 b h t _

theorem negInf : Ideal.ofBits FTy.f32 0xFF800000#32 = ⊥ := by simp [Ideal.ofBits, Ideal.ieee]

theorem v98_at (x0 x1 : Tok) (x3 : Tab) (b h : Fin 8) (t : Fin 4096) :
    val_main_v98 (F := Ideal) x0 x1 x3 (ix3 b h t) = Finset.univ.fold max ⊥ (fun y : Fin 384 => refS x0 x1 x3 b h t y) := by
  rw [val_main_v98_apply]
  have e : val_main_v96 (F := Ideal) x0 x1 x3 (ix3 b h t) = Finset.univ.fold max ⊥ (fun y : Fin 384 => refS x0 x1 x3 b h t y) := by
    simp only [← v95_at]
    unfold val_main_v96
    generalize val_main_v95 (F := Ideal) x0 x1 x3 = s
    unfold val_main_cst_19
    rw [← negInf]
    pointwise
  rw [e]
  show max (Ideal.ofBits FTy.f32 0xFF800000#32) _ = _
  rw [negInf]
  exact max_eq_right bot_le

theorem v102_at (x0 x1 : Tok) (x3 : Tab) (b h : Fin 8) (t : Fin 4096) (y : Fin 384) :
    val_main_v102 (F := Ideal) x0 x1 x3 (ix4 b h t y)
      = Ideal.exp (refS x0 x1 x3 b h t y - Finset.univ.fold max ⊥ (fun y : Fin 384 => refS x0 x1 x3 b h t y)) := by
  have e : idx_main_v99 (idx_main_v100 (ix4 b h t y)) = ix3 b h t := by idx_ext
  rw [val_main_v102_apply, val_main_v101_apply, val_main_v100_apply, val_main_v99_apply, e, v98_at, v95_at]
  rfl

theorem v106_at (x0 x1 : Tok) (x3 : Tab) (b h : Fin 8) (t : Fin 4096) (y : Fin 384) :
    val_main_v106 (F := Ideal) x0 x1 x3 (ix4 b h t y)
      = Ideal.div (Ideal.exp (refS x0 x1 x3 b h t y - Finset.univ.fold max ⊥ (fun y : Fin 384 => refS x0 x1 x3 b h t y)))
          (∑ k : Fin 384, Ideal.exp (refS x0 x1 x3 b h t k - Finset.univ.fold max ⊥ (fun y : Fin 384 => refS x0 x1 x3 b h t y))) := by
  have e : idx_main_v104 (idx_main_v105 (ix4 b h t y)) = ix3 b h t := by idx_ext
  have e1 : ∀ k, idx_main_v103 (ix3 b h t) k = ix4 b h t k := fun k => by idx_ext
  rw [val_main_v106_apply, val_main_v105_apply, val_main_v104_apply, e, val_main_v103_apply]
  simp only [e1, v102_at]
  rw [val_main_cst_21_apply]
  show Ideal.div _ (Ideal.ofBits FTy.f32 0x00000000#32 + _) = _
  rw [Ideal.ofBits_zero_f32, zero_add]

/-- The reference's latent rows. -/
theorem v112_at (x0 x1 x2 : Tok) (x3 : Tab) (b : Fin 8) (t : Fin 4096) (h : Fin 8) (d : Fin 64) :
    val_main_v112 (F := Ideal) x0 x1 x2 x3 (ix4 b t h d)
      = Cert.Attn.early (refS x0 x1 x3 b h t) (refV x2 b h t d) := by
  have e1 : ∀ k, idx_main_v107 (lidx_main_v109 (ix4 b t h d) k) = ix4 b h t ⟨k.val, by have := k.isLt; omega⟩ := fun k => by idx_ext
  have e2 : ∀ k, ridx_main_v109 (ix4 b t h d) k = ix5 b t k h d := fun k => by idx_ext
  have e3 : ∀ k, idx_main_v108 (ridx_main_v110 (idx_main_v111 (ix4 b t h d)) k) = ix4 b h t ⟨128 + k.val, by have := k.isLt; omega⟩ := fun k => by idx_ext
  have e4 : ∀ k, lidx_main_v110 (idx_main_v111 (ix4 b t h d)) k = ix4 b k h d := fun k => by idx_ext
  rw [val_main_v112_apply, val_main_v109_apply, val_main_v111_apply, val_main_v110_apply]
  simp only [val_main_v107_apply, val_main_v108_apply, e1, e2, e3, e4, v106_at, v85_at, v11_at]
  unfold Cert.Attn.early
  generalize hL : (∑ k : Fin 384, Ideal.exp (refS x0 x1 x3 b h t k - Finset.univ.fold max ⊥ (fun y : Fin 384 => refS x0 x1 x3 b h t y))) = L
  rw [Fin.sum_univ_two_halves 128 256 rfl]
  show (_ + _ : EReal) = _
  refine congrArg₂ (fun u v : EReal => u + v) ?_ ?_
  · refine Finset.sum_congr rfl fun k _ => ?_
    have hv : ∀ p, refV x2 b h t d ⟨k.val, p⟩ = x2 (ix3 b (lat (keyOf t k)) (lane h d)) := fun p => by
      unfold refV
      rw [dif_pos k.isLt]
    simp only [hv]
  · refine Finset.sum_congr rfl fun k _ => ?_
    have e : ∀ p, (⟨128 + k.val - 128, p⟩ : Fin 256) = k := fun p => Fin.ext (by show 128 + k.val - 128 = k.val; omega)
    have hv : ∀ p, refV x2 b h t d ⟨128 + k.val, p⟩ = x2 (ix3 b (con k) (lane h d)) := fun p => by
      unfold refV
      rw [dif_neg (by show ¬ 128 + k.val < 128; omega), e]
    simp only [hv]
    exact mul_comm _ _

/-- The scores of a context query. -/
def refSc (x0 x1 : Tok) (b h : Fin 8) (t : Fin 256) (y : Fin 256) : EReal := dotQK x0 x1 b h (con t) (con y)

theorem v115_at (x0 x1 : Tok) (b h : Fin 8) (t y : Fin 256) :
    val_main_v115 (F := Ideal) x0 x1 (ix4 b h t y) = refSc x0 x1 b h t y := by
  have e1 : ∀ k, lidx_main_v113 (ix4 b h t y) k = ix4 b t h k := fun k => by idx_ext
  have e2 : ∀ k, ridx_main_v113 (ix4 b h t y) k = ix4 b y h k := fun k => by idx_ext
  rw [val_main_v115_apply, val_main_v113_apply]
  simp only [e1, e2, v7_at, v9_at]
  rfl

theorem v118_at (x0 x1 : Tok) (b h : Fin 8) (t : Fin 256) :
    val_main_v118 (F := Ideal) x0 x1 (ix3 b h t) = Finset.univ.fold max ⊥ (fun y : Fin 256 => refSc x0 x1 b h t y) := by
  rw [val_main_v118_apply]
  have e : val_main_v116 (F := Ideal) x0 x1 (ix3 b h t) = Finset.univ.fold max ⊥ (fun y : Fin 256 => refSc x0 x1 b h t y) := by
    simp only [← v115_at]
    unfold val_main_v116
    generalize val_main_v115 (F := Ideal) x0 x1 = s
    unfold val_main_cst_23
    rw [← negInf]
    pointwise
  rw [e]
  show max (Ideal.ofBits FTy.f32 0xFF800000#32) _ = _
  rw [negInf]
  exact max_eq_right bot_le

theorem v122_at (x0 x1 : Tok) (b h : Fin 8) (t y : Fin 256) :
    val_main_v122 (F := Ideal) x0 x1 (ix4 b h t y)
      = Ideal.exp (refSc x0 x1 b h t y - Finset.univ.fold max ⊥ (fun y : Fin 256 => refSc x0 x1 b h t y)) := by
  have e : idx_main_v119 (idx_main_v120 (ix4 b h t y)) = ix3 b h t := by idx_ext
  rw [val_main_v122_apply, val_main_v121_apply, val_main_v120_apply, val_main_v119_apply, e, v118_at, v115_at]
  rfl

theorem v126_at (x0 x1 : Tok) (b h : Fin 8) (t y : Fin 256) :
    val_main_v126 (F := Ideal) x0 x1 (ix4 b h t y)
      = Ideal.div (Ideal.exp (refSc x0 x1 b h t y - Finset.univ.fold max ⊥ (fun y : Fin 256 => refSc x0 x1 b h t y)))
          (∑ k : Fin 256, Ideal.exp (refSc x0 x1 b h t k - Finset.univ.fold max ⊥ (fun y : Fin 256 => refSc x0 x1 b h t y))) := by
  have e : idx_main_v124 (idx_main_v125 (ix4 b h t y)) = ix3 b h t := by idx_ext
  have e1 : ∀ k, idx_main_v123 (ix3 b h t) k = ix4 b h t k := fun k => by idx_ext
  rw [val_main_v126_apply, val_main_v125_apply, val_main_v124_apply, e, val_main_v123_apply]
  simp only [e1, v122_at]
  rw [val_main_cst_25_apply]
  show Ideal.div _ (Ideal.ofBits FTy.f32 0x00000000#32 + _) = _
  rw [Ideal.ofBits_zero_f32, zero_add]

/-- The reference's context rows. -/
theorem v128_at (x0 x1 x2 : Tok) (b : Fin 8) (t : Fin 256) (h : Fin 8) (d : Fin 64) :
    val_main_v128 (F := Ideal) x0 x1 x2 (ix4 b t h d)
      = Cert.Attn.early (refSc x0 x1 b h t) (fun y => x2 (ix3 b (con y) (lane h d))) := by
  have e1 : ∀ k, lidx_main_v127 (idx_main_v128 (ix4 b t h d)) k = ix4 b k h d := fun k => by idx_ext
  have e2 : ∀ k, ridx_main_v127 (idx_main_v128 (ix4 b t h d)) k = ix4 b h t k := fun k => by idx_ext
  rw [val_main_v128_apply, val_main_v127_apply]
  simp only [e1, e2, v126_at, v11_at]
  unfold Cert.Attn.early
  exact Finset.sum_congr rfl fun k _ => mul_comm _ _

/-- The reference's result at a latent token. -/
theorem ref_lat (x0 x1 x2 : Tok) (x3 : Tab) (b : Fin 8) (t : Fin 4096) (h : Fin 8) (d : Fin 64) :
    val_main_v131 (F := Ideal) x0 x1 x2 x3 (ix3 b (lat t) (lane h d)) = Cert.Attn.early (refS x0 x1 x3 b h t) (refV x2 b h t d) := by
  have := b.isLt; have := t.isLt; have := h.isLt; have := d.isLt
  rw [← v112_at, val_main_v131_apply, val_main_v130_apply]
  have e : idx_main_v130 (ix3 b (lat t) (lane h d)) = ix4 b (lat t) h d := by unfold lat lane; idx_ext
  show val_main_v129 (F := Ideal) x0 x1 x2 x3 _ = _
  rw [e]
  unfold val_main_v129
  pointwise
  exact dif_pos t.isLt

/-- The reference's result at a context token. -/
theorem ref_con (x0 x1 x2 : Tok) (x3 : Tab) (b : Fin 8) (t : Fin 256) (h : Fin 8) (d : Fin 64) :
    val_main_v131 (F := Ideal) x0 x1 x2 x3 (ix3 b (con t) (lane h d))
      = Cert.Attn.early (refSc x0 x1 b h t) (fun y => x2 (ix3 b (con y) (lane h d))) := by
  have := b.isLt; have := t.isLt; have := h.isLt; have := d.isLt
  rw [← v128_at, val_main_v131_apply, val_main_v130_apply]
  have e : idx_main_v130 (ix3 b (con t) (lane h d)) = ix4 b (con t) h d := by unfold con lane; idx_ext
  show val_main_v129 (F := Ideal) x0 x1 x2 x3 _ = _
  rw [e]
  unfold val_main_v129
  pointwise
  refine (dif_neg (show ¬ 4096 + t.val < 4096 by omega)).trans ?_
  refine congrArg _ ?_
  have e : ∀ p, (⟨4096 + t.val - 4096, p⟩ : Fin 256) = t := fun p => Fin.ext (by show 4096 + t.val - 4096 = t.val; omega)
  exact congrArg (fun z => ix4 b z h d) (e _)

end Cert.ReferenceIdeal.Attn

end
-- ==== Proof.Items.lean ====
module

public import proofs.«01_k».proof.Proof.Gen.KernelIdeal.Value

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic

/-! The body stores 16 blocks of 64 rows and 128 columns, one for each query row `rho` of the tile and each pair `j` of
heads. Item `n` is the pair `(n / 4, n % 4)`. Its scores pass through one of three slots of 128 rows of a scratch
buffer, and its exponentials through the same slot of another. -/

/-- The query row of item `n`. -/
def ir (n : Nat) : Fin 4 := ⟨n / 4 % 4, Nat.mod_lt _ (by decide)⟩
/-- The pair of heads of item `n`. -/
def ij (n : Nat) : Fin 4 := ⟨n % 4, Nat.mod_lt _ (by decide)⟩

/-- What the items load: queries, keys and values of the band, keys and values of the context, bias, penalty. -/
structure Loads where
  q : Fin 4 → Fin 4 → Vec Ideal S1x64x128 .bf16
  kl : Fin 4 → Fin 4 → Vec Ideal S1x512x128 .bf16
  vl : Fin 4 → Fin 4 → Vec Ideal S1x512x128 .bf16
  kc : Fin 4 → Vec Ideal S1x256x128 .bf16
  vc : Fin 4 → Vec Ideal S1x256x128 .bf16
  b : Fin 4 → Fin 4 → Fin 2 → Fin 4 → Vec Ideal S1x1x1x64x128 .f32
  pen : Fin 4 → Ideal .f32

/-- The products of the queries of an item with its keys. -/
def prods (A : Loads) (r j : Fin 4) : FVec Ideal S128x768 .f32 := k0_pay7 k0_pay2 (A.q r j) (A.kl r j) (A.kc j)

/-- The scores of an item's band keys. -/
def locS (A : Loads) (r j : Fin 4) : FVec Ideal S128x512 .f32 :=
  k0_pay11 (A.pen r) (prods A r j) (k0_pay8 (A.b r j 0 0)) (k0_pay8 (A.b r j 0 1)) (k0_pay8 (A.b r j 0 2)) (A.b r j 0 3)
    (A.b r j 1 0) (A.b r j 1 1) (A.b r j 1 2) (A.b r j 1 3)

/-- The scores of an item's context keys. -/
def ctxS (A : Loads) (r j : Fin 4) : FVec Ideal S128x256 .f32 := k0_pay12 (prods A r j)

theorem inb_loc (n : Nat) (a : Fin 2) : (![128 * (n % 3), 0] : Fin 2 → Nat) a + S128x512.size a ≤ S384x768.size a := by
  have : n % 3 < 3 := Nat.mod_lt _ (by decide)
  match a with
  | ⟨0, _⟩ => show 128 * (n % 3) + 128 ≤ 384; omega
  | ⟨1, _⟩ => show 0 + 512 ≤ 768; omega

theorem inb_ctx (n : Nat) (a : Fin 2) : (![128 * (n % 3), 512] : Fin 2 → Nat) a + S128x256.size a ≤ S384x768.size a := by
  have : n % 3 < 3 := Nat.mod_lt _ (by decide)
  match a with
  | ⟨0, _⟩ => show 128 * (n % 3) + 128 ≤ 384; omega
  | ⟨1, _⟩ => show 512 + 256 ≤ 768; omega

theorem inb_slot (n : Nat) (a : Fin 2) : (![128 * (n % 3), 0] : Fin 2 → Nat) a + S128x768.size a ≤ S384x768.size a := by
  have : n % 3 < 3 := Nat.mod_lt _ (by decide)
  match a with
  | ⟨0, _⟩ => show 128 * (n % 3) + 128 ≤ 384; omega
  | ⟨1, _⟩ => show 0 + 768 ≤ 768; omega

theorem inb_out (n : Nat) (a : Fin 3) : (![0, 64 * (ir n).val, 128 * (ij n).val] : Fin 3 → Nat) a + S1x64x128.size a ≤ S1x256x512.size a := by
  have h1 := (ir n).isLt
  have h2 := (ij n).isLt
  match a with
  | ⟨0, _⟩ => show 0 + 1 ≤ 1; omega
  | ⟨1, _⟩ => show 64 * (ir n).val + 64 ≤ 256; omega
  | ⟨2, _⟩ => show 128 * (ij n).val + 128 ≤ 512; omega

/-- The stores into the score buffer once item `n` is stored, last first. -/
def sList (A : Loads) : Nat → List (View.Piece (Elt Ideal) S384x768 .f32)
  | 0 => [⟨Rect.unit (s := S384x768) ![128 * (0 % 3), 512] S128x256.size (inb_ctx 0), ctxS A (ir 0) (ij 0)⟩,
      ⟨Rect.unit (s := S384x768) ![128 * (0 % 3), 0] S128x512.size (inb_loc 0), locS A (ir 0) (ij 0)⟩]
  | n + 1 => ⟨Rect.unit (s := S384x768) ![128 * ((n + 1) % 3), 512] S128x256.size (inb_ctx (n + 1)), ctxS A (ir (n + 1)) (ij (n + 1))⟩ ::
      ⟨Rect.unit (s := S384x768) ![128 * ((n + 1) % 3), 0] S128x512.size (inb_loc (n + 1)), locS A (ir (n + 1)) (ij (n + 1))⟩ :: sList A n

/-- The scores of item `n` read back. -/
def sRead (v : View sig .tc .vmem S384x768 .f32) (A : Loads) (n : Nat) : FVec Ideal S128x768 .f32 :=
  v.readCov (sList A (min (n + 1) 15)) (Rect.unit (s := S384x768) ![128 * (n % 3), 0] S128x768.size (inb_slot n)).toLoadRect

/-- The stores into the buffer of exponentials once item `n` is stored, last first. -/
def eList (v : View sig .tc .vmem S384x768 .f32) (A : Loads) : Nat → List (View.Piece (Elt Ideal) S384x768 .bf16)
  | 0 => [⟨Rect.unit (s := S384x768) ![128 * (0 % 3), 0] S128x768.size (inb_slot 0), k0_pay20 (F := Ideal) (sRead v A 0)⟩]
  | n + 1 => ⟨Rect.unit (s := S384x768) ![128 * ((n + 1) % 3), 0] S128x768.size (inb_slot (n + 1)), k0_pay20 (F := Ideal) (sRead v A (n + 1))⟩ :: eList v A n

/-- The exponentials of item `n` read back. -/
def eRead (v : View sig .tc .vmem S384x768 .f32) (w : View sig .tc .vmem S384x768 .bf16) (A : Loads) (n : Nat) :
    FVec Ideal S128x768 .bf16 :=
  w.readCov (eList v A (min (n + 1) 15)) (Rect.unit (s := S384x768) ![128 * (n % 3), 0] S128x768.size (inb_slot n)).toLoadRect

/-- The block item `n` stores. -/
def oItem (v : View sig .tc .vmem S384x768 .f32) (w : View sig .tc .vmem S384x768 .bf16) (A : Loads) (n : Nat) :
    FVec Ideal S1x64x128 .bf16 :=
  k0_pay46 k0_pay2 (k0_pay21 (sRead v A n)) (A.vl (ir n) (ij n)) (A.vc (ij n)) (eRead v w A n)

/-- The stores into the output once item `n` is stored, last first. -/
def oList (v : View sig .tc .vmem S384x768 .f32) (w : View sig .tc .vmem S384x768 .bf16) (A : Loads) :
    Nat → List (View.Piece (Elt Ideal) S1x256x512 .bf16)
  | 0 => [⟨Rect.unit ![0, 64 * (ir 0).val, 128 * (ij 0).val] S1x64x128.size (inb_out 0), oItem v w A 0⟩]
  | n + 1 => ⟨Rect.unit ![0, 64 * (ir (n + 1)).val, 128 * (ij (n + 1)).val] S1x64x128.size (inb_out (n + 1)), oItem v w A (n + 1)⟩ ::
      oList v w A n

/-- The penalty of query row `r`: negative infinity on a context row, zero otherwise. -/
def penW (i : grid0.Coords) (r : Fin 4) : Ideal .f32 :=
  Scalar.select (Scalar.cmpi .sge (Scalar.addi (Scalar.muli (BitVec.ofNat 32 (i 1).val) 4#32) (BitVec.ofNat 32 r.val)) 64#32)
    (Named.named κ "neg" 0xF149F2CA#32) (Scalar.ofBits .f32 0x00000000#32)

/-- The offsets of the band keys of query row `r`, heads `j`. -/
def kOffW (i : grid0.Coords) (r : Fin 4) : Fin 4 → Fin 3 → Nat
  | 0 => k0_off1 i (BitVec.ofNat 32 r.val)
  | 1 => k0_off4 i (BitVec.ofNat 32 r.val)
  | 2 => k0_off7 i (BitVec.ofNat 32 r.val)
  | 3 => k0_off10 i (BitVec.ofNat 32 r.val)

theorem kOffW_inb (i : grid0.Coords) (r j : Fin 4) (a : Fin 3) : kOffW i r j a + S1x512x128.size a ≤ S1x704x512.size a :=
  match j with
  | 0 => k0_off1_inb i r a
  | 1 => k0_off4_inb i r a
  | 2 => k0_off7_inb i r a
  | 3 => k0_off10_inb i r a

/-- The offsets of the bias block of query row `r`, heads `j`, half `h`, pair of band rows `p`. -/
def bOffW (i : grid0.Coords) (r : Fin 4) (p : Fin 4) : Fin 4 → Fin 2 → Fin 5 → Nat
  | 0, 0 => k0_off2 i (BitVec.ofNat 32 r.val) (BitVec.ofNat 32 (2 * p.val))
  | 0, 1 => k0_off3 i (BitVec.ofNat 32 r.val) (BitVec.ofNat 32 (2 * p.val))
  | 1, 0 => k0_off5 i (BitVec.ofNat 32 r.val) (BitVec.ofNat 32 (2 * p.val))
  | 1, 1 => k0_off6 i (BitVec.ofNat 32 r.val) (BitVec.ofNat 32 (2 * p.val))
  | 2, 0 => k0_off8 i (BitVec.ofNat 32 r.val) (BitVec.ofNat 32 (2 * p.val))
  | 2, 1 => k0_off9 i (BitVec.ofNat 32 r.val) (BitVec.ofNat 32 (2 * p.val))
  | 3, 0 => k0_off11 i (BitVec.ofNat 32 r.val) (BitVec.ofNat 32 (2 * p.val))
  | 3, 1 => k0_off12 i (BitVec.ofNat 32 r.val) (BitVec.ofNat 32 (2 * p.val))

theorem bOffW_inb (i : grid0.Coords) (r p j : Fin 4) (h : Fin 2) (a : Fin 5) :
    bOffW i r p j h a + S1x1x1x64x128.size a ≤ S1x8x14x64x128.size a :=
  match j, h with
  | 0, 0 => k0_off2_inb i r p a
  | 0, 1 => k0_off3_inb i r p a
  | 1, 0 => k0_off5_inb i r p a
  | 1, 1 => k0_off6_inb i r p a
  | 2, 0 => k0_off8_inb i r p a
  | 2, 1 => k0_off9_inb i r p a
  | 3, 0 => k0_off11_inb i r p a
  | 3, 1 => k0_off12_inb i r p a

theorem inb_q (r j : Fin 4) (a : Fin 3) : (![0, 64 * r.val, 128 * j.val] : Fin 3 → Nat) a + S1x64x128.size a ≤ S1x256x512.size a := by
  have h1 := r.isLt
  have h2 := j.isLt
  match a with
  | ⟨0, _⟩ => show 0 + 1 ≤ 1; omega
  | ⟨1, _⟩ => show 64 * r.val + 64 ≤ 256; omega
  | ⟨2, _⟩ => show 128 * j.val + 128 ≤ 512; omega

theorem inb_c (j : Fin 4) (a : Fin 3) : (![0, 0, 128 * j.val] : Fin 3 → Nat) a + S1x256x128.size a ≤ S1x256x512.size a := by
  have h2 := j.isLt
  match a with
  | ⟨0, _⟩ => show 0 + 1 ≤ 1; omega
  | ⟨1, _⟩ => show 0 + 256 ≤ 256; omega
  | ⟨2, _⟩ => show 128 * j.val + 128 ≤ 512; omega

/-- The loads of the body from its windows' contents. -/
def loads (i : grid0.Coords) (x0 : Vec Ideal S1x256x512 .bf16) (x1 x2 : Vec Ideal S1x704x512 .bf16)
    (x3 x4 : Vec Ideal S1x256x512 .bf16) (x5 : Vec Ideal S1x8x14x64x128 .f32) : Loads where
  q r j := View.ld x0 (Rect.unit ![0, 64 * r.val, 128 * j.val] S1x64x128.size (inb_q r j))
  kl r j := View.ld x1 (Rect.unit (kOffW i r j) S1x512x128.size (kOffW_inb i r j))
  vl r j := View.ld x2 (Rect.unit (kOffW i r j) S1x512x128.size (kOffW_inb i r j))
  kc j := View.ld x3 (Rect.unit ![0, 0, 128 * j.val] S1x256x128.size (inb_c j))
  vc j := View.ld x4 (Rect.unit ![0, 0, 128 * j.val] S1x256x128.size (inb_c j))
  b r j h p := View.ld x5 (Rect.unit (bOffW i r p j h) S1x1x1x64x128.size (bOffW_inb i r p j h))
  pen r := penW i r

/-- The same loads through the windows' memory references. -/
def loadsM   (i : grid0.Coords) (arg2 : Memref sig .tc .vmem S1x256x512 .bf16) (harg2 : arg2.IsWhole) (arg3 : Memref sig .tc .vmem S1x704x512 .bf16) (harg3 : arg3.IsWhole) (arg4 : Memref sig .tc .vmem S1x704x512 .bf16) (harg4 : arg4.IsWhole) (arg5 : Memref sig .tc .vmem S1x256x512 .bf16) (harg5 : arg5.IsWhole) (arg6 : Memref sig .tc .vmem S1x256x512 .bf16) (harg6 : arg6.IsWhole) (arg7 : Memref sig .tc .vmem S1x8x14x64x128 .f32) (harg7 : arg7.IsWhole)
    (x0 : Vec Ideal S1x256x512 .bf16) (x1 x2 : Vec Ideal S1x704x512 .bf16)
    (x3 x4 : Vec Ideal S1x256x512 .bf16) (x5 : Vec Ideal S1x8x14x64x128 .f32) : Loads where
  q r j := View.readAt (Elt Ideal) arg2.view (Rect.unit (s := S1x256x512) ![0, 64 * r.val, 128 * j.val] S1x64x128.size (inb_q r j)).toLoadRect (harg2.unread x0)
  kl r j := View.readAt (Elt Ideal) arg3.view (Rect.unit (s := S1x704x512) (kOffW i r j) S1x512x128.size (kOffW_inb i r j)).toLoadRect (harg3.unread x1)
  vl r j := View.readAt (Elt Ideal) arg4.view (Rect.unit (s := S1x704x512) (kOffW i r j) S1x512x128.size (kOffW_inb i r j)).toLoadRect (harg4.unread x2)
  kc j := View.readAt (Elt Ideal) arg5.view (Rect.unit (s := S1x256x512) ![0, 0, 128 * j.val] S1x256x128.size (inb_c j)).toLoadRect (harg5.unread x3)
  vc j := View.readAt (Elt Ideal) arg6.view (Rect.unit (s := S1x256x512) ![0, 0, 128 * j.val] S1x256x128.size (inb_c j)).toLoadRect (harg6.unread x4)
  b r j h p := View.readAt (Elt Ideal) arg7.view (Rect.unit (s := S1x8x14x64x128) (bOffW i r p j h) S1x1x1x64x128.size (bOffW_inb i r p j h)).toLoadRect (harg7.unread x5)
  pen r := penW i r

/-- They are the loads of the windows' contents. -/
theorem loadsM_eq  (i : grid0.Coords) (arg2 : Memref sig .tc .vmem S1x256x512 .bf16) (harg2 : arg2.IsWhole) (arg3 : Memref sig .tc .vmem S1x704x512 .bf16) (harg3 : arg3.IsWhole) (arg4 : Memref sig .tc .vmem S1x704x512 .bf16) (harg4 : arg4.IsWhole) (arg5 : Memref sig .tc .vmem S1x256x512 .bf16) (harg5 : arg5.IsWhole) (arg6 : Memref sig .tc .vmem S1x256x512 .bf16) (harg6 : arg6.IsWhole) (arg7 : Memref sig .tc .vmem S1x8x14x64x128 .f32) (harg7 : arg7.IsWhole)
    (x0 : Vec Ideal S1x256x512 .bf16) (x1 x2 : Vec Ideal S1x704x512 .bf16)
    (x3 x4 : Vec Ideal S1x256x512 .bf16) (x5 : Vec Ideal S1x8x14x64x128 .f32) :
    loadsM i arg2 harg2 arg3 harg3 arg4 harg4 arg5 harg5 arg6 harg6 arg7 harg7 x0 x1 x2 x3 x4 x5 = loads i x0 x1 x2 x3 x4 x5 := by
  unfold loadsM loads
  simp only [View.readAt_eq_ld, harg2.read_unread, harg3.read_unread, harg4.read_unread, harg5.read_unread, harg6.read_unread, harg7.read_unread]

end Cert.KernelIdeal.Attn

end
-- ==== Proof.ItemValue.lean ====
module

public import proofs.«01_k».proof.Proof.Items
public import proofs.«01_k».proof.Proof.Maths
public import Idealize.ShloMosaic.Lib.Pointwise
public import Idealize.ShloMosaic.Lib.MatmulPlain

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic

/-! The block an item stores, at an index: the attention of one query of one head to its 768 keys. -/

/-- The row of the stacked scores that query `c` of head `h` of the pair has. -/
def hrow (h : Fin 2) (c : Fin 64) : Fin 128 := ⟨64 * h.val + c.val, by have := h.isLt; have := c.isLt; omega⟩

/-- The lane of entry `d` of head `h` of the pair. -/
def hlane (h : Fin 2) (d : Fin 64) : Fin 128 := ⟨64 * h.val + d.val, by have := h.isLt; have := d.isLt; omega⟩

/-- The scores of an item: band keys first, then context keys. -/
def score (A : Loads) (r j : Fin 4) (x : Fin 128) (y : Fin 768) : EReal :=
  if h : y.val < 512 then locS A r j (ix2 x ⟨y.val, h⟩) else ctxS A r j (ix2 x ⟨y.val - 512, by have := y.isLt; omega⟩)

/-- The keys of an item: those of the band, then those of the context. -/
def keyA (A : Loads) (r j : Fin 4) (y : Fin 768) (l : Fin 128) : EReal :=
  if h : y.val < 512 then A.kl r j (ix3 0 ⟨y.val, h⟩ l) else A.kc j (ix3 0 ⟨y.val - 512, by have := y.isLt; omega⟩ l)

/-- The values of an item: those of the band, then those of the context. -/
def valA (A : Loads) (r j : Fin 4) (y : Fin 768) (l : Fin 128) : EReal :=
  if h : y.val < 512 then A.vl r j (ix3 0 ⟨y.val, h⟩ l) else A.vc j (ix3 0 ⟨y.val - 512, by have := y.isLt; omega⟩ l)

/-- The bias an item adds to its band keys. -/
def biasA (A : Loads) (r j : Fin 4) (h : Fin 2) (c : Fin 64) (y : Fin 512) : EReal :=
  A.b r j h ⟨y.val / 128, by have := y.isLt; omega⟩ (ix5 0 0 0 c ⟨y.val % 128, Nat.mod_lt _ (by decide)⟩)

/-- A sum over the two halves of the lanes, one of them zero. -/
theorem sum_half (h : Fin 2) (f g : Fin 128 → EReal) (hf : ∀ k, (k.val < 64 ↔ h = 0) → f k = g k)
    (h0 : ∀ k, ¬ (k.val < 64 ↔ h = 0) → f k = 0) :
    ∑ k : Fin 128, f k = ∑ d : Fin 64, g (hlane h d) := by
  rw [Fin.sum_univ_two_halves 64 64 rfl]
  rcases (by omega : h = 0 ∨ h = 1) with rfl | rfl
  · have a2 : ∑ k : Fin 64, f ⟨64 + k.val, by have := k.isLt; omega⟩ = 0 :=
      Finset.sum_eq_zero fun k _ => h0 _ (by simp)
    rw [a2, add_zero]
    refine Finset.sum_congr rfl fun k _ => ?_
    have e : (⟨k.val, by have := k.isLt; omega⟩ : Fin 128) = hlane 0 k := Fin.ext (by show k.val = 64 * 0 + k.val; omega)
    rw [e]
    exact hf _ (by have := k.isLt; simp [hlane])
  · have a1 : ∑ k : Fin 64, f ⟨k.val, by have := k.isLt; omega⟩ = 0 :=
      Finset.sum_eq_zero fun k _ => h0 _ (by have := k.isLt; simp)
    rw [a1, zero_add]
    refine Finset.sum_congr rfl fun k _ => ?_
    exact hf (hlane 1 k) (by simp [hlane])

/-- Whether a lane lies in the first half, as the body computes it. -/
theorem slt64 (k : Fin 128) : IntOp.cmpi CmpIPredicate.slt (BitVec.ofNat 32 k.val) 64#32 = if k.val < 64 then 1#1 else 0#1 := by
  revert k
  decide +kernel

/-- The product of a query with a key is the sum over the head's lanes. -/
theorem prods_apply (A : Loads) (r j : Fin 4) (h : Fin 2) (c : Fin 64) (y : Fin 768) :
    prods A r j (ix2 (hrow h c) y) = ∑ d : Fin 64, A.q r j (ix3 0 c (hlane h d)) * keyA A r j y (hlane h d) := by
  have hc := c.isLt
  pointwise [prods, k0_pay7, k0_pay2]
  refine sum_half h _ (fun k => A.q r j (ix3 0 c k) * keyA A r j y k) ?_ ?_
  · intro k hk
    rw [slt64]
    rcases (by omega : h = 0 ∨ h = 1) with rfl | rfl
    · have h1 : (hrow 0 c).val < 64 := by show 64 * 0 + c.val < 64; omega
      have e : (⟨(hrow 0 c).val, h1⟩ : Fin 64) = c := Fin.ext (by show 64 * 0 + c.val = c.val; omega)
      have hk' : k.val < 64 := hk.2 rfl
      rw [dif_pos h1, if_pos hk', e]
      rfl
    · have h1 : ¬ (hrow 1 c).val < 64 := by show ¬ 64 * 1 + c.val < 64; omega
      have e : ∀ p, (⟨(hrow 1 c).val - 64, p⟩ : Fin 64) = c := fun p => Fin.ext (by show 64 * 1 + c.val - 64 = c.val; omega)
      have hk' : ¬ k.val < 64 := fun hh => absurd (hk.1 hh) (by decide)
      rw [dif_neg h1, if_neg hk', e]
      rfl
  · intro k hk
    rw [slt64]
    rcases (by omega : h = 0 ∨ h = 1) with rfl | rfl
    · have h1 : (hrow 0 c).val < 64 := by show 64 * 0 + c.val < 64; omega
      have hk' : ¬ k.val < 64 := fun hh => hk ⟨fun _ => rfl, fun _ => hh⟩
      rw [dif_pos h1, if_neg hk']
      exact zero_mul _
    · have h1 : ¬ (hrow 1 c).val < 64 := by show ¬ 64 * 1 + c.val < 64; omega
      have hk' : k.val < 64 := by by_contra hh; exact hk ⟨fun a => absurd a hh, fun a => absurd a (by decide)⟩
      rw [dif_neg h1, if_pos hk']
      exact zero_mul _

/-- The score of a band key: the product, the bias and the row's penalty. -/
theorem locS_apply (A : Loads) (r j : Fin 4) (h : Fin 2) (c : Fin 64) (y : Fin 512) :
    locS A r j (ix2 (hrow h c) y) = prods A r j (ix2 (hrow h c) ⟨y.val, by have := y.isLt; omega⟩) + (biasA A r j h c y + A.pen r) := by
  have hc := c.isLt
  have hy := y.isLt
  pointwise [locS, k0_pay11, k0_pay8]
  congr 2
  have e0 : ∀ p, (⟨(hrow 0 c).val, p⟩ : Fin 64) = c := fun p => Fin.ext (by show 64 * 0 + c.val = c.val; omega)
  have e1 : ∀ p, (⟨(hrow 1 c).val - 64, p⟩ : Fin 64) = c := fun p => Fin.ext (by show 64 * 1 + c.val - 64 = c.val; omega)
  have key : ∀ (h : Fin 2) (p : Fin 4) (m : Nat) (hm : m < 128), y.val = 128 * p.val + m →
      A.b r j h p (ix5 0 0 0 c ⟨m, hm⟩) = biasA A r j h c y := by
    intro h p m hm e
    unfold biasA
    have hp : (⟨y.val / 128, by omega⟩ : Fin 4) = p := Fin.ext (by show y.val / 128 = p.val; omega)
    have hm' : (⟨y.val % 128, Nat.mod_lt _ (by decide)⟩ : Fin 128) = ⟨m, hm⟩ := Fin.ext (by show y.val % 128 = m; omega)
    rw [hp, hm']
  rcases (by omega : h = 0 ∨ h = 1) with rfl | rfl
  · have h1 : (hrow 0 c).val < 64 := by show 64 * 0 + c.val < 64; omega
    rw [dif_pos h1]
    simp only [e0]
    by_cases a1 : y.val < 128
    · exact (dif_pos a1).trans (key 0 0 _ _ (by show y.val = 128 * 0 + y.val; omega))
    refine (dif_neg a1).trans ?_
    by_cases a2 : y.val - 128 < 128
    · exact (dif_pos a2).trans (key 0 1 _ _ (by show y.val = 128 * 1 + (y.val - 128); omega))
    refine (dif_neg a2).trans ?_
    by_cases a3 : y.val - 128 - 128 < 128
    · exact (dif_pos a3).trans (key 0 2 _ _ (by show y.val = 128 * 2 + (y.val - 128 - 128); omega))
    · exact (dif_neg a3).trans (key 0 3 _ _ (by show y.val = 128 * 3 + (y.val - 128 - 128 - 128); omega))
  · have h1 : ¬ (hrow 1 c).val < 64 := by show ¬ 64 * 1 + c.val < 64; omega
    rw [dif_neg h1]
    simp only [e1]
    by_cases a1 : y.val < 128
    · exact (dif_pos a1).trans (key 1 0 _ _ (by show y.val = 128 * 0 + y.val; omega))
    refine (dif_neg a1).trans ?_
    by_cases a2 : y.val - 128 < 128
    · exact (dif_pos a2).trans (key 1 1 _ _ (by show y.val = 128 * 1 + (y.val - 128); omega))
    refine (dif_neg a2).trans ?_
    by_cases a3 : y.val - 128 - 128 < 128
    · exact (dif_pos a3).trans (key 1 2 _ _ (by show y.val = 128 * 2 + (y.val - 128 - 128); omega))
    · exact (dif_neg a3).trans (key 1 3 _ _ (by show y.val = 128 * 3 + (y.val - 128 - 128 - 128); omega))

/-- The score of a context key is the product. -/
theorem ctxS_apply (A : Loads) (r j : Fin 4) (x : Fin 128) (y : Fin 256) :
    ctxS A r j (ix2 x y) = prods A r j (ix2 x ⟨512 + y.val, by have := y.isLt; omega⟩) := by
  pointwise [ctxS, k0_pay12]

/-- The bit pattern of negative infinity. -/
theorem negInf_eq : Ideal.ofBits FTy.f32 0xFF800000#32 = ⊥ := by simp [Ideal.ofBits, Ideal.ieee]

/-- The exponentials of a row of scores. -/
theorem pay19_apply (s : Vec Ideal S128x768 .f32) (x : Fin 128) (y : Fin 768) :
    k0_pay19 s (ix2 x y) = Ideal.exp (s (ix2 x y) - Finset.univ.fold max ⊥ (fun k : Fin 768 => s (ix2 x k))) := by
  rw [← negInf_eq]
  pointwise [k0_pay19]

theorem pay20_apply (s : Vec Ideal S128x768 .f32) (x : Fin 128) (y : Fin 768) :
    k0_pay20 s (ix2 x y) = k0_pay19 s (ix2 x y) := by
  pointwise [k0_pay20]

theorem pay21_apply (s : Vec Ideal S128x768 .f32) (x : Fin 128) :
    k0_pay21 s (ix2 x 0) = Ideal.div 1 (∑ k : Fin 768, k0_pay19 s (ix2 x k)) := by
  pointwise [k0_pay21]

/-- The row of slot `n % 3` of a scratch buffer. -/
def srow (n : Nat) (x : Fin 128) : Fin 384 :=
  ⟨128 * (n % 3) + x.val, by have := Nat.mod_lt n (by decide : 3 > 0); have := x.isLt; omega⟩

/-- The index at which the read of a slot reads. -/
theorem slot_idx (n : Nat) (x : Fin 128) (y : Fin 768) :
    (Rect.unit (s := S384x768) ![128 * (n % 3), 0] S128x768.size (inb_slot n)).toLoadRect.idx (ix2 x y) = ix2 (srow n x) y := by
  funext a
  apply Fin.ext
  match a with
  | ⟨0, _⟩ => show 128 * (n % 3) + 1 * x.val = 128 * (n % 3) + x.val; omega
  | ⟨1, _⟩ => show 0 + 1 * y.val = y.val; omega

/-- The scores of item `m` lie in its slot when it is the last stored. -/
theorem canon_pair (A : Loads) (m : Nat) (L) (x : Fin 128) (y : Fin 768) :
    View.canon ((⟨Rect.unit (s := S384x768) ![128 * (m % 3), 512] S128x256.size (inb_ctx m), ctxS A (ir m) (ij m)⟩ : View.Piece (Elt Ideal) S384x768 .f32) ::
      ⟨Rect.unit (s := S384x768) ![128 * (m % 3), 0] S128x512.size (inb_loc m), locS A (ir m) (ij m)⟩ :: L) (ix2 (srow m x) y)
      = score A (ir m) (ij m) x y := by
  unfold score
  by_cases h : y.val < 512
  · rw [dif_pos h, View.canon_cons_of_not_mem]
    · have e : (Rect.unit (s := S384x768) ![128 * (m % 3), 0] S128x512.size (inb_loc m)).emb (ix2 x ⟨y.val, h⟩) = ix2 (srow m x) y := by
        funext a
        apply Fin.ext
        match a with
        | ⟨0, _⟩ => show 128 * (m % 3) + 1 * x.val = 128 * (m % 3) + x.val; omega
        | ⟨1, _⟩ => show 0 + 1 * y.val = y.val; omega
      rw [← e]
      exact View.canon_cons_emb (Val := Elt Ideal) (Rect.unit (s := S384x768) ![128 * (m % 3), 0] S128x512.size (inb_loc m)) _ L _
    · intro hm
      have h' : 512 ≤ y.val := ((Rect.mem_set_unit (inb := inb_ctx m)).1 hm 1).1
      omega
  · rw [dif_neg h]
    have hy := y.isLt
    have e : (Rect.unit (s := S384x768) ![128 * (m % 3), 512] S128x256.size (inb_ctx m)).emb (ix2 x ⟨y.val - 512, by omega⟩) = ix2 (srow m x) y := by
      funext a
      apply Fin.ext
      match a with
      | ⟨0, _⟩ => show 128 * (m % 3) + 1 * x.val = 128 * (m % 3) + x.val; omega
      | ⟨1, _⟩ => show 512 + 1 * (y.val - 512) = y.val; omega
    rw [← e]
    exact View.canon_cons_emb (Val := Elt Ideal) (Rect.unit (s := S384x768) ![128 * (m % 3), 512] S128x256.size (inb_ctx m)) _ _ _

theorem canon_sList_self (A : Loads) (m : Nat) (x : Fin 128) (y : Fin 768) :
    View.canon (sList A m) (ix2 (srow m x) y) = score A (ir m) (ij m) x y := by
  cases m with
  | zero => exact canon_pair A 0 [] x y
  | succ m => exact canon_pair A (m + 1) (sList A m) x y

/-- Storing the next item leaves the slot of the one before. -/
theorem canon_sList_succ (A : Loads) (m : Nat) (x : Fin 128) (y : Fin 768) :
    View.canon (sList A (m + 1)) (ix2 (srow m x) y) = score A (ir m) (ij m) x y := by
  have hx := x.isLt
  have hne : ∀ w : Nat, ¬ (128 * ((m + 1) % 3) ≤ 128 * (m % 3) + x.val ∧ 128 * (m % 3) + x.val < 128 * ((m + 1) % 3) + 128) := by
    intro _; omega
  rw [← canon_sList_self]
  show View.canon (_ :: _ :: sList A m) _ = _
  rw [View.canon_cons_of_not_mem, View.canon_cons_of_not_mem]
  · intro hm
    exact hne 0 ((Rect.mem_set_unit (inb := inb_loc (m + 1))).1 hm 0)
  · intro hm
    exact hne 0 ((Rect.mem_set_unit (inb := inb_ctx (m + 1))).1 hm 0)

/-- The scores of an item read back are its scores. -/
theorem sRead_apply (v : View sig .tc .vmem S384x768 .f32) (A : Loads) (n : Nat) (hn : n < 16) (x : Fin 128) (y : Fin 768) :
    sRead v A n (ix2 x y) = score A (ir n) (ij n) x y := by
  unfold sRead
  rw [View.readCov_eq_canon']
  show View.canon _ ((Rect.unit (s := S384x768) ![128 * (n % 3), 0] S128x768.size (inb_slot n)).toLoadRect.idx (ix2 x y)) = _
  rw [slot_idx]
  rcases (by omega : n = 15 ∨ n < 15) with rfl | h
  · exact canon_sList_self A 15 x y
  · rw [show min (n + 1) 15 = n + 1 by omega]
    exact canon_sList_succ A n x y

theorem canon_eList_self (v : View sig .tc .vmem S384x768 .f32) (A : Loads) (m : Nat) (x : Fin 128) (y : Fin 768) :
    View.canon (eList v A m) (ix2 (srow m x) y) = k0_pay20 (F := Ideal) (sRead v A m) (ix2 x y) := by
  rw [← slot_idx]
  cases m with
  | zero => exact View.canon_cons_emb (Val := Elt Ideal) (Rect.unit (s := S384x768) ![128 * (0 % 3), 0] S128x768.size (inb_slot 0)) _ _ _
  | succ m => exact View.canon_cons_emb (Val := Elt Ideal) (Rect.unit (s := S384x768) ![128 * ((m + 1) % 3), 0] S128x768.size (inb_slot (m + 1))) _ _ _

/-- The exponentials of an item read back are its exponentials. -/
theorem eRead_apply (v : View sig .tc .vmem S384x768 .f32) (w : View sig .tc .vmem S384x768 .bf16) (A : Loads) (n : Nat) (hn : n < 16)
    (x : Fin 128) (y : Fin 768) : eRead v w A n (ix2 x y) = k0_pay20 (F := Ideal) (sRead v A n) (ix2 x y) := by
  unfold eRead
  rw [View.readCov_eq_canon']
  show View.canon _ ((Rect.unit (s := S384x768) ![128 * (n % 3), 0] S128x768.size (inb_slot n)).toLoadRect.idx (ix2 x y)) = _
  rw [slot_idx]
  rcases (by omega : n = 15 ∨ n < 15) with rfl | h
  · exact canon_eList_self v A 15 x y
  · rw [show min (n + 1) 15 = n + 1 by omega, ← canon_eList_self]
    have hx := x.isLt
    show View.canon (_ :: eList v A n) _ = _
    rw [View.canon_cons_of_not_mem]
    intro hm
    have h1 : 128 * ((n + 1) % 3) ≤ 128 * (n % 3) + x.val ∧ 128 * (n % 3) + x.val < 128 * ((n + 1) % 3) + 128 := (Rect.mem_set_unit (inb := inb_slot (n + 1))).1 hm 0
    omega

/-- The block an item stores: at query `c` and lane `d` of head `h`, the attention of that query. -/
theorem oItem_apply (v : View sig .tc .vmem S384x768 .f32) (w : View sig .tc .vmem S384x768 .bf16) (A : Loads) (n : Nat) (hn : n < 16)
    (h : Fin 2) (c d : Fin 64) :
    oItem v w A n (ix3 0 c (hlane h d))
      = Cert.Attn.late (fun y => score A (ir n) (ij n) (hrow h c) y) (fun y => valA A (ir n) (ij n) y (hlane h d)) := by
  have hs : ∀ x y, sRead v A n (ix2 x y) = score A (ir n) (ij n) x y := sRead_apply v A n hn
  have he : ∀ x y, eRead v w A n (ix2 x y)
      = Ideal.exp (score A (ir n) (ij n) x y - Finset.univ.fold max ⊥ (fun k : Fin 768 => score A (ir n) (ij n) x k)) := by
    intro x y
    rw [eRead_apply v w A n hn, pay20_apply, pay19_apply]
    simp only [hs]
  have hi : ∀ x : Fin 128, k0_pay21 (F := Ideal) (sRead v A n) (ix2 x 0) = Ideal.div 1 (∑ y : Fin 768,
      Ideal.exp (score A (ir n) (ij n) x y - Finset.univ.fold max ⊥ (fun k : Fin 768 => score A (ir n) (ij n) x k))) := by
    intro x
    rw [pay21_apply]
    simp only [pay19_apply, hs]
  have hsum : ∀ x : Fin 128, (∑ y : Fin 512, eRead v w A n (ix2 x ⟨y.val, by have := y.isLt; omega⟩) * A.vl (ir n) (ij n) (ix3 0 y (hlane h d)))
      + (∑ y : Fin 256, eRead v w A n (ix2 x ⟨512 + y.val, by have := y.isLt; omega⟩) * A.vc (ij n) (ix3 0 y (hlane h d)))
      = ∑ y : Fin 768, Ideal.exp (score A (ir n) (ij n) x y - Finset.univ.fold max ⊥ (fun k : Fin 768 => score A (ir n) (ij n) x k))
          * valA A (ir n) (ij n) y (hlane h d) := by
    intro x
    rw [Fin.sum_univ_two_halves 512 256 rfl]
    congr 1
    · refine Finset.sum_congr rfl fun y _ => ?_
      rw [he]
      unfold valA
      rw [dif_pos y.isLt]
    · refine Finset.sum_congr rfl fun y _ => ?_
      rw [he]
      unfold valA
      have e : ∀ p, (⟨512 + y.val - 512, p⟩ : Fin 256) = y := fun p => Fin.ext (by show 512 + y.val - 512 = y.val; omega)
      rw [dif_neg (by show ¬ 512 + y.val < 512; omega), e]
  have hc := c.isLt
  have hd := d.isLt
  pointwise [oItem, k0_pay46, k0_pay2]
  rw [slt64]
  unfold Cert.Attn.late
  rcases (by omega : h = 0 ∨ h = 1) with rfl | rfl
  · have h1 : (hlane 0 d).val < 64 := by show 64 * 0 + d.val < 64; omega
    have er : (⟨c.val, by omega⟩ : Fin 128) = hrow 0 c := Fin.ext (by show c.val = 64 * 0 + c.val; omega)
    rw [if_pos h1]
    show ((_ + _) * (k0_pay21 (F := Ideal) (sRead v A n) (ix2 ⟨c.val, _⟩ 0) : EReal) : EReal) = _
    rw [hi, hsum, er]
  · have h1 : ¬ (hlane 1 d).val < 64 := by show ¬ 64 * 1 + d.val < 64; omega
    have er : (⟨64 + c.val, by omega⟩ : Fin 128) = hrow 1 c := Fin.ext (by show 64 + c.val = 64 * 1 + c.val; omega)
    rw [if_neg h1]
    show ((_ + _) * (k0_pay21 (F := Ideal) (sRead v A n) (ix2 ⟨64 + c.val, _⟩ 0) : EReal) : EReal) = _
    rw [hi, hsum, er]

end Cert.KernelIdeal.Attn

end
-- ==== Proof.Offsets.lean ====
module

public import proofs.«01_k».proof.Proof.Items
public import Idealize.ShloMosaic.Lib.Pointwise
public import Idealize.ShloMosaic.Lib.MatmulPlain

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic

/-! The places the kernel reads, in closed form over the grid. -/

/-- The first row of the band of the tile `g`. -/
def bandRow (g : Nat) : Nat := min (min 56 (4 * g - 4)) 53

/-- The offset of the band keys of row `r` of tile `g`. -/
def kPos (g r : Nat) : Nat := if 64 ≤ 4 * g + r then 0 else (min 56 (4 * g + r - 4) - bandRow g) * 64

/-- The first row of the bias table for row `r` of tile `g`. -/
def bPos (g r : Nat) : Nat := if 64 ≤ 4 * g + r then 0 else 7 - ((4 * g + r) - min 56 (4 * g + r - 4))

theorem kOff_eq : ∀ (t : Fin grid0.N) (r j : Fin 4) (a : Fin 3),
    kOffW (grid0.coords t) r j a = (![0, kPos (grid0.coords t 1).val r.val, 128 * j.val] : Fin 3 → Nat) a := by
  decide +kernel

theorem bOff_eq : ∀ (t : Fin grid0.N) (r p j : Fin 4) (h : Fin 2) (a : Fin 5),
    bOffW (grid0.coords t) r p j h a
      = (![0, 2 * j.val + h.val, bPos (grid0.coords t 1).val r.val + 2 * p.val, 0, 0] : Fin 5 → Nat) a := by
  decide +kernel

theorem pen_bit : ∀ (t : Fin grid0.N) (r : Fin 4),
    Scalar.cmpi .sge (Scalar.addi (Scalar.muli (BitVec.ofNat 32 (grid0.coords t 1).val) 4#32) (BitVec.ofNat 32 r.val)) 64#32
      = if 64 ≤ 4 * (grid0.coords t 1).val + r.val then 1#1 else 0#1 := by
  decide +kernel

theorem pen_eq (t : Fin grid0.N) (r : Fin 4) :
    penW (grid0.coords t) r = if 64 ≤ 4 * (grid0.coords t 1).val + r.val then ⊥ else 0 := by
  unfold penW
  rw [pen_bit]
  by_cases h : 64 ≤ 4 * (grid0.coords t 1).val + r.val
  · rw [if_pos h, if_pos h]
    rfl
  · rw [if_neg h, if_neg h]
    exact Ideal.ofBits_zero_f32

theorem idx0_eq : ∀ (t : Fin grid0.N) (a : Fin 3),
    win0_0.index t a = (![(grid0.coords t 0).val, (grid0.coords t 1).val, 0] : Fin 3 → Nat) a := by
  decide +kernel

theorem idx1_eq : ∀ (t : Fin grid0.N) (a : Fin 3),
    win0_1.index t a = (![(grid0.coords t 0).val, 64 * bandRow (grid0.coords t 1).val, 0] : Fin 3 → Nat) a := by
  decide +kernel

theorem idx2_eq : ∀ (t : Fin grid0.N) (a : Fin 3),
    win0_2.index t a = (![(grid0.coords t 0).val, 64 * bandRow (grid0.coords t 1).val, 0] : Fin 3 → Nat) a := by
  decide +kernel

theorem idx3_eq : ∀ (t : Fin grid0.N) (a : Fin 3),
    win0_3.index t a = (![(grid0.coords t 0).val, 16, 0] : Fin 3 → Nat) a := by
  decide +kernel

theorem idx4_eq : ∀ (t : Fin grid0.N) (a : Fin 3),
    win0_4.index t a = (![(grid0.coords t 0).val, 16, 0] : Fin 3 → Nat) a := by
  decide +kernel

theorem idx5_eq : ∀ (t : Fin grid0.N) (a : Fin 5), win0_5.index t a = 0 := by
  decide +kernel

theorem idx6_eq : ∀ (t : Fin grid0.N) (a : Fin 3),
    win0_6.index t a = (![(grid0.coords t 0).val, (grid0.coords t 1).val, 0] : Fin 3 → Nat) a := by
  decide +kernel

/-- Every pair of a batch and a tile is a grid point. -/
theorem point : ∀ (b : Fin 8) (g : Fin 17), ∃ t : Fin grid0.N, (grid0.coords t 0).val = b.val ∧ (grid0.coords t 1).val = g.val := by
  decide +kernel

end Cert.KernelIdeal.Attn

end
-- ==== Proof.Host.lean ====
module

public import proofs.«01_k».proof.Proof.Gen.KernelIdeal.Value
public import Idealize.ShloMosaic.Lib.Pointwise

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic

/-! What the kernel's windows are cut from: the queries scaled by an eighth, the keys, the values, and the table of the
bias with its rows in adjacent pairs. -/

variable (m : (ℓ : Loc nD τ sig) → Buf (Elt Ideal) ℓ)

/-- The indices of the columns of the table. -/
def tabIdx : (⟨S64x64x1, .i32⟩ : BufTy).Contents (Elt Ideal) :=
  broadcastInDim S64x64x1 ![0, 1] bcast_S64x64_S64x64x1_0_1
    (select (constantI S64x64 1 0#1)
      (addi (fun i => lit0 (S64x64.rowMajor i)) (broadcastInDim S64x64 ![] bcast_S_S64x64 (constantI S_ 32 31#32)))
      (fun i => lit0 (S64x64.rowMajor i)))

/-- The gathered columns, negative infinity outside the window. -/
def tabW (x3 : (⟨S2x8x15x31, .f32⟩ : BufTy).Contents (Elt Ideal)) : (⟨S2x8x15x64x64, .f32⟩ : BufTy).Contents (Elt Ideal) :=
  select (broadcastInDim S2x8x15x64x64 ![3, 4] bcast_S64x64_S2x8x15x64x64_3_4 (fun i => lit1 (S64x64.rowMajor i)))
    (Host.gather gather_S2x8x15x31_S64x64x1_S2x8x15x64x64_012_3_n_n_3_2_28151 x3 tabIdx)
    (broadcastInDim S2x8x15x64x64 ![] bcast_S_S2x8x15x64x64 (constant (F := Ideal) S_ .f32 0xFF800000#32))

/-- The table with its rows in adjacent pairs. -/
def tabP (x3 : (⟨S2x8x15x31, .f32⟩ : BufTy).Contents (Elt Ideal)) : (⟨S2x8x14x64x128, .f32⟩ : BufTy).Contents (Elt Ideal) :=
  concatenate S2x8x14x64x128 4
    [⟨S2x8x14x64x64, extractStridedSlice S2x8x14x64x64 ![0, 0, 0, 0, 0] (tabW x3) slices_S2x8x15x64x64_S2x8x14x64x64_0_0_0_0_0⟩,
     ⟨S2x8x14x64x64, extractStridedSlice S2x8x14x64x64 ![0, 0, 1, 0, 0] (tabW x3) slices_S2x8x15x64x64_S2x8x14x64x64_0_0_1_0_0⟩]
    concatenates_S2x8x14x64x64_S2x8x14x64x64_S2x8x14x64x128_d4

/-- A batch of tokens. -/
abbrev Tok : Type := (⟨S8x4352x512, .f32⟩ : BufTy).Contents (Elt Ideal)
/-- The bias table. -/
abbrev Tab : Type := (⟨S2x8x15x31, .f32⟩ : BufTy).Contents (Elt Ideal)

/-- The queries. -/
def a0 (c : Dev nD) : Tok := m ((c : Thread nD τ).loc main_arg0)
/-- The keys. -/
def a1 (c : Dev nD) : Tok := m ((c : Thread nD τ).loc main_arg1)
/-- The values. -/
def a2 (c : Dev nD) : Tok := m ((c : Thread nD τ).loc main_arg2)
/-- The bias. -/
def a3 (c : Dev nD) : Tab := m ((c : Thread nD τ).loc main_arg3)

theorem V_q (c : Dev nD) (i : S8x4352x512.Idx) :
    V m c main_v2 i = a0 m c i * Ideal.ofBits .f32 0x3E000000#32 := by
  have e : V m c main_v2 = truncf .bf16 (mulf (F := Ideal) (φ := .f32) (s := S8x4352x512) (m ((c : Thread nD τ).loc main_arg0))
      (broadcastInDim S8x4352x512 ![] bcast_S_S8x4352x512 (constant S_ .f32 0x3E000000#32))) bitsLt_bf16_f32 := by
    show StableHlo.after (List.flatten [hostOps0, hostOps0_1, hostOps0_2]) _ (Proc.devRef .tc main_v2) = _
    simp only [List.flatten_cons, List.flatten_nil, List.append_nil, List.cons_append, List.nil_append]
    after_results
  rw [e]
  rfl

theorem V_k (c : Dev nD) (i : S8x4352x512.Idx) : V m c main_v3 i = a1 m c i := by
  have e : V m c main_v3 = truncf (F := Ideal) .bf16 (φ := .f32) (s := S8x4352x512) (m ((c : Thread nD τ).loc main_arg1)) bitsLt_bf16_f32 := by
    show StableHlo.after (List.flatten [hostOps0, hostOps0_1, hostOps0_2]) _ (Proc.devRef .tc main_v3) = _
    simp only [List.flatten_cons, List.flatten_nil, List.append_nil, List.cons_append, List.nil_append]
    after_results
  rw [e]
  rfl

theorem V_v (c : Dev nD) (i : S8x4352x512.Idx) : V m c main_v4 i = a2 m c i := by
  have e : V m c main_v4 = truncf (F := Ideal) .bf16 (φ := .f32) (s := S8x4352x512) (m ((c : Thread nD τ).loc main_arg2)) bitsLt_bf16_f32 := by
    show StableHlo.after (List.flatten [hostOps0, hostOps0_1, hostOps0_2]) _ (Proc.devRef .tc main_v4) = _
    simp only [List.flatten_cons, List.flatten_nil, List.append_nil, List.cons_append, List.nil_append]
    after_results
  rw [e]
  rfl

theorem V_b (c : Dev nD) : V m c main_v13 = tabP (a3 m c) := by
  show StableHlo.after (List.flatten [hostOps0, hostOps0_1, hostOps0_2]) _ (Proc.devRef .tc main_v13) = _
  simp only [List.flatten_cons, List.flatten_nil, List.append_nil, List.cons_append, List.nil_append]
  after_results
  simp -implicitDefEqProofs only [StableHlo.TRef.ofBuf, StableHlo.TRef.toBuf, cast_cast, cast_eq]
  rfl

/-- The first column of the window of column `c`. -/
def colS (c : Fin 64) : Nat := min (c.val - 8) 48

theorem lit1_at : ∀ c l : Fin 64, lit1 (S64x64.rowMajor (ix2 c l)) = if colS c ≤ l.val ∧ l.val < colS c + 16 then 1#1 else 0#1 := by
  decide +kernel

theorem lit0_at : ∀ c l : Fin 64, colS c ≤ l.val ∧ l.val < colS c + 16 →
    min (lit0 (S64x64.rowMajor (ix2 c l))).toInt.toNat 30 = l.val + 15 - c.val := by
  decide +kernel

/-- The gather of the columns, at an index. -/
theorem gather_cols_apply (x : (⟨S2x8x15x31, .f32⟩ : BufTy).Contents (Elt Ideal)) (idx : IVec S64x64x1 32)
    (a : Fin 2) (h : Fin 8) (r : Fin 15) (c l : Fin 64) :
    Host.gather gather_S2x8x15x31_S64x64x1_S2x8x15x64x64_012_3_n_n_3_2_28151 x idx (ix5 a h r c l)
      = x (ix4 a h r ⟨min (idx (ix3 c l 0)).toInt.toNat 30, by omega⟩) := by
  unfold Host.gather
  congr 1
  funext e
  refine Fin.ext ?_
  show GatherDims.start _ _ idx e + GatherDims.batchCoord _ _ e + GatherDims.offCoord _ _ e = _
  rw [GatherDims.batchCoord_eq_zero _ _ _ List.not_mem_nil]
  have ha : e = 0 ∨ e = 1 ∨ e = 2 ∨ e = 3 := by
    match e with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr rfl))
  have hsi : ∀ q, q.val = 0 → gather_S2x8x15x31_S64x64x1_S2x8x15x64x64_012_3_n_n_3_2_28151.siIdx (ix5 a h r c l) q = ix3 c l 0 := by
    intro q hq
    obtain ⟨q, hq'⟩ := q
    obtain rfl : q = 0 := hq
    funext b; refine Fin.ext ?_
    match b with
    | ⟨0, _⟩ => rfl
    | ⟨1, _⟩ => rfl
    | ⟨2, _⟩ => rfl
  rcases ha with rfl | rfl | rfl | rfl
  · unfold GatherDims.start
    rw [dif_neg (show ¬ (0 : Fin 4) ∈ gather_S2x8x15x31_S64x64x1_S2x8x15x64x64_012_3_n_n_3_2_28151.startIndexMap from (by decide : ¬ (0 : Fin 4) ∈ ([3] : List (Fin 4))))]
    simp only [Nat.zero_add]
    rfl
  · unfold GatherDims.start
    rw [dif_neg (show ¬ (1 : Fin 4) ∈ gather_S2x8x15x31_S64x64x1_S2x8x15x64x64_012_3_n_n_3_2_28151.startIndexMap from (by decide : ¬ (1 : Fin 4) ∈ ([3] : List (Fin 4))))]
    simp only [Nat.zero_add]
    rfl
  · unfold GatherDims.start
    rw [dif_neg (show ¬ (2 : Fin 4) ∈ gather_S2x8x15x31_S64x64x1_S2x8x15x64x64_012_3_n_n_3_2_28151.startIndexMap from (by decide : ¬ (2 : Fin 4) ∈ ([3] : List (Fin 4))))]
    simp only [Nat.zero_add]
    rfl
  · rw [GatherDims.offCoord_eq_zero _ _ _ (fun h => ((GatherDims.mem_sKept _ _).mp h).1 (List.mem_singleton.mpr rfl))]
    simp only [Nat.add_zero]
    unfold GatherDims.start
    rw [dif_pos (show (3 : Fin 4) ∈ gather_S2x8x15x31_S64x64x1_S2x8x15x64x64_012_3_n_n_3_2_28151.startIndexMap from (by decide : (3 : Fin 4) ∈ ([3] : List (Fin 4))))]
    exact congrArg (fun z => min (idx z).toInt.toNat 30) (hsi _ rfl)

/-- The bias of column `c` for key column `l`: negative infinity outside the window. -/
def colBias (x3 : (⟨S2x8x15x31, .f32⟩ : BufTy).Contents (Elt Ideal)) (h : Fin 8) (r : Fin 15) (c l : Fin 64) : EReal :=
  if hw : colS c ≤ l.val ∧ l.val < colS c + 16 then
    x3 (ix4 0 h r ⟨l.val + 15 - c.val, by have := c.isLt; have := l.isLt; unfold colS at hw; omega⟩)
  else ⊥

theorem tabIdx_at (c l : Fin 64) : tabIdx (ix3 c l (0 : Fin 1)) = lit0 (S64x64.rowMajor (ix2 c l)) := by
  unfold tabIdx
  pointwise

theorem tabW_at (x3 : (⟨S2x8x15x31, .f32⟩ : BufTy).Contents (Elt Ideal)) (h : Fin 8) (r : Fin 15) (c l : Fin 64) :
    tabW x3 (ix5 (0 : Fin 2) h r c l) = colBias x3 h r c l := by
  unfold tabW
  have e := gather_cols_apply x3 tabIdx 0 h r c l
  revert e
  generalize Host.gather gather_S2x8x15x31_S64x64x1_S2x8x15x64x64_012_3_n_n_3_2_28151 x3 tabIdx = y
  intro e
  pointwise
  rw [e, lit1_at]
  unfold colBias
  by_cases hw : colS c ≤ l.val ∧ l.val < colS c + 16
  · rw [if_pos hw, dif_pos hw]
    have e2 : min (tabIdx (ix3 c l (0 : Fin 1))).toInt.toNat 30 = l.val + 15 - c.val := by
      rw [tabIdx_at, lit0_at c l hw]
    refine Eq.trans rfl (congrArg x3 ?_)
    exact congrArg (fun z => ix4 (0 : Fin 2) h r z) (Fin.ext e2)
  · rw [if_neg hw, dif_neg hw]
    show Ideal.ofBits FTy.f32 0xFF800000#32 = ⊥
    simp [Ideal.ofBits, Ideal.ieee]

theorem tabP_at (x3 : (⟨S2x8x15x31, .f32⟩ : BufTy).Contents (Elt Ideal)) (h : Fin 8) (r : Fin 14) (c : Fin 64) (l : Fin 128) :
    tabP x3 (ix5 (0 : Fin 2) h r c l)
      = colBias x3 h ⟨r.val + l.val / 64, by have := r.isLt; have := l.isLt; omega⟩ c ⟨l.val % 64, Nat.mod_lt _ (by decide)⟩ := by
  have hl := l.isLt
  have hr := r.isLt
  unfold tabP
  have e := tabW_at x3
  revert e
  generalize tabW x3 = y
  intro e
  pointwise
  by_cases h64 : l.val < 64
  · refine (dif_pos h64).trans ?_
    rw [← e]
    refine congrArg y ?_
    idx_ext
  · refine (dif_neg h64).trans ?_
    rw [← e]
    refine congrArg y ?_
    idx_ext

end Cert.KernelIdeal.Attn

end
-- ==== Proof.Blocks.lean ====
module

public import proofs.«01_k».proof.Proof.ItemValue
public import proofs.«01_k».proof.Proof.Offsets
public import proofs.«01_k».proof.Proof.Host
public import Idealize.ShloMosaic.Lib.Pipeline.ValueKit

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic

/-! The loads of a grid point, in the arguments. -/

variable (m : (ℓ : Loc nD τ sig) → Buf (Elt Ideal) ℓ)

/-- The batch of a grid point. -/
def tb (t : Fin grid0.N) : Fin 8 := ⟨(grid0.coords t 0).val, (grid0.coords t 0).isLt⟩
/-- The tile of a grid point. -/
def tg (t : Fin grid0.N) : Fin 17 := ⟨(grid0.coords t 1).val, (grid0.coords t 1).isLt⟩

/-- The head of half `h` of pair `j`. -/
def head (j : Fin 4) (h : Fin 2) : Fin 8 := ⟨2 * j.val + h.val, by have := j.isLt; have := h.isLt; omega⟩
/-- Entry `d` of a head. -/
def hl (hh : Fin 8) (d : Fin 64) : Fin 512 := ⟨64 * hh.val + d.val, by have := hh.isLt; have := d.isLt; omega⟩
/-- The token of query `x` of row `r` of tile `g`. -/
def qtok (g : Fin 17) (r : Fin 4) (x : Fin 64) : Fin 4352 :=
  ⟨256 * g.val + 64 * r.val + x.val, by have := g.isLt; have := r.isLt; have := x.isLt; omega⟩

theorem kPos_le (g : Fin 17) (r : Fin 4) : 64 * bandRow g.val + kPos g.val r.val + 512 ≤ 4096 ∧ kPos g.val r.val + 512 ≤ 704 := by
  revert g r
  decide +kernel

theorem bPos_le (g : Fin 17) (r : Fin 4) : bPos g.val r.val + 8 ≤ 15 := by
  revert g r
  decide +kernel

/-- The token of key `y` of row `r` of tile `g`. -/
def ktok (g : Fin 17) (r : Fin 4) (y : Fin 768) : Fin 4352 :=
  ⟨if y.val < 512 then 64 * bandRow g.val + kPos g.val r.val + y.val else 4096 + (y.val - 512), by
    have := (kPos_le g r).1; have := y.isLt; split <;> omega⟩

/-- The row of the bias table for band key `y` of row `r` of tile `g`. -/
def brow (g : Fin 17) (r : Fin 4) (y : Fin 512) : Fin 15 :=
  ⟨bPos g.val r.val + y.val / 64, by have := bPos_le g r; have := y.isLt; omega⟩

theorem blk0_at (c : Dev nD) (t : Fin grid0.N) (r : Fin 256) (e : Fin 512) (r' : Fin 4352) (hr : r'.val = 256 * (tg t).val + r.val) :
    (iblk m c 0 t : Vec Ideal S1x256x512 .bf16) (ix3 0 r e) = a0 m c (ix3 (tb t) r' e) * Ideal.ofBits .f32 0x3E000000#32 := by
  rw [← V_q]
  show V m c main_v2 (((cfg0.win 0).blk t).view.emb (ix3 0 r e)) = _
  refine congrArg (V m c main_v2) ?_
  have e0 := idx0_eq t 0
  have e1 := idx0_eq t 1
  have e2 := idx0_eq t 2
  funext a
  apply Fin.ext
  match a with
  | ⟨0, _⟩ => show win0_0.index t 0 * 1 + 1 * 0 = (grid0.coords t 0).val; rw [e0]; show (grid0.coords t 0).val * 1 + 1 * 0 = _; omega
  | ⟨1, _⟩ => show win0_0.index t 1 * 256 + 1 * r.val = r'.val; rw [e1, hr]; show (grid0.coords t 1).val * 256 + 1 * r.val = 256 * (grid0.coords t 1).val + r.val; omega
  | ⟨2, _⟩ => show win0_0.index t 2 * 512 + 1 * e.val = e.val; rw [e2]; show 0 * 512 + 1 * e.val = e.val; omega

theorem blk1_at (c : Dev nD) (t : Fin grid0.N) (r : Fin 704) (e : Fin 512) (r' : Fin 4352) (hr : r'.val = 64 * bandRow (tg t).val + r.val) :
    (iblk m c 1 t : Vec Ideal S1x704x512 .bf16) (ix3 0 r e) = a1 m c (ix3 (tb t) r' e) := by
  rw [← V_k]
  show V m c main_v3 (((cfg0.win 1).blk t).view.emb (ix3 0 r e)) = _
  refine congrArg (V m c main_v3) ?_
  have e0 := idx1_eq t 0
  have e1 := idx1_eq t 1
  have e2 := idx1_eq t 2
  funext a
  apply Fin.ext
  match a with
  | ⟨0, _⟩ => show win0_1.index t 0 + 1 * 0 = (grid0.coords t 0).val; rw [e0]; show (grid0.coords t 0).val + 1 * 0 = _; omega
  | ⟨1, _⟩ => show win0_1.index t 1 + 1 * r.val = r'.val; rw [e1, hr]; show 64 * bandRow (grid0.coords t 1).val + 1 * r.val = 64 * bandRow (grid0.coords t 1).val + r.val; omega
  | ⟨2, _⟩ => show win0_1.index t 2 + 1 * e.val = e.val; rw [e2]; show 0 + 1 * e.val = e.val; omega

theorem blk2_at (c : Dev nD) (t : Fin grid0.N) (r : Fin 704) (e : Fin 512) (r' : Fin 4352) (hr : r'.val = 64 * bandRow (tg t).val + r.val) :
    (iblk m c 2 t : Vec Ideal S1x704x512 .bf16) (ix3 0 r e) = a2 m c (ix3 (tb t) r' e) := by
  rw [← V_v]
  show V m c main_v4 (((cfg0.win 2).blk t).view.emb (ix3 0 r e)) = _
  refine congrArg (V m c main_v4) ?_
  have e0 := idx2_eq t 0
  have e1 := idx2_eq t 1
  have e2 := idx2_eq t 2
  funext a
  apply Fin.ext
  match a with
  | ⟨0, _⟩ => show win0_2.index t 0 + 1 * 0 = (grid0.coords t 0).val; rw [e0]; show (grid0.coords t 0).val + 1 * 0 = _; omega
  | ⟨1, _⟩ => show win0_2.index t 1 + 1 * r.val = r'.val; rw [e1, hr]; show 64 * bandRow (grid0.coords t 1).val + 1 * r.val = 64 * bandRow (grid0.coords t 1).val + r.val; omega
  | ⟨2, _⟩ => show win0_2.index t 2 + 1 * e.val = e.val; rw [e2]; show 0 + 1 * e.val = e.val; omega

theorem blk3_at (c : Dev nD) (t : Fin grid0.N) (r : Fin 256) (e : Fin 512) (r' : Fin 4352) (hr : r'.val = 4096 + r.val) :
    (iblk m c 3 t : Vec Ideal S1x256x512 .bf16) (ix3 0 r e) = a1 m c (ix3 (tb t) r' e) := by
  rw [← V_k]
  show V m c main_v3 (((cfg0.win 3).blk t).view.emb (ix3 0 r e)) = _
  refine congrArg (V m c main_v3) ?_
  have e0 := idx3_eq t 0
  have e1 := idx3_eq t 1
  have e2 := idx3_eq t 2
  funext a
  apply Fin.ext
  match a with
  | ⟨0, _⟩ => show win0_3.index t 0 * 1 + 1 * 0 = (grid0.coords t 0).val; rw [e0]; show (grid0.coords t 0).val * 1 + 1 * 0 = _; omega
  | ⟨1, _⟩ => show win0_3.index t 1 * 256 + 1 * r.val = r'.val; rw [e1, hr]; show 16 * 256 + 1 * r.val = 4096 + r.val; omega
  | ⟨2, _⟩ => show win0_3.index t 2 * 512 + 1 * e.val = e.val; rw [e2]; show 0 * 512 + 1 * e.val = e.val; omega

theorem blk4_at (c : Dev nD) (t : Fin grid0.N) (r : Fin 256) (e : Fin 512) (r' : Fin 4352) (hr : r'.val = 4096 + r.val) :
    (iblk m c 4 t : Vec Ideal S1x256x512 .bf16) (ix3 0 r e) = a2 m c (ix3 (tb t) r' e) := by
  rw [← V_v]
  show V m c main_v4 (((cfg0.win 4).blk t).view.emb (ix3 0 r e)) = _
  refine congrArg (V m c main_v4) ?_
  have e0 := idx4_eq t 0
  have e1 := idx4_eq t 1
  have e2 := idx4_eq t 2
  funext a
  apply Fin.ext
  match a with
  | ⟨0, _⟩ => show win0_4.index t 0 * 1 + 1 * 0 = (grid0.coords t 0).val; rw [e0]; show (grid0.coords t 0).val * 1 + 1 * 0 = _; omega
  | ⟨1, _⟩ => show win0_4.index t 1 * 256 + 1 * r.val = r'.val; rw [e1, hr]; show 16 * 256 + 1 * r.val = 4096 + r.val; omega
  | ⟨2, _⟩ => show win0_4.index t 2 * 512 + 1 * e.val = e.val; rw [e2]; show 0 * 512 + 1 * e.val = e.val; omega

theorem blk5_at (c : Dev nD) (t : Fin grid0.N) (h : Fin 8) (r : Fin 14) (x : Fin 64) (l : Fin 128) :
    (iblk m c 5 t : Vec Ideal S1x8x14x64x128 .f32) (ix5 0 h r x l) = tabP (a3 m c) (ix5 0 h r x l) := by
  rw [← V_b]
  show V m c main_v13 (((cfg0.win 5).blk t).view.emb (ix5 0 h r x l)) = _
  refine congrArg (V m c main_v13) ?_
  have e0 := idx5_eq t 0
  have e1 := idx5_eq t 1
  have e2 := idx5_eq t 2
  have e3 := idx5_eq t 3
  have e4 := idx5_eq t 4
  funext a
  apply Fin.ext
  match a with
  | ⟨0, _⟩ => show win0_5.index t 0 * 1 + 1 * 0 = 0; rw [e0]
  | ⟨1, _⟩ => show win0_5.index t 1 * 8 + 1 * h.val = h.val; rw [e1]; omega
  | ⟨2, _⟩ => show win0_5.index t 2 * 14 + 1 * r.val = r.val; rw [e2]; omega
  | ⟨3, _⟩ => show win0_5.index t 3 * 64 + 1 * x.val = x.val; rw [e3]; omega
  | ⟨4, _⟩ => show win0_5.index t 4 * 128 + 1 * l.val = l.val; rw [e4]; omega

/-- The loads of grid point `t`. -/
def lds (c : Dev nD) (t : Fin grid0.N) : Loads :=
  loads (grid0.coords t) (iblk m c 0 t) (iblk m c 1 t) (iblk m c 2 t) (iblk m c 3 t) (iblk m c 4 t) (iblk m c 5 t)

theorem q_at (c : Dev nD) (t : Fin grid0.N) (r j : Fin 4) (x : Fin 64) (h : Fin 2) (d : Fin 64) :
    (lds m c t).q r j (ix3 0 x (hlane h d))
      = a0 m c (ix3 (tb t) (qtok (tg t) r x) (hl (head j h) d)) * Ideal.ofBits .f32 0x3E000000#32 := by
  have := r.isLt; have := j.isLt; have := x.isLt; have := h.isLt; have := d.isLt
  refine Eq.trans ?_ (blk0_at m c t ⟨64 * r.val + x.val, by omega⟩ (hl (head j h) d) (qtok (tg t) r x) (by
    show 256 * (tg t).val + 64 * r.val + x.val = 256 * (tg t).val + (64 * r.val + x.val); omega))
  refine View.ld_unit_apply_of (iblk m c 0 t : Vec Ideal S1x256x512 .bf16) _ _ (inb_q r j) _ _ ?_
  intro a
  match a with
  | ⟨0, _⟩ => rfl
  | ⟨1, _⟩ => rfl
  | ⟨2, _⟩ => show 64 * (2 * j.val + h.val) + d.val = 128 * j.val + (64 * h.val + d.val); omega

theorem key_at (c : Dev nD) (t : Fin grid0.N) (r j : Fin 4) (y : Fin 768) (h : Fin 2) (d : Fin 64) :
    keyA (lds m c t) r j y (hlane h d) = a1 m c (ix3 (tb t) (ktok (tg t) r y) (hl (head j h) d)) := by
  have := r.isLt; have := j.isLt; have := y.isLt; have := h.isLt; have := d.isLt
  have hk := (kPos_le (tg t) r).2
  unfold keyA
  by_cases hy : y.val < 512
  · rw [dif_pos hy]
    refine Eq.trans ?_ (blk1_at m c t ⟨kPos (tg t).val r.val + y.val, by omega⟩ (hl (head j h) d) (ktok (tg t) r y) (by
      show (if y.val < 512 then _ else _) = _; rw [if_pos hy]; show _ = 64 * bandRow (tg t).val + (kPos (tg t).val r.val + y.val); omega))
    refine View.ld_unit_apply_of (iblk m c 1 t : Vec Ideal S1x704x512 .bf16) _ _ (kOffW_inb (grid0.coords t) r j) _ _ ?_
    intro a
    rw [kOff_eq]
    match a with
    | ⟨0, _⟩ => rfl
    | ⟨1, _⟩ => rfl
    | ⟨2, _⟩ => show 64 * (2 * j.val + h.val) + d.val = 128 * j.val + (64 * h.val + d.val); omega
  · rw [dif_neg hy]
    refine Eq.trans ?_ (blk3_at m c t ⟨y.val - 512, by omega⟩ (hl (head j h) d) (ktok (tg t) r y) (by
      show (if y.val < 512 then _ else _) = _; rw [if_neg hy]))
    refine View.ld_unit_apply_of (iblk m c 3 t : Vec Ideal S1x256x512 .bf16) _ _ (inb_c j) _ _ ?_
    intro a
    match a with
    | ⟨0, _⟩ => rfl
    | ⟨1, _⟩ => show y.val - 512 = 0 + (y.val - 512); omega
    | ⟨2, _⟩ => show 64 * (2 * j.val + h.val) + d.val = 128 * j.val + (64 * h.val + d.val); omega

theorem val_at (c : Dev nD) (t : Fin grid0.N) (r j : Fin 4) (y : Fin 768) (h : Fin 2) (d : Fin 64) :
    valA (lds m c t) r j y (hlane h d) = a2 m c (ix3 (tb t) (ktok (tg t) r y) (hl (head j h) d)) := by
  have := r.isLt; have := j.isLt; have := y.isLt; have := h.isLt; have := d.isLt
  have hk := (kPos_le (tg t) r).2
  unfold valA
  by_cases hy : y.val < 512
  · rw [dif_pos hy]
    refine Eq.trans ?_ (blk2_at m c t ⟨kPos (tg t).val r.val + y.val, by omega⟩ (hl (head j h) d) (ktok (tg t) r y) (by
      show (if y.val < 512 then _ else _) = _; rw [if_pos hy]; show _ = 64 * bandRow (tg t).val + (kPos (tg t).val r.val + y.val); omega))
    refine View.ld_unit_apply_of (iblk m c 2 t : Vec Ideal S1x704x512 .bf16) _ _ (kOffW_inb (grid0.coords t) r j) _ _ ?_
    intro a
    rw [kOff_eq]
    match a with
    | ⟨0, _⟩ => rfl
    | ⟨1, _⟩ => rfl
    | ⟨2, _⟩ => show 64 * (2 * j.val + h.val) + d.val = 128 * j.val + (64 * h.val + d.val); omega
  · rw [dif_neg hy]
    refine Eq.trans ?_ (blk4_at m c t ⟨y.val - 512, by omega⟩ (hl (head j h) d) (ktok (tg t) r y) (by
      show (if y.val < 512 then _ else _) = _; rw [if_neg hy]))
    refine View.ld_unit_apply_of (iblk m c 4 t : Vec Ideal S1x256x512 .bf16) _ _ (inb_c j) _ _ ?_
    intro a
    match a with
    | ⟨0, _⟩ => rfl
    | ⟨1, _⟩ => show y.val - 512 = 0 + (y.val - 512); omega
    | ⟨2, _⟩ => show 64 * (2 * j.val + h.val) + d.val = 128 * j.val + (64 * h.val + d.val); omega

theorem bias_at (c : Dev nD) (t : Fin grid0.N) (r j : Fin 4) (h : Fin 2) (x : Fin 64) (y : Fin 512) :
    biasA (lds m c t) r j h x y
      = colBias (a3 m c) (head j h) (brow (tg t) r y) x ⟨y.val % 64, Nat.mod_lt _ (by decide)⟩ := by
  have := r.isLt; have := j.isLt; have := x.isLt; have := h.isLt; have hy := y.isLt
  have hb := bPos_le (tg t) r
  have e := (blk5_at m c t (head j h) ⟨bPos (tg t).val r.val + 2 * (y.val / 128), by omega⟩ x ⟨y.val % 128, Nat.mod_lt _ (by decide)⟩).trans
    (tabP_at (a3 m c) (head j h) _ x _)
  unfold biasA
  refine Eq.trans ?_ (e.trans ?_)
  · refine View.ld_unit_apply_of (iblk m c 5 t : Vec Ideal S1x8x14x64x128 .f32) _ _
      (bOffW_inb (grid0.coords t) r ⟨y.val / 128, by omega⟩ j h) _ _ ?_
    intro a
    rw [bOff_eq]
    match a with
    | ⟨0, _⟩ => rfl
    | ⟨1, _⟩ => rfl
    | ⟨2, _⟩ => rfl
    | ⟨3, _⟩ => show x.val = 0 + x.val; omega
    | ⟨4, _⟩ => show y.val % 128 = 0 + y.val % 128; omega
  · have e1 : ∀ p q, (⟨bPos (tg t).val r.val + 2 * (y.val / 128) + y.val % 128 / 64, p⟩ : Fin 15) = ⟨bPos (tg t).val r.val + y.val / 64, q⟩ :=
      fun p q => Fin.ext (by show bPos (tg t).val r.val + 2 * (y.val / 128) + y.val % 128 / 64 = bPos (tg t).val r.val + y.val / 64; omega)
    have e2 : ∀ p q, (⟨y.val % 128 % 64, p⟩ : Fin 64) = ⟨y.val % 64, q⟩ :=
      fun p q => Fin.ext (by show y.val % 128 % 64 = y.val % 64; omega)
    exact congrArg₂ (fun u v => colBias (a3 m c) (head j h) u x v) (e1 _ _) (e2 _ _)

/-- The product of a scaled query with a key. -/
def sdot (c : Dev nD) (b hh : Fin 8) (t u : Fin 4352) : EReal :=
  ∑ d : Fin 64, (a0 m c (ix3 b t (hl hh d)) * Ideal.ofBits .f32 0x3E000000#32) * a1 m c (ix3 b u (hl hh d))

theorem prods_at (c : Dev nD) (t : Fin grid0.N) (r j : Fin 4) (h : Fin 2) (x : Fin 64) (y : Fin 768) :
    prods (lds m c t) r j (ix2 (hrow h x) y) = sdot m c (tb t) (head j h) (qtok (tg t) r x) (ktok (tg t) r y) := by
  rw [prods_apply]
  unfold sdot
  exact Finset.sum_congr rfl fun d _ => by rw [q_at, key_at]

/-- The score of a band key. -/
theorem score_band (c : Dev nD) (t : Fin grid0.N) (r j : Fin 4) (h : Fin 2) (x : Fin 64) (y : Fin 768) (hy : y.val < 512) :
    score (lds m c t) r j (hrow h x) y
      = sdot m c (tb t) (head j h) (qtok (tg t) r x) (ktok (tg t) r y)
        + (colBias (a3 m c) (head j h) (brow (tg t) r ⟨y.val, hy⟩) x ⟨y.val % 64, Nat.mod_lt _ (by decide)⟩
          + if 64 ≤ 4 * (tg t).val + r.val then ⊥ else 0) := by
  unfold score
  rw [dif_pos hy, locS_apply, bias_at, prods_at]
  refine congrArg (fun z : EReal => _ + (_ + z)) ?_
  exact pen_eq t r

/-- The score of a context key. -/
theorem score_ctx (c : Dev nD) (t : Fin grid0.N) (r j : Fin 4) (h : Fin 2) (x : Fin 64) (y : Fin 768) (hy : ¬ y.val < 512) :
    score (lds m c t) r j (hrow h x) y = sdot m c (tb t) (head j h) (qtok (tg t) r x) (ktok (tg t) r y) := by
  have := y.isLt
  unfold score
  rw [dif_neg hy, ctxS_apply, prods_at]
  refine congrArg (fun z => sdot m c (tb t) (head j h) (qtok (tg t) r x) (ktok (tg t) r z)) (Fin.ext ?_)
  show 512 + (y.val - 512) = y.val
  omega

/-- What the body leaves at an index of its block. -/
theorem canon_oList (v : View sig .tc .vmem S384x768 .f32) (w : View sig .tc .vmem S384x768 .bf16) (A : Loads) (n : Nat) (x : Fin 64) (l : Fin 128) :
    ∀ N, n ≤ N → N < 16 → View.canon (oList v w A N)
      (ix3 (0 : Fin 1) (⟨64 * (ir n).val + x.val, by have := (ir n).isLt; have := x.isLt; omega⟩ : Fin 256)
        (⟨128 * (ij n).val + l.val, by have := (ij n).isLt; have := l.isLt; omega⟩ : Fin 512))
      = oItem v w A n (ix3 0 x l) := by
  have hx := x.isLt
  have hl' := l.isLt
  have hself : ∀ L, View.canon ((⟨Rect.unit (s := S1x256x512) ![0, 64 * (ir n).val, 128 * (ij n).val] S1x64x128.size (inb_out n), oItem v w A n⟩ :
      View.Piece (Elt Ideal) S1x256x512 .bf16) :: L)
      (ix3 (0 : Fin 1) (⟨64 * (ir n).val + x.val, by have := (ir n).isLt; have := x.isLt; omega⟩ : Fin 256)
        (⟨128 * (ij n).val + l.val, by have := (ij n).isLt; have := l.isLt; omega⟩ : Fin 512))
      = oItem v w A n (ix3 0 x l) := by
    intro L
    have e : (Rect.unit (s := S1x256x512) ![0, 64 * (ir n).val, 128 * (ij n).val] S1x64x128.size (inb_out n)).emb (ix3 0 x l)
        = ix3 (0 : Fin 1) (⟨64 * (ir n).val + x.val, by have := (ir n).isLt; have := x.isLt; omega⟩ : Fin 256)
        (⟨128 * (ij n).val + l.val, by have := (ij n).isLt; have := l.isLt; omega⟩ : Fin 512) := by
      funext a
      apply Fin.ext
      match a with
      | ⟨0, _⟩ => rfl
      | ⟨1, _⟩ => show 64 * (ir n).val + 1 * x.val = 64 * (ir n).val + x.val; omega
      | ⟨2, _⟩ => show 128 * (ij n).val + 1 * l.val = 128 * (ij n).val + l.val; omega
    rw [← e]
    exact View.canon_cons_emb (Val := Elt Ideal) _ _ _ _
  intro N
  induction N with
  | zero =>
    intro h0 _
    obtain rfl : n = 0 := by omega
    exact hself []
  | succ N ih =>
    intro hn hN
    by_cases h : n = N + 1
    · subst h
      exact hself _
    · refine Eq.trans ?_ (ih (by omega) (by omega))
      show View.canon (_ :: oList v w A N) _ = _
      refine View.canon_cons_of_not_mem _ _ ?_
      intro hm
      have h1 := (Rect.mem_set_unit (inb := inb_out (N + 1))).1 hm 1
      have h2 := (Rect.mem_set_unit (inb := inb_out (N + 1))).1 hm 2
      have i1 : (ir n).val = n / 4 % 4 := rfl
      have i2 : (ij n).val = n % 4 := rfl
      have h1' : 64 * ((N + 1) / 4 % 4) ≤ 64 * (n / 4 % 4) + x.val ∧ 64 * (n / 4 % 4) + x.val < 64 * ((N + 1) / 4 % 4) + 64 := h1
      have h2' : 128 * ((N + 1) % 4) ≤ 128 * (n % 4) + l.val ∧ 128 * (n % 4) + l.val < 128 * ((N + 1) % 4) + 128 := h2
      omega

end Cert.KernelIdeal.Attn

end
-- ==== Proof.Pieces.lean ====
module

public import proofs.«01_k».proof.Proof.Items

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic

/-! The named values of the body's run are the items' values: its stores into the scratch buffers, what it reads back,
and its stores into the output. -/

section Words

variable (c : Dev nD) (i : grid0.Coords) (arg2 : Memref sig .tc .vmem S1x256x512 .bf16) (harg2 : arg2.IsWhole) (arg3 : Memref sig .tc .vmem S1x704x512 .bf16) (harg3 : arg3.IsWhole) (arg4 : Memref sig .tc .vmem S1x704x512 .bf16) (harg4 : arg4.IsWhole) (arg5 : Memref sig .tc .vmem S1x256x512 .bf16) (harg5 : arg5.IsWhole) (arg6 : Memref sig .tc .vmem S1x256x512 .bf16) (harg6 : arg6.IsWhole) (arg7 : Memref sig .tc .vmem S1x8x14x64x128 .f32) (harg7 : arg7.IsWhole) (arg8 : Memref sig .tc .vmem S1x256x512 .bf16) (harg8 : arg8.IsWhole) (arg9 : Memref sig .tc .vmem S384x768 .f32) (harg9 : arg9.IsWhole) (arg10 : Memref sig .tc .vmem S384x768 .bf16) (harg10 : arg10.IsWhole)
    (x0 : Vec Ideal S1x256x512 .bf16) (x1 : Vec Ideal S1x704x512 .bf16) (x2 : Vec Ideal S1x704x512 .bf16) (x3 : Vec Ideal S1x256x512 .bf16) (x4 : Vec Ideal S1x256x512 .bf16) (x5 : Vec Ideal S1x8x14x64x128 .f32)

theorem loc0 : (kernelRun0_A.sl.v120 (F := Ideal) c i arg2 harg2 arg3 harg3 arg5 harg5 arg7 harg7 x0 x1 x3 x5) = locS (loadsM i arg2 harg2 arg3 harg3 arg4 harg4 arg5 harg5 arg6 harg6 arg7 harg7 x0 x1 x2 x3 x4 x5) (ir 0) (ij 0) := rfl
theorem ctx0 : (kernelRun0_A.sl.v124 (F := Ideal) c i arg2 harg2 arg3 harg3 arg5 harg5 x0 x1 x3) = ctxS (loadsM i arg2 harg2 arg3 harg3 arg4 harg4 arg5 harg5 arg6 harg6 arg7 harg7 x0 x1 x2 x3 x4 x5) (ir 0) (ij 0) := rfl
theorem loc1 : (kernelRun0_A.sl.v181 (F := Ideal) c i arg2 harg2 arg3 harg3 arg5 harg5 arg7 harg7 x0 x1 x3 x5) = locS (loadsM i arg2 harg2 arg3 harg3 arg4 harg4 arg5 harg5 arg6 harg6 arg7 harg7 x0 x1 x2 x3 x4 x5) (ir 1) (ij 1) := rfl
theorem ctx1 : (kernelRun0_A.sl.v185 (F := Ideal) c i arg2 harg2 arg3 harg3 arg5 harg5 x0 x1 x3) = ctxS (loadsM i arg2 harg2 arg3 harg3 arg4 harg4 arg5 harg5 arg6 harg6 arg7 harg7 x0 x1 x2 x3 x4 x5) (ir 1) (ij 1) := rfl
theorem loc2 : (kernelRun0_A.sl.v256 (F := Ideal) c i arg2 harg2 arg3 harg3 arg5 harg5 arg7 harg7 x0 x1 x3 x5) = locS (loadsM i arg2 harg2 arg3 harg3 arg4 harg4 arg5 harg5 arg6 harg6 arg7 harg7 x0 x1 x2 x3 x4 x5) (ir 2) (ij 2) := rfl
theorem ctx2 : (kernelRun0_A.sl.v260 (F := Ideal) c i arg2 harg2 arg3 harg3 arg5 harg5 x0 x1 x3) = ctxS (loadsM i arg2 harg2 arg3 harg3 arg4 harg4 arg5 harg5 arg6 harg6 arg7 harg7 x0 x1 x2 x3 x4 x5) (ir 2) (ij 2) := rfl
theorem loc3 : (kernelRun0_A.sl.v348 (F := Ideal) c i arg2 harg2 arg3 harg3 arg5 harg5 arg7 harg7 x0 x1 x3 x5) = locS (loadsM i arg2 harg2 arg3 harg3 arg4 harg4 arg5 harg5 arg6 harg6 arg7 harg7 x0 x1 x2 x3 x4 x5) (ir 3) (ij 3) := rfl
theorem ctx3 : (kernelRun0_A.sl.v352 (F := Ideal) c i arg2 harg2 arg3 harg3 arg5 harg5 x0 x1 x3) = ctxS (loadsM i arg2 harg2 arg3 harg3 arg4 harg4 arg5 harg5 arg6 harg6 arg7 harg7 x0 x1 x2 x3 x4 x5) (ir 3) (ij 3) := rfl
theorem loc4 : (kernelRun0_A.sl.v440 (F := Ideal) c i arg2 harg2 arg3 harg3 arg5 harg5 arg7 harg7 x0 x1 x3 x5) = locS (loadsM i arg2 harg2 arg3 harg3 arg4 harg4 arg5 harg5 arg6 harg6 arg7 harg7 x0 x1 x2 x3 x4 x5) (ir 4) (ij 4) := rfl
theorem ctx4 : (kernelRun0_A.sl.v444 (F := Ideal) c i arg2 harg2 arg3 harg3 arg5 harg5 x0 x1 x3) = ctxS (loadsM i arg2 harg2 arg3 harg3 arg4 harg4 arg5 harg5 arg6 harg6 arg7 harg7 x0 x1 x2 x3 x4 x5) (ir 4) (ij 4) := rfl
theorem loc5 : (kernelRun0_A.sl.v532 (F := Ideal) c i arg2 harg2 arg3 harg3 arg5 harg5 arg7 harg7 x0 x1 x3 x5) = locS (loadsM i arg2 harg2 arg3 harg3 arg4 harg4 arg5 harg5 arg6 harg6 arg7 harg7 x0 x1 x2 x3 x4 x5) (ir 5) (ij 5) := rfl
theorem ctx5 : (kernelRun0_A.sl.v536 (F := Ideal) c i arg2 harg2 arg3 harg3 arg5 harg5 x0 x1 x3) = ctxS (loadsM i arg2 harg2 arg3 harg3 arg4 harg4 arg5 harg5 arg6 harg6 arg7 harg7 x0 x1 x2 x3 x4 x5) (ir 5) (ij 5) := rfl
theorem loc6 : (kernelRun0_A.sl.v624 (F := Ideal) c i arg2 harg2 arg3 harg3 arg5 harg5 arg7 harg7 x0 x1 x3 x5) = locS (loadsM i arg2 harg2 arg3 harg3 arg4 harg4 arg5 harg5 arg6 harg6 arg7 harg7 x0 x1 x2 x3 x4 x5) (ir 6) (ij 6) := rfl
theorem ctx6 : (kernelRun0_A.sl.v628 (F := Ideal) c i arg2 harg2 arg3 harg3 arg5 harg5 x0 x1 x3) = ctxS (loadsM i arg2 harg2 arg3 harg3 arg4 harg4 arg5 harg5 arg6 harg6 arg7 harg7 x0 x1 x2 x3 x4 x5) (ir 6) (ij 6) := rfl
theorem loc7 : (kernelRun0_A.sl.v716 (F := Ideal) c i arg2 harg2 arg3 harg3 arg5 harg5 arg7 harg7 x0 x1 x3 x5) = locS (loadsM i arg2 harg2 arg3 harg3 arg4 harg4 arg5 harg5 arg6 harg6 arg7 harg7 x0 x1 x2 x3 x4 x5) (ir 7) (ij 7) := rfl
theorem ctx7 : (kernelRun0_A.sl.v720 (F := Ideal) c i arg2 harg2 arg3 harg3 arg5 harg5 x0 x1 x3) = ctxS (loadsM i arg2 harg2 arg3 harg3 arg4 harg4 arg5 harg5 arg6 harg6 arg7 harg7 x0 x1 x2 x3 x4 x5) (ir 7) (ij 7) := rfl
theorem loc8 : (kernelRun0_A.sl.v808 (F := Ideal) c i arg2 harg2 arg3 harg3 arg5 harg5 arg7 harg7 x0 x1 x3 x5) = locS (loadsM i arg2 harg2 arg3 harg3 arg4 harg4 arg5 harg5 arg6 harg6 arg7 harg7 x0 x1 x2 x3 x4 x5) (ir 8) (ij 8) := rfl
theorem ctx8 : (kernelRun0_A.sl.v812 (F := Ideal) c i arg2 harg2 arg3 harg3 arg5 harg5 x0 x1 x3) = ctxS (loadsM i arg2 harg2 arg3 harg3 arg4 harg4 arg5 harg5 arg6 harg6 arg7 harg7 x0 x1 x2 x3 x4 x5) (ir 8) (ij 8) := rfl
theorem loc9 : (kernelRun0_A.sl.v900 (F := Ideal) c i arg2 harg2 arg3 harg3 arg5 harg5 arg7 harg7 x0 x1 x3 x5) = locS (loadsM i arg2 harg2 arg3 harg3 arg4 harg4 arg5 harg5 arg6 harg6 arg7 harg7 x0 x1 x2 x3 x4 x5) (ir 9) (ij 9) := rfl
theorem ctx9 : (kernelRun0_A.sl.v904 (F := Ideal) c i arg2 harg2 arg3 harg3 arg5 harg5 x0 x1 x3) = ctxS (loadsM i arg2 harg2 arg3 harg3 arg4 harg4 arg5 harg5 arg6 harg6 arg7 harg7 x0 x1 x2 x3 x4 x5) (ir 9) (ij 9) := rfl
theorem loc10 : (kernelRun0_A.sl.v992 (F := Ideal) c i arg2 harg2 arg3 harg3 arg5 harg5 arg7 harg7 x0 x1 x3 x5) = locS (loadsM i arg2 harg2 arg3 harg3 arg4 harg4 arg5 harg5 arg6 harg6 arg7 harg7 x0 x1 x2 x3 x4 x5) (ir 10) (ij 10) := rfl
theorem ctx10 : (kernelRun0_A.sl.v996 (F := Ideal) c i arg2 harg2 arg3 harg3 arg5 harg5 x0 x1 x3) = ctxS (loadsM i arg2 harg2 arg3 harg3 arg4 harg4 arg5 harg5 arg6 harg6 arg7 harg7 x0 x1 x2 x3 x4 x5) (ir 10) (ij 10) := rfl
theorem loc11 : (kernelRun0_A.sl.v1084 (F := Ideal) c i arg2 harg2 arg3 harg3 arg5 harg5 arg7 harg7 x0 x1 x3 x5) = locS (loadsM i arg2 harg2 arg3 harg3 arg4 harg4 arg5 harg5 arg6 harg6 arg7 harg7 x0 x1 x2 x3 x4 x5) (ir 11) (ij 11) := rfl
theorem ctx11 : (kernelRun0_A.sl.v1088 (F := Ideal) c i arg2 harg2 arg3 harg3 arg5 harg5 x0 x1 x3) = ctxS (loadsM i arg2 harg2 arg3 harg3 arg4 harg4 arg5 harg5 arg6 harg6 arg7 harg7 x0 x1 x2 x3 x4 x5) (ir 11) (ij 11) := rfl
theorem loc12 : (kernelRun0_A.sl.v1176 (F := Ideal) c i arg2 harg2 arg3 harg3 arg5 harg5 arg7 harg7 x0 x1 x3 x5) = locS (loadsM i arg2 harg2 arg3 harg3 arg4 harg4 arg5 harg5 arg6 harg6 arg7 harg7 x0 x1 x2 x3 x4 x5) (ir 12) (ij 12) := rfl
theorem ctx12 : (kernelRun0_A.sl.v1180 (F := Ideal) c i arg2 harg2 arg3 harg3 arg5 harg5 x0 x1 x3) = ctxS (loadsM i arg2 harg2 arg3 harg3 arg4 harg4 arg5 harg5 arg6 harg6 arg7 harg7 x0 x1 x2 x3 x4 x5) (ir 12) (ij 12) := rfl
theorem loc13 : (kernelRun0_A.sl.v1268 (F := Ideal) c i arg2 harg2 arg3 harg3 arg5 harg5 arg7 harg7 x0 x1 x3 x5) = locS (loadsM i arg2 harg2 arg3 harg3 arg4 harg4 arg5 harg5 arg6 harg6 arg7 harg7 x0 x1 x2 x3 x4 x5) (ir 13) (ij 13) := rfl
theorem ctx13 : (kernelRun0_A.sl.v1272 (F := Ideal) c i arg2 harg2 arg3 harg3 arg5 harg5 x0 x1 x3) = ctxS (loadsM i arg2 harg2 arg3 harg3 arg4 harg4 arg5 harg5 arg6 harg6 arg7 harg7 x0 x1 x2 x3 x4 x5) (ir 13) (ij 13) := rfl
theorem loc14 : (kernelRun0_A.sl.v1360 (F := Ideal) c i arg2 harg2 arg3 harg3 arg5 harg5 arg7 harg7 x0 x1 x3 x5) = locS (loadsM i arg2 harg2 arg3 harg3 arg4 harg4 arg5 harg5 arg6 harg6 arg7 harg7 x0 x1 x2 x3 x4 x5) (ir 14) (ij 14) := rfl
theorem ctx14 : (kernelRun0_A.sl.v1364 (F := Ideal) c i arg2 harg2 arg3 harg3 arg5 harg5 x0 x1 x3) = ctxS (loadsM i arg2 harg2 arg3 harg3 arg4 harg4 arg5 harg5 arg6 harg6 arg7 harg7 x0 x1 x2 x3 x4 x5) (ir 14) (ij 14) := rfl
theorem loc15 : (kernelRun0_A.sl.v1452 (F := Ideal) c i arg2 harg2 arg3 harg3 arg5 harg5 arg7 harg7 x0 x1 x3 x5) = locS (loadsM i arg2 harg2 arg3 harg3 arg4 harg4 arg5 harg5 arg6 harg6 arg7 harg7 x0 x1 x2 x3 x4 x5) (ir 15) (ij 15) := rfl
theorem ctx15 : (kernelRun0_A.sl.v1456 (F := Ideal) c i arg2 harg2 arg3 harg3 arg5 harg5 x0 x1 x3) = ctxS (loadsM i arg2 harg2 arg3 harg3 arg4 harg4 arg5 harg5 arg6 harg6 arg7 harg7 x0 x1 x2 x3 x4 x5) (ir 15) (ij 15) := rfl
theorem hs0_4 : (kernelRun0_A.sl.HS0_4 (F := Ideal) c i arg2 harg2 arg3 harg3 arg5 harg5 arg7 harg7 x0 x1 x3 x5) = sList (loadsM i arg2 harg2 arg3 harg3 arg4 harg4 arg5 harg5 arg6 harg6 arg7 harg7 x0 x1 x2 x3 x4 x5) 1 := by
  unfold kernelRun0_A.sl.HS0_4
  rw [ctx1 c i arg2 harg2 arg3 harg3 arg4 harg4 arg5 harg5 arg6 harg6 arg7 harg7 x0 x1 x2 x3 x4 x5, loc1 c i arg2 harg2 arg3 harg3 arg4 harg4 arg5 harg5 arg6 harg6 arg7 harg7 x0 x1 x2 x3 x4 x5, ctx0 c i arg2 harg2 arg3 harg3 arg4 harg4 arg5 harg5 arg6 harg6 arg7 harg7 x0 x1 x2 x3 x4 x5, loc0 c i arg2 harg2 arg3 harg3 arg4 harg4 arg5 harg5 arg6 harg6 arg7 harg7 x0 x1 x2 x3 x4 x5]
  rfl
theorem hs0_6 : (kernelRun0_A.sl.HS0_6 (F := Ideal) c i arg2 harg2 arg3 harg3 arg5 harg5 arg7 harg7 x0 x1 x3 x5) = sList (loadsM i arg2 harg2 arg3 harg3 arg4 harg4 arg5 harg5 arg6 harg6 arg7 harg7 x0 x1 x2 x3 x4 x5) 2 := by
  unfold kernelRun0_A.sl.HS0_6
  rw [ctx2 c i arg2 harg2 arg3 harg3 arg4 harg4 arg5 harg5 arg6 harg6 arg7 harg7 x0 x1 x2 x3 x4 x5, loc2 c i arg2 harg2 arg3 harg3 arg4 harg4 arg5 harg5 arg6 harg6 arg7 harg7 x0 x1 x2 x3 x4 x5, hs0_4 c i arg2 harg2 arg3 harg3 arg4 harg4 arg5 harg5 arg6 harg6 arg7 harg7 x0 x1 x2 x3 x4 x5]
  rfl
theorem hs0_7 : (kernelRun0_A.sl.HS0_7 (F := Ideal) c i arg2 harg2 arg3 harg3 arg5 harg5 arg7 harg7 x0 x1 x3 x5) = ⟨Rect.unit (s := S384x768) ![128 * (3 % 3), 0] S128x512.size (inb_loc 3), locS (loadsM i arg2 harg2 arg3 harg3 arg4 harg4 arg5 harg5 arg6 harg6 arg7 harg7 x0 x1 x2 x3 x4 x5) (ir 3) (ij 3)⟩ :: sList (loadsM i arg2 harg2 arg3 harg3 arg4 harg4 arg5 harg5 arg6 harg6 arg7 harg7 x0 x1 x2 x3 x4 x5) 2 := by
  unfold kernelRun0_A.sl.HS0_7
  rw [loc3 c i arg2 harg2 arg3 harg3 arg4 harg4 arg5 harg5 arg6 harg6 arg7 harg7 x0 x1 x2 x3 x4 x5, hs0_6 c i arg2 harg2 arg3 harg3 arg4 harg4 arg5 harg5 arg6 harg6 arg7 harg7 x0 x1 x2 x3 x4 x5]
theorem hs0_8 : (kernelRun0_A.sl.HS0_8 (F := Ideal) c i arg2 harg2 arg3 harg3 arg5 harg5 arg7 harg7 x0 x1 x3 x5) = sList (loadsM i arg2 harg2 arg3 harg3 arg4 harg4 arg5 harg5 arg6 harg6 arg7 harg7 x0 x1 x2 x3 x4 x5) 3 := by
  unfold kernelRun0_A.sl.HS0_8
  rw [ctx3 c i arg2 harg2 arg3 harg3 arg4 harg4 arg5 harg5 arg6 harg6 arg7 harg7 x0 x1 x2 x3 x4 x5, hs0_7 c i arg2 harg2 arg3 harg3 arg4 harg4 arg5 harg5 arg6 harg6 arg7 harg7 x0 x1 x2 x3 x4 x5]
  rfl
theorem hs0_9 : (kernelRun0_A.sl.HS0_9 (F := Ideal) c i arg2 harg2 arg3 harg3 arg5 harg5 arg7 harg7 x0 x1 x3 x5) = ⟨Rect.unit (s := S384x768) ![128 * (4 % 3), 0] S128x512.size (inb_loc 4), locS (loadsM i arg2 harg2 arg3 harg3 arg4 harg4 arg5 harg5 arg6 harg6 arg7 harg7 x0 x1 x2 x3 x4 x5) (ir 4) (ij 4)⟩ :: sList (loadsM i arg2 harg2 arg3 harg3 arg4 harg4 arg5 harg5 arg6 harg6 arg7 harg7 x0 x1 x2 x3 x4 x5) 3 := by
  unfold kernelRun0_A.sl.HS0_9
  rw [loc4 c i arg2 harg2 arg3 harg3 arg4 harg4 arg5 harg5 arg6 harg6 arg7 harg7 x0 x1 x2 x3 x4 x5, hs0_8 c i arg2 harg2 arg3 harg3 arg4 harg4 arg5 harg5 arg6 harg6 arg7 harg7 x0 x1 x2 x3 x4 x5]
theorem hs0_10 : (kernelRun0_A.sl.HS0_10 (F := Ideal) c i arg2 harg2 arg3 harg3 arg5 harg5 arg7 harg7 x0 x1 x3 x5) = sList (loadsM i arg2 harg2 arg3 harg3 arg4 harg4 arg5 harg5 arg6 harg6 arg7 harg7 x0 x1 x2 x3 x4 x5) 4 := by
  unfold kernelRun0_A.sl.HS0_10
  rw [ctx4 c i arg2 harg2 arg3 harg3 arg4 harg4 arg5 harg5 arg6 harg6 arg7 harg7 x0 x1 x2 x3 x4 x5, hs0_9 c i arg2 harg2 arg3 harg3 arg4 harg4 arg5 harg5 arg6 harg6 arg7 harg7 x0 x1 x2 x3 x4 x5]
  rfl
theorem hs0_11 : (kernelRun0_A.sl.HS0_11 (F := Ideal) c i arg2 harg2 arg3 harg3 arg5 harg5 arg7 harg7 x0 x1 x3 x5) = ⟨Rect.unit (s := S384x768) ![128 * (5 % 3), 0] S128x512.size (inb_loc 5), locS (loadsM i arg2 harg2 arg3 harg3 arg4 harg4 arg5 harg5 arg6 harg6 arg7 harg7 x0 x1 x2 x3 x4 x5) (ir 5) (ij 5)⟩ :: sList (loadsM i arg2 harg2 arg3 harg3 arg4 harg4 arg5 harg5 arg6 harg6 arg7 harg7 x0 x1 x2 x3 x4 x5) 4 := by
  unfold kernelRun0_A.sl.HS0_11
  rw [loc5 c i arg2 harg2 arg3 harg3 arg4 harg4 arg5 harg5 arg6 harg6 arg7 harg7 x0 x1 x2 x3 x4 x5, hs0_10 c i arg2 harg2 arg3 harg3 arg4 harg4 arg5 harg5 arg6 harg6 arg7 harg7 x0 x1 x2 x3 x4 x5]
theorem hs0_12 : (kernelRun0_A.sl.HS0_12 (F := Ideal) c i arg2 harg2 arg3 harg3 arg5 harg5 arg7 harg7 x0 x1 x3 x5) = sList (loadsM i arg2 harg2 arg3 harg3 arg4 harg4 arg5 harg5 arg6 harg6 arg7 harg7 x0 x1 x2 x3 x4 x5) 5 := by
  unfold kernelRun0_A.sl.HS0_12
  rw [ctx5 c i arg2 harg2 arg3 harg3 arg4 harg4 arg5 harg5 arg6 harg6 arg7 harg7 x0 x1 x2 x3 x4 x5, hs0_11 c i arg2 harg2 arg3 harg3 arg4 harg4 arg5 harg5 arg6 harg6 arg7 harg7 x0 x1 x2 x3 x4 x5]
  rfl
theorem hs0_13 : (kernelRun0_A.sl.HS0_13 (F := Ideal) c i arg2 harg2 arg3 harg3 arg5 harg5 arg7 harg7 x0 x1 x3 x5) = ⟨Rect.unit (s := S384x768) ![128 * (6 % 3), 0] S128x512.size (inb_loc 6), locS (loadsM i arg2 harg2 arg3 harg3 arg4 harg4 arg5 harg5 arg6 harg6 arg7 harg7 x0 x1 x2 x3 x4 x5) (ir 6) (ij 6)⟩ :: sList (loadsM i arg2 harg2 arg3 harg3 arg4 harg4 arg5 harg5 arg6 harg6 arg7 harg7 x0 x1 x2 x3 x4 x5) 5 := by
  unfold kernelRun0_A.sl.HS0_13
  rw [loc6 c i arg2 harg2 arg3 harg3 arg4 harg4 arg5 harg5 arg6 harg6 arg7 harg7 x0 x1 x2 x3 x4 x5, hs0_12 c i arg2 harg2 arg3 harg3 arg4 harg4 arg5 harg5 arg6 harg6 arg7 harg7 x0 x1 x2 x3 x4 x5]
theorem hs0_14 : (kernelRun0_A.sl.HS0_14 (F := Ideal) c i arg2 harg2 arg3 harg3 arg5 harg5 arg7 harg7 x0 x1 x3 x5) = sList (loadsM i arg2 harg2 arg3 harg3 arg4 harg4 arg5 harg5 arg6 harg6 arg7 harg7 x0 x1 x2 x3 x4 x5) 6 := by
  unfold kernelRun0_A.sl.HS0_14
  rw [ctx6 c i arg2 harg2 arg3 harg3 arg4 harg4 arg5 harg5 arg6 harg6 arg7 harg7 x0 x1 x2 x3 x4 x5, hs0_13 c i arg2 harg2 arg3 harg3 arg4 harg4 arg5 harg5 arg6 harg6 arg7 harg7 x0 x1 x2 x3 x4 x5]
  rfl
theorem hs0_15 : (kernelRun0_A.sl.HS0_15 (F := Ideal) c i arg2 harg2 arg3 harg3 arg5 harg5 arg7 harg7 x0 x1 x3 x5) = ⟨Rect.unit (s := S384x768) ![128 * (7 % 3), 0] S128x512.size (inb_loc 7), locS (loadsM i arg2 harg2 arg3 harg3 arg4 harg4 arg5 harg5 arg6 harg6 arg7 harg7 x0 x1 x2 x3 x4 x5) (ir 7) (ij 7)⟩ :: sList (loadsM i arg2 harg2 arg3 harg3 arg4 harg4 arg5 harg5 arg6 harg6 arg7 harg7 x0 x1 x2 x3 x4 x5) 6 := by
  unfold kernelRun0_A.sl.HS0_15
  rw [loc7 c i arg2 harg2 arg3 harg3 arg4 harg4 arg5 harg5 arg6 harg6 arg7 harg7 x0 x1 x2 x3 x4 x5, hs0_14 c i arg2 harg2 arg3 harg3 arg4 harg4 arg5 harg5 arg6 harg6 arg7 harg7 x0 x1 x2 x3 x4 x5]
theorem hs0_16 : (kernelRun0_A.sl.HS0_16 (F := Ideal) c i arg2 harg2 arg3 harg3 arg5 harg5 arg7 harg7 x0 x1 x3 x5) = sList (loadsM i arg2 harg2 arg3 harg3 arg4 harg4 arg5 harg5 arg6 harg6 arg7 harg7 x0 x1 x2 x3 x4 x5) 7 := by
  unfold kernelRun0_A.sl.HS0_16
  rw [ctx7 c i arg2 harg2 arg3 harg3 arg4 harg4 arg5 harg5 arg6 harg6 arg7 harg7 x0 x1 x2 x3 x4 x5, hs0_15 c i arg2 harg2 arg3 harg3 arg4 harg4 arg5 harg5 arg6 harg6 arg7 harg7 x0 x1 x2 x3 x4 x5]
  rfl
theorem hs0_17 : (kernelRun0_A.sl.HS0_17 (F := Ideal) c i arg2 harg2 arg3 harg3 arg5 harg5 arg7 harg7 x0 x1 x3 x5) = ⟨Rect.unit (s := S384x768) ![128 * (8 % 3), 0] S128x512.size (inb_loc 8), locS (loadsM i arg2 harg2 arg3 harg3 arg4 harg4 arg5 harg5 arg6 harg6 arg7 harg7 x0 x1 x2 x3 x4 x5) (ir 8) (ij 8)⟩ :: sList (loadsM i arg2 harg2 arg3 harg3 arg4 harg4 arg5 harg5 arg6 harg6 arg7 harg7 x0 x1 x2 x3 x4 x5) 7 := by
  unfold kernelRun0_A.sl.HS0_17
  rw [loc8 c i arg2 harg2 arg3 harg3 arg4 harg4 arg5 harg5 arg6 harg6 arg7 harg7 x0 x1 x2 x3 x4 x5, hs0_16 c i arg2 harg2 arg3 harg3 arg4 harg4 arg5 harg5 arg6 harg6 arg7 harg7 x0 x1 x2 x3 x4 x5]
theorem hs0_18 : (kernelRun0_A.sl.HS0_18 (F := Ideal) c i arg2 harg2 arg3 harg3 arg5 harg5 arg7 harg7 x0 x1 x3 x5) = sList (loadsM i arg2 harg2 arg3 harg3 arg4 harg4 arg5 harg5 arg6 harg6 arg7 harg7 x0 x1 x2 x3 x4 x5) 8 := by
  unfold kernelRun0_A.sl.HS0_18
  rw [ctx8 c i arg2 harg2 arg3 harg3 arg4 harg4 arg5 harg5 arg6 harg6 arg7 harg7 x0 x1 x2 x3 x4 x5, hs0_17 c i arg2 harg2 arg3 harg3 arg4 harg4 arg5 harg5 arg6 harg6 arg7 harg7 x0 x1 x2 x3 x4 x5]
  rfl
theorem hs0_19 : (kernelRun0_A.sl.HS0_19 (F := Ideal) c i arg2 harg2 arg3 harg3 arg5 harg5 arg7 harg7 x0 x1 x3 x5) = ⟨Rect.unit (s := S384x768) ![128 * (9 % 3), 0] S128x512.size (inb_loc 9), locS (loadsM i arg2 harg2 arg3 harg3 arg4 harg4 arg5 harg5 arg6 harg6 arg7 harg7 x0 x1 x2 x3 x4 x5) (ir 9) (ij 9)⟩ :: sList (loadsM i arg2 harg2 arg3 harg3 arg4 harg4 arg5 harg5 arg6 harg6 arg7 harg7 x0 x1 x2 x3 x4 x5) 8 := by
  unfold kernelRun0_A.sl.HS0_19
  rw [loc9 c i arg2 harg2 arg3 harg3 arg4 harg4 arg5 harg5 arg6 harg6 arg7 harg7 x0 x1 x2 x3 x4 x5, hs0_18 c i arg2 harg2 arg3 harg3 arg4 harg4 arg5 harg5 arg6 harg6 arg7 harg7 x0 x1 x2 x3 x4 x5]
theorem hs0_20 : (kernelRun0_A.sl.HS0_20 (F := Ideal) c i arg2 harg2 arg3 harg3 arg5 harg5 arg7 harg7 x0 x1 x3 x5) = sList (loadsM i arg2 harg2 arg3 harg3 arg4 harg4 arg5 harg5 arg6 harg6 arg7 harg7 x0 x1 x2 x3 x4 x5) 9 := by
  unfold kernelRun0_A.sl.HS0_20
  rw [ctx9 c i arg2 harg2 arg3 harg3 arg4 harg4 arg5 harg5 arg6 harg6 arg7 harg7 x0 x1 x2 x3 x4 x5, hs0_19 c i arg2 harg2 arg3 harg3 arg4 harg4 arg5 harg5 arg6 harg6 arg7 harg7 x0 x1 x2 x3 x4 x5]
  rfl
theorem hs0_21 : (kernelRun0_A.sl.HS0_21 (F := Ideal) c i arg2 harg2 arg3 harg3 arg5 harg5 arg7 harg7 x0 x1 x3 x5) = ⟨Rect.unit (s := S384x768) ![128 * (10 % 3), 0] S128x512.size (inb_loc 10), locS (loadsM i arg2 harg2 arg3 harg3 arg4 harg4 arg5 harg5 arg6 harg6 arg7 harg7 x0 x1 x2 x3 x4 x5) (ir 10) (ij 10)⟩ :: sList (loadsM i arg2 harg2 arg3 harg3 arg4 harg4 arg5 harg5 arg6 harg6 arg7 harg7 x0 x1 x2 x3 x4 x5) 9 := by
  unfold kernelRun0_A.sl.HS0_21
  rw [loc10 c i arg2 harg2 arg3 harg3 arg4 harg4 arg5 harg5 arg6 harg6 arg7 harg7 x0 x1 x2 x3 x4 x5, hs0_20 c i arg2 harg2 arg3 harg3 arg4 harg4 arg5 harg5 arg6 harg6 arg7 harg7 x0 x1 x2 x3 x4 x5]
theorem hs0_22 : (kernelRun0_A.sl.HS0_22 (F := Ideal) c i arg2 harg2 arg3 harg3 arg5 harg5 arg7 harg7 x0 x1 x3 x5) = sList (loadsM i arg2 harg2 arg3 harg3 arg4 harg4 arg5 harg5 arg6 harg6 arg7 harg7 x0 x1 x2 x3 x4 x5) 10 := by
  unfold kernelRun0_A.sl.HS0_22
  rw [ctx10 c i arg2 harg2 arg3 harg3 arg4 harg4 arg5 harg5 arg6 harg6 arg7 harg7 x0 x1 x2 x3 x4 x5, hs0_21 c i arg2 harg2 arg3 harg3 arg4 harg4 arg5 harg5 arg6 harg6 arg7 harg7 x0 x1 x2 x3 x4 x5]
  rfl
theorem hs0_23 : (kernelRun0_A.sl.HS0_23 (F := Ideal) c i arg2 harg2 arg3 harg3 arg5 harg5 arg7 harg7 x0 x1 x3 x5) = ⟨Rect.unit (s := S384x768) ![128 * (11 % 3), 0] S128x512.size (inb_loc 11), locS (loadsM i arg2 harg2 arg3 harg3 arg4 harg4 arg5 harg5 arg6 harg6 arg7 harg7 x0 x1 x2 x3 x4 x5) (ir 11) (ij 11)⟩ :: sList (loadsM i arg2 harg2 arg3 harg3 arg4 harg4 arg5 harg5 arg6 harg6 arg7 harg7 x0 x1 x2 x3 x4 x5) 10 := by
  unfold kernelRun0_A.sl.HS0_23
  rw [loc11 c i arg2 harg2 arg3 harg3 arg4 harg4 arg5 harg5 arg6 harg6 arg7 harg7 x0 x1 x2 x3 x4 x5, hs0_22 c i arg2 harg2 arg3 harg3 arg4 harg4 arg5 harg5 arg6 harg6 arg7 harg7 x0 x1 x2 x3 x4 x5]
theorem hs0_24 : (kernelRun0_A.sl.HS0_24 (F := Ideal) c i arg2 harg2 arg3 harg3 arg5 harg5 arg7 harg7 x0 x1 x3 x5) = sList (loadsM i arg2 harg2 arg3 harg3 arg4 harg4 arg5 harg5 arg6 harg6 arg7 harg7 x0 x1 x2 x3 x4 x5) 11 := by
  unfold kernelRun0_A.sl.HS0_24
  rw [ctx11 c i arg2 harg2 arg3 harg3 arg4 harg4 arg5 harg5 arg6 harg6 arg7 harg7 x0 x1 x2 x3 x4 x5, hs0_23 c i arg2 harg2 arg3 harg3 arg4 harg4 arg5 harg5 arg6 harg6 arg7 harg7 x0 x1 x2 x3 x4 x5]
  rfl
theorem hs0_25 : (kernelRun0_A.sl.HS0_25 (F := Ideal) c i arg2 harg2 arg3 harg3 arg5 harg5 arg7 harg7 x0 x1 x3 x5) = ⟨Rect.unit (s := S384x768) ![128 * (12 % 3), 0] S128x512.size (inb_loc 12), locS (loadsM i arg2 harg2 arg3 harg3 arg4 harg4 arg5 harg5 arg6 harg6 arg7 harg7 x0 x1 x2 x3 x4 x5) (ir 12) (ij 12)⟩ :: sList (loadsM i arg2 harg2 arg3 harg3 arg4 harg4 arg5 harg5 arg6 harg6 arg7 harg7 x0 x1 x2 x3 x4 x5) 11 := by
  unfold kernelRun0_A.sl.HS0_25
  rw [loc12 c i arg2 harg2 arg3 harg3 arg4 harg4 arg5 harg5 arg6 harg6 arg7 harg7 x0 x1 x2 x3 x4 x5, hs0_24 c i arg2 harg2 arg3 harg3 arg4 harg4 arg5 harg5 arg6 harg6 arg7 harg7 x0 x1 x2 x3 x4 x5]
theorem hs0_26 : (kernelRun0_A.sl.HS0_26 (F := Ideal) c i arg2 harg2 arg3 harg3 arg5 harg5 arg7 harg7 x0 x1 x3 x5) = sList (loadsM i arg2 harg2 arg3 harg3 arg4 harg4 arg5 harg5 arg6 harg6 arg7 harg7 x0 x1 x2 x3 x4 x5) 12 := by
  unfold kernelRun0_A.sl.HS0_26
  rw [ctx12 c i arg2 harg2 arg3 harg3 arg4 harg4 arg5 harg5 arg6 harg6 arg7 harg7 x0 x1 x2 x3 x4 x5, hs0_25 c i arg2 harg2 arg3 harg3 arg4 harg4 arg5 harg5 arg6 harg6 arg7 harg7 x0 x1 x2 x3 x4 x5]
  rfl
theorem hs0_27 : (kernelRun0_A.sl.HS0_27 (F := Ideal) c i arg2 harg2 arg3 harg3 arg5 harg5 arg7 harg7 x0 x1 x3 x5) = ⟨Rect.unit (s := S384x768) ![128 * (13 % 3), 0] S128x512.size (inb_loc 13), locS (loadsM i arg2 harg2 arg3 harg3 arg4 harg4 arg5 harg5 arg6 harg6 arg7 harg7 x0 x1 x2 x3 x4 x5) (ir 13) (ij 13)⟩ :: sList (loadsM i arg2 harg2 arg3 harg3 arg4 harg4 arg5 harg5 arg6 harg6 arg7 harg7 x0 x1 x2 x3 x4 x5) 12 := by
  unfold kernelRun0_A.sl.HS0_27
  rw [loc13 c i arg2 harg2 arg3 harg3 arg4 harg4 arg5 harg5 arg6 harg6 arg7 harg7 x0 x1 x2 x3 x4 x5, hs0_26 c i arg2 harg2 arg3 harg3 arg4 harg4 arg5 harg5 arg6 harg6 arg7 harg7 x0 x1 x2 x3 x4 x5]
theorem hs0_28 : (kernelRun0_A.sl.HS0_28 (F := Ideal) c i arg2 harg2 arg3 harg3 arg5 harg5 arg7 harg7 x0 x1 x3 x5) = sList (loadsM i arg2 harg2 arg3 harg3 arg4 harg4 arg5 harg5 arg6 harg6 arg7 harg7 x0 x1 x2 x3 x4 x5) 13 := by
  unfold kernelRun0_A.sl.HS0_28
  rw [ctx13 c i arg2 harg2 arg3 harg3 arg4 harg4 arg5 harg5 arg6 harg6 arg7 harg7 x0 x1 x2 x3 x4 x5, hs0_27 c i arg2 harg2 arg3 harg3 arg4 harg4 arg5 harg5 arg6 harg6 arg7 harg7 x0 x1 x2 x3 x4 x5]
  rfl
theorem hs0_29 : (kernelRun0_A.sl.HS0_29 (F := Ideal) c i arg2 harg2 arg3 harg3 arg5 harg5 arg7 harg7 x0 x1 x3 x5) = ⟨Rect.unit (s := S384x768) ![128 * (14 % 3), 0] S128x512.size (inb_loc 14), locS (loadsM i arg2 harg2 arg3 harg3 arg4 harg4 arg5 harg5 arg6 harg6 arg7 harg7 x0 x1 x2 x3 x4 x5) (ir 14) (ij 14)⟩ :: sList (loadsM i arg2 harg2 arg3 harg3 arg4 harg4 arg5 harg5 arg6 harg6 arg7 harg7 x0 x1 x2 x3 x4 x5) 13 := by
  unfold kernelRun0_A.sl.HS0_29
  rw [loc14 c i arg2 harg2 arg3 harg3 arg4 harg4 arg5 harg5 arg6 harg6 arg7 harg7 x0 x1 x2 x3 x4 x5, hs0_28 c i arg2 harg2 arg3 harg3 arg4 harg4 arg5 harg5 arg6 harg6 arg7 harg7 x0 x1 x2 x3 x4 x5]
theorem hs0_30 : (kernelRun0_A.sl.HS0_30 (F := Ideal) c i arg2 harg2 arg3 harg3 arg5 harg5 arg7 harg7 x0 x1 x3 x5) = sList (loadsM i arg2 harg2 arg3 harg3 arg4 harg4 arg5 harg5 arg6 harg6 arg7 harg7 x0 x1 x2 x3 x4 x5) 14 := by
  unfold kernelRun0_A.sl.HS0_30
  rw [ctx14 c i arg2 harg2 arg3 harg3 arg4 harg4 arg5 harg5 arg6 harg6 arg7 harg7 x0 x1 x2 x3 x4 x5, hs0_29 c i arg2 harg2 arg3 harg3 arg4 harg4 arg5 harg5 arg6 harg6 arg7 harg7 x0 x1 x2 x3 x4 x5]
  rfl
theorem hs0_31 : (kernelRun0_A.sl.HS0_31 (F := Ideal) c i arg2 harg2 arg3 harg3 arg5 harg5 arg7 harg7 x0 x1 x3 x5) = ⟨Rect.unit (s := S384x768) ![128 * (15 % 3), 0] S128x512.size (inb_loc 15), locS (loadsM i arg2 harg2 arg3 harg3 arg4 harg4 arg5 harg5 arg6 harg6 arg7 harg7 x0 x1 x2 x3 x4 x5) (ir 15) (ij 15)⟩ :: sList (loadsM i arg2 harg2 arg3 harg3 arg4 harg4 arg5 harg5 arg6 harg6 arg7 harg7 x0 x1 x2 x3 x4 x5) 14 := by
  unfold kernelRun0_A.sl.HS0_31
  rw [loc15 c i arg2 harg2 arg3 harg3 arg4 harg4 arg5 harg5 arg6 harg6 arg7 harg7 x0 x1 x2 x3 x4 x5, hs0_30 c i arg2 harg2 arg3 harg3 arg4 harg4 arg5 harg5 arg6 harg6 arg7 harg7 x0 x1 x2 x3 x4 x5]
theorem hs0_32 : (kernelRun0_A.sl.HS0_32 (F := Ideal) c i arg2 harg2 arg3 harg3 arg5 harg5 arg7 harg7 x0 x1 x3 x5) = sList (loadsM i arg2 harg2 arg3 harg3 arg4 harg4 arg5 harg5 arg6 harg6 arg7 harg7 x0 x1 x2 x3 x4 x5) 15 := by
  unfold kernelRun0_A.sl.HS0_32
  rw [ctx15 c i arg2 harg2 arg3 harg3 arg4 harg4 arg5 harg5 arg6 harg6 arg7 harg7 x0 x1 x2 x3 x4 x5, hs0_31 c i arg2 harg2 arg3 harg3 arg4 harg4 arg5 harg5 arg6 harg6 arg7 harg7 x0 x1 x2 x3 x4 x5]
  rfl
theorem read0 : (kernelRun0_A.sl.v186 (F := Ideal) c i arg2 harg2 arg3 harg3 arg5 harg5 arg7 harg7 arg9 x0 x1 x3 x5) = sRead arg9.view (loadsM i arg2 harg2 arg3 harg3 arg4 harg4 arg5 harg5 arg6 harg6 arg7 harg7 x0 x1 x2 x3 x4 x5) 0 := by
  unfold kernelRun0_A.sl.v186
  rw [hs0_4 c i arg2 harg2 arg3 harg3 arg4 harg4 arg5 harg5 arg6 harg6 arg7 harg7 x0 x1 x2 x3 x4 x5]
  rfl
theorem exp0 : (kernelRun0_A.sl.v197 (F := Ideal) c i arg2 harg2 arg3 harg3 arg5 harg5 arg7 harg7 arg9 x0 x1 x3 x5) = k0_pay20 (F := Ideal) (sRead arg9.view (loadsM i arg2 harg2 arg3 harg3 arg4 harg4 arg5 harg5 arg6 harg6 arg7 harg7 x0 x1 x2 x3 x4 x5) 0) := by
  rw [← read0 c i arg2 harg2 arg3 harg3 arg4 harg4 arg5 harg5 arg6 harg6 arg7 harg7 arg9 x0 x1 x2 x3 x4 x5]
  rfl
theorem inv0 : (kernelRun0_A.sl.v199 (F := Ideal) c i arg2 harg2 arg3 harg3 arg5 harg5 arg7 harg7 arg9 x0 x1 x3 x5) = k0_pay21 (F := Ideal) (sRead arg9.view (loadsM i arg2 harg2 arg3 harg3 arg4 harg4 arg5 harg5 arg6 harg6 arg7 harg7 x0 x1 x2 x3 x4 x5) 0) := by
  rw [← read0 c i arg2 harg2 arg3 harg3 arg4 harg4 arg5 harg5 arg6 harg6 arg7 harg7 arg9 x0 x1 x2 x3 x4 x5]
  rfl
theorem read1 : (kernelRun0_A.sl.v261 (F := Ideal) c i arg2 harg2 arg3 harg3 arg5 harg5 arg7 harg7 arg9 x0 x1 x3 x5) = sRead arg9.view (loadsM i arg2 harg2 arg3 harg3 arg4 harg4 arg5 harg5 arg6 harg6 arg7 harg7 x0 x1 x2 x3 x4 x5) 1 := by
  unfold kernelRun0_A.sl.v261
  rw [hs0_6 c i arg2 harg2 arg3 harg3 arg4 harg4 arg5 harg5 arg6 harg6 arg7 harg7 x0 x1 x2 x3 x4 x5]
  rfl
theorem exp1 : (kernelRun0_A.sl.v272 (F := Ideal) c i arg2 harg2 arg3 harg3 arg5 harg5 arg7 harg7 arg9 x0 x1 x3 x5) = k0_pay20 (F := Ideal) (sRead arg9.view (loadsM i arg2 harg2 arg3 harg3 arg4 harg4 arg5 harg5 arg6 harg6 arg7 harg7 x0 x1 x2 x3 x4 x5) 1) := by
  rw [← read1 c i arg2 harg2 arg3 harg3 arg4 harg4 arg5 harg5 arg6 harg6 arg7 harg7 arg9 x0 x1 x2 x3 x4 x5]
  rfl
theorem inv1 : (kernelRun0_A.sl.v274 (F := Ideal) c i arg2 harg2 arg3 harg3 arg5 harg5 arg7 harg7 arg9 x0 x1 x3 x5) = k0_pay21 (F := Ideal) (sRead arg9.view (loadsM i arg2 harg2 arg3 harg3 arg4 harg4 arg5 harg5 arg6 harg6 arg7 harg7 x0 x1 x2 x3 x4 x5) 1) := by
  rw [← read1 c i arg2 harg2 arg3 harg3 arg4 harg4 arg5 harg5 arg6 harg6 arg7 harg7 arg9 x0 x1 x2 x3 x4 x5]
  rfl
theorem read2 : (kernelRun0_A.sl.v353 (F := Ideal) c i arg2 harg2 arg3 harg3 arg5 harg5 arg7 harg7 arg9 x0 x1 x3 x5) = sRead arg9.view (loadsM i arg2 harg2 arg3 harg3 arg4 harg4 arg5 harg5 arg6 harg6 arg7 harg7 x0 x1 x2 x3 x4 x5) 2 := by
  unfold kernelRun0_A.sl.v353
  rw [hs0_8 c i arg2 harg2 arg3 harg3 arg4 harg4 arg5 harg5 arg6 harg6 arg7 harg7 x0 x1 x2 x3 x4 x5]
  rfl
theorem exp2 : (kernelRun0_A.sl.v364 (F := Ideal) c i arg2 harg2 arg3 harg3 arg5 harg5 arg7 harg7 arg9 x0 x1 x3 x5) = k0_pay20 (F := Ideal) (sRead arg9.view (loadsM i arg2 harg2 arg3 harg3 arg4 harg4 arg5 harg5 arg6 harg6 arg7 harg7 x0 x1 x2 x3 x4 x5) 2) := by
  rw [← read2 c i arg2 harg2 arg3 harg3 arg4 harg4 arg5 harg5 arg6 harg6 arg7 harg7 arg9 x0 x1 x2 x3 x4 x5]
  rfl
theorem inv2 : (kernelRun0_A.sl.v366 (F := Ideal) c i arg2 harg2 arg3 harg3 arg5 harg5 arg7 harg7 arg9 x0 x1 x3 x5) = k0_pay21 (F := Ideal) (sRead arg9.view (loadsM i arg2 harg2 arg3 harg3 arg4 harg4 arg5 harg5 arg6 harg6 arg7 harg7 x0 x1 x2 x3 x4 x5) 2) := by
  rw [← read2 c i arg2 harg2 arg3 harg3 arg4 harg4 arg5 harg5 arg6 harg6 arg7 harg7 arg9 x0 x1 x2 x3 x4 x5]
  rfl
theorem read3 : (kernelRun0_A.sl.v445 (F := Ideal) c i arg2 harg2 arg3 harg3 arg5 harg5 arg7 harg7 arg9 x0 x1 x3 x5) = sRead arg9.view (loadsM i arg2 harg2 arg3 harg3 arg4 harg4 arg5 harg5 arg6 harg6 arg7 harg7 x0 x1 x2 x3 x4 x5) 3 := by
  unfold kernelRun0_A.sl.v445
  rw [hs0_10 c i arg2 harg2 arg3 harg3 arg4 harg4 arg5 harg5 arg6 harg6 arg7 harg7 x0 x1 x2 x3 x4 x5]
  rfl
theorem exp3 : (kernelRun0_A.sl.v456 (F := Ideal) c i arg2 harg2 arg3 harg3 arg5 harg5 arg7 harg7 arg9 x0 x1 x3 x5) = k0_pay20 (F := Ideal) (sRead arg9.view (loadsM i arg2 harg2 arg3 harg3 arg4 harg4 arg5 harg5 arg6 harg6 arg7 harg7 x0 x1 x2 x3 x4 x5) 3) := by
  rw [← read3 c i arg2 harg2 arg3 harg3 arg4 harg4 arg5 harg5 arg6 harg6 arg7 harg7 arg9 x0 x1 x2 x3 x4 x5]
  rfl
theorem inv3 : (kernelRun0_A.sl.v458 (F := Ideal) c i arg2 harg2 arg3 harg3 arg5 harg5 arg7 harg7 arg9 x0 x1 x3 x5) = k0_pay21 (F := Ideal) (sRead arg9.view (loadsM i arg2 harg2 arg3 harg3 arg4 harg4 arg5 harg5 arg6 harg6 arg7 harg7 x0 x1 x2 x3 x4 x5) 3) := by
  rw [← read3 c i arg2 harg2 arg3 harg3 arg4 harg4 arg5 harg5 arg6 harg6 arg7 harg7 arg9 x0 x1 x2 x3 x4 x5]
  rfl
theorem read4 : (kernelRun0_A.sl.v537 (F := Ideal) c i arg2 harg2 arg3 harg3 arg5 harg5 arg7 harg7 arg9 x0 x1 x3 x5) = sRead arg9.view (loadsM i arg2 harg2 arg3 harg3 arg4 harg4 arg5 harg5 arg6 harg6 arg7 harg7 x0 x1 x2 x3 x4 x5) 4 := by
  unfold kernelRun0_A.sl.v537
  rw [hs0_12 c i arg2 harg2 arg3 harg3 arg4 harg4 arg5 harg5 arg6 harg6 arg7 harg7 x0 x1 x2 x3 x4 x5]
  rfl
theorem exp4 : (kernelRun0_A.sl.v548 (F := Ideal) c i arg2 harg2 arg3 harg3 arg5 harg5 arg7 harg7 arg9 x0 x1 x3 x5) = k0_pay20 (F := Ideal) (sRead arg9.view (loadsM i arg2 harg2 arg3 harg3 arg4 harg4 arg5 harg5 arg6 harg6 arg7 harg7 x0 x1 x2 x3 x4 x5) 4) := by
  rw [← read4 c i arg2 harg2 arg3 harg3 arg4 harg4 arg5 harg5 arg6 harg6 arg7 harg7 arg9 x0 x1 x2 x3 x4 x5]
  rfl
theorem inv4 : (kernelRun0_A.sl.v550 (F := Ideal) c i arg2 harg2 arg3 harg3 arg5 harg5 arg7 harg7 arg9 x0 x1 x3 x5) = k0_pay21 (F := Ideal) (sRead arg9.view (loadsM i arg2 harg2 arg3 harg3 arg4 harg4 arg5 harg5 arg6 harg6 arg7 harg7 x0 x1 x2 x3 x4 x5) 4) := by
  rw [← read4 c i arg2 harg2 arg3 harg3 arg4 harg4 arg5 harg5 arg6 harg6 arg7 harg7 arg9 x0 x1 x2 x3 x4 x5]
  rfl
theorem read5 : (kernelRun0_A.sl.v629 (F := Ideal) c i arg2 harg2 arg3 harg3 arg5 harg5 arg7 harg7 arg9 x0 x1 x3 x5) = sRead arg9.view (loadsM i arg2 harg2 arg3 harg3 arg4 harg4 arg5 harg5 arg6 harg6 arg7 harg7 x0 x1 x2 x3 x4 x5) 5 := by
  unfold kernelRun0_A.sl.v629
  rw [hs0_14 c i arg2 harg2 arg3 harg3 arg4 harg4 arg5 harg5 arg6 harg6 arg7 harg7 x0 x1 x2 x3 x4 x5]
  rfl
theorem exp5 : (kernelRun0_A.sl.v640 (F := Ideal) c i arg2 harg2 arg3 harg3 arg5 harg5 arg7 harg7 arg9 x0 x1 x3 x5) = k0_pay20 (F := Ideal) (sRead arg9.view (loadsM i arg2 harg2 arg3 harg3 arg4 harg4 arg5 harg5 arg6 harg6 arg7 harg7 x0 x1 x2 x3 x4 x5) 5) := by
  rw [← read5 c i arg2 harg2 arg3 harg3 arg4 harg4 arg5 harg5 arg6 harg6 arg7 harg7 arg9 x0 x1 x2 x3 x4 x5]
  rfl
theorem inv5 : (kernelRun0_A.sl.v642 (F := Ideal) c i arg2 harg2 arg3 harg3 arg5 harg5 arg7 harg7 arg9 x0 x1 x3 x5) = k0_pay21 (F := Ideal) (sRead arg9.view (loadsM i arg2 harg2 arg3 harg3 arg4 harg4 arg5 harg5 arg6 harg6 arg7 harg7 x0 x1 x2 x3 x4 x5) 5) := by
  rw [← read5 c i arg2 harg2 arg3 harg3 arg4 harg4 arg5 harg5 arg6 harg6 arg7 harg7 arg9 x0 x1 x2 x3 x4 x5]
  rfl
theorem read6 : (kernelRun0_A.sl.v721 (F := Ideal) c i arg2 harg2 arg3 harg3 arg5 harg5 arg7 harg7 arg9 x0 x1 x3 x5) = sRead arg9.view (loadsM i arg2 harg2 arg3 harg3 arg4 harg4 arg5 harg5 arg6 harg6 arg7 harg7 x0 x1 x2 x3 x4 x5) 6 := by
  unfold kernelRun0_A.sl.v721
  rw [hs0_16 c i arg2 harg2 arg3 harg3 arg4 harg4 arg5 harg5 arg6 harg6 arg7 harg7 x0 x1 x2 x3 x4 x5]
  rfl
theorem exp6 : (kernelRun0_A.sl.v732 (F := Ideal) c i arg2 harg2 arg3 harg3 arg5 harg5 arg7 harg7 arg9 x0 x1 x3 x5) = k0_pay20 (F := Ideal) (sRead arg9.view (loadsM i arg2 harg2 arg3 harg3 arg4 harg4 arg5 harg5 arg6 harg6 arg7 harg7 x0 x1 x2 x3 x4 x5) 6) := by
  rw [← read6 c i arg2 harg2 arg3 harg3 arg4 harg4 arg5 harg5 arg6 harg6 arg7 harg7 arg9 x0 x1 x2 x3 x4 x5]
  rfl
theorem inv6 : (kernelRun0_A.sl.v734 (F := Ideal) c i arg2 harg2 arg3 harg3 arg5 harg5 arg7 harg7 arg9 x0 x1 x3 x5) = k0_pay21 (F := Ideal) (sRead arg9.view (loadsM i arg2 harg2 arg3 harg3 arg4 harg4 arg5 harg5 arg6 harg6 arg7 harg7 x0 x1 x2 x3 x4 x5) 6) := by
  rw [← read6 c i arg2 harg2 arg3 harg3 arg4 harg4 arg5 harg5 arg6 harg6 arg7 harg7 arg9 x0 x1 x2 x3 x4 x5]
  rfl
theorem read7 : (kernelRun0_A.sl.v813 (F := Ideal) c i arg2 harg2 arg3 harg3 arg5 harg5 arg7 harg7 arg9 x0 x1 x3 x5) = sRead arg9.view (loadsM i arg2 harg2 arg3 harg3 arg4 harg4 arg5 harg5 arg6 harg6 arg7 harg7 x0 x1 x2 x3 x4 x5) 7 := by
  unfold kernelRun0_A.sl.v813
  rw [hs0_18 c i arg2 harg2 arg3 harg3 arg4 harg4 arg5 harg5 arg6 harg6 arg7 harg7 x0 x1 x2 x3 x4 x5]
  rfl
theorem exp7 : (kernelRun0_A.sl.v824 (F := Ideal) c i arg2 harg2 arg3 harg3 arg5 harg5 arg7 harg7 arg9 x0 x1 x3 x5) = k0_pay20 (F := Ideal) (sRead arg9.view (loadsM i arg2 harg2 arg3 harg3 arg4 harg4 arg5 harg5 arg6 harg6 arg7 harg7 x0 x1 x2 x3 x4 x5) 7) := by
  rw [← read7 c i arg2 harg2 arg3 harg3 arg4 harg4 arg5 harg5 arg6 harg6 arg7 harg7 arg9 x0 x1 x2 x3 x4 x5]
  rfl
theorem inv7 : (kernelRun0_A.sl.v826 (F := Ideal) c i arg2 harg2 arg3 harg3 arg5 harg5 arg7 harg7 arg9 x0 x1 x3 x5) = k0_pay21 (F := Ideal) (sRead arg9.view (loadsM i arg2 harg2 arg3 harg3 arg4 harg4 arg5 harg5 arg6 harg6 arg7 harg7 x0 x1 x2 x3 x4 x5) 7) := by
  rw [← read7 c i arg2 harg2 arg3 harg3 arg4 harg4 arg5 harg5 arg6 harg6 arg7 harg7 arg9 x0 x1 x2 x3 x4 x5]
  rfl
theorem read8 : (kernelRun0_A.sl.v905 (F := Ideal) c i arg2 harg2 arg3 harg3 arg5 harg5 arg7 harg7 arg9 x0 x1 x3 x5) = sRead arg9.view (loadsM i arg2 harg2 arg3 harg3 arg4 harg4 arg5 harg5 arg6 harg6 arg7 harg7 x0 x1 x2 x3 x4 x5) 8 := by
  unfold kernelRun0_A.sl.v905
  rw [hs0_20 c i arg2 harg2 arg3 harg3 arg4 harg4 arg5 harg5 arg6 harg6 arg7 harg7 x0 x1 x2 x3 x4 x5]
  rfl
theorem exp8 : (kernelRun0_A.sl.v916 (F := Ideal) c i arg2 harg2 arg3 harg3 arg5 harg5 arg7 harg7 arg9 x0 x1 x3 x5) = k0_pay20 (F := Ideal) (sRead arg9.view (loadsM i arg2 harg2 arg3 harg3 arg4 harg4 arg5 harg5 arg6 harg6 arg7 harg7 x0 x1 x2 x3 x4 x5) 8) := by
  rw [← read8 c i arg2 harg2 arg3 harg3 arg4 harg4 arg5 harg5 arg6 harg6 arg7 harg7 arg9 x0 x1 x2 x3 x4 x5]
  rfl
theorem inv8 : (kernelRun0_A.sl.v918 (F := Ideal) c i arg2 harg2 arg3 harg3 arg5 harg5 arg7 harg7 arg9 x0 x1 x3 x5) = k0_pay21 (F := Ideal) (sRead arg9.view (loadsM i arg2 harg2 arg3 harg3 arg4 harg4 arg5 harg5 arg6 harg6 arg7 harg7 x0 x1 x2 x3 x4 x5) 8) := by
  rw [← read8 c i arg2 harg2 arg3 harg3 arg4 harg4 arg5 harg5 arg6 harg6 arg7 harg7 arg9 x0 x1 x2 x3 x4 x5]
  rfl
theorem read9 : (kernelRun0_A.sl.v997 (F := Ideal) c i arg2 harg2 arg3 harg3 arg5 harg5 arg7 harg7 arg9 x0 x1 x3 x5) = sRead arg9.view (loadsM i arg2 harg2 arg3 harg3 arg4 harg4 arg5 harg5 arg6 harg6 arg7 harg7 x0 x1 x2 x3 x4 x5) 9 := by
  unfold kernelRun0_A.sl.v997
  rw [hs0_22 c i arg2 harg2 arg3 harg3 arg4 harg4 arg5 harg5 arg6 harg6 arg7 harg7 x0 x1 x2 x3 x4 x5]
  rfl
theorem exp9 : (kernelRun0_A.sl.v1008 (F := Ideal) c i arg2 harg2 arg3 harg3 arg5 harg5 arg7 harg7 arg9 x0 x1 x3 x5) = k0_pay20 (F := Ideal) (sRead arg9.view (loadsM i arg2 harg2 arg3 harg3 arg4 harg4 arg5 harg5 arg6 harg6 arg7 harg7 x0 x1 x2 x3 x4 x5) 9) := by
  rw [← read9 c i arg2 harg2 arg3 harg3 arg4 harg4 arg5 harg5 arg6 harg6 arg7 harg7 arg9 x0 x1 x2 x3 x4 x5]
  rfl
theorem inv9 : (kernelRun0_A.sl.v1010 (F := Ideal) c i arg2 harg2 arg3 harg3 arg5 harg5 arg7 harg7 arg9 x0 x1 x3 x5) = k0_pay21 (F := Ideal) (sRead arg9.view (loadsM i arg2 harg2 arg3 harg3 arg4 harg4 arg5 harg5 arg6 harg6 arg7 harg7 x0 x1 x2 x3 x4 x5) 9) := by
  rw [← read9 c i arg2 harg2 arg3 harg3 arg4 harg4 arg5 harg5 arg6 harg6 arg7 harg7 arg9 x0 x1 x2 x3 x4 x5]
  rfl
theorem read10 : (kernelRun0_A.sl.v1089 (F := Ideal) c i arg2 harg2 arg3 harg3 arg5 harg5 arg7 harg7 arg9 x0 x1 x3 x5) = sRead arg9.view (loadsM i arg2 harg2 arg3 harg3 arg4 harg4 arg5 harg5 arg6 harg6 arg7 harg7 x0 x1 x2 x3 x4 x5) 10 := by
  unfold kernelRun0_A.sl.v1089
  rw [hs0_24 c i arg2 harg2 arg3 harg3 arg4 harg4 arg5 harg5 arg6 harg6 arg7 harg7 x0 x1 x2 x3 x4 x5]
  rfl
theorem exp10 : (kernelRun0_A.sl.v1100 (F := Ideal) c i arg2 harg2 arg3 harg3 arg5 harg5 arg7 harg7 arg9 x0 x1 x3 x5) = k0_pay20 (F := Ideal) (sRead arg9.view (loadsM i arg2 harg2 arg3 harg3 arg4 harg4 arg5 harg5 arg6 harg6 arg7 harg7 x0 x1 x2 x3 x4 x5) 10) := by
  rw [← read10 c i arg2 harg2 arg3 harg3 arg4 harg4 arg5 harg5 arg6 harg6 arg7 harg7 arg9 x0 x1 x2 x3 x4 x5]
  rfl
theorem inv10 : (kernelRun0_A.sl.v1102 (F := Ideal) c i arg2 harg2 arg3 harg3 arg5 harg5 arg7 harg7 arg9 x0 x1 x3 x5) = k0_pay21 (F := Ideal) (sRead arg9.view (loadsM i arg2 harg2 arg3 harg3 arg4 harg4 arg5 harg5 arg6 harg6 arg7 harg7 x0 x1 x2 x3 x4 x5) 10) := by
  rw [← read10 c i arg2 harg2 arg3 harg3 arg4 harg4 arg5 harg5 arg6 harg6 arg7 harg7 arg9 x0 x1 x2 x3 x4 x5]
  rfl
theorem read11 : (kernelRun0_A.sl.v1181 (F := Ideal) c i arg2 harg2 arg3 harg3 arg5 harg5 arg7 harg7 arg9 x0 x1 x3 x5) = sRead arg9.view (loadsM i arg2 harg2 arg3 harg3 arg4 harg4 arg5 harg5 arg6 harg6 arg7 harg7 x0 x1 x2 x3 x4 x5) 11 := by
  unfold kernelRun0_A.sl.v1181
  rw [hs0_26 c i arg2 harg2 arg3 harg3 arg4 harg4 arg5 harg5 arg6 harg6 arg7 harg7 x0 x1 x2 x3 x4 x5]
  rfl
theorem exp11 : (kernelRun0_A.sl.v1192 (F := Ideal) c i arg2 harg2 arg3 harg3 arg5 harg5 arg7 harg7 arg9 x0 x1 x3 x5) = k0_pay20 (F := Ideal) (sRead arg9.view (loadsM i arg2 harg2 arg3 harg3 arg4 harg4 arg5 harg5 arg6 harg6 arg7 harg7 x0 x1 x2 x3 x4 x5) 11) := by
  rw [← read11 c i arg2 harg2 arg3 harg3 arg4 harg4 arg5 harg5 arg6 harg6 arg7 harg7 arg9 x0 x1 x2 x3 x4 x5]
  rfl
theorem inv11 : (kernelRun0_A.sl.v1194 (F := Ideal) c i arg2 harg2 arg3 harg3 arg5 harg5 arg7 harg7 arg9 x0 x1 x3 x5) = k0_pay21 (F := Ideal) (sRead arg9.view (loadsM i arg2 harg2 arg3 harg3 arg4 harg4 arg5 harg5 arg6 harg6 arg7 harg7 x0 x1 x2 x3 x4 x5) 11) := by
  rw [← read11 c i arg2 harg2 arg3 harg3 arg4 harg4 arg5 harg5 arg6 harg6 arg7 harg7 arg9 x0 x1 x2 x3 x4 x5]
  rfl
theorem read12 : (kernelRun0_A.sl.v1273 (F := Ideal) c i arg2 harg2 arg3 harg3 arg5 harg5 arg7 harg7 arg9 x0 x1 x3 x5) = sRead arg9.view (loadsM i arg2 harg2 arg3 harg3 arg4 harg4 arg5 harg5 arg6 harg6 arg7 harg7 x0 x1 x2 x3 x4 x5) 12 := by
  unfold kernelRun0_A.sl.v1273
  rw [hs0_28 c i arg2 harg2 arg3 harg3 arg4 harg4 arg5 harg5 arg6 harg6 arg7 harg7 x0 x1 x2 x3 x4 x5]
  rfl
theorem exp12 : (kernelRun0_A.sl.v1284 (F := Ideal) c i arg2 harg2 arg3 harg3 arg5 harg5 arg7 harg7 arg9 x0 x1 x3 x5) = k0_pay20 (F := Ideal) (sRead arg9.view (loadsM i arg2 harg2 arg3 harg3 arg4 harg4 arg5 harg5 arg6 harg6 arg7 harg7 x0 x1 x2 x3 x4 x5) 12) := by
  rw [← read12 c i arg2 harg2 arg3 harg3 arg4 harg4 arg5 harg5 arg6 harg6 arg7 harg7 arg9 x0 x1 x2 x3 x4 x5]
  rfl
theorem inv12 : (kernelRun0_A.sl.v1286 (F := Ideal) c i arg2 harg2 arg3 harg3 arg5 harg5 arg7 harg7 arg9 x0 x1 x3 x5) = k0_pay21 (F := Ideal) (sRead arg9.view (loadsM i arg2 harg2 arg3 harg3 arg4 harg4 arg5 harg5 arg6 harg6 arg7 harg7 x0 x1 x2 x3 x4 x5) 12) := by
  rw [← read12 c i arg2 harg2 arg3 harg3 arg4 harg4 arg5 harg5 arg6 harg6 arg7 harg7 arg9 x0 x1 x2 x3 x4 x5]
  rfl
theorem read13 : (kernelRun0_A.sl.v1365 (F := Ideal) c i arg2 harg2 arg3 harg3 arg5 harg5 arg7 harg7 arg9 x0 x1 x3 x5) = sRead arg9.view (loadsM i arg2 harg2 arg3 harg3 arg4 harg4 arg5 harg5 arg6 harg6 arg7 harg7 x0 x1 x2 x3 x4 x5) 13 := by
  unfold kernelRun0_A.sl.v1365
  rw [hs0_30 c i arg2 harg2 arg3 harg3 arg4 harg4 arg5 harg5 arg6 harg6 arg7 harg7 x0 x1 x2 x3 x4 x5]
  rfl
theorem exp13 : (kernelRun0_A.sl.v1376 (F := Ideal) c i arg2 harg2 arg3 harg3 arg5 harg5 arg7 harg7 arg9 x0 x1 x3 x5) = k0_pay20 (F := Ideal) (sRead arg9.view (loadsM i arg2 harg2 arg3 harg3 arg4 harg4 arg5 harg5 arg6 harg6 arg7 harg7 x0 x1 x2 x3 x4 x5) 13) := by
  rw [← read13 c i arg2 harg2 arg3 harg3 arg4 harg4 arg5 harg5 arg6 harg6 arg7 harg7 arg9 x0 x1 x2 x3 x4 x5]
  rfl
theorem inv13 : (kernelRun0_A.sl.v1378 (F := Ideal) c i arg2 harg2 arg3 harg3 arg5 harg5 arg7 harg7 arg9 x0 x1 x3 x5) = k0_pay21 (F := Ideal) (sRead arg9.view (loadsM i arg2 harg2 arg3 harg3 arg4 harg4 arg5 harg5 arg6 harg6 arg7 harg7 x0 x1 x2 x3 x4 x5) 13) := by
  rw [← read13 c i arg2 harg2 arg3 harg3 arg4 harg4 arg5 harg5 arg6 harg6 arg7 harg7 arg9 x0 x1 x2 x3 x4 x5]
  rfl
theorem read14 : (kernelRun0_A.sl.v1457 (F := Ideal) c i arg2 harg2 arg3 harg3 arg5 harg5 arg7 harg7 arg9 x0 x1 x3 x5) = sRead arg9.view (loadsM i arg2 harg2 arg3 harg3 arg4 harg4 arg5 harg5 arg6 harg6 arg7 harg7 x0 x1 x2 x3 x4 x5) 14 := by
  unfold kernelRun0_A.sl.v1457
  rw [hs0_32 c i arg2 harg2 arg3 harg3 arg4 harg4 arg5 harg5 arg6 harg6 arg7 harg7 x0 x1 x2 x3 x4 x5]
  rfl
theorem exp14 : (kernelRun0_A.sl.v1468 (F := Ideal) c i arg2 harg2 arg3 harg3 arg5 harg5 arg7 harg7 arg9 x0 x1 x3 x5) = k0_pay20 (F := Ideal) (sRead arg9.view (loadsM i arg2 harg2 arg3 harg3 arg4 harg4 arg5 harg5 arg6 harg6 arg7 harg7 x0 x1 x2 x3 x4 x5) 14) := by
  rw [← read14 c i arg2 harg2 arg3 harg3 arg4 harg4 arg5 harg5 arg6 harg6 arg7 harg7 arg9 x0 x1 x2 x3 x4 x5]
  rfl
theorem inv14 : (kernelRun0_A.sl.v1470 (F := Ideal) c i arg2 harg2 arg3 harg3 arg5 harg5 arg7 harg7 arg9 x0 x1 x3 x5) = k0_pay21 (F := Ideal) (sRead arg9.view (loadsM i arg2 harg2 arg3 harg3 arg4 harg4 arg5 harg5 arg6 harg6 arg7 harg7 x0 x1 x2 x3 x4 x5) 14) := by
  rw [← read14 c i arg2 harg2 arg3 harg3 arg4 harg4 arg5 harg5 arg6 harg6 arg7 harg7 arg9 x0 x1 x2 x3 x4 x5]
  rfl
theorem read15 : (kernelRun0_A.sl.v1488 (F := Ideal) c i arg2 harg2 arg3 harg3 arg5 harg5 arg7 harg7 arg9 x0 x1 x3 x5) = sRead arg9.view (loadsM i arg2 harg2 arg3 harg3 arg4 harg4 arg5 harg5 arg6 harg6 arg7 harg7 x0 x1 x2 x3 x4 x5) 15 := by
  unfold kernelRun0_A.sl.v1488
  rw [hs0_32 c i arg2 harg2 arg3 harg3 arg4 harg4 arg5 harg5 arg6 harg6 arg7 harg7 x0 x1 x2 x3 x4 x5]
  rfl
theorem exp15 : (kernelRun0_A.sl.v1499 (F := Ideal) c i arg2 harg2 arg3 harg3 arg5 harg5 arg7 harg7 arg9 x0 x1 x3 x5) = k0_pay20 (F := Ideal) (sRead arg9.view (loadsM i arg2 harg2 arg3 harg3 arg4 harg4 arg5 harg5 arg6 harg6 arg7 harg7 x0 x1 x2 x3 x4 x5) 15) := by
  rw [← read15 c i arg2 harg2 arg3 harg3 arg4 harg4 arg5 harg5 arg6 harg6 arg7 harg7 arg9 x0 x1 x2 x3 x4 x5]
  rfl
theorem inv15 : (kernelRun0_A.sl.v1501 (F := Ideal) c i arg2 harg2 arg3 harg3 arg5 harg5 arg7 harg7 arg9 x0 x1 x3 x5) = k0_pay21 (F := Ideal) (sRead arg9.view (loadsM i arg2 harg2 arg3 harg3 arg4 harg4 arg5 harg5 arg6 harg6 arg7 harg7 x0 x1 x2 x3 x4 x5) 15) := by
  rw [← read15 c i arg2 harg2 arg3 harg3 arg4 harg4 arg5 harg5 arg6 harg6 arg7 harg7 arg9 x0 x1 x2 x3 x4 x5]
  rfl
theorem hs1_2 : (kernelRun0_A.sl.HS1_2 (F := Ideal) c i arg2 harg2 arg3 harg3 arg5 harg5 arg7 harg7 arg9 x0 x1 x3 x5) = eList arg9.view (loadsM i arg2 harg2 arg3 harg3 arg4 harg4 arg5 harg5 arg6 harg6 arg7 harg7 x0 x1 x2 x3 x4 x5) 1 := by
  unfold kernelRun0_A.sl.HS1_2
  rw [exp1 c i arg2 harg2 arg3 harg3 arg4 harg4 arg5 harg5 arg6 harg6 arg7 harg7 arg9 x0 x1 x2 x3 x4 x5, exp0 c i arg2 harg2 arg3 harg3 arg4 harg4 arg5 harg5 arg6 harg6 arg7 harg7 arg9 x0 x1 x2 x3 x4 x5]
  rfl
theorem hs1_3 : (kernelRun0_A.sl.HS1_3 (F := Ideal) c i arg2 harg2 arg3 harg3 arg5 harg5 arg7 harg7 arg9 x0 x1 x3 x5) = eList arg9.view (loadsM i arg2 harg2 arg3 harg3 arg4 harg4 arg5 harg5 arg6 harg6 arg7 harg7 x0 x1 x2 x3 x4 x5) 2 := by
  unfold kernelRun0_A.sl.HS1_3
  rw [exp2 c i arg2 harg2 arg3 harg3 arg4 harg4 arg5 harg5 arg6 harg6 arg7 harg7 arg9 x0 x1 x2 x3 x4 x5, hs1_2 c i arg2 harg2 arg3 harg3 arg4 harg4 arg5 harg5 arg6 harg6 arg7 harg7 arg9 x0 x1 x2 x3 x4 x5]
  rfl
theorem hs1_4 : (kernelRun0_A.sl.HS1_4 (F := Ideal) c i arg2 harg2 arg3 harg3 arg5 harg5 arg7 harg7 arg9 x0 x1 x3 x5) = eList arg9.view (loadsM i arg2 harg2 arg3 harg3 arg4 harg4 arg5 harg5 arg6 harg6 arg7 harg7 x0 x1 x2 x3 x4 x5) 3 := by
  unfold kernelRun0_A.sl.HS1_4
  rw [exp3 c i arg2 harg2 arg3 harg3 arg4 harg4 arg5 harg5 arg6 harg6 arg7 harg7 arg9 x0 x1 x2 x3 x4 x5, hs1_3 c i arg2 harg2 arg3 harg3 arg4 harg4 arg5 harg5 arg6 harg6 arg7 harg7 arg9 x0 x1 x2 x3 x4 x5]
  rfl
theorem hs1_5 : (kernelRun0_A.sl.HS1_5 (F := Ideal) c i arg2 harg2 arg3 harg3 arg5 harg5 arg7 harg7 arg9 x0 x1 x3 x5) = eList arg9.view (loadsM i arg2 harg2 arg3 harg3 arg4 harg4 arg5 harg5 arg6 harg6 arg7 harg7 x0 x1 x2 x3 x4 x5) 4 := by
  unfold kernelRun0_A.sl.HS1_5
  rw [exp4 c i arg2 harg2 arg3 harg3 arg4 harg4 arg5 harg5 arg6 harg6 arg7 harg7 arg9 x0 x1 x2 x3 x4 x5, hs1_4 c i arg2 harg2 arg3 harg3 arg4 harg4 arg5 harg5 arg6 harg6 arg7 harg7 arg9 x0 x1 x2 x3 x4 x5]
  rfl
theorem hs1_6 : (kernelRun0_A.sl.HS1_6 (F := Ideal) c i arg2 harg2 arg3 harg3 arg5 harg5 arg7 harg7 arg9 x0 x1 x3 x5) = eList arg9.view (loadsM i arg2 harg2 arg3 harg3 arg4 harg4 arg5 harg5 arg6 harg6 arg7 harg7 x0 x1 x2 x3 x4 x5) 5 := by
  unfold kernelRun0_A.sl.HS1_6
  rw [exp5 c i arg2 harg2 arg3 harg3 arg4 harg4 arg5 harg5 arg6 harg6 arg7 harg7 arg9 x0 x1 x2 x3 x4 x5, hs1_5 c i arg2 harg2 arg3 harg3 arg4 harg4 arg5 harg5 arg6 harg6 arg7 harg7 arg9 x0 x1 x2 x3 x4 x5]
  rfl
theorem hs1_7 : (kernelRun0_A.sl.HS1_7 (F := Ideal) c i arg2 harg2 arg3 harg3 arg5 harg5 arg7 harg7 arg9 x0 x1 x3 x5) = eList arg9.view (loadsM i arg2 harg2 arg3 harg3 arg4 harg4 arg5 harg5 arg6 harg6 arg7 harg7 x0 x1 x2 x3 x4 x5) 6 := by
  unfold kernelRun0_A.sl.HS1_7
  rw [exp6 c i arg2 harg2 arg3 harg3 arg4 harg4 arg5 harg5 arg6 harg6 arg7 harg7 arg9 x0 x1 x2 x3 x4 x5, hs1_6 c i arg2 harg2 arg3 harg3 arg4 harg4 arg5 harg5 arg6 harg6 arg7 harg7 arg9 x0 x1 x2 x3 x4 x5]
  rfl
theorem hs1_8 : (kernelRun0_A.sl.HS1_8 (F := Ideal) c i arg2 harg2 arg3 harg3 arg5 harg5 arg7 harg7 arg9 x0 x1 x3 x5) = eList arg9.view (loadsM i arg2 harg2 arg3 harg3 arg4 harg4 arg5 harg5 arg6 harg6 arg7 harg7 x0 x1 x2 x3 x4 x5) 7 := by
  unfold kernelRun0_A.sl.HS1_8
  rw [exp7 c i arg2 harg2 arg3 harg3 arg4 harg4 arg5 harg5 arg6 harg6 arg7 harg7 arg9 x0 x1 x2 x3 x4 x5, hs1_7 c i arg2 harg2 arg3 harg3 arg4 harg4 arg5 harg5 arg6 harg6 arg7 harg7 arg9 x0 x1 x2 x3 x4 x5]
  rfl
theorem hs1_9 : (kernelRun0_A.sl.HS1_9 (F := Ideal) c i arg2 harg2 arg3 harg3 arg5 harg5 arg7 harg7 arg9 x0 x1 x3 x5) = eList arg9.view (loadsM i arg2 harg2 arg3 harg3 arg4 harg4 arg5 harg5 arg6 harg6 arg7 harg7 x0 x1 x2 x3 x4 x5) 8 := by
  unfold kernelRun0_A.sl.HS1_9
  rw [exp8 c i arg2 harg2 arg3 harg3 arg4 harg4 arg5 harg5 arg6 harg6 arg7 harg7 arg9 x0 x1 x2 x3 x4 x5, hs1_8 c i arg2 harg2 arg3 harg3 arg4 harg4 arg5 harg5 arg6 harg6 arg7 harg7 arg9 x0 x1 x2 x3 x4 x5]
  rfl
theorem hs1_10 : (kernelRun0_A.sl.HS1_10 (F := Ideal) c i arg2 harg2 arg3 harg3 arg5 harg5 arg7 harg7 arg9 x0 x1 x3 x5) = eList arg9.view (loadsM i arg2 harg2 arg3 harg3 arg4 harg4 arg5 harg5 arg6 harg6 arg7 harg7 x0 x1 x2 x3 x4 x5) 9 := by
  unfold kernelRun0_A.sl.HS1_10
  rw [exp9 c i arg2 harg2 arg3 harg3 arg4 harg4 arg5 harg5 arg6 harg6 arg7 harg7 arg9 x0 x1 x2 x3 x4 x5, hs1_9 c i arg2 harg2 arg3 harg3 arg4 harg4 arg5 harg5 arg6 harg6 arg7 harg7 arg9 x0 x1 x2 x3 x4 x5]
  rfl
theorem hs1_11 : (kernelRun0_A.sl.HS1_11 (F := Ideal) c i arg2 harg2 arg3 harg3 arg5 harg5 arg7 harg7 arg9 x0 x1 x3 x5) = eList arg9.view (loadsM i arg2 harg2 arg3 harg3 arg4 harg4 arg5 harg5 arg6 harg6 arg7 harg7 x0 x1 x2 x3 x4 x5) 10 := by
  unfold kernelRun0_A.sl.HS1_11
  rw [exp10 c i arg2 harg2 arg3 harg3 arg4 harg4 arg5 harg5 arg6 harg6 arg7 harg7 arg9 x0 x1 x2 x3 x4 x5, hs1_10 c i arg2 harg2 arg3 harg3 arg4 harg4 arg5 harg5 arg6 harg6 arg7 harg7 arg9 x0 x1 x2 x3 x4 x5]
  rfl
theorem hs1_12 : (kernelRun0_A.sl.HS1_12 (F := Ideal) c i arg2 harg2 arg3 harg3 arg5 harg5 arg7 harg7 arg9 x0 x1 x3 x5) = eList arg9.view (loadsM i arg2 harg2 arg3 harg3 arg4 harg4 arg5 harg5 arg6 harg6 arg7 harg7 x0 x1 x2 x3 x4 x5) 11 := by
  unfold kernelRun0_A.sl.HS1_12
  rw [exp11 c i arg2 harg2 arg3 harg3 arg4 harg4 arg5 harg5 arg6 harg6 arg7 harg7 arg9 x0 x1 x2 x3 x4 x5, hs1_11 c i arg2 harg2 arg3 harg3 arg4 harg4 arg5 harg5 arg6 harg6 arg7 harg7 arg9 x0 x1 x2 x3 x4 x5]
  rfl
theorem hs1_13 : (kernelRun0_A.sl.HS1_13 (F := Ideal) c i arg2 harg2 arg3 harg3 arg5 harg5 arg7 harg7 arg9 x0 x1 x3 x5) = eList arg9.view (loadsM i arg2 harg2 arg3 harg3 arg4 harg4 arg5 harg5 arg6 harg6 arg7 harg7 x0 x1 x2 x3 x4 x5) 12 := by
  unfold kernelRun0_A.sl.HS1_13
  rw [exp12 c i arg2 harg2 arg3 harg3 arg4 harg4 arg5 harg5 arg6 harg6 arg7 harg7 arg9 x0 x1 x2 x3 x4 x5, hs1_12 c i arg2 harg2 arg3 harg3 arg4 harg4 arg5 harg5 arg6 harg6 arg7 harg7 arg9 x0 x1 x2 x3 x4 x5]
  rfl
theorem hs1_14 : (kernelRun0_A.sl.HS1_14 (F := Ideal) c i arg2 harg2 arg3 harg3 arg5 harg5 arg7 harg7 arg9 x0 x1 x3 x5) = eList arg9.view (loadsM i arg2 harg2 arg3 harg3 arg4 harg4 arg5 harg5 arg6 harg6 arg7 harg7 x0 x1 x2 x3 x4 x5) 13 := by
  unfold kernelRun0_A.sl.HS1_14
  rw [exp13 c i arg2 harg2 arg3 harg3 arg4 harg4 arg5 harg5 arg6 harg6 arg7 harg7 arg9 x0 x1 x2 x3 x4 x5, hs1_13 c i arg2 harg2 arg3 harg3 arg4 harg4 arg5 harg5 arg6 harg6 arg7 harg7 arg9 x0 x1 x2 x3 x4 x5]
  rfl
theorem hs1_15 : (kernelRun0_A.sl.HS1_15 (F := Ideal) c i arg2 harg2 arg3 harg3 arg5 harg5 arg7 harg7 arg9 x0 x1 x3 x5) = eList arg9.view (loadsM i arg2 harg2 arg3 harg3 arg4 harg4 arg5 harg5 arg6 harg6 arg7 harg7 x0 x1 x2 x3 x4 x5) 14 := by
  unfold kernelRun0_A.sl.HS1_15
  rw [exp14 c i arg2 harg2 arg3 harg3 arg4 harg4 arg5 harg5 arg6 harg6 arg7 harg7 arg9 x0 x1 x2 x3 x4 x5, hs1_14 c i arg2 harg2 arg3 harg3 arg4 harg4 arg5 harg5 arg6 harg6 arg7 harg7 arg9 x0 x1 x2 x3 x4 x5]
  rfl
theorem hs1_16 : (kernelRun0_A.sl.HS1_16 (F := Ideal) c i arg2 harg2 arg3 harg3 arg5 harg5 arg7 harg7 arg9 x0 x1 x3 x5) = eList arg9.view (loadsM i arg2 harg2 arg3 harg3 arg4 harg4 arg5 harg5 arg6 harg6 arg7 harg7 x0 x1 x2 x3 x4 x5) 15 := by
  unfold kernelRun0_A.sl.HS1_16
  rw [exp15 c i arg2 harg2 arg3 harg3 arg4 harg4 arg5 harg5 arg6 harg6 arg7 harg7 arg9 x0 x1 x2 x3 x4 x5, hs1_15 c i arg2 harg2 arg3 harg3 arg4 harg4 arg5 harg5 arg6 harg6 arg7 harg7 arg9 x0 x1 x2 x3 x4 x5]
  rfl
theorem eread0 : (kernelRun0_A.sl.v281 (F := Ideal) c i arg2 harg2 arg3 harg3 arg5 harg5 arg7 harg7 arg9 arg10 x0 x1 x3 x5) = eRead arg9.view arg10.view (loadsM i arg2 harg2 arg3 harg3 arg4 harg4 arg5 harg5 arg6 harg6 arg7 harg7 x0 x1 x2 x3 x4 x5) 0 := by
  unfold kernelRun0_A.sl.v281
  rw [hs1_2 c i arg2 harg2 arg3 harg3 arg4 harg4 arg5 harg5 arg6 harg6 arg7 harg7 arg9 x0 x1 x2 x3 x4 x5]
  rfl
theorem out0 : (kernelRun0_A.sl.v291 (F := Ideal) c i arg2 harg2 arg3 harg3 arg4 harg4 arg5 harg5 arg6 harg6 arg7 harg7 arg9 arg10 x0 x1 x2 x3 x4 x5) = oItem arg9.view arg10.view (loadsM i arg2 harg2 arg3 harg3 arg4 harg4 arg5 harg5 arg6 harg6 arg7 harg7 x0 x1 x2 x3 x4 x5) 0 := by
  unfold oItem
  rw [← inv0 c i arg2 harg2 arg3 harg3 arg4 harg4 arg5 harg5 arg6 harg6 arg7 harg7 arg9 x0 x1 x2 x3 x4 x5, ← eread0 c i arg2 harg2 arg3 harg3 arg4 harg4 arg5 harg5 arg6 harg6 arg7 harg7 arg9 arg10 x0 x1 x2 x3 x4 x5]
  rfl
theorem eread1 : (kernelRun0_A.sl.v373 (F := Ideal) c i arg2 harg2 arg3 harg3 arg5 harg5 arg7 harg7 arg9 arg10 x0 x1 x3 x5) = eRead arg9.view arg10.view (loadsM i arg2 harg2 arg3 harg3 arg4 harg4 arg5 harg5 arg6 harg6 arg7 harg7 x0 x1 x2 x3 x4 x5) 1 := by
  unfold kernelRun0_A.sl.v373
  rw [hs1_3 c i arg2 harg2 arg3 harg3 arg4 harg4 arg5 harg5 arg6 harg6 arg7 harg7 arg9 x0 x1 x2 x3 x4 x5]
  rfl
theorem out1 : (kernelRun0_A.sl.v383 (F := Ideal) c i arg2 harg2 arg3 harg3 arg4 harg4 arg5 harg5 arg6 harg6 arg7 harg7 arg9 arg10 x0 x1 x2 x3 x4 x5) = oItem arg9.view arg10.view (loadsM i arg2 harg2 arg3 harg3 arg4 harg4 arg5 harg5 arg6 harg6 arg7 harg7 x0 x1 x2 x3 x4 x5) 1 := by
  unfold oItem
  rw [← inv1 c i arg2 harg2 arg3 harg3 arg4 harg4 arg5 harg5 arg6 harg6 arg7 harg7 arg9 x0 x1 x2 x3 x4 x5, ← eread1 c i arg2 harg2 arg3 harg3 arg4 harg4 arg5 harg5 arg6 harg6 arg7 harg7 arg9 arg10 x0 x1 x2 x3 x4 x5]
  rfl
theorem eread2 : (kernelRun0_A.sl.v465 (F := Ideal) c i arg2 harg2 arg3 harg3 arg5 harg5 arg7 harg7 arg9 arg10 x0 x1 x3 x5) = eRead arg9.view arg10.view (loadsM i arg2 harg2 arg3 harg3 arg4 harg4 arg5 harg5 arg6 harg6 arg7 harg7 x0 x1 x2 x3 x4 x5) 2 := by
  unfold kernelRun0_A.sl.v465
  rw [hs1_4 c i arg2 harg2 arg3 harg3 arg4 harg4 arg5 harg5 arg6 harg6 arg7 harg7 arg9 x0 x1 x2 x3 x4 x5]
  rfl
theorem out2 : (kernelRun0_A.sl.v475 (F := Ideal) c i arg2 harg2 arg3 harg3 arg4 harg4 arg5 harg5 arg6 harg6 arg7 harg7 arg9 arg10 x0 x1 x2 x3 x4 x5) = oItem arg9.view arg10.view (loadsM i arg2 harg2 arg3 harg3 arg4 harg4 arg5 harg5 arg6 harg6 arg7 harg7 x0 x1 x2 x3 x4 x5) 2 := by
  unfold oItem
  rw [← inv2 c i arg2 harg2 arg3 harg3 arg4 harg4 arg5 harg5 arg6 harg6 arg7 harg7 arg9 x0 x1 x2 x3 x4 x5, ← eread2 c i arg2 harg2 arg3 harg3 arg4 harg4 arg5 harg5 arg6 harg6 arg7 harg7 arg9 arg10 x0 x1 x2 x3 x4 x5]
  rfl
theorem eread3 : (kernelRun0_A.sl.v557 (F := Ideal) c i arg2 harg2 arg3 harg3 arg5 harg5 arg7 harg7 arg9 arg10 x0 x1 x3 x5) = eRead arg9.view arg10.view (loadsM i arg2 harg2 arg3 harg3 arg4 harg4 arg5 harg5 arg6 harg6 arg7 harg7 x0 x1 x2 x3 x4 x5) 3 := by
  unfold kernelRun0_A.sl.v557
  rw [hs1_5 c i arg2 harg2 arg3 harg3 arg4 harg4 arg5 harg5 arg6 harg6 arg7 harg7 arg9 x0 x1 x2 x3 x4 x5]
  rfl
theorem out3 : (kernelRun0_A.sl.v567 (F := Ideal) c i arg2 harg2 arg3 harg3 arg4 harg4 arg5 harg5 arg6 harg6 arg7 harg7 arg9 arg10 x0 x1 x2 x3 x4 x5) = oItem arg9.view arg10.view (loadsM i arg2 harg2 arg3 harg3 arg4 harg4 arg5 harg5 arg6 harg6 arg7 harg7 x0 x1 x2 x3 x4 x5) 3 := by
  unfold oItem
  rw [← inv3 c i arg2 harg2 arg3 harg3 arg4 harg4 arg5 harg5 arg6 harg6 arg7 harg7 arg9 x0 x1 x2 x3 x4 x5, ← eread3 c i arg2 harg2 arg3 harg3 arg4 harg4 arg5 harg5 arg6 harg6 arg7 harg7 arg9 arg10 x0 x1 x2 x3 x4 x5]
  rfl
theorem eread4 : (kernelRun0_A.sl.v649 (F := Ideal) c i arg2 harg2 arg3 harg3 arg5 harg5 arg7 harg7 arg9 arg10 x0 x1 x3 x5) = eRead arg9.view arg10.view (loadsM i arg2 harg2 arg3 harg3 arg4 harg4 arg5 harg5 arg6 harg6 arg7 harg7 x0 x1 x2 x3 x4 x5) 4 := by
  unfold kernelRun0_A.sl.v649
  rw [hs1_6 c i arg2 harg2 arg3 harg3 arg4 harg4 arg5 harg5 arg6 harg6 arg7 harg7 arg9 x0 x1 x2 x3 x4 x5]
  rfl
theorem out4 : (kernelRun0_A.sl.v659 (F := Ideal) c i arg2 harg2 arg3 harg3 arg4 harg4 arg5 harg5 arg6 harg6 arg7 harg7 arg9 arg10 x0 x1 x2 x3 x4 x5) = oItem arg9.view arg10.view (loadsM i arg2 harg2 arg3 harg3 arg4 harg4 arg5 harg5 arg6 harg6 arg7 harg7 x0 x1 x2 x3 x4 x5) 4 := by
  unfold oItem
  rw [← inv4 c i arg2 harg2 arg3 harg3 arg4 harg4 arg5 harg5 arg6 harg6 arg7 harg7 arg9 x0 x1 x2 x3 x4 x5, ← eread4 c i arg2 harg2 arg3 harg3 arg4 harg4 arg5 harg5 arg6 harg6 arg7 harg7 arg9 arg10 x0 x1 x2 x3 x4 x5]
  rfl
theorem eread5 : (kernelRun0_A.sl.v741 (F := Ideal) c i arg2 harg2 arg3 harg3 arg5 harg5 arg7 harg7 arg9 arg10 x0 x1 x3 x5) = eRead arg9.view arg10.view (loadsM i arg2 harg2 arg3 harg3 arg4 harg4 arg5 harg5 arg6 harg6 arg7 harg7 x0 x1 x2 x3 x4 x5) 5 := by
  unfold kernelRun0_A.sl.v741
  rw [hs1_7 c i arg2 harg2 arg3 harg3 arg4 harg4 arg5 harg5 arg6 harg6 arg7 harg7 arg9 x0 x1 x2 x3 x4 x5]
  rfl
theorem out5 : (kernelRun0_A.sl.v751 (F := Ideal) c i arg2 harg2 arg3 harg3 arg4 harg4 arg5 harg5 arg6 harg6 arg7 harg7 arg9 arg10 x0 x1 x2 x3 x4 x5) = oItem arg9.view arg10.view (loadsM i arg2 harg2 arg3 harg3 arg4 harg4 arg5 harg5 arg6 harg6 arg7 harg7 x0 x1 x2 x3 x4 x5) 5 := by
  unfold oItem
  rw [← inv5 c i arg2 harg2 arg3 harg3 arg4 harg4 arg5 harg5 arg6 harg6 arg7 harg7 arg9 x0 x1 x2 x3 x4 x5, ← eread5 c i arg2 harg2 arg3 harg3 arg4 harg4 arg5 harg5 arg6 harg6 arg7 harg7 arg9 arg10 x0 x1 x2 x3 x4 x5]
  rfl
theorem eread6 : (kernelRun0_A.sl.v833 (F := Ideal) c i arg2 harg2 arg3 harg3 arg5 harg5 arg7 harg7 arg9 arg10 x0 x1 x3 x5) = eRead arg9.view arg10.view (loadsM i arg2 harg2 arg3 harg3 arg4 harg4 arg5 harg5 arg6 harg6 arg7 harg7 x0 x1 x2 x3 x4 x5) 6 := by
  unfold kernelRun0_A.sl.v833
  rw [hs1_8 c i arg2 harg2 arg3 harg3 arg4 harg4 arg5 harg5 arg6 harg6 arg7 harg7 arg9 x0 x1 x2 x3 x4 x5]
  rfl
theorem out6 : (kernelRun0_A.sl.v843 (F := Ideal) c i arg2 harg2 arg3 harg3 arg4 harg4 arg5 harg5 arg6 harg6 arg7 harg7 arg9 arg10 x0 x1 x2 x3 x4 x5) = oItem arg9.view arg10.view (loadsM i arg2 harg2 arg3 harg3 arg4 harg4 arg5 harg5 arg6 harg6 arg7 harg7 x0 x1 x2 x3 x4 x5) 6 := by
  unfold oItem
  rw [← inv6 c i arg2 harg2 arg3 harg3 arg4 harg4 arg5 harg5 arg6 harg6 arg7 harg7 arg9 x0 x1 x2 x3 x4 x5, ← eread6 c i arg2 harg2 arg3 harg3 arg4 harg4 arg5 harg5 arg6 harg6 arg7 harg7 arg9 arg10 x0 x1 x2 x3 x4 x5]
  rfl
theorem eread7 : (kernelRun0_A.sl.v925 (F := Ideal) c i arg2 harg2 arg3 harg3 arg5 harg5 arg7 harg7 arg9 arg10 x0 x1 x3 x5) = eRead arg9.view arg10.view (loadsM i arg2 harg2 arg3 harg3 arg4 harg4 arg5 harg5 arg6 harg6 arg7 harg7 x0 x1 x2 x3 x4 x5) 7 := by
  unfold kernelRun0_A.sl.v925
  rw [hs1_9 c i arg2 harg2 arg3 harg3 arg4 harg4 arg5 harg5 arg6 harg6 arg7 harg7 arg9 x0 x1 x2 x3 x4 x5]
  rfl
theorem out7 : (kernelRun0_A.sl.v935 (F := Ideal) c i arg2 harg2 arg3 harg3 arg4 harg4 arg5 harg5 arg6 harg6 arg7 harg7 arg9 arg10 x0 x1 x2 x3 x4 x5) = oItem arg9.view arg10.view (loadsM i arg2 harg2 arg3 harg3 arg4 harg4 arg5 harg5 arg6 harg6 arg7 harg7 x0 x1 x2 x3 x4 x5) 7 := by
  unfold oItem
  rw [← inv7 c i arg2 harg2 arg3 harg3 arg4 harg4 arg5 harg5 arg6 harg6 arg7 harg7 arg9 x0 x1 x2 x3 x4 x5, ← eread7 c i arg2 harg2 arg3 harg3 arg4 harg4 arg5 harg5 arg6 harg6 arg7 harg7 arg9 arg10 x0 x1 x2 x3 x4 x5]
  rfl
theorem eread8 : (kernelRun0_A.sl.v1017 (F := Ideal) c i arg2 harg2 arg3 harg3 arg5 harg5 arg7 harg7 arg9 arg10 x0 x1 x3 x5) = eRead arg9.view arg10.view (loadsM i arg2 harg2 arg3 harg3 arg4 harg4 arg5 harg5 arg6 harg6 arg7 harg7 x0 x1 x2 x3 x4 x5) 8 := by
  unfold kernelRun0_A.sl.v1017
  rw [hs1_10 c i arg2 harg2 arg3 harg3 arg4 harg4 arg5 harg5 arg6 harg6 arg7 harg7 arg9 x0 x1 x2 x3 x4 x5]
  rfl
theorem out8 : (kernelRun0_A.sl.v1027 (F := Ideal) c i arg2 harg2 arg3 harg3 arg4 harg4 arg5 harg5 arg6 harg6 arg7 harg7 arg9 arg10 x0 x1 x2 x3 x4 x5) = oItem arg9.view arg10.view (loadsM i arg2 harg2 arg3 harg3 arg4 harg4 arg5 harg5 arg6 harg6 arg7 harg7 x0 x1 x2 x3 x4 x5) 8 := by
  unfold oItem
  rw [← inv8 c i arg2 harg2 arg3 harg3 arg4 harg4 arg5 harg5 arg6 harg6 arg7 harg7 arg9 x0 x1 x2 x3 x4 x5, ← eread8 c i arg2 harg2 arg3 harg3 arg4 harg4 arg5 harg5 arg6 harg6 arg7 harg7 arg9 arg10 x0 x1 x2 x3 x4 x5]
  rfl
theorem eread9 : (kernelRun0_A.sl.v1109 (F := Ideal) c i arg2 harg2 arg3 harg3 arg5 harg5 arg7 harg7 arg9 arg10 x0 x1 x3 x5) = eRead arg9.view arg10.view (loadsM i arg2 harg2 arg3 harg3 arg4 harg4 arg5 harg5 arg6 harg6 arg7 harg7 x0 x1 x2 x3 x4 x5) 9 := by
  unfold kernelRun0_A.sl.v1109
  rw [hs1_11 c i arg2 harg2 arg3 harg3 arg4 harg4 arg5 harg5 arg6 harg6 arg7 harg7 arg9 x0 x1 x2 x3 x4 x5]
  rfl
theorem out9 : (kernelRun0_A.sl.v1119 (F := Ideal) c i arg2 harg2 arg3 harg3 arg4 harg4 arg5 harg5 arg6 harg6 arg7 harg7 arg9 arg10 x0 x1 x2 x3 x4 x5) = oItem arg9.view arg10.view (loadsM i arg2 harg2 arg3 harg3 arg4 harg4 arg5 harg5 arg6 harg6 arg7 harg7 x0 x1 x2 x3 x4 x5) 9 := by
  unfold oItem
  rw [← inv9 c i arg2 harg2 arg3 harg3 arg4 harg4 arg5 harg5 arg6 harg6 arg7 harg7 arg9 x0 x1 x2 x3 x4 x5, ← eread9 c i arg2 harg2 arg3 harg3 arg4 harg4 arg5 harg5 arg6 harg6 arg7 harg7 arg9 arg10 x0 x1 x2 x3 x4 x5]
  rfl
theorem eread10 : (kernelRun0_A.sl.v1201 (F := Ideal) c i arg2 harg2 arg3 harg3 arg5 harg5 arg7 harg7 arg9 arg10 x0 x1 x3 x5) = eRead arg9.view arg10.view (loadsM i arg2 harg2 arg3 harg3 arg4 harg4 arg5 harg5 arg6 harg6 arg7 harg7 x0 x1 x2 x3 x4 x5) 10 := by
  unfold kernelRun0_A.sl.v1201
  rw [hs1_12 c i arg2 harg2 arg3 harg3 arg4 harg4 arg5 harg5 arg6 harg6 arg7 harg7 arg9 x0 x1 x2 x3 x4 x5]
  rfl
theorem out10 : (kernelRun0_A.sl.v1211 (F := Ideal) c i arg2 harg2 arg3 harg3 arg4 harg4 arg5 harg5 arg6 harg6 arg7 harg7 arg9 arg10 x0 x1 x2 x3 x4 x5) = oItem arg9.view arg10.view (loadsM i arg2 harg2 arg3 harg3 arg4 harg4 arg5 harg5 arg6 harg6 arg7 harg7 x0 x1 x2 x3 x4 x5) 10 := by
  unfold oItem
  rw [← inv10 c i arg2 harg2 arg3 harg3 arg4 harg4 arg5 harg5 arg6 harg6 arg7 harg7 arg9 x0 x1 x2 x3 x4 x5, ← eread10 c i arg2 harg2 arg3 harg3 arg4 harg4 arg5 harg5 arg6 harg6 arg7 harg7 arg9 arg10 x0 x1 x2 x3 x4 x5]
  rfl
theorem eread11 : (kernelRun0_A.sl.v1293 (F := Ideal) c i arg2 harg2 arg3 harg3 arg5 harg5 arg7 harg7 arg9 arg10 x0 x1 x3 x5) = eRead arg9.view arg10.view (loadsM i arg2 harg2 arg3 harg3 arg4 harg4 arg5 harg5 arg6 harg6 arg7 harg7 x0 x1 x2 x3 x4 x5) 11 := by
  unfold kernelRun0_A.sl.v1293
  rw [hs1_13 c i arg2 harg2 arg3 harg3 arg4 harg4 arg5 harg5 arg6 harg6 arg7 harg7 arg9 x0 x1 x2 x3 x4 x5]
  rfl
theorem out11 : (kernelRun0_A.sl.v1303 (F := Ideal) c i arg2 harg2 arg3 harg3 arg4 harg4 arg5 harg5 arg6 harg6 arg7 harg7 arg9 arg10 x0 x1 x2 x3 x4 x5) = oItem arg9.view arg10.view (loadsM i arg2 harg2 arg3 harg3 arg4 harg4 arg5 harg5 arg6 harg6 arg7 harg7 x0 x1 x2 x3 x4 x5) 11 := by
  unfold oItem
  rw [← inv11 c i arg2 harg2 arg3 harg3 arg4 harg4 arg5 harg5 arg6 harg6 arg7 harg7 arg9 x0 x1 x2 x3 x4 x5, ← eread11 c i arg2 harg2 arg3 harg3 arg4 harg4 arg5 harg5 arg6 harg6 arg7 harg7 arg9 arg10 x0 x1 x2 x3 x4 x5]
  rfl
theorem eread12 : (kernelRun0_A.sl.v1385 (F := Ideal) c i arg2 harg2 arg3 harg3 arg5 harg5 arg7 harg7 arg9 arg10 x0 x1 x3 x5) = eRead arg9.view arg10.view (loadsM i arg2 harg2 arg3 harg3 arg4 harg4 arg5 harg5 arg6 harg6 arg7 harg7 x0 x1 x2 x3 x4 x5) 12 := by
  unfold kernelRun0_A.sl.v1385
  rw [hs1_14 c i arg2 harg2 arg3 harg3 arg4 harg4 arg5 harg5 arg6 harg6 arg7 harg7 arg9 x0 x1 x2 x3 x4 x5]
  rfl
theorem out12 : (kernelRun0_A.sl.v1395 (F := Ideal) c i arg2 harg2 arg3 harg3 arg4 harg4 arg5 harg5 arg6 harg6 arg7 harg7 arg9 arg10 x0 x1 x2 x3 x4 x5) = oItem arg9.view arg10.view (loadsM i arg2 harg2 arg3 harg3 arg4 harg4 arg5 harg5 arg6 harg6 arg7 harg7 x0 x1 x2 x3 x4 x5) 12 := by
  unfold oItem
  rw [← inv12 c i arg2 harg2 arg3 harg3 arg4 harg4 arg5 harg5 arg6 harg6 arg7 harg7 arg9 x0 x1 x2 x3 x4 x5, ← eread12 c i arg2 harg2 arg3 harg3 arg4 harg4 arg5 harg5 arg6 harg6 arg7 harg7 arg9 arg10 x0 x1 x2 x3 x4 x5]
  rfl
theorem eread13 : (kernelRun0_A.sl.v1477 (F := Ideal) c i arg2 harg2 arg3 harg3 arg5 harg5 arg7 harg7 arg9 arg10 x0 x1 x3 x5) = eRead arg9.view arg10.view (loadsM i arg2 harg2 arg3 harg3 arg4 harg4 arg5 harg5 arg6 harg6 arg7 harg7 x0 x1 x2 x3 x4 x5) 13 := by
  unfold kernelRun0_A.sl.v1477
  rw [hs1_15 c i arg2 harg2 arg3 harg3 arg4 harg4 arg5 harg5 arg6 harg6 arg7 harg7 arg9 x0 x1 x2 x3 x4 x5]
  rfl
theorem out13 : (kernelRun0_A.sl.v1487 (F := Ideal) c i arg2 harg2 arg3 harg3 arg4 harg4 arg5 harg5 arg6 harg6 arg7 harg7 arg9 arg10 x0 x1 x2 x3 x4 x5) = oItem arg9.view arg10.view (loadsM i arg2 harg2 arg3 harg3 arg4 harg4 arg5 harg5 arg6 harg6 arg7 harg7 x0 x1 x2 x3 x4 x5) 13 := by
  unfold oItem
  rw [← inv13 c i arg2 harg2 arg3 harg3 arg4 harg4 arg5 harg5 arg6 harg6 arg7 harg7 arg9 x0 x1 x2 x3 x4 x5, ← eread13 c i arg2 harg2 arg3 harg3 arg4 harg4 arg5 harg5 arg6 harg6 arg7 harg7 arg9 arg10 x0 x1 x2 x3 x4 x5]
  rfl
theorem eread14 : (kernelRun0_A.sl.v1508 (F := Ideal) c i arg2 harg2 arg3 harg3 arg5 harg5 arg7 harg7 arg9 arg10 x0 x1 x3 x5) = eRead arg9.view arg10.view (loadsM i arg2 harg2 arg3 harg3 arg4 harg4 arg5 harg5 arg6 harg6 arg7 harg7 x0 x1 x2 x3 x4 x5) 14 := by
  unfold kernelRun0_A.sl.v1508
  rw [hs1_16 c i arg2 harg2 arg3 harg3 arg4 harg4 arg5 harg5 arg6 harg6 arg7 harg7 arg9 x0 x1 x2 x3 x4 x5]
  rfl
theorem out14 : (kernelRun0_A.sl.v1518 (F := Ideal) c i arg2 harg2 arg3 harg3 arg4 harg4 arg5 harg5 arg6 harg6 arg7 harg7 arg9 arg10 x0 x1 x2 x3 x4 x5) = oItem arg9.view arg10.view (loadsM i arg2 harg2 arg3 harg3 arg4 harg4 arg5 harg5 arg6 harg6 arg7 harg7 x0 x1 x2 x3 x4 x5) 14 := by
  unfold oItem
  rw [← inv14 c i arg2 harg2 arg3 harg3 arg4 harg4 arg5 harg5 arg6 harg6 arg7 harg7 arg9 x0 x1 x2 x3 x4 x5, ← eread14 c i arg2 harg2 arg3 harg3 arg4 harg4 arg5 harg5 arg6 harg6 arg7 harg7 arg9 arg10 x0 x1 x2 x3 x4 x5]
  rfl
theorem eread15 : (kernelRun0_A.sl.v1525 (F := Ideal) c i arg2 harg2 arg3 harg3 arg5 harg5 arg7 harg7 arg9 arg10 x0 x1 x3 x5) = eRead arg9.view arg10.view (loadsM i arg2 harg2 arg3 harg3 arg4 harg4 arg5 harg5 arg6 harg6 arg7 harg7 x0 x1 x2 x3 x4 x5) 15 := by
  unfold kernelRun0_A.sl.v1525
  rw [hs1_16 c i arg2 harg2 arg3 harg3 arg4 harg4 arg5 harg5 arg6 harg6 arg7 harg7 arg9 x0 x1 x2 x3 x4 x5]
  rfl
theorem out15 : (k0_pay1 (F := Ideal) (kernelRun0_A.sl.r_7 (F := Ideal) c i arg2 harg2 arg3 harg3 arg4 harg4 arg5 harg5 arg6 harg6 arg7 harg7 arg9 arg10 x0 x1 x2 x3 x4 x5)) = oItem arg9.view arg10.view (loadsM i arg2 harg2 arg3 harg3 arg4 harg4 arg5 harg5 arg6 harg6 arg7 harg7 x0 x1 x2 x3 x4 x5) 15 := by
  unfold oItem
  rw [← inv15 c i arg2 harg2 arg3 harg3 arg4 harg4 arg5 harg5 arg6 harg6 arg7 harg7 arg9 x0 x1 x2 x3 x4 x5, ← eread15 c i arg2 harg2 arg3 harg3 arg4 harg4 arg5 harg5 arg6 harg6 arg7 harg7 arg9 arg10 x0 x1 x2 x3 x4 x5]
  rfl
/-- The stores the body's run leaves in the output are the 16 items'. -/
theorem run_pieces :
    (kernelRun0_A (F := Ideal) c i arg2 harg2 arg3 harg3 arg4 harg4 arg5 harg5 arg6 harg6 arg7 harg7 arg8 harg8 arg9 harg9 arg10 harg10 x0 x1 x2 x3 x4 x5).1 = oList arg9.view arg10.view (loads i x0 x1 x2 x3 x4 x5) 15 := by
  unfold kernelRun0_A
  dsimp only
  rw [out15 c i arg2 harg2 arg3 harg3 arg4 harg4 arg5 harg5 arg6 harg6 arg7 harg7 arg9 arg10 x0 x1 x2 x3 x4 x5, out14 c i arg2 harg2 arg3 harg3 arg4 harg4 arg5 harg5 arg6 harg6 arg7 harg7 arg9 arg10 x0 x1 x2 x3 x4 x5, out13 c i arg2 harg2 arg3 harg3 arg4 harg4 arg5 harg5 arg6 harg6 arg7 harg7 arg9 arg10 x0 x1 x2 x3 x4 x5, out12 c i arg2 harg2 arg3 harg3 arg4 harg4 arg5 harg5 arg6 harg6 arg7 harg7 arg9 arg10 x0 x1 x2 x3 x4 x5, out11 c i arg2 harg2 arg3 harg3 arg4 harg4 arg5 harg5 arg6 harg6 arg7 harg7 arg9 arg10 x0 x1 x2 x3 x4 x5, out10 c i arg2 harg2 arg3 harg3 arg4 harg4 arg5 harg5 arg6 harg6 arg7 harg7 arg9 arg10 x0 x1 x2 x3 x4 x5, out9 c i arg2 harg2 arg3 harg3 arg4 harg4 arg5 harg5 arg6 harg6 arg7 harg7 arg9 arg10 x0 x1 x2 x3 x4 x5, out8 c i arg2 harg2 arg3 harg3 arg4 harg4 arg5 harg5 arg6 harg6 arg7 harg7 arg9 arg10 x0 x1 x2 x3 x4 x5, out7 c i arg2 harg2 arg3 harg3 arg4 harg4 arg5 harg5 arg6 harg6 arg7 harg7 arg9 arg10 x0 x1 x2 x3 x4 x5, out6 c i arg2 harg2 arg3 harg3 arg4 harg4 arg5 harg5 arg6 harg6 arg7 harg7 arg9 arg10 x0 x1 x2 x3 x4 x5, out5 c i arg2 harg2 arg3 harg3 arg4 harg4 arg5 harg5 arg6 harg6 arg7 harg7 arg9 arg10 x0 x1 x2 x3 x4 x5, out4 c i arg2 harg2 arg3 harg3 arg4 harg4 arg5 harg5 arg6 harg6 arg7 harg7 arg9 arg10 x0 x1 x2 x3 x4 x5, out3 c i arg2 harg2 arg3 harg3 arg4 harg4 arg5 harg5 arg6 harg6 arg7 harg7 arg9 arg10 x0 x1 x2 x3 x4 x5, out2 c i arg2 harg2 arg3 harg3 arg4 harg4 arg5 harg5 arg6 harg6 arg7 harg7 arg9 arg10 x0 x1 x2 x3 x4 x5, out1 c i arg2 harg2 arg3 harg3 arg4 harg4 arg5 harg5 arg6 harg6 arg7 harg7 arg9 arg10 x0 x1 x2 x3 x4 x5, out0 c i arg2 harg2 arg3 harg3 arg4 harg4 arg5 harg5 arg6 harg6 arg7 harg7 arg9 arg10 x0 x1 x2 x3 x4 x5, loadsM_eq]
  rfl

end Words

end Cert.KernelIdeal.Attn

end
-- ==== Proof.Equation.lean ====
module

public import proofs.«01_k».proof.Proof.Blocks
public import proofs.«01_k».proof.Proof.Ref
public import proofs.«01_k».proof.Proof.Pieces
public import proofs.«01_k».proof.Proof.Gen.KernelIdeal.Value

@[expose] public section

set_option maxRecDepth 16384

noncomputable section

namespace Cert.KernelIdeal.Attn

open Cert.KernelIdeal Cert.KernelIdeal.Gen Cert.KernelIdeal.Value
open Cert.ReferenceIdeal.Attn (lane lat con dotQK refS refV refSc keyOf rowStart colStart biasRow biasCol)
open Idealize.ShloMosaic Idealize.ShloMosaic.TcCoe Idealize.ShloMosaic.Tactic

/-! The scores of a grid point are those of the reference, so the block it writes is its block of the reference. -/

variable (m : (ℓ : Loc nD τ sig) → Buf (Elt Ideal) ℓ)

/-- Every query, every key and every entry of the first bias table is a real number. -/
structure Fin0 (c : Dev nD) : Prop where
  q : ∀ b t e, ∃ r : ℝ, a0 m c (ix3 b t e) = r
  k : ∀ b t e, ∃ r : ℝ, a1 m c (ix3 b t e) = r
  w : ∀ h r l, ∃ x : ℝ, a3 m c (ix4 0 h r l) = x

theorem eighth : Ideal.ofBits .f32 0x3E000000#32 = ((1 / 8 : ℝ) : EReal) := by
  simp [Ideal.ofBits, Ideal.ieee, -EReal.coe_mul]; norm_num

theorem sum_real {ι : Type} (s : Finset ι) (f : ι → EReal) (h : ∀ i, ∃ r : ℝ, f i = r) : ∃ r : ℝ, ∑ i ∈ s, f i = r := by
  refine Finset.sum_induction f (fun x => ∃ r : ℝ, x = r) ?_ ⟨0, by simp⟩ fun i _ => h i
  rintro _ _ ⟨a, rfl⟩ ⟨b, rfl⟩
  exact ⟨a + b, (EReal.coe_add a b).symm⟩

/-- Scaling the queries first scales the product. -/
theorem sdot_eq (c : Dev nD) (b hh : Fin 8) (t u : Fin 4352) : sdot m c b hh t u = dotQK (a0 m c) (a1 m c) b hh t u := by
  unfold sdot dotQK
  rw [eighth, mul_comm (∑ d : Fin 64, _) _, Cert.Attn.mul_sum_of_nonneg _ _ _ (by norm_num)]
  refine Finset.sum_congr rfl fun d _ => ?_
  rw [mul_comm (a0 m c _) _, mul_assoc]
  rfl

theorem dot_real (c : Dev nD) (F : Fin0 m c) (b hh : Fin 8) (t u : Fin 4352) : ∃ r : ℝ, dotQK (a0 m c) (a1 m c) b hh t u = r := by
  unfold dotQK
  obtain ⟨s, hs⟩ := sum_real Finset.univ (fun d : Fin 64 => a0 m c (ix3 b t (lane hh d)) * a1 m c (ix3 b u (lane hh d))) fun d => by
    obtain ⟨x, hx⟩ := F.q b t (lane hh d)
    obtain ⟨y, hy⟩ := F.k b u (lane hh d)
    exact ⟨x * y, by rw [hx, hy, EReal.coe_mul]⟩
  exact ⟨s * (1 / 8), by rw [hs, eighth, EReal.coe_mul]⟩

theorem kPos_row : ∀ (g : Fin 17) (r : Fin 4), g.val < 16 → 64 * bandRow g.val + kPos g.val r.val = 64 * rowStart (4 * g.val + r.val) := by
  decide +kernel

theorem bPos_row : ∀ (g : Fin 17) (r : Fin 4), g.val < 16 →
    bPos g.val r.val + (4 * g.val + r.val) = rowStart (4 * g.val + r.val) + 7 := by
  decide +kernel

/-- The latent token of query `x` of row `r` of tile `g`. -/
def ltok (g : Fin 17) (hg : g.val < 16) (r : Fin 4) (x : Fin 64) : Fin 4096 :=
  ⟨256 * g.val + 64 * r.val + x.val, by have := r.isLt; have := x.isLt; omega⟩

theorem ltok_div (g : Fin 17) (hg : g.val < 16) (r : Fin 4) (x : Fin 64) : (ltok g hg r x).val / 64 = 4 * g.val + r.val := by
  have := x.isLt; show (256 * g.val + 64 * r.val + x.val) / 64 = _; omega
theorem ltok_mod (g : Fin 17) (hg : g.val < 16) (r : Fin 4) (x : Fin 64) : (ltok g hg r x).val % 64 = x.val := by
  have := x.isLt; show (256 * g.val + 64 * r.val + x.val) % 64 = _; omega

/-- The place among the kernel's keys of a key the reference's latent query `x` attends to. -/
def place (x : Fin 64) (y : Fin 384) : Fin 768 :=
  ⟨if y.val < 128 then 64 * (y.val / 16) + (colS x + y.val % 16) else y.val + 384, by
    have := y.isLt; have : colS x ≤ 48 := Nat.min_le_right _ _; split <;> omega⟩

theorem place_inj (x : Fin 64) : Function.Injective (place x) := by
  intro y z h
  have h' : (if y.val < 128 then 64 * (y.val / 16) + (colS x + y.val % 16) else y.val + 384)
    = (if z.val < 128 then 64 * (z.val / 16) + (colS x + z.val % 16) else z.val + 384) := congrArg Fin.val h
  have : colS x ≤ 48 := Nat.min_le_right _ _
  apply Fin.ext
  have := y.isLt; have := z.isLt
  split at h' <;> split at h' <;> omega

theorem ktok_band (g : Fin 17) (hg : g.val < 16) (r : Fin 4) (x : Fin 64) (y : Fin 384) (hy : y.val < 128) :
    ktok g r (place x y) = lat (keyOf (ltok g hg r x) ⟨y.val, hy⟩) := by
  have h1 := kPos_row g r hg
  have : colS x ≤ 48 := Nat.min_le_right _ _
  have e : (place x y).val = 64 * (y.val / 16) + (colS x + y.val % 16) := if_pos hy
  apply Fin.ext
  show (if (place x y).val < 512 then 64 * bandRow g.val + kPos g.val r.val + (place x y).val else _)
    = (rowStart ((ltok g hg r x).val / 64) + y.val / 16) * 64 + (colStart ((ltok g hg r x).val % 64) + y.val % 16)
  rw [if_pos (by omega), ltok_div, ltok_mod, e]
  have : colStart x.val = colS x := rfl
  omega

theorem ktok_ctx (g : Fin 17) (r : Fin 4) (y : Fin 768) (hy : ¬ y.val < 512) :
    ktok g r y = con ⟨y.val - 512, by have := y.isLt; omega⟩ :=
  Fin.ext (if_neg hy)

/-- The bias of a band key the reference's latent query attends to. -/
theorem bias_band (x3 : Tab) (hh : Fin 8) (g : Fin 17) (hg : g.val < 16) (r : Fin 4) (x : Fin 64) (y : Fin 384) (hy : y.val < 128)
    (hp : (place x y).val < 512) :
    colBias x3 hh (brow g r ⟨(place x y).val, hp⟩) x ⟨(place x y).val % 64, Nat.mod_lt _ (by decide)⟩
      = x3 (ix4 0 hh (biasRow (ltok g hg r x) ⟨y.val, hy⟩) (biasCol (ltok g hg r x) ⟨y.val, hy⟩)) := by
  have h1 := bPos_row g r hg
  have : colS x ≤ 48 := Nat.min_le_right _ _
  have e : (place x y).val = 64 * (y.val / 16) + (colS x + y.val % 16) := if_pos hy
  unfold colBias
  have hc : colStart x.val = colS x := rfl
  have hx : x.val < colS x + 16 := by have := x.isLt; show x.val < min (x.val - 8) 48 + 16; omega
  rw [dif_pos (show colS x ≤ (place x y).val % 64 ∧ (place x y).val % 64 < colS x + 16 by omega)]
  have er : brow g r ⟨(place x y).val, hp⟩ = biasRow (ltok g hg r x) ⟨y.val, hy⟩ := by
    apply Fin.ext
    show bPos g.val r.val + (place x y).val / 64 = rowStart ((ltok g hg r x).val / 64) + y.val / 16 + 7 - (ltok g hg r x).val / 64
    rw [ltok_div, e]
    omega
  have ec : ∀ p, (⟨(place x y).val % 64 + 15 - x.val, p⟩ : Fin 31) = biasCol (ltok g hg r x) ⟨y.val, hy⟩ := by
    intro p
    apply Fin.ext
    show (place x y).val % 64 + 15 - x.val = colStart ((ltok g hg r x).val % 64) + y.val % 16 + 15 - (ltok g hg r x).val % 64
    rw [ltok_mod, e, hc]
    omega
  exact congrArg₂ (fun u v => x3 (ix4 0 hh u v)) er (ec _)

/-- A latent query's scores at the keys it attends to are the reference's. -/
theorem score_lat (c : Dev nD) (t : Fin grid0.N) (hg : (tg t).val < 16) (r j : Fin 4) (h : Fin 2) (x : Fin 64) (y : Fin 384) :
    score (lds m c t) r j (hrow h x) (place x y)
      = refS (a0 m c) (a1 m c) (a3 m c) (tb t) (head j h) (ltok (tg t) hg r x) y := by
  have : colS x ≤ 48 := Nat.min_le_right _ _
  have hr := r.isLt
  have hq : qtok (tg t) r x = lat (ltok (tg t) hg r x) := rfl
  unfold refS
  by_cases hy : y.val < 128
  · have e : (place x y).val = 64 * (y.val / 16) + (colS x + y.val % 16) := if_pos hy
    rw [dif_pos hy, score_band m c t r j h x (place x y) (by omega), if_neg (by omega), add_zero, sdot_eq, hq, ktok_band (tg t) hg r x y hy,
      bias_band (a3 m c) (head j h) (tg t) hg r x y hy]
  · have e : (place x y).val = y.val + 384 := if_neg hy
    rw [dif_neg hy, score_ctx m c t r j h x (place x y) (by omega), sdot_eq, hq, ktok_ctx _ _ _ (by omega)]
    refine congrArg (fun z => dotQK (a0 m c) (a1 m c) (tb t) (head j h) _ (con z)) (Fin.ext ?_)
    show (place x y).val - 512 = y.val - 128
    omega

theorem value_lat (c : Dev nD) (t : Fin grid0.N) (hg : (tg t).val < 16) (r j : Fin 4) (h : Fin 2) (x : Fin 64) (d : Fin 64) (y : Fin 384) :
    valA (lds m c t) r j (place x y) (hlane h d)
      = refV (a2 m c) (tb t) (head j h) (ltok (tg t) hg r x) d y := by
  rw [val_at]
  unfold refV
  by_cases hy : y.val < 128
  · rw [dif_pos hy, ktok_band (tg t) hg r x y hy]
    rfl
  · have e : (place x y).val = y.val + 384 := if_neg hy
    rw [dif_neg hy, ktok_ctx _ _ _ (by omega)]
    refine congrArg (fun z => a2 m c (ix3 (tb t) (con z) (lane (head j h) d))) (Fin.ext ?_)
    show (place x y).val - 512 = y.val - 128
    omega

/-- At every other key the score is below every number. -/
theorem score_lat_out (c : Dev nD) (t : Fin grid0.N) (r j : Fin 4) (h : Fin 2) (x : Fin 64) (i : Fin 768)
    (hi : i ∉ Set.range (place x)) : score (lds m c t) r j (hrow h x) i = ⊥ := by
  have hil := i.isLt
  have : colS x ≤ 48 := Nat.min_le_right _ _
  have h512 : i.val < 512 := by
    by_contra hn
    refine hi ⟨⟨i.val - 384, by omega⟩, Fin.ext ?_⟩
    show (if i.val - 384 < 128 then _ else i.val - 384 + 384) = i.val
    rw [if_neg (by omega)]; omega
  have hw : ¬ (colS x ≤ i.val % 64 ∧ i.val % 64 < colS x + 16) := by
    rintro ⟨h1, h2⟩
    refine hi ⟨⟨16 * (i.val / 64) + (i.val % 64 - colS x), by omega⟩, Fin.ext ?_⟩
    show (if 16 * (i.val / 64) + (i.val % 64 - colS x) < 128 then
      64 * ((16 * (i.val / 64) + (i.val % 64 - colS x)) / 16) + (colS x + (16 * (i.val / 64) + (i.val % 64 - colS x)) % 16) else _) = i.val
    rw [if_pos (by omega)]; omega
  rw [score_band m c t r j h x i h512]
  unfold colBias
  rw [dif_neg hw, EReal.bot_add, EReal.add_bot]

theorem refS_real (c : Dev nD) (F : Fin0 m c) (b hh : Fin 8) (t : Fin 4096) (y : Fin 384) :
    ∃ r : ℝ, refS (a0 m c) (a1 m c) (a3 m c) b hh t y = r := by
  unfold refS
  split
  · obtain ⟨u, hu⟩ := dot_real m c F b hh (lat t) (lat (keyOf t ⟨y.val, by assumption⟩))
    obtain ⟨v, hv⟩ := F.w hh (biasRow t ⟨y.val, by assumption⟩) (biasCol t ⟨y.val, by assumption⟩)
    exact ⟨u + v, by rw [hu, hv, EReal.coe_add]⟩
  · exact dot_real m c F _ _ _ _

theorem late_lat (c : Dev nD) (F : Fin0 m c) (t : Fin grid0.N) (hg : (tg t).val < 16) (r j : Fin 4) (h : Fin 2) (x d : Fin 64) :
    Cert.Attn.late (fun y => score (lds m c t) r j (hrow h x) y) (fun y => valA (lds m c t) r j y (hlane h d))
      = Cert.Attn.early (refS (a0 m c) (a1 m c) (a3 m c) (tb t) (head j h) (ltok (tg t) hg r x))
          (refV (a2 m c) (tb t) (head j h) (ltok (tg t) hg r x) d) := by
  choose ρ hρ using refS_real m c F (tb t) (head j h) (ltok (tg t) hg r x)
  rw [Cert.Attn.late_eq_early _ _ (place x) (place_inj x) ρ
    (fun y => (score_lat m c t hg r j h x y).trans (hρ y)) (fun i hi => score_lat_out m c t r j h x i hi)]
  exact congrArg₂ Cert.Attn.early (funext fun y => score_lat m c t hg r j h x y) (funext fun y => value_lat m c t hg r j h x d y)

/-- The place of a context key. -/
def cplace (y : Fin 256) : Fin 768 := ⟨512 + y.val, by have := y.isLt; omega⟩

/-- The context token of query `x` of row `r` of the last tile. -/
def ctok (r : Fin 4) (x : Fin 64) : Fin 256 := ⟨64 * r.val + x.val, by have := r.isLt; have := x.isLt; omega⟩

theorem late_con (c : Dev nD) (F : Fin0 m c) (t : Fin grid0.N) (hg : (tg t).val = 16) (r j : Fin 4) (h : Fin 2) (x d : Fin 64) :
    Cert.Attn.late (fun y => score (lds m c t) r j (hrow h x) y) (fun y => valA (lds m c t) r j y (hlane h d))
      = Cert.Attn.early (refSc (a0 m c) (a1 m c) (tb t) (head j h) (ctok r x))
          (fun y => a2 m c (ix3 (tb t) (con y) (lane (head j h) d))) := by
  have hr := r.isLt
  have hq : qtok (tg t) r x = con (ctok r x) := by
    apply Fin.ext
    show 256 * (tg t).val + 64 * r.val + x.val = 4096 + (64 * r.val + x.val)
    omega
  have hk : ∀ y : Fin 256, ktok (tg t) r (cplace y) = con y := fun y => by
    apply Fin.ext
    show (if 512 + y.val < 512 then _ else 4096 + (512 + y.val - 512)) = 4096 + y.val
    rw [if_neg (by omega)]; omega
  have hs : ∀ y : Fin 256, score (lds m c t) r j (hrow h x) (cplace y) = refSc (a0 m c) (a1 m c) (tb t) (head j h) (ctok r x) y := fun y => by
    rw [score_ctx m c t r j h x (cplace y) (by show ¬ 512 + y.val < 512; omega), sdot_eq, hq, hk]
    rfl
  choose ρ hρ using fun y : Fin 256 => dot_real m c F (tb t) (head j h) (con (ctok r x)) (con y)
  rw [Cert.Attn.late_eq_early _ _ cplace (fun y z e => Fin.ext (by have : 512 + y.val = 512 + z.val := congrArg Fin.val e; omega)) ρ
    (fun y => (hs y).trans (hρ y)) (fun i hi => ?_)]
  · refine congrArg₂ Cert.Attn.early (funext hs) (funext fun y => ?_)
    rw [val_at, hk]
    rfl
  · have hil := i.isLt
    have h512 : i.val < 512 := by
      by_contra hn
      refine hi ⟨⟨i.val - 512, by omega⟩, Fin.ext ?_⟩
      show 512 + (i.val - 512) = i.val
      omega
    rw [score_band m c t r j h x i h512, if_pos (by omega), EReal.add_bot, EReal.add_bot]

/-- The reference of the arguments. -/
def G (c : Dev nD) : (⟨S8x4352x512, .bf16⟩ : BufTy).Contents (Elt Ideal) :=
  Cert.ReferenceIdeal.Read.val_main_v131 (F := Ideal) (a0 m c) (a1 m c) (a2 m c) (a3 m c)

theorem late_G (c : Dev nD) (F : Fin0 m c) (t : Fin grid0.N) (r j : Fin 4) (h : Fin 2) (x d : Fin 64) :
    Cert.Attn.late (fun y => score (lds m c t) r j (hrow h x) y) (fun y => valA (lds m c t) r j y (hlane h d))
      = G m c (ix3 (tb t) (qtok (tg t) r x) (hl (head j h) d)) := by
  have := (tg t).isLt
  by_cases hg : (tg t).val < 16
  · rw [late_lat m c F t hg]
    exact (Cert.ReferenceIdeal.Attn.ref_lat (a0 m c) (a1 m c) (a2 m c) (a3 m c) (tb t) (ltok (tg t) hg r x) (head j h) d).symm
  · have hg' : (tg t).val = 16 := by omega
    have hq : qtok (tg t) r x = con (ctok r x) := by
      apply Fin.ext
      show 256 * (tg t).val + 64 * r.val + x.val = 4096 + (64 * r.val + x.val)
      omega
    rw [late_con m c F t hg', hq]
    exact (Cert.ReferenceIdeal.Attn.ref_con (a0 m c) (a1 m c) (a2 m c) (a3 m c) (tb t) (ctok r x) (head j h) d).symm

theorem out_eq (c : Dev nD) (t : Fin cfg0.N) :
    (dats m 0 c).flushed 6 t = (cfg0.win 6).cut (grid0.coords t)
      (View.canon (oList scM0_0.view scM0_1.view (lds m c t) 15) : Vec Ideal S1x256x512 .bf16) := by
  rw [flushed6_A]
  unfold out0_A_6
  rw [View.read_writes_junk_eq_canon, run_pieces]
  rfl

theorem flushed6_eq (c : Dev nD) (F : Fin0 m c) (t : Fin cfg0.N) :
    (dats m 0 c).flushed 6 t = ((cfg0.win 6).blk t).view.read (Elt Ideal) (G m c) := by
  rw [out_eq]
  funext i
  have h0 : (i 0).val < 1 := (i 0).isLt
  have h1 : (i 1).val < 256 := (i 1).isLt
  have h2 : (i 2).val < 512 := (i 2).isLt
  show View.canon (oList scM0_0.view scM0_1.view (lds m c t) 15) i = G m c (((cfg0.win 6).blk t).view.emb i)
  have hn := canon_oList scM0_0.view scM0_1.view (lds m c t) (4 * ((i 1).val / 64) + (i 2).val / 128)
    ⟨(i 1).val % 64, Nat.mod_lt _ (by decide)⟩ (hlane ⟨(i 2).val / 64 % 2, Nat.mod_lt _ (by decide)⟩ ⟨(i 2).val % 64, Nat.mod_lt _ (by decide)⟩)
    15 (by omega) (by omega)
  have e1 : (ir (4 * ((i 1).val / 64) + (i 2).val / 128)).val = (i 1).val / 64 := by
    show (4 * ((i 1).val / 64) + (i 2).val / 128) / 4 % 4 = _; omega
  have e2 : (ij (4 * ((i 1).val / 64) + (i 2).val / 128)).val = (i 2).val / 128 := by
    show (4 * ((i 1).val / 64) + (i 2).val / 128) % 4 = _; omega
  refine Eq.trans (congrArg _ ?_) (hn.trans ?_)
  · funext a
    apply Fin.ext
    match a with
    | ⟨0, _⟩ => show (i 0).val = 0; omega
    | ⟨1, _⟩ => show (i 1).val = 64 * (ir _).val + (i 1).val % 64; rw [e1]; omega
    | ⟨2, _⟩ => show (i 2).val = 128 * (ij _).val + (64 * ((i 2).val / 64 % 2) + (i 2).val % 64); rw [e2]; omega
  · rw [oItem_apply _ _ _ _ (by omega), late_G m c F t]
    refine congrArg (G m c) ?_
    have w0 := idx6_eq t 0
    have w1 := idx6_eq t 1
    have w2 := idx6_eq t 2
    funext a
    apply Fin.ext
    match a with
    | ⟨0, _⟩ =>
      show (grid0.coords t 0).val = win0_6.index t 0 * 1 + 1 * (i 0).val
      rw [w0]; show (grid0.coords t 0).val = (grid0.coords t 0).val * 1 + 1 * (i 0).val; omega
    | ⟨1, _⟩ =>
      show 256 * (grid0.coords t 1).val + 64 * (ir _).val + (i 1).val % 64 = win0_6.index t 1 * 256 + 1 * (i 1).val
      rw [w1, e1]; show _ = (grid0.coords t 1).val * 256 + 1 * (i 1).val; omega
    | ⟨2, _⟩ =>
      show 64 * (2 * (ij _).val + (i 2).val / 64 % 2) + (i 2).val % 64 = win0_6.index t 2 * 512 + 1 * (i 2).val
      rw [w2, e2]; show _ = 0 * 512 + 1 * (i 2).val; omega

theorem covered6 (i : S8x4352x512.Idx) :
    ∃ t : Fin cfg0.N, (cfg0.win 6).flush t = true ∧ i ∈ ((cfg0.win 6).blk t).view.set := by
  have h0 : (i 0).val < 8 := (i 0).isLt
  have h1 : (i 1).val < 4352 := (i 1).isLt
  have h2 : (i 2).val < 512 := (i 2).isLt
  obtain ⟨t, hb, hg⟩ := point ⟨(i 0).val, h0⟩ ⟨(i 1).val / 256, by omega⟩
  refine ⟨t, flush0_6 t, ?_⟩
  have h := ((cfg0.win 6).blk t).view.emb_mem_set (ix3 (0 : Fin 1) (⟨(i 1).val % 256, Nat.mod_lt _ (by decide)⟩ : Fin 256) (⟨(i 2).val, h2⟩ : Fin 512))
  have e : ((cfg0.win 6).blk t).view.emb (ix3 (0 : Fin 1) (⟨(i 1).val % 256, Nat.mod_lt _ (by decide)⟩ : Fin 256) (⟨(i 2).val, h2⟩ : Fin 512)) = i := by
    have w0 := idx6_eq t 0
    have w1 := idx6_eq t 1
    have w2 := idx6_eq t 2
    have hg' : (grid0.coords t 1).val = (i 1).val / 256 := hg
    have hb' : (grid0.coords t 0).val = (i 0).val := hb
    funext a
    apply Fin.ext
    match a with
    | ⟨0, _⟩ =>
      show win0_6.index t 0 * 1 + 1 * 0 = (i 0).val
      rw [w0]; show (grid0.coords t 0).val * 1 + 1 * 0 = (i 0).val; omega
    | ⟨1, _⟩ =>
      show win0_6.index t 1 * 256 + 1 * ((i 1).val % 256) = (i 1).val
      rw [w1]; show (grid0.coords t 1).val * 256 + 1 * ((i 1).val % 256) = (i 1).val; omega
    | ⟨2, _⟩ =>
      show win0_6.index t 2 * 512 + 1 * (i 2).val = (i 2).val
      rw [w2]; show 0 * 512 + 1 * (i 2).val = (i 2).val; omega
  rwa [e] at h

/-- The array the kernel leaves is the reference of the arguments. -/
theorem final6 (c : Dev nD) (F : Fin0 m c) : (dats m 0 c).arrAt 6 cfg0.N = G m c :=
  (dats m 0 c).arrAt_eq_of_cover 6 (G m c) (fun t _ => flushed6_eq m c F t) covered6

end Cert.KernelIdeal.Attn

end
-- ==== Proof.Finite.lean ====
module

public import proofs.«01_k».proof.Defs
public import proofs.«01_k».proof.Proof.Equation

@[expose] public section

noncomputable section

namespace Cert.Proof

open Idealize.ShloMosaic Idealize.ShloMosaic.TcCoe Idealize.ShloMosaic.Tactic

/-! The precondition, read at an element: its queries, keys and first bias table are real numbers. -/

theorem facts_finite : Cert.Pre_finite.Facts where
  bcast_S_S8x4352x512 := by decide
  slices_S2x8x15x31_S1x8x15x31_0_0_0_0 := by decide
  shapeCasts_S1x8x15x31_S8x15x31 := by decide
  bcast_S_S8x15x31 := by decide

/-- A value whose absolute value is below infinity is a real number. -/
theorem real_of_abs_lt (x : EReal) (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

open Cert.KernelIdeal.Attn in
theorem fin0 (m : (ℓ : Loc Cert.KernelIdeal.nD Cert.KernelIdeal.τ Cert.KernelIdeal.sig) → Buf (Elt Ideal) ℓ)
    (h : Cert.Pre_KernelIdeal_finite (hPre_finite := facts_finite) m) (c : Dev Cert.KernelIdeal.nD) : Fin0 m c := by
  obtain ⟨h0, h1, h3⟩ := h c
  refine ⟨fun b t e => ?_, fun b t e => ?_, fun hh r l => ?_⟩
  · exact real_of_abs_lt _ (congrFun h0 (ix3 b t e))
  · exact real_of_abs_lt _ (congrFun h1 (ix3 b t e))
  · have h3' := congrFun h3 (ix3 hh r l)
    refine real_of_abs_lt _ (Eq.trans (congrArg (fun z => Ideal.cmp .olt (max z (-z)) (Ideal.ofBits .f32 0x7F800000#32)) ?_) h3')
    have := hh.isLt; have := r.isLt; have := l.isLt
    letI := facts_finite
    refine Eq.symm (Eq.trans (shapeCast_apply _ facts_finite.shapeCasts_S1x8x15x31_S8x15x31 (ix3 hh r l) (ix4 0 hh r l) ?_) ?_)
    · rw [Shape.rowMajor_val_four, Shape.rowMajor_val_three]
      show ((0 * 8 + hh.val) * 15 + r.val) * 31 + l.val = (hh.val * 15 + r.val) * 31 + l.val
      omega
    · show a3 m c _ = a3 m c _
      refine congrArg (a3 m c) ?_
      idx_ext

end Cert.Proof

end
-- ==== Proof.FfnRef.lean ====
module

public import proofs.«01_k».proof.Proof.Gen.Reference2Ideal.Read
public import Idealize.ShloMosaic.Lib.Pointwise

@[expose] public section

set_option maxRecDepth 16384

noncomputable section

open Idealize.ShloMosaic

namespace Cert.Ffn

/-! The last feed-forward half of a row of the stream. -/

/-- A row over the root of its mean square. -/
def rms (x : Fin 1024 → EReal) (k : Fin 1024) : EReal :=
  x k * Ideal.rsqrt (Ideal.div (∑ e : Fin 1024, x e * x e) (Ideal.ofBits .f32 0x44800000#32) + Ideal.ofBits .f32 0x358637BD#32)

/-- The modulated row. -/
def hid (x g sh sc : Fin 1024 → EReal) (k : Fin 1024) : EReal :=
  rms x k * g k * (Ideal.ofBits .f32 0x3F800000#32 + sc k) + sh k

/-- A hidden unit: the gate's activation times the value. -/
def unit (h a u : Fin 1024 → EReal) : EReal :=
  (∑ k : Fin 1024, h k * a k) * Ideal.logistic (∑ k : Fin 1024, h k * a k) * ∑ k : Fin 1024, h k * u k

/-- The row after its feed-forward half. -/
def res (x g sh sc gt : Fin 1024 → EReal) (wg wu : Fin 1024 → Fin 2816 → EReal) (wd : Fin 2816 → Fin 1024 → EReal)
    (n : Fin 1024) : EReal :=
  x n + Ideal.ofBits .f32 0x3F000000#32 * gt n
    * ∑ f : Fin 2816, unit (hid x g sh sc) (fun k => wg k f) (fun k => wu k f) * wd f n

/-- The row after the final norm. -/
def out (x g sh sc gt : Fin 1024 → EReal) (wg wu : Fin 1024 → Fin 2816 → EReal) (wd : Fin 2816 → Fin 1024 → EReal)
    (fg : Fin 1024 → EReal) (n : Fin 1024) : EReal :=
  rms (res x g sh sc gt wg wu wd) n * fg n

theorem one_f32 : Ideal.ofBits .f32 0x3F800000#32 = 1 := by
  simp [Ideal.ofBits, Ideal.ieee, -EReal.coe_mul]; norm_num

end Cert.Ffn

namespace Cert.Reference2Ideal.Ffn

open Cert.Reference2Ideal Cert.Reference2Ideal.Gen Cert.Reference2Ideal.Read
open Idealize.ShloMosaic.TcCoe Idealize.ShloMosaic.Tactic

/-! The reference at an index is the feed-forward half of the token's row. -/

variable (x0 : (⟨S8x4096x1024, .f32⟩ : BufTy).Contents (Elt Ideal)) (x1 : (⟨S8x9216, .f32⟩ : BufTy).Contents (Elt Ideal))
  (x2 : (⟨S2x3x1024, .f32⟩ : BufTy).Contents (Elt Ideal)) (x3 x4 : (⟨S2x1024x2816, .f32⟩ : BufTy).Contents (Elt Ideal))
  (x5 : (⟨S2x2816x1024, .f32⟩ : BufTy).Contents (Elt Ideal)) (x6 : (⟨S1024, .f32⟩ : BufTy).Contents (Elt Ideal))

/-- Vector `i` of a batch's modulation. -/
def mod (b : Fin 8) (i : Fin 9) (k : Fin 1024) : EReal :=
  x1 (ix2 b (⟨1024 * i.val + k.val, by have := i.isLt; have := k.isLt; omega⟩ : Fin 9216))

/-- A token's row. -/
def tok (b : Fin 8) (t : Fin 4096) (k : Fin 1024) : EReal := x0 (ix3 b t k)

/-- The norm's gains. -/
def gain (k : Fin 1024) : EReal := x2 (ix3 (1 : Fin 2) (2 : Fin 3) k)

/-- A matrix of the last layer. -/
def wt (w : (⟨S2x1024x2816, .f32⟩ : BufTy).Contents (Elt Ideal)) (k : Fin 1024) (f : Fin 2816) : EReal := w (ix3 (1 : Fin 2) k f)

theorem v7_at (b : Fin 8) (k : Fin 1024) : val_main_v7 (F := Ideal) x1 (ix3 b (0 : Fin 1) k) = mod x1 b 6 k := by
  have := b.isLt; have := k.isLt
  rw [val_main_v7_apply, val_main_v0_apply]
  refine congrArg x1 ?_
  idx_ext

theorem v8_at (b : Fin 8) (k : Fin 1024) : val_main_v8 (F := Ideal) x1 (ix3 b (0 : Fin 1) k) = mod x1 b 7 k := by
  have := b.isLt; have := k.isLt
  rw [val_main_v8_apply, val_main_v0_apply]
  refine congrArg x1 ?_
  idx_ext

theorem v9_at (b : Fin 8) (k : Fin 1024) : val_main_v9 (F := Ideal) x1 (ix3 b (0 : Fin 1) k) = mod x1 b 8 k := by
  have := b.isLt; have := k.isLt
  rw [val_main_v9_apply, val_main_v0_apply]
  refine congrArg x1 ?_
  idx_ext

theorem v13_at (k : Fin 1024) : val_main_v13 (F := Ideal) x2 (ix1 k) = gain x2 k := by
  have := k.isLt
  rw [val_main_v13_apply, val_main_v12_apply, val_main_v11_apply, val_main_v10_apply]
  refine congrArg x2 ?_
  idx_ext

theorem v23_at (b : Fin 8) (t : Fin 4096) (k : Fin 1024) :
    val_main_v23 (F := Ideal) x0 (ix3 b t k) = Cert.Ffn.rms (tok x0 b t) k := by
  have e : idx_main_v22 (ix3 b t k) = ix3 b t (0 : Fin 1) := by idx_ext
  have e1 : idx_main_v16 (ix3 b t (0 : Fin 1)) = ix2 b t := by idx_ext
  have e2 : ∀ k : Fin 1024, idx_main_v15 (ix2 b t) k = ix3 b t k := fun k => by idx_ext
  rw [val_main_v23_apply, val_main_v22_apply, e, val_main_v21_apply, val_main_v20_apply, val_main_v18_apply, val_main_v16_apply, e1,
    val_main_v15_apply, val_main_v17_apply, val_main_cst_0_apply, val_main_v19_apply, val_main_cst_1_apply, val_main_cst_apply]
  simp only [e2, val_main_v14_apply]
  have z : (FloatOps.ofBits (F := Ideal) .f32 0x00000000#32 : EReal) = 0 := Ideal.ofBits_zero_f32
  have h := fun s : EReal => (congrArg (· + s) z).trans (zero_add s)
  exact congrArg (fun s : EReal => x0 (ix3 b t k) * Ideal.rsqrt (Ideal.div s _ + _)) (h _)

theorem v32_at (b : Fin 8) (t : Fin 4096) (k : Fin 1024) :
    val_main_v32 (F := Ideal) x0 x1 x2 (ix3 b t k) = Cert.Ffn.hid (tok x0 b t) (gain x2) (mod x1 b 6) (mod x1 b 7) k := by
  have e : idx_main_v31 (ix3 b t k) = ix3 b (0 : Fin 1) k := by idx_ext
  have e1 : idx_main_v29 (ix3 b t k) = ix3 b (0 : Fin 1) k := by idx_ext
  have e2 : idx_main_v24 (idx_main_v25 (ix3 b t k)) = ix1 k := by idx_ext
  rw [val_main_v32_apply, val_main_v30_apply, val_main_v26_apply, v23_at, val_main_v25_apply, val_main_v24_apply, e2, v13_at,
    val_main_v29_apply, e1, val_main_v28_apply, val_main_v27_apply, val_main_cst_2_apply, v8_at, val_main_v31_apply, e, v7_at]
  rfl

theorem v34_at (k : Fin 1024) (f : Fin 2816) : val_main_v34 (F := Ideal) x3 (ix2 k f) = wt x3 k f := by
  have := k.isLt; have := f.isLt
  rw [val_main_v34_apply, val_main_v33_apply]
  refine congrArg x3 ?_
  idx_ext

theorem v38_at (k : Fin 1024) (f : Fin 2816) : val_main_v38 (F := Ideal) x4 (ix2 k f) = wt x4 k f := by
  have := k.isLt; have := f.isLt
  rw [val_main_v38_apply, val_main_v37_apply]
  refine congrArg x4 ?_
  idx_ext

/-- The last matrix of the last layer. -/
def wo (f : Fin 2816) (n : Fin 1024) : EReal := x5 (ix3 (1 : Fin 2) f n)

theorem v42_at (f : Fin 2816) (n : Fin 1024) : val_main_v42 (F := Ideal) x5 (ix2 f n) = wo x5 f n := by
  have := n.isLt; have := f.isLt
  rw [val_main_v42_apply, val_main_v41_apply]
  refine congrArg x5 ?_
  idx_ext

theorem v35_at (b : Fin 8) (t : Fin 4096) (f : Fin 2816) :
    val_main_v35 (F := Ideal) x0 x1 x2 x3 (ix3 b t f)
      = ∑ k : Fin 1024, Cert.Ffn.hid (tok x0 b t) (gain x2) (mod x1 b 6) (mod x1 b 7) k * wt x3 k f := by
  have e : ∀ k : Fin 1024, lidx_main_v35 (ix3 b t f) k = ix3 b t k := fun k => by idx_ext
  have e1 : ∀ k : Fin 1024, ridx_main_v35 (ix3 b t f) k = ix2 k f := fun k => by idx_ext
  rw [val_main_v35_apply]
  simp only [e, e1, v32_at, v34_at]

theorem v39_at (b : Fin 8) (t : Fin 4096) (f : Fin 2816) :
    val_main_v39 (F := Ideal) x0 x1 x2 x4 (ix3 b t f)
      = ∑ k : Fin 1024, Cert.Ffn.hid (tok x0 b t) (gain x2) (mod x1 b 6) (mod x1 b 7) k * wt x4 k f := by
  have e : ∀ k : Fin 1024, lidx_main_v39 (ix3 b t f) k = ix3 b t k := fun k => by idx_ext
  have e1 : ∀ k : Fin 1024, ridx_main_v39 (ix3 b t f) k = ix2 k f := fun k => by idx_ext
  rw [val_main_v39_apply]
  simp only [e, e1, v32_at, v38_at]

theorem v40_at (b : Fin 8) (t : Fin 4096) (f : Fin 2816) :
    val_main_v40 (F := Ideal) x0 x1 x2 x3 x4 (ix3 b t f)
      = Cert.Ffn.unit (Cert.Ffn.hid (tok x0 b t) (gain x2) (mod x1 b 6) (mod x1 b 7)) (fun k => wt x3 k f) (fun k => wt x4 k f) := by
  rw [val_main_v40_apply, val_main_v36_apply, v39_at, val_main_call0_v5_apply, val_main_call0_v4_apply, val_main_call0_cst_0_apply,
    val_main_call0_v3_apply, val_main_call0_v2_apply, val_main_call0_cst_apply, val_main_call0_v1_apply, val_main_call0_v0_apply, v35_at]
  unfold Cert.Ffn.unit Ideal.logistic
  rw [← Cert.Ffn.one_f32]
  rfl

theorem v48_at (b : Fin 8) (t : Fin 4096) (n : Fin 1024) :
    val_main_v48 (F := Ideal) x0 x1 x2 x3 x4 x5 (ix3 b t n)
      = Cert.Ffn.res (tok x0 b t) (gain x2) (mod x1 b 6) (mod x1 b 7) (mod x1 b 8) (wt x3) (wt x4) (wo x5) n := by
  have e : idx_main_v46 (ix3 b t n) = ix3 b (0 : Fin 1) n := by idx_ext
  have e1 : ∀ k : Fin 2816, lidx_main_v43 (ix3 b t n) k = ix3 b t k := fun k => by idx_ext
  have e2 : ∀ k : Fin 2816, ridx_main_v43 (ix3 b t n) k = ix2 k n := fun k => by idx_ext
  rw [val_main_v48_apply, val_main_v47_apply, val_main_v46_apply, e, val_main_v45_apply, val_main_v44_apply, val_main_cst_3_apply, v9_at,
    val_main_v43_apply]
  simp only [e1, e2, v40_at, v42_at]
  rfl

/-- The reference at an index. -/
theorem v61_at (b : Fin 8) (t : Fin 4096) (n : Fin 1024) :
    val_main_v61 (F := Ideal) x0 x1 x2 x3 x4 x5 x6 (ix3 b t n)
      = Cert.Ffn.out (tok x0 b t) (gain x2) (mod x1 b 6) (mod x1 b 7) (mod x1 b 8) (wt x3) (wt x4) (wo x5) (fun k => x6 (ix1 k)) n := by
  have e : idx_main_v57 (ix3 b t n) = ix3 b t (0 : Fin 1) := by idx_ext
  have e1 : idx_main_v51 (ix3 b t (0 : Fin 1)) = ix2 b t := by idx_ext
  have e2 : ∀ k : Fin 1024, idx_main_v50 (ix2 b t) k = ix3 b t k := fun k => by idx_ext
  have e3 : idx_main_v59 (idx_main_v60 (ix3 b t n)) = ix1 n := by idx_ext
  rw [val_main_v61_apply, val_main_v58_apply, val_main_v57_apply, e, val_main_v56_apply, val_main_v55_apply, val_main_v53_apply,
    val_main_v51_apply, e1, val_main_v50_apply, val_main_v52_apply, val_main_cst_5_apply, val_main_v54_apply, val_main_cst_6_apply,
    val_main_cst_4_apply, val_main_v60_apply, val_main_v59_apply, e3]
  simp only [e2, val_main_v49_apply, v48_at]
  have z : (FloatOps.ofBits (F := Ideal) .f32 0x00000000#32 : EReal) = 0 := Ideal.ofBits_zero_f32
  have h := fun s : EReal => (congrArg (· + s) z).trans (zero_add s)
  exact congrArg (fun s : EReal => Cert.Ffn.res (tok x0 b t) (gain x2) (mod x1 b 6) (mod x1 b 7) (mod x1 b 8) (wt x3) (wt x4) (wo x5) n
    * Ideal.rsqrt (Ideal.div s _ + _) * x6 (ix1 n)) (h _)

end Cert.Reference2Ideal.Ffn

end
-- ==== Proof.FfnValue.lean ====
module

public import proofs.«01_k».proof.Proof.Gen.Kernel2Ideal.Skeleton
public import proofs.«01_k».proof.Proof.FfnRef
public import Idealize.ShloMosaic.Lib.Pointwise
public import Idealize.ShloMosaic.Lib.MatmulPlain

@[expose] public section

set_option maxRecDepth 16384

noncomputable section

namespace Cert.Kernel2Ideal.Ffn

open Cert.Kernel2Ideal Cert.Kernel2Ideal.Gen
open Idealize.ShloMosaic Idealize.ShloMosaic.TcCoe Idealize.ShloMosaic.Tactic

/-! What the body stores, at an index. -/

/-- A row of the second of two stacked blocks. -/
def low (r : Fin 256) : Fin 512 := ⟨256 + r.val, by have := r.isLt; omega⟩
/-- A row of the first of two stacked blocks. -/
def high (r : Fin 256) : Fin 512 := ⟨r.val, by have := r.isLt; omega⟩

theorem pay5_at (v0 : Vec Ideal S1x256x1024 .f32) (v4 : Vec Ideal S1x1024 .f32) (v6 v8 : Vec Ideal S1x1x1024 .f32) (r : Fin 256) (k : Fin 1024) :
    k0_pay5 v0 v4 v6 v8 (ix2 r k)
      = Cert.Ffn.hid (fun k => v0 (ix3 0 r k)) (fun k => v4 (ix2 0 k)) (fun k => v6 (ix3 0 0 k)) (fun k => v8 (ix3 0 0 k)) k := by
  pointwise [k0_pay5, k0_pay2, k0_pay4]
  unfold Cert.Ffn.hid Cert.Ffn.rms
  rw [Cert.Ffn.one_f32]

theorem pay9_high (v2 v0 : Vec Ideal S1x256x1024 .f32) (v4 : Vec Ideal S1x1024 .f32) (v6 v8 v28 v30 : Vec Ideal S1x1x1024 .f32) (r : Fin 256) (k : Fin 1024) :
    k0_pay9 (k0_pay3 v2) (k0_pay4 v4) (k0_pay5 v0 v4 v6 v8) (k0_pay6 v28) (k0_pay7 v30) (k0_pay8 v2) (ix2 (high r) k)
      = Cert.Ffn.hid (fun k => v0 (ix3 0 r k)) (fun k => v4 (ix2 0 k)) (fun k => v6 (ix3 0 0 k)) (fun k => v8 (ix3 0 0 k)) k := by
  rw [← pay5_at]
  generalize k0_pay5 v0 v4 v6 v8 = y
  have hr : (high r).val < 256 := r.isLt
  pointwise [k0_pay9]
  rw [dif_pos hr]
  rfl

theorem pay9_low (v2 : Vec Ideal S1x256x1024 .f32) (y : FVec Ideal S256x1024 .f32) (v4 : Vec Ideal S1x1024 .f32) (v28 v30 : Vec Ideal S1x1x1024 .f32) (r : Fin 256) (k : Fin 1024) :
    k0_pay9 (k0_pay3 v2) (k0_pay4 v4) y (k0_pay6 v28) (k0_pay7 v30) (k0_pay8 v2) (ix2 (low r) k)
      = Cert.Ffn.hid (fun k => v2 (ix3 0 r k)) (fun k => v4 (ix2 0 k)) (fun k => v28 (ix3 0 0 k)) (fun k => v30 (ix3 0 0 k)) k := by
  have hr : ¬ (low r).val < 256 := by show ¬ 256 + r.val < 256; omega
  have e : ∀ p, (⟨(low r).val - 256, p⟩ : Fin 256) = r := fun p => Fin.ext (by show 256 + r.val - 256 = r.val; omega)
  pointwise [k0_pay9, k0_pay3, k0_pay4, k0_pay6, k0_pay7, k0_pay8]
  rw [dif_neg hr]
  simp only [e]
  unfold Cert.Ffn.hid Cert.Ffn.rms
  rw [Cert.Ffn.one_f32]

theorem pay14_at (h : FVec Ideal S512x1024 .bf16) (a u : Vec Ideal S1x1024x256 .bf16) (p : Fin 512) (f : Fin 256) :
    k0_pay14 h a u (ix2 p f) = Cert.Ffn.unit (fun k => h (ix2 p k)) (fun k => a (ix3 0 k f)) (fun k => u (ix3 0 k f)) := by
  pointwise [k0_pay14]
  unfold Cert.Ffn.unit
  rfl

theorem pay25_at (t : Vec Ideal S512x2816 .bf16) (w : Vec Ideal S1x2816x1024 .bf16) (p : Fin 512) (n : Fin 1024) :
    k0_pay25 t w (ix2 p n) = ∑ f : Fin 2816, (t (ix2 p f) : EReal) * (w (ix3 0 f n) : EReal) := by
  pointwise [k0_pay25]

/-- A row after its feed-forward half, from the half's product. -/
def resK (x gt y : Fin 1024 → EReal) (n : Fin 1024) : EReal := x n + Ideal.ofBits .f32 0x3F000000#32 * gt n * y n

theorem pay26_at (v0 : Vec Ideal S1x256x1024 .f32) (y : FVec Ideal S512x1024 .f32) (v199 : Vec Ideal S1x1x1024 .f32) (v207 : Vec Ideal S1x1024 .f32)
    (r : Fin 256) (n : Fin 1024) :
    k0_pay26 (k0_pay2 v0) y v199 v207 (ix3 0 r n)
      = Cert.Ffn.rms (resK (fun k => v0 (ix3 0 r k)) (fun k => v199 (ix3 0 0 k)) (fun k => y (ix2 (high r) k))) n * v207 (ix2 0 n) := by
  pointwise [k0_pay26, k0_pay2]
  unfold Cert.Ffn.rms resK
  rfl

theorem pay1_at (v2 : Vec Ideal S1x256x1024 .f32) (y : FVec Ideal S512x1024 .f32) (v224 : Vec Ideal S1x1x1024 .f32) (v232 : Vec Ideal S1x1024 .f32)
    (r : Fin 256) (n : Fin 1024) :
    k0_pay1 (k0_pay27 (k0_pay3 v2) y v224) (k0_pay28 v232) (k0_pay29 (k0_pay3 v2) y v224) (ix3 0 r n)
      = Cert.Ffn.rms (resK (fun k => v2 (ix3 0 r k)) (fun k => v224 (ix3 0 0 k)) (fun k => y (ix2 (low r) k))) n * v232 (ix2 0 n) := by
  pointwise [k0_pay1, k0_pay27, k0_pay28, k0_pay29, k0_pay3]
  unfold Cert.Ffn.rms resK
  rfl

end Cert.Kernel2Ideal.Ffn

end
-- ==== Proof.FfnPieces.lean ====
module

public import proofs.«01_k».proof.Proof.FfnValue
public import proofs.«01_k».proof.Proof.Gen.Kernel2Ideal.Frame
public import Idealize.ShloMosaic.Lib.Pipeline.ValueKit

@[expose] public section

set_option maxRecDepth 16384

noncomputable section

namespace Cert.Kernel2Ideal.Ffn

open Cert.Kernel2Ideal Cert.Kernel2Ideal.Gen
open Idealize.ShloMosaic Idealize.ShloMosaic.TcCoe Idealize.ShloMosaic.Tactic

/-! The body's stores: eleven column chunks of hidden units into the scratch buffer, and one block of each of its two
batches into the output. -/

/-- The chunk of number `n`. -/
def ch (n : Nat) : Fin 11 := ⟨n % 11, Nat.mod_lt _ (by decide)⟩

theorem inb_w (n : Fin 11) (a : Fin 3) : (![0, 0, 256 * n.val] : Fin 3 → Nat) a + S1x1024x256.size a ≤ S1x1024x2816.size a := by
  have := n.isLt
  match a with
  | ⟨0, _⟩ => show 0 + 1 ≤ 1; omega
  | ⟨1, _⟩ => show 0 + 1024 ≤ 1024; omega
  | ⟨2, _⟩ => show 256 * n.val + 256 ≤ 2816; omega

theorem inb_t (n : Fin 11) (a : Fin 2) : (![0, 256 * n.val] : Fin 2 → Nat) a + S512x256.size a ≤ S512x2816.size a := by
  have := n.isLt
  match a with
  | ⟨0, _⟩ => show 0 + 512 ≤ 512; omega
  | ⟨1, _⟩ => show 256 * n.val + 256 ≤ 2816; omega

/-- What the body loads. -/
structure Loads where
  /-- The two batches' rows of the stream. -/
  x : Fin 2 → Vec Ideal S1x256x1024 .f32
  /-- Their modulation rows. -/
  md : Fin 2 → Fin 9 → Vec Ideal S1x1x1024 .f32
  /-- The gain. -/
  g : Vec Ideal S1x1024 .f32
  /-- The gate's columns. -/
  a : Fin 11 → Vec Ideal S1x1024x256 .bf16
  /-- The value's columns. -/
  u : Fin 11 → Vec Ideal S1x1024x256 .bf16
  /-- The output weights. -/
  w : Vec Ideal S1x2816x1024 .bf16
  /-- The final gain. -/
  fg : Vec Ideal S1x1024 .f32

/-- The modulated rows of both batches, stacked. -/
def hidS (A : Loads) : FVec Ideal S512x1024 .bf16 :=
  k0_pay9 (k0_pay3 (A.x 1)) (k0_pay4 A.g) (k0_pay5 (A.x 0) A.g (A.md 0 6) (A.md 0 7)) (k0_pay6 (A.md 1 6)) (k0_pay7 (A.md 1 7)) (k0_pay8 (A.x 1))

/-- The store of a chunk. -/
def tPiece (A : Loads) (n : Fin 11) : View.Piece (Elt Ideal) S512x2816 .bf16 :=
  ⟨Rect.unit (s := S512x2816) ![0, 256 * n.val] S512x256.size (inb_t n), k0_pay14 (hidS A) (A.a n) (A.u n)⟩

theorem piece0 (A : Loads) (a u : Vec Ideal S1x1024x256 .bf16) (ha : a = A.a (ch 0)) (hu : u = A.u (ch 0)) :
    (⟨Rect.unit (s := S512x2816) ![0, 0] S512x256.size inb_S512x2816_S512x256_0_0, k0_pay10 (k0_pay3 (A.x 1)) (k0_pay4 A.g) (k0_pay5 (A.x 0) A.g (A.md 0 6) (A.md 0 7)) (k0_pay6 (A.md 1 6)) (k0_pay7 (A.md 1 7)) (k0_pay8 (A.x 1)) a u⟩ : View.Piece (Elt Ideal) S512x2816 .bf16)
      = tPiece A (ch 0) := by
  subst ha hu
  rfl

theorem piece1 (A : Loads) (a u : Vec Ideal S1x1024x256 .bf16) (ha : a = A.a (ch 1)) (hu : u = A.u (ch 1)) :
    (⟨Rect.unit (s := S512x2816) ![0, 256] S512x256.size inb_S512x2816_S512x256_0_256, k0_pay13 (k0_pay11 (k0_pay3 (A.x 1)) (k0_pay4 A.g) (k0_pay5 (A.x 0) A.g (A.md 0 6) (A.md 0 7)) (k0_pay6 (A.md 1 6)) (k0_pay7 (A.md 1 7)) (k0_pay8 (A.x 1)) a) (k0_pay12 (k0_pay3 (A.x 1)) (k0_pay4 A.g) (k0_pay5 (A.x 0) A.g (A.md 0 6) (A.md 0 7)) (k0_pay6 (A.md 1 6)) (k0_pay7 (A.md 1 7)) (k0_pay8 (A.x 1)) u)⟩ : View.Piece (Elt Ideal) S512x2816 .bf16)
      = tPiece A (ch 1) := by
  subst ha hu
  rfl

theorem piece2 (A : Loads) (a u : Vec Ideal S1x1024x256 .bf16) (ha : a = A.a (ch 2)) (hu : u = A.u (ch 2)) :
    (⟨Rect.unit (s := S512x2816) ![0, 512] S512x256.size inb_S512x2816_S512x256_0_512, k0_pay14 (hidS A) a u⟩ : View.Piece (Elt Ideal) S512x2816 .bf16)
      = tPiece A (ch 2) := by
  subst ha hu
  rfl

theorem piece3 (A : Loads) (a u : Vec Ideal S1x1024x256 .bf16) (ha : a = A.a (ch 3)) (hu : u = A.u (ch 3)) :
    (⟨Rect.unit (s := S512x2816) ![0, 768] S512x256.size inb_S512x2816_S512x256_0_768, k0_pay15 (hidS A) a u⟩ : View.Piece (Elt Ideal) S512x2816 .bf16)
      = tPiece A (ch 3) := by
  subst ha hu
  rfl

theorem piece4 (A : Loads) (a u : Vec Ideal S1x1024x256 .bf16) (ha : a = A.a (ch 4)) (hu : u = A.u (ch 4)) :
    (⟨Rect.unit (s := S512x2816) ![0, 1024] S512x256.size inb_S512x2816_S512x256_0_1024, k0_pay16 (hidS A) a u⟩ : View.Piece (Elt Ideal) S512x2816 .bf16)
      = tPiece A (ch 4) := by
  subst ha hu
  rfl

theorem piece5 (A : Loads) (a u : Vec Ideal S1x1024x256 .bf16) (ha : a = A.a (ch 5)) (hu : u = A.u (ch 5)) :
    (⟨Rect.unit (s := S512x2816) ![0, 1280] S512x256.size inb_S512x2816_S512x256_0_1280, k0_pay17 (hidS A) a u⟩ : View.Piece (Elt Ideal) S512x2816 .bf16)
      = tPiece A (ch 5) := by
  subst ha hu
  rfl

theorem piece6 (A : Loads) (a u : Vec Ideal S1x1024x256 .bf16) (ha : a = A.a (ch 6)) (hu : u = A.u (ch 6)) :
    (⟨Rect.unit (s := S512x2816) ![0, 1536] S512x256.size inb_S512x2816_S512x256_0_1536, k0_pay20 (k0_pay18 (hidS A) a) (k0_pay19 (hidS A) u)⟩ : View.Piece (Elt Ideal) S512x2816 .bf16)
      = tPiece A (ch 6) := by
  subst ha hu
  rfl

theorem piece7 (A : Loads) (a u : Vec Ideal S1x1024x256 .bf16) (ha : a = A.a (ch 7)) (hu : u = A.u (ch 7)) :
    (⟨Rect.unit (s := S512x2816) ![0, 1792] S512x256.size inb_S512x2816_S512x256_0_1792, k0_pay21 (hidS A) a u⟩ : View.Piece (Elt Ideal) S512x2816 .bf16)
      = tPiece A (ch 7) := by
  subst ha hu
  rfl

theorem piece8 (A : Loads) (a u : Vec Ideal S1x1024x256 .bf16) (ha : a = A.a (ch 8)) (hu : u = A.u (ch 8)) :
    (⟨Rect.unit (s := S512x2816) ![0, 2048] S512x256.size inb_S512x2816_S512x256_0_2048, k0_pay22 (hidS A) a u⟩ : View.Piece (Elt Ideal) S512x2816 .bf16)
      = tPiece A (ch 8) := by
  subst ha hu
  rfl

theorem piece9 (A : Loads) (a u : Vec Ideal S1x1024x256 .bf16) (ha : a = A.a (ch 9)) (hu : u = A.u (ch 9)) :
    (⟨Rect.unit (s := S512x2816) ![0, 2304] S512x256.size inb_S512x2816_S512x256_0_2304, k0_pay23 (hidS A) a u⟩ : View.Piece (Elt Ideal) S512x2816 .bf16)
      = tPiece A (ch 9) := by
  subst ha hu
  rfl

theorem piece10 (A : Loads) (a u : Vec Ideal S1x1024x256 .bf16) (ha : a = A.a (ch 10)) (hu : u = A.u (ch 10)) :
    (⟨Rect.unit (s := S512x2816) ![0, 2560] S512x256.size inb_S512x2816_S512x256_0_2560, k0_pay24 (hidS A) a u⟩ : View.Piece (Elt Ideal) S512x2816 .bf16)
      = tPiece A (ch 10) := by
  subst ha hu
  rfl

/-- The chunks stored after chunk `n`, the last first. -/
def tList (A : Loads) : Nat → List (View.Piece (Elt Ideal) S512x2816 .bf16)
  | 0 => [tPiece A (ch 0)]
  | n + 1 => tPiece A (ch (n + 1)) :: tList A n

/-- The hidden units read back. -/
def tRead (v : View sig .tc .vmem S512x2816 .bf16) (A : Loads) : Vec Ideal S512x2816 .bf16 :=
  v.readCov (tList A 10) (Rect.unit (s := S512x2816) ![0, 0] S512x2816.size inb_S512x2816_S512x2816_0_0).toLoadRect

/-- The product with the output weights. -/
def prod (v : View sig .tc .vmem S512x2816 .bf16) (A : Loads) : FVec Ideal S512x1024 .f32 := k0_pay25 (tRead v A) A.w

/-- The output's stores, the last first. -/
def oList (v : View sig .tc .vmem S512x2816 .bf16) (A : Loads) : List (View.Piece (Elt Ideal) S2x256x1024 .f32) :=
  [⟨Rect.unit (s := S2x256x1024) ![1, 0, 0] S1x256x1024.size inb_S2x256x1024_S1x256x1024_1_0_0,
      k0_pay1 (k0_pay27 (k0_pay3 (A.x 1)) (prod v A) (A.md 1 8)) (k0_pay28 A.fg) (k0_pay29 (k0_pay3 (A.x 1)) (prod v A) (A.md 1 8))⟩,
    ⟨Rect.unit (s := S2x256x1024) ![0, 0, 0] S1x256x1024.size inb_S2x256x1024_S1x256x1024_0_0_0,
      k0_pay26 (k0_pay2 (A.x 0)) (prod v A) (A.md 0 8) A.fg⟩]

theorem inb_x (b : Fin 2) (a : Fin 3) : (![b.val, 0, 0] : Fin 3 → Nat) a + S1x256x1024.size a ≤ S2x256x1024.size a := by
  have := b.isLt
  match a with
  | ⟨0, _⟩ => show b.val + 1 ≤ 2; omega
  | ⟨1, _⟩ => show 0 + 256 ≤ 256; omega
  | ⟨2, _⟩ => show 0 + 1024 ≤ 1024; omega

theorem inb_md (b : Fin 2) (j : Fin 9) (a : Fin 3) : (![b.val, j.val, 0] : Fin 3 → Nat) a + S1x1x1024.size a ≤ S2x9x1024.size a := by
  have := b.isLt
  have := j.isLt
  match a with
  | ⟨0, _⟩ => show b.val + 1 ≤ 2; omega
  | ⟨1, _⟩ => show j.val + 1 ≤ 9; omega
  | ⟨2, _⟩ => show 0 + 1024 ≤ 1024; omega

/-- The loads from the windows' contents. -/
def loads (x0 : Vec Ideal S2x256x1024 .f32) (x1 : Vec Ideal S2x9x1024 .f32) (x2 : Vec Ideal S3x1024 .f32)
    (x3 x4 : Vec Ideal S1x1024x2816 .bf16) (x5 : Vec Ideal S1x2816x1024 .bf16) (x6 : Vec Ideal S1x1024 .f32) : Loads where
  x b := View.ld x0 (Rect.unit ![b.val, 0, 0] S1x256x1024.size (inb_x b))
  md b j := View.ld x1 (Rect.unit ![b.val, j.val, 0] S1x1x1024.size (inb_md b j))
  g := View.ld x2 (Rect.unit ![2, 0] S1x1024.size inb_S3x1024_S1x1024_2_0)
  a n := View.ld x3 (Rect.unit ![0, 0, 256 * n.val] S1x1024x256.size (inb_w n))
  u n := View.ld x4 (Rect.unit ![0, 0, 256 * n.val] S1x1024x256.size (inb_w n))
  w := View.ld x5 (Rect.unit ![0, 0, 0] S1x2816x1024.size inb_S1x2816x1024_S1x2816x1024_0_0_0)
  fg := View.ld x6 (Rect.unit ![0, 0] S1x1024.size inb_S1x1024_S1x1024_0_0)

section Words

variable (c : Dev nD) (i : grid0.Coords) (arg2 : Memref sig .tc .vmem S2x256x1024 .f32) (harg2 : arg2.IsWhole) (arg3 : Memref sig .tc .vmem S2x9x1024 .f32) (harg3 : arg3.IsWhole) (arg4 : Memref sig .tc .vmem S3x1024 .f32) (harg4 : arg4.IsWhole) (arg5 : Memref sig .tc .vmem S1x1024x2816 .bf16) (harg5 : arg5.IsWhole) (arg6 : Memref sig .tc .vmem S1x1024x2816 .bf16) (harg6 : arg6.IsWhole) (arg7 : Memref sig .tc .vmem S1x2816x1024 .bf16) (harg7 : arg7.IsWhole) (arg8 : Memref sig .tc .vmem S1x1024 .f32) (harg8 : arg8.IsWhole) (arg9 : Memref sig .tc .vmem S2x256x1024 .f32) (harg9 : arg9.IsWhole) (arg10 : Memref sig .tc .vmem S512x2816 .bf16) (harg10 : arg10.IsWhole)
    (x0 : Vec Ideal S2x256x1024 .f32) (x1 : Vec Ideal S2x9x1024 .f32) (x2 : Vec Ideal S3x1024 .f32) (x3 : Vec Ideal S1x1024x2816 .bf16) (x4 : Vec Ideal S1x1024x2816 .bf16) (x5 : Vec Ideal S1x2816x1024 .bf16) (x6 : Vec Ideal S1x1024 .f32)

/-- The same loads through the windows' memory references. -/
def loadsM : Loads where
  x b := View.readAt (Elt Ideal) arg2.view (Rect.unit (s := S2x256x1024) ![b.val, 0, 0] S1x256x1024.size (inb_x b)).toLoadRect (harg2.unread x0)
  md b j := View.readAt (Elt Ideal) arg3.view (Rect.unit (s := S2x9x1024) ![b.val, j.val, 0] S1x1x1024.size (inb_md b j)).toLoadRect (harg3.unread x1)
  g := View.readAt (Elt Ideal) arg4.view (Rect.unit (s := S3x1024) ![2, 0] S1x1024.size inb_S3x1024_S1x1024_2_0).toLoadRect (harg4.unread x2)
  a n := View.readAt (Elt Ideal) arg5.view (Rect.unit (s := S1x1024x2816) ![0, 0, 256 * n.val] S1x1024x256.size (inb_w n)).toLoadRect (harg5.unread x3)
  u n := View.readAt (Elt Ideal) arg6.view (Rect.unit (s := S1x1024x2816) ![0, 0, 256 * n.val] S1x1024x256.size (inb_w n)).toLoadRect (harg6.unread x4)
  w := View.readAt (Elt Ideal) arg7.view (Rect.unit (s := S1x2816x1024) ![0, 0, 0] S1x2816x1024.size inb_S1x2816x1024_S1x2816x1024_0_0_0).toLoadRect (harg7.unread x5)
  fg := View.readAt (Elt Ideal) arg8.view (Rect.unit (s := S1x1024) ![0, 0] S1x1024.size inb_S1x1024_S1x1024_0_0).toLoadRect (harg8.unread x6)

/-- They are the loads of the windows' contents. -/
theorem loadsM_eq : loadsM arg2 harg2 arg3 harg3 arg4 harg4 arg5 harg5 arg6 harg6 arg7 harg7 arg8 harg8 x0 x1 x2 x3 x4 x5 x6 = loads x0 x1 x2 x3 x4 x5 x6 := by
  unfold loadsM loads
  simp only [View.readAt_eq_ld, harg2.read_unread, harg3.read_unread, harg4.read_unread, harg5.read_unread, harg6.read_unread, harg7.read_unread,
    harg8.read_unread]

theorem hid_eq : kernelRun0_A.sl.r_7 (F := Ideal) c arg2 harg2 arg3 harg3 arg4 harg4 x0 x1 x2
    = hidS (loadsM arg2 harg2 arg3 harg3 arg4 harg4 arg5 harg5 arg6 harg6 arg7 harg7 arg8 harg8 x0 x1 x2 x3 x4 x5 x6) := rfl

set_option maxHeartbeats 4000000 in
theorem tList_eq : kernelRun0_A.sl.HS0_11 (F := Ideal) c arg2 harg2 arg3 harg3 arg4 harg4 arg5 harg5 arg6 harg6 x0 x1 x2 x3 x4
    = tList (loadsM arg2 harg2 arg3 harg3 arg4 harg4 arg5 harg5 arg6 harg6 arg7 harg7 arg8 harg8 x0 x1 x2 x3 x4 x5 x6) 10 := by
  let A := (loadsM arg2 harg2 arg3 harg3 arg4 harg4 arg5 harg5 arg6 harg6 arg7 harg7 arg8 harg8 x0 x1 x2 x3 x4 x5 x6)
  exact
    (congrArg₂ List.cons (piece10 A _ _ rfl rfl)
    (congrArg₂ List.cons (piece9 A _ _ rfl rfl)
    (congrArg₂ List.cons (piece8 A _ _ rfl rfl)
    (congrArg₂ List.cons (piece7 A _ _ rfl rfl)
    (congrArg₂ List.cons (piece6 A _ _ rfl rfl)
    (congrArg₂ List.cons (piece5 A _ _ rfl rfl)
    (congrArg₂ List.cons (piece4 A _ _ rfl rfl)
    (congrArg₂ List.cons (piece3 A _ _ rfl rfl)
    (congrArg₂ List.cons (piece2 A _ _ rfl rfl)
    (congrArg₂ List.cons (piece1 A _ _ rfl rfl) (congrArg (fun z => [z]) (piece0 A _ _ rfl rfl))))))))))))

theorem prod_eq : kernelRun0_A.sl.r_12 (F := Ideal) c arg2 harg2 arg3 harg3 arg4 harg4 arg5 harg5 arg6 harg6 arg7 harg7 arg10 x0 x1 x2 x3 x4 x5
    = prod arg10.view (loadsM arg2 harg2 arg3 harg3 arg4 harg4 arg5 harg5 arg6 harg6 arg7 harg7 arg8 harg8 x0 x1 x2 x3 x4 x5 x6) := by
  unfold prod tRead
  rw [← tList_eq c arg2 harg2 arg3 harg3 arg4 harg4 arg5 harg5 arg6 harg6 arg7 harg7 arg8 harg8 x0 x1 x2 x3 x4 x5 x6]
  rfl

/-- The stores the body's run leaves in the output. -/
theorem run_pieces :
    (kernelRun0_A (F := Ideal) c i arg2 harg2 arg3 harg3 arg4 harg4 arg5 harg5 arg6 harg6 arg7 harg7 arg8 harg8 arg9 harg9 arg10 harg10 x0 x1 x2 x3 x4 x5 x6).1
      = oList arg10.view (loads x0 x1 x2 x3 x4 x5 x6) := by
  rw [← loadsM_eq arg2 harg2 arg3 harg3 arg4 harg4 arg5 harg5 arg6 harg6 arg7 harg7 arg8 harg8 x0 x1 x2 x3 x4 x5 x6]
  unfold oList kernelRun0_A
  dsimp only
  unfold kernelRun0_A.sl.r_14 kernelRun0_A.sl.r_16
  rw [prod_eq c arg2 harg2 arg3 harg3 arg4 harg4 arg5 harg5 arg6 harg6 arg7 harg7 arg8 harg8 arg10 x0 x1 x2 x3 x4 x5 x6]
  rfl

end Words

theorem canon_tList (A : Loads) (n : Nat) (p : Fin 512) (f : Fin 256) :
    ∀ N, n ≤ N → N < 11 → View.canon (tList A N)
      (ix2 p (⟨256 * (ch n).val + f.val, by have := (ch n).isLt; have := f.isLt; omega⟩ : Fin 2816))
      = k0_pay14 (hidS A) (A.a (ch n)) (A.u (ch n)) (ix2 p f) := by
  have hf := f.isLt
  have hself : ∀ L, View.canon ((⟨Rect.unit (s := S512x2816) ![0, 256 * (ch n).val] S512x256.size (inb_t (ch n)), k0_pay14 (hidS A) (A.a (ch n)) (A.u (ch n))⟩ :
      View.Piece (Elt Ideal) S512x2816 .bf16) :: L)
      (ix2 p (⟨256 * (ch n).val + f.val, by have := (ch n).isLt; have := f.isLt; omega⟩ : Fin 2816))
      = k0_pay14 (hidS A) (A.a (ch n)) (A.u (ch n)) (ix2 p f) := by
    intro L
    have e : (Rect.unit (s := S512x2816) ![0, 256 * (ch n).val] S512x256.size (inb_t (ch n))).emb (ix2 p f)
        = ix2 p (⟨256 * (ch n).val + f.val, by have := (ch n).isLt; have := f.isLt; omega⟩ : Fin 2816) := by
      funext a
      apply Fin.ext
      match a with
      | ⟨0, _⟩ => show 0 + 1 * p.val = p.val; omega
      | ⟨1, _⟩ => show 256 * (ch n).val + 1 * f.val = 256 * (ch n).val + f.val; omega
    rw [← e]
    exact View.canon_cons_emb (Val := Elt Ideal) _ _ _ _
  intro N
  induction N with
  | zero =>
    intro h0 _
    obtain rfl : n = 0 := by omega
    exact hself []
  | succ N ih =>
    intro hn hN
    by_cases h : n = N + 1
    · subst h
      exact hself _
    · refine Eq.trans ?_ (ih (by omega) (by omega))
      show View.canon (_ :: tList A N) _ = _
      refine View.canon_cons_of_not_mem _ _ ?_
      intro hm
      have h1 := (Rect.mem_set_unit (inb := inb_t (ch (N + 1)))).1 hm 1
      have h1' : 256 * ((N + 1) % 11) ≤ 256 * (n % 11) + f.val ∧ 256 * (n % 11) + f.val < 256 * ((N + 1) % 11) + 256 := h1
      omega

/-- The hidden units read back, at an index. -/
theorem tRead_at (v : View sig .tc .vmem S512x2816 .bf16) (A : Loads) (p : Fin 512) (f : Fin 2816) :
    tRead v A (ix2 p f) = Cert.Ffn.unit (fun k => hidS A (ix2 p k))
      (fun k => A.a (ch (f.val / 256)) (ix3 0 k ⟨f.val % 256, Nat.mod_lt _ (by decide)⟩))
      (fun k => A.u (ch (f.val / 256)) (ix3 0 k ⟨f.val % 256, Nat.mod_lt _ (by decide)⟩)) := by
  have hf := f.isLt
  unfold tRead
  rw [View.readCov_eq_canon']
  rw [← pay14_at, ← canon_tList A (f.val / 256) p ⟨f.val % 256, Nat.mod_lt _ (by decide)⟩ 10 (by omega) (by omega)]
  refine congrArg (View.canon (tList A 10)) ?_
  funext a
  apply Fin.ext
  match a with
  | ⟨0, _⟩ => show 0 + 1 * p.val = p.val; omega
  | ⟨1, _⟩ => show 0 + 1 * f.val = 256 * (f.val / 256 % 11) + f.val % 256; omega

theorem prod_at (v : View sig .tc .vmem S512x2816 .bf16) (A : Loads) (p : Fin 512) (n : Fin 1024) :
    prod v A (ix2 p n) = ∑ f : Fin 2816, Cert.Ffn.unit (fun k => hidS A (ix2 p k))
      (fun k => A.a (ch (f.val / 256)) (ix3 0 k ⟨f.val % 256, Nat.mod_lt _ (by decide)⟩))
      (fun k => A.u (ch (f.val / 256)) (ix3 0 k ⟨f.val % 256, Nat.mod_lt _ (by decide)⟩)) * A.w (ix3 0 f n) := by
  unfold prod
  rw [pay25_at]
  exact Finset.sum_congr rfl fun f _ => by rw [tRead_at]

theorem canon_high (v : View sig .tc .vmem S512x2816 .bf16) (A : Loads) (r : Fin 256) (n : Fin 1024) :
    View.canon (oList v A) (ix3 (0 : Fin 2) r n) = k0_pay26 (k0_pay2 (A.x 0)) (prod v A) (A.md 0 8) A.fg (ix3 0 r n) := by
  unfold oList
  refine (View.canon_cons_of_not_mem _ _ ?_).trans ?_
  · intro hm
    have h : 1 ≤ 0 ∧ 0 < 1 + 1 := (Rect.mem_set_unit (inb := inb_S2x256x1024_S1x256x1024_1_0_0)).1 hm 0
    omega
  · have e : (Rect.unit (s := S2x256x1024) ![0, 0, 0] S1x256x1024.size inb_S2x256x1024_S1x256x1024_0_0_0).emb (ix3 (0 : Fin 1) r n) = ix3 (0 : Fin 2) r n := by
      funext a
      apply Fin.ext
      match a with
      | ⟨0, _⟩ => rfl
      | ⟨1, _⟩ => show 0 + 1 * r.val = r.val; omega
      | ⟨2, _⟩ => show 0 + 1 * n.val = n.val; omega
    rw [← e]
    exact View.canon_cons_emb (Val := Elt Ideal) _ _ _ _

theorem canon_low (v : View sig .tc .vmem S512x2816 .bf16) (A : Loads) (r : Fin 256) (n : Fin 1024) :
    View.canon (oList v A) (ix3 (1 : Fin 2) r n)
      = k0_pay1 (k0_pay27 (k0_pay3 (A.x 1)) (prod v A) (A.md 1 8)) (k0_pay28 A.fg) (k0_pay29 (k0_pay3 (A.x 1)) (prod v A) (A.md 1 8)) (ix3 0 r n) := by
  unfold oList
  have e : (Rect.unit (s := S2x256x1024) ![1, 0, 0] S1x256x1024.size inb_S2x256x1024_S1x256x1024_1_0_0).emb (ix3 (0 : Fin 1) r n) = ix3 (1 : Fin 2) r n := by
    funext a
    apply Fin.ext
    match a with
    | ⟨0, _⟩ => rfl
    | ⟨1, _⟩ => show 0 + 1 * r.val = r.val; omega
    | ⟨2, _⟩ => show 0 + 1 * n.val = n.val; omega
  rw [← e]
  exact View.canon_cons_emb (Val := Elt Ideal) _ _ _ _

end Cert.Kernel2Ideal.Ffn

end
-- ==== Proof.FfnBlocks.lean ====
module

public import proofs.«01_k».proof.Proof.FfnPieces
public import proofs.«01_k».proof.Proof.Gen.Kernel2Ideal.Value

@[expose] public section

set_option maxRecDepth 16384

noncomputable section

namespace Cert.Kernel2Ideal.Ffn

open Cert.Kernel2Ideal Cert.Kernel2Ideal.Gen
open Cert.Reference2Ideal.Ffn (mod tok gain wt wo)
open Idealize.ShloMosaic Idealize.ShloMosaic.TcCoe Idealize.ShloMosaic.Tactic

/-! What the windows are cut from, and the blocks of a grid point, in the arguments. -/

variable (m : (ℓ : Loc nD τ sig) → Buf (Elt Ideal) ℓ)

/-- The stream. -/
def a0 (c : Dev nD) : (⟨S8x4096x1024, .f32⟩ : BufTy).Contents (Elt Ideal) := m ((c : Thread nD τ).loc main_arg0)
/-- The modulation. -/
def a1 (c : Dev nD) : (⟨S8x9216, .f32⟩ : BufTy).Contents (Elt Ideal) := m ((c : Thread nD τ).loc main_arg1)
/-- The gains. -/
def a2 (c : Dev nD) : (⟨S2x3x1024, .f32⟩ : BufTy).Contents (Elt Ideal) := m ((c : Thread nD τ).loc main_arg2)
/-- The gates' weights. -/
def a3 (c : Dev nD) : (⟨S2x1024x2816, .f32⟩ : BufTy).Contents (Elt Ideal) := m ((c : Thread nD τ).loc main_arg3)
/-- The values' weights. -/
def a4 (c : Dev nD) : (⟨S2x1024x2816, .f32⟩ : BufTy).Contents (Elt Ideal) := m ((c : Thread nD τ).loc main_arg4)
/-- The output weights. -/
def a5 (c : Dev nD) : (⟨S2x2816x1024, .f32⟩ : BufTy).Contents (Elt Ideal) := m ((c : Thread nD τ).loc main_arg5)
/-- The final gain. -/
def a6 (c : Dev nD) : (⟨S1024, .f32⟩ : BufTy).Contents (Elt Ideal) := m ((c : Thread nD τ).loc main_arg6)

theorem V_x (c : Dev nD) : V m c main_arg0 = a0 m c := by
  show StableHlo.after (List.flatten [hostOps0]) _ (Proc.devRef .tc main_arg0) = _
  simp only [List.flatten_cons, List.flatten_nil, List.append_nil, List.cons_append, List.nil_append]
  after_results
  rfl

/-- The modulation's vectors, with as many vectors of zeros after them. -/
def padM (x1 : (⟨S8x9216, .f32⟩ : BufTy).Contents (Elt Ideal)) : (⟨S16x9x1024, .f32⟩ : BufTy).Contents (Elt Ideal) :=
  concatenate S16x9x1024 0 [⟨S8x9x1024, shapeCast S8x9x1024 x1 shapeCasts_S8x9216_S8x9x1024⟩,
    ⟨S8x9x1024, broadcastInDim S8x9x1024 ![] bcast_S_S8x9x1024 (constant (F := Ideal) S_ .f32 0x00000000#32)⟩]
    concatenates_S8x9x1024_S8x9x1024_S16x9x1024_d0

theorem padM_at (x1 : (⟨S8x9216, .f32⟩ : BufTy).Contents (Elt Ideal)) (b : Fin 8) (i : Fin 9) (k : Fin 1024) (b' : Fin 16) (hb : b'.val = b.val) :
    padM x1 (ix3 b' i k) = mod x1 b i k := by
  have h8 := b.isLt
  have := i.isLt
  have := k.isLt
  unfold padM
  pointwise
  rw [dif_pos (show b'.val < 8 by omega)]
  refine congrArg x1 ?_
  idx_ext

theorem V_mod (c : Dev nD) : V m c main_v2 = padM (a1 m c) := by
  show StableHlo.after (List.flatten [hostOps0]) _ (Proc.devRef .tc main_v2) = _
  simp only [List.flatten_cons, List.flatten_nil, List.append_nil, List.cons_append, List.nil_append]
  after_results
  simp -implicitDefEqProofs only [StableHlo.TRef.ofBuf, StableHlo.TRef.toBuf, cast_cast, cast_eq]
  rfl

theorem V_gain (c : Dev nD) (i : Fin 3) (k : Fin 1024) : V m c main_v4 (ix2 i k) = a2 m c (ix3 (1 : Fin 2) i k) := by
  have e : V m c main_v4 = shapeCast S3x1024 (extractStridedSlice S1x3x1024 ![1, 0, 0] (a2 m c) slices_S2x3x1024_S1x3x1024_1_0_0)
      shapeCasts_S1x3x1024_S3x1024 := by
    show StableHlo.after (List.flatten [hostOps0]) _ (Proc.devRef .tc main_v4) = _
    simp only [List.flatten_cons, List.flatten_nil, List.append_nil, List.cons_append, List.nil_append]
    after_results
    simp -implicitDefEqProofs only [StableHlo.TRef.ofBuf, StableHlo.TRef.toBuf, cast_cast, cast_eq]
    rfl
  rw [e]
  generalize a2 m c = y
  pointwise

theorem V_w3 (c : Dev nD) (i : S2x1024x2816.Idx) : V m c main_v5 i = a3 m c i := by
  have e : V m c main_v5 = truncf (F := Ideal) .bf16 (φ := .f32) (s := S2x1024x2816) (m ((c : Thread nD τ).loc main_arg3)) bitsLt_bf16_f32 := by
    show StableHlo.after (List.flatten [hostOps0]) _ (Proc.devRef .tc main_v5) = _
    simp only [List.flatten_cons, List.flatten_nil, List.append_nil, List.cons_append, List.nil_append]
    after_results
  rw [e]
  rfl

theorem V_w4 (c : Dev nD) (i : S2x1024x2816.Idx) : V m c main_v6 i = a4 m c i := by
  have e : V m c main_v6 = truncf (F := Ideal) .bf16 (φ := .f32) (s := S2x1024x2816) (m ((c : Thread nD τ).loc main_arg4)) bitsLt_bf16_f32 := by
    show StableHlo.after (List.flatten [hostOps0]) _ (Proc.devRef .tc main_v6) = _
    simp only [List.flatten_cons, List.flatten_nil, List.append_nil, List.cons_append, List.nil_append]
    after_results
  rw [e]
  rfl

theorem V_w5 (c : Dev nD) (i : S2x2816x1024.Idx) : V m c main_v7 i = a5 m c i := by
  have e : V m c main_v7 = truncf (F := Ideal) .bf16 (φ := .f32) (s := S2x2816x1024) (m ((c : Thread nD τ).loc main_arg5)) bitsLt_bf16_f32 := by
    show StableHlo.after (List.flatten [hostOps0]) _ (Proc.devRef .tc main_v7) = _
    simp only [List.flatten_cons, List.flatten_nil, List.append_nil, List.cons_append, List.nil_append]
    after_results
  rw [e]
  rfl

theorem V_fg (c : Dev nD) (k : Fin 1024) : V m c main_v8 (ix2 (0 : Fin 1) k) = a6 m c (ix1 k) := by
  have e : V m c main_v8 = shapeCast S1x1024 (a6 m c) shapeCasts_S1024_S1x1024 := by
    show StableHlo.after (List.flatten [hostOps0]) _ (Proc.devRef .tc main_v8) = _
    simp only [List.flatten_cons, List.flatten_nil, List.append_nil, List.cons_append, List.nil_append]
    after_results
    simp -implicitDefEqProofs only [StableHlo.TRef.ofBuf, StableHlo.TRef.toBuf, cast_cast, cast_eq]
    rfl
  rw [e]
  generalize a6 m c = y
  pointwise

theorem idx0_eq : ∀ (t : Fin grid0.N) (a : Fin 3), win0_0.index t a = (![(grid0.coords t 1).val, (grid0.coords t 0).val, 0] : Fin 3 → Nat) a := by
  decide +kernel

theorem idx1_eq : ∀ (t : Fin grid0.N) (a : Fin 3), win0_1.index t a = (![(grid0.coords t 1).val, 0, 0] : Fin 3 → Nat) a := by
  decide +kernel

theorem idx2_eq : ∀ (t : Fin grid0.N) (a : Fin 2), win0_2.index t a = (![0, 0] : Fin 2 → Nat) a := by
  decide +kernel

theorem idx3_eq : ∀ (t : Fin grid0.N) (a : Fin 3), win0_3.index t a = (![1, 0, 0] : Fin 3 → Nat) a := by
  decide +kernel

theorem idx4_eq : ∀ (t : Fin grid0.N) (a : Fin 3), win0_4.index t a = (![1, 0, 0] : Fin 3 → Nat) a := by
  decide +kernel

theorem idx5_eq : ∀ (t : Fin grid0.N) (a : Fin 3), win0_5.index t a = (![1, 0, 0] : Fin 3 → Nat) a := by
  decide +kernel

theorem idx6_eq : ∀ (t : Fin grid0.N) (a : Fin 2), win0_6.index t a = (![0, 0] : Fin 2 → Nat) a := by
  decide +kernel

theorem idx7_eq : ∀ (t : Fin grid0.N) (a : Fin 3), win0_7.index t a = (![(grid0.coords t 1).val, (grid0.coords t 0).val, 0] : Fin 3 → Nat) a := by
  decide +kernel

/-- Every pair of a tile and a pair of batches is a grid point. -/
theorem point : ∀ (j : Fin 16) (b : Fin 4), ∃ t : Fin grid0.N, (grid0.coords t 0).val = j.val ∧ (grid0.coords t 1).val = b.val := by
  decide +kernel

/-- Batch `h` of the pair of a grid point. -/
def bat (t : Fin grid0.N) (h : Fin 2) : Fin 8 :=
  ⟨2 * (grid0.coords t 1).val + h.val, by have : (grid0.coords t 1).val < 4 := (grid0.coords t 1).isLt; have := h.isLt; omega⟩
/-- Token `r` of the tile of a grid point. -/
def row (t : Fin grid0.N) (r : Fin 256) : Fin 4096 :=
  ⟨256 * (grid0.coords t 0).val + r.val, by have : (grid0.coords t 0).val < 16 := (grid0.coords t 0).isLt; have := r.isLt; omega⟩

theorem blk0_at (c : Dev nD) (t : Fin grid0.N) (h : Fin 2) (r : Fin 256) (k : Fin 1024) :
    (iblk m c 0 t : Vec Ideal S2x256x1024 .f32) (ix3 h r k) = tok (a0 m c) (bat t h) (row t r) k := by
  unfold tok
  rw [← V_x]
  show V m c main_arg0 (((cfg0.win 0).blk t).view.emb (ix3 h r k)) = _
  refine congrArg (V m c main_arg0) ?_
  have e0 := idx0_eq t 0
  have e1 := idx0_eq t 1
  have e2 := idx0_eq t 2
  funext a
  apply Fin.ext
  match a with
  | ⟨0, _⟩ => show win0_0.index t 0 * 2 + 1 * h.val = 2 * (grid0.coords t 1).val + h.val; rw [e0]; show (grid0.coords t 1).val * 2 + 1 * h.val = _; omega
  | ⟨1, _⟩ => show win0_0.index t 1 * 256 + 1 * r.val = 256 * (grid0.coords t 0).val + r.val; rw [e1]; show (grid0.coords t 0).val * 256 + 1 * r.val = _; omega
  | ⟨2, _⟩ => show win0_0.index t 2 * 1024 + 1 * k.val = k.val; rw [e2]; show 0 * 1024 + 1 * k.val = k.val; omega

theorem blk1_at (c : Dev nD) (t : Fin grid0.N) (h : Fin 2) (i : Fin 9) (k : Fin 1024) :
    (iblk m c 1 t : Vec Ideal S2x9x1024 .f32) (ix3 h i k) = mod (a1 m c) (bat t h) i k := by
  have hb := (bat t h).isLt
  rw [← padM_at (a1 m c) (bat t h) i k ⟨(bat t h).val, by omega⟩ rfl, ← V_mod]
  show V m c main_v2 (((cfg0.win 1).blk t).view.emb (ix3 h i k)) = _
  refine congrArg (V m c main_v2) ?_
  have e0 := idx1_eq t 0
  have e1 := idx1_eq t 1
  have e2 := idx1_eq t 2
  funext a
  apply Fin.ext
  match a with
  | ⟨0, _⟩ => show win0_1.index t 0 * 2 + 1 * h.val = 2 * (grid0.coords t 1).val + h.val; rw [e0]; show (grid0.coords t 1).val * 2 + 1 * h.val = _; omega
  | ⟨1, _⟩ => show win0_1.index t 1 * 9 + 1 * i.val = i.val; rw [e1]; show 0 * 9 + 1 * i.val = i.val; omega
  | ⟨2, _⟩ => show win0_1.index t 2 * 1024 + 1 * k.val = k.val; rw [e2]; show 0 * 1024 + 1 * k.val = k.val; omega

theorem blk2_at (c : Dev nD) (t : Fin grid0.N) (k : Fin 1024) :
    (iblk m c 2 t : Vec Ideal S3x1024 .f32) (ix2 (2 : Fin 3) k) = gain (a2 m c) k := by
  unfold gain
  rw [← V_gain]
  show V m c main_v4 (((cfg0.win 2).blk t).view.emb (ix2 (2 : Fin 3) k)) = _
  refine congrArg (V m c main_v4) ?_
  have e0 := idx2_eq t 0
  have e1 := idx2_eq t 1
  funext a
  apply Fin.ext
  match a with
  | ⟨0, _⟩ => show win0_2.index t 0 * 3 + 1 * 2 = 2; rw [e0]; rfl
  | ⟨1, _⟩ => show win0_2.index t 1 * 1024 + 1 * k.val = k.val; rw [e1]; show 0 * 1024 + 1 * k.val = k.val; omega

theorem blk3_at (c : Dev nD) (t : Fin grid0.N) (k : Fin 1024) (f : Fin 2816) :
    (iblk m c 3 t : Vec Ideal S1x1024x2816 .bf16) (ix3 (0 : Fin 1) k f) = wt (a3 m c) k f := by
  unfold wt
  rw [← V_w3]
  show V m c main_v5 (((cfg0.win 3).blk t).view.emb (ix3 (0 : Fin 1) k f)) = _
  refine congrArg (V m c main_v5) ?_
  have e0 := idx3_eq t 0
  have e1 := idx3_eq t 1
  have e2 := idx3_eq t 2
  funext a
  apply Fin.ext
  match a with
  | ⟨0, _⟩ => show win0_3.index t 0 * 1 + 1 * 0 = 1; rw [e0]; rfl
  | ⟨1, _⟩ => show win0_3.index t 1 * 1024 + 1 * k.val = k.val; rw [e1]; show 0 * 1024 + 1 * k.val = k.val; omega
  | ⟨2, _⟩ => show win0_3.index t 2 * 2816 + 1 * f.val = f.val; rw [e2]; show 0 * 2816 + 1 * f.val = f.val; omega

theorem blk4_at (c : Dev nD) (t : Fin grid0.N) (k : Fin 1024) (f : Fin 2816) :
    (iblk m c 4 t : Vec Ideal S1x1024x2816 .bf16) (ix3 (0 : Fin 1) k f) = wt (a4 m c) k f := by
  unfold wt
  rw [← V_w4]
  show V m c main_v6 (((cfg0.win 4).blk t).view.emb (ix3 (0 : Fin 1) k f)) = _
  refine congrArg (V m c main_v6) ?_
  have e0 := idx4_eq t 0
  have e1 := idx4_eq t 1
  have e2 := idx4_eq t 2
  funext a
  apply Fin.ext
  match a with
  | ⟨0, _⟩ => show win0_4.index t 0 * 1 + 1 * 0 = 1; rw [e0]; rfl
  | ⟨1, _⟩ => show win0_4.index t 1 * 1024 + 1 * k.val = k.val; rw [e1]; show 0 * 1024 + 1 * k.val = k.val; omega
  | ⟨2, _⟩ => show win0_4.index t 2 * 2816 + 1 * f.val = f.val; rw [e2]; show 0 * 2816 + 1 * f.val = f.val; omega

theorem blk5_at (c : Dev nD) (t : Fin grid0.N) (f : Fin 2816) (n : Fin 1024) :
    (iblk m c 5 t : Vec Ideal S1x2816x1024 .bf16) (ix3 (0 : Fin 1) f n) = wo (a5 m c) f n := by
  unfold wo
  rw [← V_w5]
  show V m c main_v7 (((cfg0.win 5).blk t).view.emb (ix3 (0 : Fin 1) f n)) = _
  refine congrArg (V m c main_v7) ?_
  have e0 := idx5_eq t 0
  have e1 := idx5_eq t 1
  have e2 := idx5_eq t 2
  funext a
  apply Fin.ext
  match a with
  | ⟨0, _⟩ => show win0_5.index t 0 * 1 + 1 * 0 = 1; rw [e0]; rfl
  | ⟨1, _⟩ => show win0_5.index t 1 * 2816 + 1 * f.val = f.val; rw [e1]; show 0 * 2816 + 1 * f.val = f.val; omega
  | ⟨2, _⟩ => show win0_5.index t 2 * 1024 + 1 * n.val = n.val; rw [e2]; show 0 * 1024 + 1 * n.val = n.val; omega

theorem blk6_at (c : Dev nD) (t : Fin grid0.N) (k : Fin 1024) :
    (iblk m c 6 t : Vec Ideal S1x1024 .f32) (ix2 (0 : Fin 1) k) = a6 m c (ix1 k) := by
  rw [← V_fg]
  show V m c main_v8 (((cfg0.win 6).blk t).view.emb (ix2 (0 : Fin 1) k)) = _
  refine congrArg (V m c main_v8) ?_
  have e0 := idx6_eq t 0
  have e1 := idx6_eq t 1
  funext a
  apply Fin.ext
  match a with
  | ⟨0, _⟩ => show win0_6.index t 0 * 1 + 1 * 0 = 0; rw [e0]; rfl
  | ⟨1, _⟩ => show win0_6.index t 1 * 1024 + 1 * k.val = k.val; rw [e1]; show 0 * 1024 + 1 * k.val = k.val; omega

end Cert.Kernel2Ideal.Ffn

end
-- ==== Proof.FfnEquation.lean ====
module

public import proofs.«01_k».proof.Proof.FfnBlocks

@[expose] public section

set_option maxRecDepth 16384

noncomputable section

namespace Cert.Kernel2Ideal.Ffn

open Cert.Kernel2Ideal Cert.Kernel2Ideal.Gen Cert.Kernel2Ideal.Value
open Cert.Reference2Ideal.Ffn (mod tok gain wt wo)
open Idealize.ShloMosaic Idealize.ShloMosaic.TcCoe Idealize.ShloMosaic.Tactic

/-! The block a grid point writes is its block of the reference. -/

variable (m : (ℓ : Loc nD τ sig) → Buf (Elt Ideal) ℓ)

/-- The loads of a grid point. -/
def lds (c : Dev nD) (t : Fin grid0.N) : Loads :=
  loads (iblk m c 0 t) (iblk m c 1 t) (iblk m c 2 t) (iblk m c 3 t) (iblk m c 4 t) (iblk m c 5 t) (iblk m c 6 t)

theorem x_at (c : Dev nD) (t : Fin grid0.N) (h : Fin 2) (r : Fin 256) (k : Fin 1024) :
    (lds m c t).x h (ix3 0 r k) = tok (a0 m c) (bat t h) (row t r) k := by
  rw [← blk0_at]
  refine View.ld_unit_apply_of (iblk m c 0 t : Vec Ideal S2x256x1024 .f32) _ _ (inb_x h) _ (ix3 h r k) fun a => ?_
  match a with
  | ⟨0, _⟩ => show h.val = h.val + 0; omega
  | ⟨1, _⟩ => show r.val = 0 + r.val; omega
  | ⟨2, _⟩ => show k.val = 0 + k.val; omega

theorem md_at (c : Dev nD) (t : Fin grid0.N) (h : Fin 2) (i : Fin 9) (k : Fin 1024) :
    (lds m c t).md h i (ix3 0 0 k) = mod (a1 m c) (bat t h) i k := by
  rw [← blk1_at]
  refine View.ld_unit_apply_of (iblk m c 1 t : Vec Ideal S2x9x1024 .f32) _ _ (inb_md h i) _ (ix3 h i k) fun a => ?_
  match a with
  | ⟨0, _⟩ => show h.val = h.val + 0; omega
  | ⟨1, _⟩ => show i.val = i.val + 0; omega
  | ⟨2, _⟩ => show k.val = 0 + k.val; omega

theorem g_at (c : Dev nD) (t : Fin grid0.N) (k : Fin 1024) : (lds m c t).g (ix2 0 k) = gain (a2 m c) k := by
  rw [← blk2_at m c t]
  refine View.ld_unit_apply_of (iblk m c 2 t : Vec Ideal S3x1024 .f32) _ _ inb_S3x1024_S1x1024_2_0 _ (ix2 (2 : Fin 3) k) fun a => ?_
  match a with
  | ⟨0, _⟩ => rfl
  | ⟨1, _⟩ => show k.val = 0 + k.val; omega

theorem a_at (c : Dev nD) (t : Fin grid0.N) (k : Fin 1024) (f : Fin 2816) :
    (lds m c t).a (ch (f.val / 256)) (ix3 0 k ⟨f.val % 256, Nat.mod_lt _ (by decide)⟩) = wt (a3 m c) k f := by
  have hf := f.isLt
  rw [← blk3_at m c t]
  refine View.ld_unit_apply_of (iblk m c 3 t : Vec Ideal S1x1024x2816 .bf16) _ _ (inb_w (ch (f.val / 256))) _ (ix3 (0 : Fin 1) k f) fun a => ?_
  match a with
  | ⟨0, _⟩ => rfl
  | ⟨1, _⟩ => show k.val = 0 + k.val; omega
  | ⟨2, _⟩ => show f.val = 256 * (f.val / 256 % 11) + f.val % 256; omega

theorem u_at (c : Dev nD) (t : Fin grid0.N) (k : Fin 1024) (f : Fin 2816) :
    (lds m c t).u (ch (f.val / 256)) (ix3 0 k ⟨f.val % 256, Nat.mod_lt _ (by decide)⟩) = wt (a4 m c) k f := by
  have hf := f.isLt
  rw [← blk4_at m c t]
  refine View.ld_unit_apply_of (iblk m c 4 t : Vec Ideal S1x1024x2816 .bf16) _ _ (inb_w (ch (f.val / 256))) _ (ix3 (0 : Fin 1) k f) fun a => ?_
  match a with
  | ⟨0, _⟩ => rfl
  | ⟨1, _⟩ => show k.val = 0 + k.val; omega
  | ⟨2, _⟩ => show f.val = 256 * (f.val / 256 % 11) + f.val % 256; omega

theorem w_at (c : Dev nD) (t : Fin grid0.N) (f : Fin 2816) (n : Fin 1024) : (lds m c t).w (ix3 0 f n) = wo (a5 m c) f n := by
  rw [← blk5_at m c t]
  refine View.ld_unit_apply_of (iblk m c 5 t : Vec Ideal S1x2816x1024 .bf16) _ _ inb_S1x2816x1024_S1x2816x1024_0_0_0 _ (ix3 (0 : Fin 1) f n) fun a => ?_
  match a with
  | ⟨0, _⟩ => rfl
  | ⟨1, _⟩ => show f.val = 0 + f.val; omega
  | ⟨2, _⟩ => show n.val = 0 + n.val; omega

theorem fg_at (c : Dev nD) (t : Fin grid0.N) (k : Fin 1024) : (lds m c t).fg (ix2 0 k) = a6 m c (ix1 k) := by
  rw [← blk6_at m c t]
  refine View.ld_unit_apply_of (iblk m c 6 t : Vec Ideal S1x1024 .f32) _ _ inb_S1x1024_S1x1024_0_0 _ (ix2 (0 : Fin 1) k) fun a => ?_
  match a with
  | ⟨0, _⟩ => rfl
  | ⟨1, _⟩ => show k.val = 0 + k.val; omega

/-- The modulated row of a token. -/
def hidR (c : Dev nD) (b : Fin 8) (s : Fin 4096) : Fin 1024 → EReal :=
  Cert.Ffn.hid (tok (a0 m c) b s) (gain (a2 m c)) (mod (a1 m c) b 6) (mod (a1 m c) b 7)

theorem hid_high (c : Dev nD) (t : Fin grid0.N) (r : Fin 256) (k : Fin 1024) :
    hidS (lds m c t) (ix2 (high r) k) = hidR m c (bat t 0) (row t r) k := by
  unfold hidS hidR
  rw [pay9_high]
  simp only [x_at, md_at, g_at]

theorem hid_low (c : Dev nD) (t : Fin grid0.N) (r : Fin 256) (k : Fin 1024) :
    hidS (lds m c t) (ix2 (low r) k) = hidR m c (bat t 1) (row t r) k := by
  unfold hidS hidR
  rw [pay9_low]
  simp only [x_at, md_at, g_at]

/-- The feed-forward half of a token's row. -/
def ffR (c : Dev nD) (b : Fin 8) (s : Fin 4096) (n : Fin 1024) : EReal :=
  ∑ f : Fin 2816, Cert.Ffn.unit (hidR m c b s) (fun k => wt (a3 m c) k f) (fun k => wt (a4 m c) k f) * wo (a5 m c) f n

theorem prod_high (v : View sig .tc .vmem S512x2816 .bf16) (c : Dev nD) (t : Fin grid0.N) (r : Fin 256) (n : Fin 1024) :
    prod v (lds m c t) (ix2 (high r) n) = ffR m c (bat t 0) (row t r) n := by
  rw [prod_at]
  unfold ffR
  simp only [hid_high, a_at, u_at, w_at]

theorem prod_low (v : View sig .tc .vmem S512x2816 .bf16) (c : Dev nD) (t : Fin grid0.N) (r : Fin 256) (n : Fin 1024) :
    prod v (lds m c t) (ix2 (low r) n) = ffR m c (bat t 1) (row t r) n := by
  rw [prod_at]
  unfold ffR
  simp only [hid_low, a_at, u_at, w_at]

/-- The reference of the arguments. -/
def G (c : Dev nD) : (⟨S8x4096x1024, .f32⟩ : BufTy).Contents (Elt Ideal) :=
  Cert.Reference2Ideal.Read.val_main_v61 (F := Ideal) (a0 m c) (a1 m c) (a2 m c) (a3 m c) (a4 m c) (a5 m c) (a6 m c)

theorem G_at (c : Dev nD) (b : Fin 8) (s : Fin 4096) (n : Fin 1024) :
    G m c (ix3 b s n) = Cert.Ffn.rms (resK (tok (a0 m c) b s) (mod (a1 m c) b 8) (ffR m c b s)) n * a6 m c (ix1 n) :=
  Cert.Reference2Ideal.Ffn.v61_at (a0 m c) (a1 m c) (a2 m c) (a3 m c) (a4 m c) (a5 m c) (a6 m c) b s n

/-- What the body leaves at an index of its block. -/
theorem block_at (v : View sig .tc .vmem S512x2816 .bf16) (c : Dev nD) (t : Fin grid0.N) (h : Fin 2) (r : Fin 256) (n : Fin 1024) :
    View.canon (oList v (lds m c t)) (ix3 h r n) = G m c (ix3 (bat t h) (row t r) n) := by
  rw [G_at]
  match h with
  | ⟨0, _⟩ =>
    refine (canon_high v (lds m c t) r n).trans ?_
    rw [pay26_at]
    simp only [x_at, md_at, prod_high, fg_at]
    rfl
  | ⟨1, _⟩ =>
    refine (canon_low v (lds m c t) r n).trans ?_
    rw [pay1_at]
    simp only [x_at, md_at, prod_low, fg_at]
    rfl

theorem out_eq (c : Dev nD) (t : Fin cfg0.N) :
    (dats m 0 c).flushed 7 t = (cfg0.win 7).cut (grid0.coords t)
      (View.canon (oList scM0_0.view (lds m c t)) : Vec Ideal S2x256x1024 .f32) := by
  rw [flushed7_A]
  unfold out0_A_7
  rw [View.read_writes_junk_eq_canon, run_pieces]
  rfl

theorem flushed7_eq (c : Dev nD) (t : Fin cfg0.N) :
    (dats m 0 c).flushed 7 t = ((cfg0.win 7).blk t).view.read (Elt Ideal) (G m c) := by
  rw [out_eq]
  funext i
  have h0 : (i 0).val < 2 := (i 0).isLt
  have h1 : (i 1).val < 256 := (i 1).isLt
  have h2 : (i 2).val < 1024 := (i 2).isLt
  show View.canon (oList scM0_0.view (lds m c t)) i = G m c (((cfg0.win 7).blk t).view.emb i)
  have hn := block_at m scM0_0.view c t ⟨(i 0).val, h0⟩ ⟨(i 1).val, h1⟩ ⟨(i 2).val, h2⟩
  refine Eq.trans (congrArg _ ?_) (hn.trans ?_)
  · funext a
    apply Fin.ext
    match a with
    | ⟨0, _⟩ => rfl
    | ⟨1, _⟩ => rfl
    | ⟨2, _⟩ => rfl
  · refine congrArg (G m c) ?_
    have w0 := idx7_eq t 0
    have w1 := idx7_eq t 1
    have w2 := idx7_eq t 2
    funext a
    apply Fin.ext
    match a with
    | ⟨0, _⟩ =>
      show 2 * (grid0.coords t 1).val + (i 0).val = win0_7.index t 0 * 2 + 1 * (i 0).val
      rw [w0]; show _ = (grid0.coords t 1).val * 2 + 1 * (i 0).val; omega
    | ⟨1, _⟩ =>
      show 256 * (grid0.coords t 0).val + (i 1).val = win0_7.index t 1 * 256 + 1 * (i 1).val
      rw [w1]; show _ = (grid0.coords t 0).val * 256 + 1 * (i 1).val; omega
    | ⟨2, _⟩ =>
      show (i 2).val = win0_7.index t 2 * 1024 + 1 * (i 2).val
      rw [w2]; show _ = 0 * 1024 + 1 * (i 2).val; omega

theorem covered7 (i : S8x4096x1024.Idx) :
    ∃ t : Fin cfg0.N, (cfg0.win 7).flush t = true ∧ i ∈ ((cfg0.win 7).blk t).view.set := by
  have h0 : (i 0).val < 8 := (i 0).isLt
  have h1 : (i 1).val < 4096 := (i 1).isLt
  have h2 : (i 2).val < 1024 := (i 2).isLt
  obtain ⟨t, hg, hb⟩ := point ⟨(i 1).val / 256, by omega⟩ ⟨(i 0).val / 2, by omega⟩
  refine ⟨t, flush0_7 t, ?_⟩
  have h := ((cfg0.win 7).blk t).view.emb_mem_set (ix3 (⟨(i 0).val % 2, Nat.mod_lt _ (by decide)⟩ : Fin 2) (⟨(i 1).val % 256, Nat.mod_lt _ (by decide)⟩ : Fin 256) (⟨(i 2).val, h2⟩ : Fin 1024))
  have e : ((cfg0.win 7).blk t).view.emb (ix3 (⟨(i 0).val % 2, Nat.mod_lt _ (by decide)⟩ : Fin 2) (⟨(i 1).val % 256, Nat.mod_lt _ (by decide)⟩ : Fin 256) (⟨(i 2).val, h2⟩ : Fin 1024)) = i := by
    have w0 := idx7_eq t 0
    have w1 := idx7_eq t 1
    have w2 := idx7_eq t 2
    have hg' : (grid0.coords t 0).val = (i 1).val / 256 := hg
    have hb' : (grid0.coords t 1).val = (i 0).val / 2 := hb
    funext a
    apply Fin.ext
    match a with
    | ⟨0, _⟩ =>
      show win0_7.index t 0 * 2 + 1 * ((i 0).val % 2) = (i 0).val
      rw [w0]; show (grid0.coords t 1).val * 2 + 1 * ((i 0).val % 2) = (i 0).val; omega
    | ⟨1, _⟩ =>
      show win0_7.index t 1 * 256 + 1 * ((i 1).val % 256) = (i 1).val
      rw [w1]; show (grid0.coords t 0).val * 256 + 1 * ((i 1).val % 256) = (i 1).val; omega
    | ⟨2, _⟩ =>
      show win0_7.index t 2 * 1024 + 1 * (i 2).val = (i 2).val
      rw [w2]; show 0 * 1024 + 1 * (i 2).val = (i 2).val; omega
  rwa [e] at h

/-- The array the kernel leaves is the reference of the arguments. -/
theorem final7 (c : Dev nD) : (dats m 0 c).arrAt 7 cfg0.N = G m c :=
  (dats m 0 c).arrAt_eq_of_cover 7 (G m c) (fun t _ => flushed7_eq m c t) covered7

end Cert.Kernel2Ideal.Ffn

end
-- ==== Proof.MergeRef.lean ====
module

public import proofs.«01_k».proof.Proof.Gen.Reference3Ideal.Read
public import proofs.«01_k».proof.Proof.FfnRef
public import Idealize.ShloMosaic.Lib.Pointwise

@[expose] public section

set_option maxRecDepth 16384

noncomputable section

open Idealize.ShloMosaic

namespace Cert.Merge

/-! The merge of a token's three mixers. -/

/-- A token: its row, the norm's gain, its modulation, and the three mixers' outputs. -/
@[ext] structure Token where
  x : Fin 1024 → EReal
  g : Fin 1024 → EReal
  sh : Fin 1024 → EReal
  sc : Fin 1024 → EReal
  gt : Fin 1024 → EReal
  y : Fin 384 → EReal
  ya : Fin 512 → EReal
  yn : Fin 512 → EReal

/-- The matrices of a layer's merge. -/
@[ext] structure Mats where
  wg : Fin 3 → Fin 1024 → Fin 1024 → EReal
  wl : Fin 384 → Fin 384 → EReal
  ws : Fin 384 → Fin 1024 → EReal
  wa : Fin 512 → Fin 1024 → EReal
  wn : Fin 512 → Fin 1024 → EReal
  wo : Fin 1024 → Fin 1024 → EReal

/-- The activation of the state-space mixer's output. -/
def gelu (y : EReal) : EReal :=
  Ideal.ofBits .f32 0x3F000000#32 * y
    * (Ideal.ofBits .f32 0x3F800000#32 + Ideal.tanh (Ideal.ofBits .f32 0x3F4C422A#32 * (y + Ideal.ofBits .f32 0x3D372713#32 * (y * y * y))))

/-- The state-space mixer's output through its gated unit. -/
def glu (y : Fin 384 → EReal) (wl : Fin 384 → Fin 384 → EReal) (n : Fin 384) : EReal :=
  gelu (y n) * Ideal.logistic (∑ k : Fin 384, gelu (y k) * wl k n)

/-- A mixer's gate. -/
def gate (h : Fin 1024 → EReal) (w : Fin 1024 → Fin 1024 → EReal) (n : Fin 1024) : EReal :=
  Ideal.logistic (∑ k : Fin 1024, h k * w k n)

/-- The gated sum of the three mixers. -/
def mixed (h : Fin 1024 → EReal) (y : Fin 384 → EReal) (ya yn : Fin 512 → EReal) (w : Mats) (n : Fin 1024) : EReal :=
  gate h (w.wg 0) n * (∑ k : Fin 384, glu y w.wl k * w.ws k n)
    + gate h (w.wg 1) n * (∑ k : Fin 512, ya k * w.wa k n)
    + gate h (w.wg 2) n * (∑ k : Fin 512, yn k * w.wn k n)

/-- The row after the merge. -/
def out (t : Token) (w : Mats) (n : Fin 1024) : EReal :=
  t.x n + t.gt n * ∑ k : Fin 1024, mixed (Cert.Ffn.hid t.x t.g t.sh t.sc) t.y t.ya t.yn w k * w.wo k n

/-- The activation with the half taken last. -/
theorem gelu_eq (y : EReal) :
    y * (Ideal.ofBits .f32 0x3F000000#32 * (Ideal.ofBits .f32 0x3F800000#32 + Ideal.tanh (Ideal.ofBits .f32 0x3F4C422A#32 * (y + Ideal.ofBits .f32 0x3D372713#32 * (y * y * y)))))
      = gelu y := by
  unfold gelu
  rw [← mul_assoc, mul_comm y]

/-- Column `f` of the heads in the order the call takes them. -/
def headCol (f : Fin 512) : Fin 512 :=
  ⟨64 * (4 * (f.val / 64 % 2) + f.val / 64 / 2) + f.val % 64, by have := f.isLt; omega⟩

theorem headCol_bij : Function.Bijective headCol := by
  refine Finite.injective_iff_bijective.mp fun a b h => ?_
  have ha := a.isLt
  have hb := b.isLt
  have h' : 64 * (4 * (a.val / 64 % 2) + a.val / 64 / 2) + a.val % 64 = 64 * (4 * (b.val / 64 % 2) + b.val / 64 / 2) + b.val % 64 := congrArg Fin.val h
  have hr : a.val % 64 = b.val % 64 := by
    have := congrArg (· % 64) h'
    simpa [Nat.mul_add_mod] using this
  have hq : 4 * (a.val / 64 % 2) + a.val / 64 / 2 = 4 * (b.val / 64 % 2) + b.val / 64 / 2 := by rw [hr] at h'; omega
  have qa : a.val / 64 < 8 := by omega
  have qb : b.val / 64 < 8 := by omega
  have hd : a.val / 64 = b.val / 64 := by
    revert hq qa qb
    generalize a.val / 64 = p
    generalize b.val / 64 = q
    intro hq qa qb
    omega
  exact Fin.ext (by omega)

/-- The order of the heads does not change the merge. -/
theorem out_heads (t : Token) (w : Mats) (n : Fin 1024) :
    out { t with ya := fun f => t.ya (headCol f) } { w with wa := fun f => w.wa (headCol f) } n = out t w n := by
  have h : ∀ k : Fin 1024, (∑ f : Fin 512, t.ya (headCol f) * w.wa (headCol f) k) = ∑ f : Fin 512, t.ya f * w.wa f k := fun k =>
    Fintype.sum_bijective headCol headCol_bij _ _ fun _ => rfl
  unfold out mixed
  simp only [h]

end Cert.Merge

namespace Cert.Reference3Ideal.Merge

open Cert.Reference3Ideal Cert.Reference3Ideal.Gen Cert.Reference3Ideal.Read
open Idealize.ShloMosaic.TcCoe Idealize.ShloMosaic.Tactic

/-! The reference at an index is the merge of the token's mixers. -/

variable (x0 : (⟨S8x4352x1024, .f32⟩ : BufTy).Contents (Elt Ideal)) (x1 : (⟨S8x9216, .f32⟩ : BufTy).Contents (Elt Ideal))
  (x2 : (⟨S2x3x1024, .f32⟩ : BufTy).Contents (Elt Ideal)) (x3 x4 x5 : (⟨S8x4352x384, .f32⟩ : BufTy).Contents (Elt Ideal))
  (x6 x7 : (⟨S8x4096x512, .f32⟩ : BufTy).Contents (Elt Ideal)) (x8 : (⟨S2x384, .f32⟩ : BufTy).Contents (Elt Ideal))
  (x9 : (⟨S2x1024x5760, .f32⟩ : BufTy).Contents (Elt Ideal)) (x10 : (⟨S2x384x384, .f32⟩ : BufTy).Contents (Elt Ideal))
  (x11 : (⟨S2x384x1024, .f32⟩ : BufTy).Contents (Elt Ideal)) (x12 x13 : (⟨S2x512x1024, .f32⟩ : BufTy).Contents (Elt Ideal))
  (x14 : (⟨S2x1024x1024, .f32⟩ : BufTy).Contents (Elt Ideal))

/-- Vector `i` of a batch's modulation. -/
def mod (b : Fin 8) (i : Fin 9) (k : Fin 1024) : EReal :=
  x1 (ix2 b (⟨1024 * i.val + k.val, by have := i.isLt; have := k.isLt; omega⟩ : Fin 9216))

/-- A canvas token's place among all tokens. -/
def all (t : Fin 4096) : Fin 4352 := ⟨t.val, by have := t.isLt; omega⟩

/-- A token's row. -/
def tok (b : Fin 8) (t : Fin 4096) (k : Fin 1024) : EReal := x0 (ix3 b (all t) k)

/-- The norm's gains. -/
def gain (k : Fin 1024) : EReal := x2 (ix3 (1 : Fin 2) (1 : Fin 3) k)

/-- The state-space mixer's output: both directions, and the skip. -/
def ssm (b : Fin 8) (t : Fin 4096) (f : Fin 384) : EReal :=
  x3 (ix3 b (all t) f) + x4 (ix3 b (all t) f) + x8 (ix2 (1 : Fin 2) f) * x5 (ix3 b (all t) f)

/-- A token of the call. -/
def token (b : Fin 8) (t : Fin 4096) : Cert.Merge.Token where
  x := tok x0 b t
  g := gain x2
  sh := mod x1 b 3
  sc := mod x1 b 4
  gt := mod x1 b 5
  y := ssm x3 x4 x5 x8 b t
  ya := fun f => x6 (ix3 b t f)
  yn := fun f => x7 (ix3 b t f)

/-- Column `n` of a gate among the columns of the joint projection. -/
def gateCol (i : Fin 3) (n : Fin 1024) : Fin 5760 := ⟨2688 + (1024 * i.val + n.val), by have := i.isLt; have := n.isLt; omega⟩

/-- The last layer's matrices. -/
def mats : Cert.Merge.Mats where
  wg := fun i k n => x9 (ix3 (1 : Fin 2) k (gateCol i n))
  wl := fun k n => x10 (ix3 (1 : Fin 2) k n)
  ws := fun k n => x11 (ix3 (1 : Fin 2) k n)
  wa := fun k n => x12 (ix3 (1 : Fin 2) k n)
  wn := fun k n => x13 (ix3 (1 : Fin 2) k n)
  wo := fun k n => x14 (ix3 (1 : Fin 2) k n)

theorem v0_at (b : Fin 8) (t : Fin 4096) (k : Fin 1024) : val_main_v0 (F := Ideal) x0 (ix3 b t k) = tok x0 b t k := by
  rw [val_main_v0_apply]
  refine congrArg x0 ?_
  idx_ext

theorem v3_at (b : Fin 8) (k : Fin 1024) : val_main_v3 (F := Ideal) x1 (ix3 b (0 : Fin 1) k) = mod x1 b 3 k := by
  have := b.isLt; have := k.isLt
  rw [val_main_v3_apply, val_main_v2_apply, val_main_v1_apply]
  refine congrArg x1 ?_
  idx_ext

theorem v4_at (b : Fin 8) (k : Fin 1024) : val_main_v4 (F := Ideal) x1 (ix3 b (0 : Fin 1) k) = mod x1 b 4 k := by
  have := b.isLt; have := k.isLt
  rw [val_main_v4_apply, val_main_v2_apply, val_main_v1_apply]
  refine congrArg x1 ?_
  idx_ext

theorem v5_at (b : Fin 8) (k : Fin 1024) : val_main_v5 (F := Ideal) x1 (ix3 b (0 : Fin 1) k) = mod x1 b 5 k := by
  have := b.isLt; have := k.isLt
  rw [val_main_v5_apply, val_main_v2_apply, val_main_v1_apply]
  refine congrArg x1 ?_
  idx_ext

theorem v9_at (k : Fin 1024) : val_main_v9 (F := Ideal) x2 (ix1 k) = gain x2 k := by
  have := k.isLt
  rw [val_main_v9_apply, val_main_v8_apply, val_main_v7_apply, val_main_v6_apply]
  refine congrArg x2 ?_
  idx_ext

theorem v19_at (b : Fin 8) (t : Fin 4096) (k : Fin 1024) :
    val_main_v19 (F := Ideal) x0 (ix3 b t k) = Cert.Ffn.rms (tok x0 b t) k := by
  have e : idx_main_v18 (ix3 b t k) = ix3 b t (0 : Fin 1) := by idx_ext
  have e1 : idx_main_v12 (ix3 b t (0 : Fin 1)) = ix2 b t := by idx_ext
  have e2 : ∀ k : Fin 1024, idx_main_v11 (ix2 b t) k = ix3 b t k := fun k => by idx_ext
  rw [val_main_v19_apply, val_main_v18_apply, e, val_main_v17_apply, val_main_v16_apply, val_main_v14_apply, val_main_v12_apply, e1,
    val_main_v11_apply, val_main_v13_apply, val_main_cst_0_apply, val_main_v15_apply, val_main_cst_1_apply, val_main_cst_apply]
  simp only [e2, val_main_v10_apply, v0_at]
  have z : (FloatOps.ofBits (F := Ideal) .f32 0x00000000#32 : EReal) = 0 := Ideal.ofBits_zero_f32
  have h := fun s : EReal => (congrArg (· + s) z).trans (zero_add s)
  exact congrArg (fun s : EReal => tok x0 b t k * Ideal.rsqrt (Ideal.div s _ + _)) (h _)

/-- The modulated row of a token. -/
abbrev hid (b : Fin 8) (t : Fin 4096) : Fin 1024 → EReal := Cert.Ffn.hid (tok x0 b t) (gain x2) (mod x1 b 3) (mod x1 b 4)

theorem v28_at (b : Fin 8) (t : Fin 4096) (k : Fin 1024) :
    val_main_v28 (F := Ideal) x0 x1 x2 (ix3 b t k) = hid x0 x1 x2 b t k := by
  have e : idx_main_v27 (ix3 b t k) = ix3 b (0 : Fin 1) k := by idx_ext
  have e1 : idx_main_v25 (ix3 b t k) = ix3 b (0 : Fin 1) k := by idx_ext
  have e2 : idx_main_v20 (idx_main_v21 (ix3 b t k)) = ix1 k := by idx_ext
  rw [val_main_v28_apply, val_main_v26_apply, val_main_v22_apply, v19_at, val_main_v21_apply, val_main_v20_apply, e2, v9_at,
    val_main_v25_apply, e1, val_main_v24_apply, val_main_v23_apply, val_main_cst_2_apply, v4_at, val_main_v27_apply, e, v3_at]
  rfl

theorem v31_at (k : Fin 1024) (i : Fin 3) (n : Fin 1024) (c : Fin 3072) (hc : c.val = 1024 * i.val + n.val) :
    val_main_v31 (F := Ideal) x9 (ix2 k c) = (mats x9 x10 x11 x12 x13 x14).wg i k n := by
  have := k.isLt; have := n.isLt; have := i.isLt
  have e : idx_main_v31 (ix2 k c) = ix2 k (gateCol i n) := by
    refine Eq.trans ?_ (congrArg (ix2 k) (Fin.ext (by show 2688 + c.val = 2688 + (1024 * i.val + n.val); omega) : (⟨2688 + c.val, by have := c.isLt; omega⟩ : Fin 5760) = gateCol i n))
    idx_ext
  have e1 : ∀ c : Fin 5760, idx_main_v29 (idx_main_v30 (ix2 k c)) = ix3 (1 : Fin 2) k c := fun c => by
    have := c.isLt
    idx_ext
  rw [val_main_v31_apply, e, val_main_v30_apply, val_main_v29_apply, e1]
  rfl

theorem v32_at (b : Fin 8) (t : Fin 4096) (i : Fin 3) (n : Fin 1024) (c : Fin 3072) (hc : c.val = 1024 * i.val + n.val) :
    val_main_v32 (F := Ideal) x0 x1 x2 x9 (ix3 b t c)
      = ∑ k : Fin 1024, hid x0 x1 x2 b t k * (mats x9 x10 x11 x12 x13 x14).wg i k n := by
  have e : ∀ k : Fin 1024, lidx_main_v32 (ix3 b t c) k = ix3 b t k := fun k => by idx_ext
  have e1 : ∀ k : Fin 1024, ridx_main_v32 (ix3 b t c) k = ix2 k c := fun k => by idx_ext
  rw [val_main_v32_apply]
  simp only [e, e1, v28_at, v31_at x9 x10 x11 x12 x13 x14 _ i n c hc]

theorem v33_at (b : Fin 8) (t : Fin 4096) (n : Fin 1024) :
    val_main_v33 (F := Ideal) x0 x1 x2 x9 (ix3 b t n)
      = ∑ k : Fin 1024, hid x0 x1 x2 b t k * (mats x9 x10 x11 x12 x13 x14).wg 0 k n := by
  have := n.isLt
  have e : idx_main_v33 (ix3 b t n) = ix3 b t (⟨n.val, by omega⟩ : Fin 3072) := by idx_ext
  rw [val_main_v33_apply, e]
  exact v32_at x0 x1 x2 x9 x10 x11 x12 x13 x14 b t 0 n _ (by show n.val = 1024 * 0 + n.val; omega)

theorem v34_at (b : Fin 8) (t : Fin 4096) (n : Fin 1024) :
    val_main_v34 (F := Ideal) x0 x1 x2 x9 (ix3 b t n)
      = ∑ k : Fin 1024, hid x0 x1 x2 b t k * (mats x9 x10 x11 x12 x13 x14).wg 1 k n := by
  have := n.isLt
  have e : idx_main_v34 (ix3 b t n) = ix3 b t (⟨1024 + n.val, by omega⟩ : Fin 3072) := by idx_ext
  rw [val_main_v34_apply, e]
  exact v32_at x0 x1 x2 x9 x10 x11 x12 x13 x14 b t 1 n _ (by show 1024 + n.val = 1024 * 1 + n.val; omega)

theorem v35_at (b : Fin 8) (t : Fin 4096) (n : Fin 1024) :
    val_main_v35 (F := Ideal) x0 x1 x2 x9 (ix3 b t n)
      = ∑ k : Fin 1024, hid x0 x1 x2 b t k * (mats x9 x10 x11 x12 x13 x14).wg 2 k n := by
  have := n.isLt
  have e : idx_main_v35 (ix3 b t n) = ix3 b t (⟨2048 + n.val, by omega⟩ : Fin 3072) := by idx_ext
  rw [val_main_v35_apply, e]
  exact v32_at x0 x1 x2 x9 x10 x11 x12 x13 x14 b t 2 n _ (by show 2048 + n.val = 1024 * 2 + n.val; omega)

theorem v45_at (b : Fin 8) (t : Fin 4096) (f : Fin 384) :
    val_main_v45 (F := Ideal) x3 x4 x5 x8 (ix3 b t f) = ssm x3 x4 x5 x8 b t f := by
  have := f.isLt
  have e : idx_main_v39 (idx_main_v40 (ix3 b t f)) = ix1 f := by idx_ext
  have e1 : idx_main_v36 (idx_main_v37 (ix1 f)) = ix2 (1 : Fin 2) f := by idx_ext
  have e3 : idx_main_v38 (ix3 b t f) = ix3 b (all t) f := by unfold all; idx_ext
  have e4 : idx_main_v42 (ix3 b t f) = ix3 b (all t) f := by unfold all; idx_ext
  have e5 : idx_main_v44 (ix3 b t f) = ix3 b (all t) f := by unfold all; idx_ext
  rw [val_main_v45_apply, val_main_v43_apply, val_main_v41_apply, val_main_v40_apply, val_main_v39_apply, e, val_main_v37_apply,
    val_main_v36_apply, e1, val_main_v38_apply, e3, val_main_v42_apply, e4, val_main_v44_apply, e5]
  unfold ssm
  show (_ * _ + _ + _ : EReal) = _
  rw [add_assoc, add_comm]

theorem v58_at (b : Fin 8) (t : Fin 4096) (f : Fin 384) :
    val_main_v58 (F := Ideal) x3 x4 x5 x8 (ix3 b t f) = Cert.Merge.gelu (ssm x3 x4 x5 x8 b t f) := by
  rw [val_main_v58_apply, val_main_v57_apply, val_main_v56_apply, val_main_cst_6_apply, val_main_v55_apply, val_main_v54_apply,
    val_main_cst_5_apply, val_main_v53_apply, val_main_v52_apply, val_main_v51_apply, val_main_cst_4_apply, val_main_v50_apply,
    val_main_v49_apply, val_main_v48_apply, val_main_cst_3_apply, val_main_v47_apply, val_main_v46_apply, v45_at]
  rw [← Cert.Merge.gelu_eq]
  rfl

theorem v60_at (k n : Fin 384) : val_main_v60 (F := Ideal) x10 (ix2 k n) = (mats x9 x10 x11 x12 x13 x14).wl k n := by
  have := k.isLt; have := n.isLt
  rw [val_main_v60_apply, val_main_v59_apply]
  refine congrArg x10 ?_
  idx_ext

theorem v76_at (k : Fin 384) (n : Fin 1024) : val_main_v76 (F := Ideal) x11 (ix2 k n) = (mats x9 x10 x11 x12 x13 x14).ws k n := by
  have := k.isLt; have := n.isLt
  rw [val_main_v76_apply, val_main_v75_apply]
  refine congrArg x11 ?_
  idx_ext

theorem v86_at (k : Fin 512) (n : Fin 1024) : val_main_v86 (F := Ideal) x12 (ix2 k n) = (mats x9 x10 x11 x12 x13 x14).wa k n := by
  have := k.isLt; have := n.isLt
  rw [val_main_v86_apply, val_main_v85_apply]
  refine congrArg x12 ?_
  idx_ext

theorem v97_at (k : Fin 512) (n : Fin 1024) : val_main_v97 (F := Ideal) x13 (ix2 k n) = (mats x9 x10 x11 x12 x13 x14).wn k n := by
  have := k.isLt; have := n.isLt
  rw [val_main_v97_apply, val_main_v96_apply]
  refine congrArg x13 ?_
  idx_ext

theorem v102_at (k n : Fin 1024) : val_main_v102 (F := Ideal) x14 (ix2 k n) = (mats x9 x10 x11 x12 x13 x14).wo k n := by
  have := k.isLt; have := n.isLt
  rw [val_main_v102_apply, val_main_v101_apply]
  refine congrArg x14 ?_
  idx_ext

theorem v68_at (b : Fin 8) (t : Fin 4096) (f : Fin 384) :
    val_main_v68 (F := Ideal) x3 x4 x5 x8 x10 (ix3 b t f)
      = Cert.Merge.glu (ssm x3 x4 x5 x8 b t) (mats x9 x10 x11 x12 x13 x14).wl f := by
  have e : ∀ k : Fin 384, lidx_main_v61 (ix3 b t f) k = ix3 b t k := fun k => by idx_ext
  have e1 : ∀ k : Fin 384, ridx_main_v61 (ix3 b t f) k = ix2 k f := fun k => by idx_ext
  rw [val_main_v68_apply, val_main_v67_apply, val_main_v66_apply, val_main_cst_8_apply, val_main_v65_apply, val_main_v64_apply,
    val_main_cst_7_apply, val_main_v63_apply, val_main_v62_apply, val_main_v61_apply]
  simp only [e, e1, v58_at, v60_at x9 x10 x11 x12 x13 x14]
  unfold Cert.Merge.glu Ideal.logistic
  rw [← Cert.Ffn.one_f32]
  rfl

theorem v74_at (b : Fin 8) (t : Fin 4096) (n : Fin 1024) :
    val_main_v74 (F := Ideal) x0 x1 x2 x9 (ix3 b t n) = Cert.Merge.gate (hid x0 x1 x2 b t) ((mats x9 x10 x11 x12 x13 x14).wg 0) n := by
  rw [val_main_v74_apply, val_main_v73_apply, val_main_cst_10_apply, val_main_v72_apply, val_main_v71_apply, val_main_cst_9_apply,
    val_main_v70_apply, val_main_v69_apply, v33_at x0 x1 x2 x9 x10 x11 x12 x13 x14]
  unfold Cert.Merge.gate Ideal.logistic
  rw [← Cert.Ffn.one_f32]
  rfl

theorem v84_at (b : Fin 8) (t : Fin 4096) (n : Fin 1024) :
    val_main_v84 (F := Ideal) x0 x1 x2 x9 (ix3 b t n) = Cert.Merge.gate (hid x0 x1 x2 b t) ((mats x9 x10 x11 x12 x13 x14).wg 1) n := by
  rw [val_main_v84_apply, val_main_v83_apply, val_main_cst_12_apply, val_main_v82_apply, val_main_v81_apply, val_main_cst_11_apply,
    val_main_v80_apply, val_main_v79_apply, v34_at x0 x1 x2 x9 x10 x11 x12 x13 x14]
  unfold Cert.Merge.gate Ideal.logistic
  rw [← Cert.Ffn.one_f32]
  rfl

theorem v95_at (b : Fin 8) (t : Fin 4096) (n : Fin 1024) :
    val_main_v95 (F := Ideal) x0 x1 x2 x9 (ix3 b t n) = Cert.Merge.gate (hid x0 x1 x2 b t) ((mats x9 x10 x11 x12 x13 x14).wg 2) n := by
  rw [val_main_v95_apply, val_main_v94_apply, val_main_cst_14_apply, val_main_v93_apply, val_main_v92_apply, val_main_cst_13_apply,
    val_main_v91_apply, val_main_v90_apply, v35_at x0 x1 x2 x9 x10 x11 x12 x13 x14]
  unfold Cert.Merge.gate Ideal.logistic
  rw [← Cert.Ffn.one_f32]
  rfl

theorem v100_at (b : Fin 8) (t : Fin 4096) (n : Fin 1024) :
    val_main_v100 (F := Ideal) x0 x1 x2 x3 x4 x5 x6 x7 x8 x9 x10 x11 x12 x13 (ix3 b t n)
      = Cert.Merge.mixed (hid x0 x1 x2 b t) (ssm x3 x4 x5 x8 b t) (fun f => x6 (ix3 b t f)) (fun f => x7 (ix3 b t f))
          (mats x9 x10 x11 x12 x13 x14) n := by
  have e : ∀ k : Fin 384, lidx_main_v77 (ix3 b t n) k = ix3 b t k := fun k => by idx_ext
  have e1 : ∀ k : Fin 384, ridx_main_v77 (ix3 b t n) k = ix2 k n := fun k => by idx_ext
  have e2 : ∀ k : Fin 512, lidx_main_v87 (ix3 b t n) k = ix3 b t k := fun k => by idx_ext
  have e3 : ∀ k : Fin 512, ridx_main_v87 (ix3 b t n) k = ix2 k n := fun k => by idx_ext
  have e4 : ∀ k : Fin 512, lidx_main_v98 (ix3 b t n) k = ix3 b t k := fun k => by idx_ext
  have e5 : ∀ k : Fin 512, ridx_main_v98 (ix3 b t n) k = ix2 k n := fun k => by idx_ext
  rw [val_main_v100_apply, val_main_v89_apply, val_main_v78_apply, val_main_v88_apply, val_main_v99_apply,
    v74_at x0 x1 x2 x9 x10 x11 x12 x13 x14, v84_at x0 x1 x2 x9 x10 x11 x12 x13 x14, v95_at x0 x1 x2 x9 x10 x11 x12 x13 x14,
    val_main_v77_apply, val_main_v87_apply, val_main_v98_apply]
  simp only [e, e1, e2, e3, e4, e5, v68_at x3 x4 x5 x8 x9 x10 x11 x12 x13 x14, v76_at x9 x10 x11 x12 x13 x14,
    v86_at x9 x10 x11 x12 x13 x14, v97_at x9 x10 x11 x12 x13 x14]
  rfl

/-- The reference at an index. -/
theorem v106_at (b : Fin 8) (t : Fin 4096) (n : Fin 1024) :
    val_main_v106 (F := Ideal) x0 x1 x2 x3 x4 x5 x6 x7 x8 x9 x10 x11 x12 x13 x14 (ix3 b t n)
      = Cert.Merge.out (token x0 x1 x2 x3 x4 x5 x6 x7 x8 b t) (mats x9 x10 x11 x12 x13 x14) n := by
  have e : ∀ k : Fin 1024, lidx_main_v103 (ix3 b t n) k = ix3 b t k := fun k => by idx_ext
  have e1 : ∀ k : Fin 1024, ridx_main_v103 (ix3 b t n) k = ix2 k n := fun k => by idx_ext
  have e2 : idx_main_v104 (ix3 b t n) = ix3 b (0 : Fin 1) n := by idx_ext
  rw [val_main_v106_apply, val_main_v105_apply, v0_at, val_main_v104_apply, e2, v5_at, val_main_v103_apply]
  simp only [e, e1, v100_at x0 x1 x2 x3 x4 x5 x6 x7 x8 x9 x10 x11 x12 x13 x14, v102_at x9 x10 x11 x12 x13 x14]
  rfl

end Cert.Reference3Ideal.Merge

end
-- ==== Proof.MergeValue.lean ====
module

public import proofs.«01_k».proof.Proof.Gen.Kernel3Ideal.Skeleton
public import proofs.«01_k».proof.Proof.MergeRef
public import Idealize.ShloMosaic.Lib.Pointwise
public import Idealize.ShloMosaic.Lib.MatmulPlain

@[expose] public section

set_option maxRecDepth 16384

noncomputable section

namespace Cert.Kernel3Ideal.Merge

open Cert.Kernel3Ideal Cert.Kernel3Ideal.Gen
open Idealize.ShloMosaic Idealize.ShloMosaic.TcCoe Idealize.ShloMosaic.Tactic

/-! What the body stores, at an index. -/

/-- Row `r` of block `h` of two stacked blocks. -/
def both (h : Fin 2) (r : Fin 256) : Fin 512 := ⟨256 * h.val + r.val, by have := h.isLt; have := r.isLt; omega⟩

/-- The block that column `f` lies in. -/
def blkOf (f : Fin 384) : Fin 3 := ⟨f.val / 128, by have := f.isLt; omega⟩
/-- The place of column `f` in its block. -/
def laneOf (f : Fin 384) : Fin 128 := ⟨f.val % 128, Nat.mod_lt _ (by decide)⟩

theorem pay6_at (v0 : Vec Ideal S1x256x1024 .f32) (v4 : Vec Ideal S1x1024 .f32) (v6 v8 : Vec Ideal S1x1x1024 .f32) (r : Fin 256) (k : Fin 1024) :
    k0_pay6 v0 v4 v6 v8 (ix2 r k)
      = Cert.Ffn.hid (fun k => v0 (ix3 0 r k)) (fun k => v4 (ix2 0 k)) (fun k => v6 (ix3 0 0 k)) (fun k => v8 (ix3 0 0 k)) k := by
  pointwise [k0_pay6, k0_pay3, k0_pay5]
  unfold Cert.Ffn.hid Cert.Ffn.rms
  rw [Cert.Ffn.one_f32]

/-- The modulated rows of both batches, stacked. -/
def stackH (v0 v2 : Vec Ideal S1x256x1024 .f32) (v4 : Vec Ideal S1x1024 .f32) (v6 v8 v28 v30 : Vec Ideal S1x1x1024 .f32) : FVec Ideal S512x1024 .bf16 :=
  k0_pay10 (k0_pay4 v2) (k0_pay5 v4) (k0_pay6 v0 v4 v6 v8) (k0_pay7 v28) (k0_pay8 v30) (k0_pay9 v2)

theorem stackH_high (v2 v0 : Vec Ideal S1x256x1024 .f32) (v4 : Vec Ideal S1x1024 .f32) (v6 v8 v28 v30 : Vec Ideal S1x1x1024 .f32) (r : Fin 256) (k : Fin 1024) :
    stackH v0 v2 v4 v6 v8 v28 v30 (ix2 (both 0 r) k)
      = Cert.Ffn.hid (fun k => v0 (ix3 0 r k)) (fun k => v4 (ix2 0 k)) (fun k => v6 (ix3 0 0 k)) (fun k => v8 (ix3 0 0 k)) k := by
  unfold stackH
  rw [← pay6_at]
  generalize k0_pay6 v0 v4 v6 v8 = y
  have hr : (both 0 r).val < 256 := by show 256 * 0 + r.val < 256; omega
  have e : ∀ p, (⟨(both 0 r).val, p⟩ : Fin 256) = r := fun p => Fin.ext (by show 256 * 0 + r.val = r.val; omega)
  pointwise [k0_pay10]
  rw [dif_pos hr]
  simp only [e]

theorem stackH_low (v2 v0 : Vec Ideal S1x256x1024 .f32) (v4 : Vec Ideal S1x1024 .f32) (v6 v8 v28 v30 : Vec Ideal S1x1x1024 .f32) (r : Fin 256) (k : Fin 1024) :
    stackH v0 v2 v4 v6 v8 v28 v30 (ix2 (both 1 r) k)
      = Cert.Ffn.hid (fun k => v2 (ix3 0 r k)) (fun k => v4 (ix2 0 k)) (fun k => v28 (ix3 0 0 k)) (fun k => v30 (ix3 0 0 k)) k := by
  unfold stackH
  generalize k0_pay6 v0 v4 v6 v8 = y
  have hr : ¬ (both 1 r).val < 256 := by show ¬ 256 * 1 + r.val < 256; omega
  have e : ∀ p, (⟨(both 1 r).val - 256, p⟩ : Fin 256) = r := fun p => Fin.ext (by show 256 * 1 + r.val - 256 = r.val; omega)
  pointwise [k0_pay10, k0_pay4, k0_pay5, k0_pay7, k0_pay8, k0_pay9]
  rw [dif_neg hr]
  simp only [e]
  unfold Cert.Ffn.hid Cert.Ffn.rms
  rw [Cert.Ffn.one_f32]

theorem pay11_at (v3 : FVec Ideal S256x1024 .f32) (v5 : FVec Ideal S1x1024 .f32) (v27 : FVec Ideal S256x1024 .f32) (v29 v31 : FVec Ideal S1x1024 .f32)
    (v32 : FVec Ideal S256x1024 .f32) (w : Vec Ideal S1x1024x1024 .bf16) (p : Fin 512) (n : Fin 1024) :
    k0_pay11 v3 v5 v27 v29 v31 v32 w (ix2 p n) = ∑ k : Fin 1024, (k0_pay10 v3 v5 v27 v29 v31 v32 (ix2 p k) : EReal) * (w (ix3 0 k n) : EReal) := by
  unfold k0_pay11
  generalize k0_pay10 v3 v5 v27 v29 v31 v32 = h
  pointwise

/-- Three blocks of columns side by side. -/
theorem cat3_at (x : Fin 3 → FVec Ideal S256x128 .f32) (r : Fin 256) (f : Fin 384) :
    concatenate S256x384 1 [⟨S256x128, x 0⟩, ⟨S256x128, x 1⟩, ⟨S256x128, x 2⟩] concatenates_S256x128_S256x128_S256x128_S256x384_d1 (ix2 r f)
      = x (blkOf f) (ix2 r (laneOf f)) := by
  have hf := f.isLt
  generalize h0 : x 0 = y0
  generalize h1 : x 1 = y1
  generalize h2 : x 2 = y2
  pointwise
  by_cases c0 : f.val < 128
  · have e : blkOf f = 0 := Fin.ext (by show f.val / 128 = 0; omega)
    have e1 : laneOf f = ⟨f.val, c0⟩ := Fin.ext (by show f.val % 128 = f.val; omega)
    rw [dif_pos c0, e, e1, h0]
  · by_cases c1 : f.val < 256
    · have e : blkOf f = 1 := Fin.ext (by show f.val / 128 = 1; omega)
      have e1 : laneOf f = ⟨f.val - 128, by omega⟩ := Fin.ext (by show f.val % 128 = f.val - 128; omega)
      rw [dif_neg c0, dif_pos (by omega), e, e1, h1]
    · have e : blkOf f = 2 := Fin.ext (by show f.val / 128 = 2; omega)
      have e1 : laneOf f = ⟨f.val - 256, by omega⟩ := Fin.ext (by show f.val % 128 = f.val - 256; omega)
      rw [dif_neg c0, dif_neg (by omega), e, e1, h2]
      exact congrArg (fun z => y2 (ix2 r z)) (Fin.ext (by show f.val - 128 - 128 = f.val - 256; omega))

/-- Two blocks of rows stacked. -/
theorem cat2f_at (x : Fin 2 → FVec Ideal S256x384 .f32) (h : Fin 2) (r : Fin 256) (f : Fin 384) :
    concatenate S512x384 0 [⟨S256x384, x 0⟩, ⟨S256x384, x 1⟩] concatenates_S256x384_S256x384_S512x384_d0 (ix2 (both h r) f) = x h (ix2 r f) := by
  have hr := r.isLt
  generalize h0 : x 0 = y0
  generalize h1 : x 1 = y1
  pointwise
  obtain rfl | rfl : h = 0 ∨ h = 1 := by omega
  · rw [dif_pos (show (both 0 r).val < 256 by show 256 * 0 + r.val < 256; omega)]
    refine Eq.trans (congrArg (fun z => y0 (ix2 z f)) (Fin.ext (by show 256 * 0 + r.val = r.val; omega))) ?_
    exact congrFun h0.symm _
  · rw [dif_neg (show ¬ (both 1 r).val < 256 by show ¬ 256 * 1 + r.val < 256; omega)]
    refine Eq.trans (congrArg (fun z => y1 (ix2 z f)) (Fin.ext (by show 256 * 1 + r.val - 256 = r.val; omega))) ?_
    exact congrFun h1.symm _

theorem cat2b_at (x : Fin 2 → FVec Ideal S256x512 .bf16) (h : Fin 2) (r : Fin 256) (f : Fin 512) :
    concatenate S512x512 0 [⟨S256x512, x 0⟩, ⟨S256x512, x 1⟩] concatenates_S256x512_S256x512_S512x512_d0 (ix2 (both h r) f) = x h (ix2 r f) := by
  have hr := r.isLt
  generalize h0 : x 0 = y0
  generalize h1 : x 1 = y1
  pointwise
  obtain rfl | rfl : h = 0 ∨ h = 1 := by omega
  · rw [dif_pos (show (both 0 r).val < 256 by show 256 * 0 + r.val < 256; omega)]
    refine Eq.trans (congrArg (fun z => y0 (ix2 z f)) (Fin.ext (by show 256 * 0 + r.val = r.val; omega))) ?_
    exact congrFun h0.symm _
  · rw [dif_neg (show ¬ (both 1 r).val < 256 by show ¬ 256 * 1 + r.val < 256; omega)]
    refine Eq.trans (congrArg (fun z => y1 (ix2 z f)) (Fin.ext (by show 256 * 1 + r.val - 256 = r.val; omega))) ?_
    exact congrFun h1.symm _

/-- A loaded block of columns as a matrix. -/
abbrev mat (x : Vec Ideal S1x256x128 .f32) : FVec Ideal S256x128 .f32 := shapeCast S256x128 x shapeCasts_S1x256x128_S256x128

theorem mat_at (x : Vec Ideal S1x256x128 .f32) (r : Fin 256) (f : Fin 128) : mat x (ix2 r f) = x (ix3 0 r f) := by
  pointwise [mat]

/-- The sum of both directions, for both batches. -/
def stackY (f b : Fin 3 → Fin 2 → Vec Ideal S1x256x128 .f32) : FVec Ideal S512x384 .f32 :=
  k0_pay18 (k0_pay15 (k0_pay14 (f 0 0) (b 0 0)) (f 1 0) (b 1 0) (f 2 0) (b 2 0)) (k0_pay16 (f 0 1) (b 0 1)) (k0_pay17 (f 1 1) (b 1 1)) (f 2 1) (b 2 1)

theorem stackY_at (f b : Fin 3 → Fin 2 → Vec Ideal S1x256x128 .f32) (h : Fin 2) (r : Fin 256) (n : Fin 384) :
    stackY f b (ix2 (both h r) n) = (f (blkOf n) h (ix3 0 r (laneOf n)) + b (blkOf n) h (ix3 0 r (laneOf n)) : EReal) := by
  have e := (cat2f_at (fun h => concatenate S256x384 1 [⟨S256x128, addf (mat (f 0 h)) (mat (b 0 h))⟩, ⟨S256x128, addf (mat (f 1 h)) (mat (b 1 h))⟩,
    ⟨S256x128, addf (mat (f 2 h)) (mat (b 2 h))⟩] concatenates_S256x128_S256x128_S256x128_S256x384_d1) h r n).trans
    (cat3_at (fun g => addf (mat (f g h)) (mat (b g h))) r n)
  refine Eq.trans ?_ (e.trans ?_)
  · rfl
  · show (mat (f (blkOf n) h) (ix2 r (laneOf n)) + mat (b (blkOf n) h) (ix2 r (laneOf n)) : EReal) = _
    rw [mat_at, mat_at]

/-- The skip's input, for both batches. -/
def stackU (v135 : FVec Ideal S256x384 .f32) (v140 : FVec Ideal S256x128 .f32) (v144 v149 : Vec Ideal S1x256x128 .f32) : FVec Ideal S512x384 .f32 :=
  concatenate S512x384 0 [⟨S256x384, v135⟩, ⟨S256x384, concatenate S256x384 1 [⟨S256x128, v140⟩, ⟨S256x128, mat v144⟩, ⟨S256x128, mat v149⟩]
    concatenates_S256x128_S256x128_S256x128_S256x384_d1⟩] concatenates_S256x384_S256x384_S512x384_d0

theorem stackU_at (u : Fin 3 → Fin 2 → Vec Ideal S1x256x128 .f32) (h : Fin 2) (r : Fin 256) (n : Fin 384) :
    stackU (k0_pay20 (u 0 0) (u 1 0) (u 2 0)) (k0_pay21 (u 0 1)) (u 1 1) (u 2 1) (ix2 (both h r) n) = u (blkOf n) h (ix3 0 r (laneOf n)) := by
  have e := (cat2f_at (fun h => concatenate S256x384 1 [⟨S256x128, mat (u 0 h)⟩, ⟨S256x128, mat (u 1 h)⟩, ⟨S256x128, mat (u 2 h)⟩]
    concatenates_S256x128_S256x128_S256x128_S256x384_d1) h r n).trans (cat3_at (fun g => mat (u g h)) r n)
  refine Eq.trans ?_ (e.trans (mat_at _ _ _))
  rfl

theorem pay22_at (v54 : FVec Ideal S512x1024 .f32) (v117 : FVec Ideal S512x384 .f32) (v118 : Vec Ideal S1x384 .f32) (v135 : FVec Ideal S256x384 .f32)
    (v140 : FVec Ideal S256x128 .f32) (v144 v149 : Vec Ideal S1x256x128 .f32) (v170 : Vec Ideal S1x384x384 .bf16) (v177 : Vec Ideal S1x384x1024 .bf16)
    (p : Fin 512) (n : Fin 1024) :
    k0_pay22 v54 v117 (k0_pay19 v118) v135 v140 v144 v149 v170 v177 (ix2 p n)
      = Ideal.logistic (v54 (ix2 p n)) * ∑ k : Fin 384,
          Cert.Merge.glu (fun f => v117 (ix2 p f) + v118 (ix2 0 f) * stackU v135 v140 v144 v149 (ix2 p f)) (fun k n => v170 (ix3 0 k n)) k
            * (v177 (ix3 0 k n) : EReal) := by
  unfold k0_pay22
  have hU : (concatenate S512x384 0 [⟨S256x384, v135⟩, ⟨S256x384, concatenate S256x384 1 [⟨S256x128, v140⟩, ⟨S256x128, shapeCast S256x128 v144 shapeCasts_S1x256x128_S256x128⟩, ⟨S256x128, shapeCast S256x128 v149 shapeCasts_S1x256x128_S256x128⟩]
    concatenates_S256x128_S256x128_S256x128_S256x384_d1⟩] concatenates_S256x384_S256x384_S512x384_d0 : FVec Ideal S512x384 .f32) = stackU v135 v140 v144 v149 := rfl
  rw [hU]
  generalize stackU v135 v140 v144 v149 = U
  pointwise [k0_pay19]
  unfold Cert.Merge.glu Cert.Merge.gelu
  rw [Cert.Ffn.one_f32]

/-- The merged rows through the output's weights. -/
theorem pay24_at (v60 v180 v181 : FVec Ideal S512x1024 .f32) (ga na : Fin 2 → Vec Ideal S1x256x512 .bf16) (wa wn : Vec Ideal S1x512x1024 .bf16)
    (wo : Vec Ideal S1x1024x1024 .bf16) (h : Fin 2) (r : Fin 256) (n : Fin 1024) :
    k0_pay24 v60 v180 v181 (ga 0) (ga 1) wa (na 0) (na 1) wn wo (ix2 (both h r) n)
      = ∑ k : Fin 1024, (v180 (ix2 (both h r) k) + v181 (ix2 (both h r) k) * (∑ f : Fin 512, (ga h (ix3 0 r f) : EReal) * (wa (ix3 0 f k) : EReal))
          + Ideal.logistic (v60 (ix2 (both h r) k)) * (∑ f : Fin 512, (na h (ix3 0 r f) : EReal) * (wn (ix3 0 f k) : EReal)))
          * (wo (ix3 0 k n) : EReal) := by
  have c := fun (x : Fin 2 → Vec Ideal S1x256x512 .bf16) (f : Fin 512) => cat2b_at (fun h => shapeCast S256x512 (x h) shapeCasts_S1x256x512_S256x512) h r f
  have d : ∀ (x : Vec Ideal S1x256x512 .bf16) (f : Fin 512), shapeCast S256x512 x shapeCasts_S1x256x512_S256x512 (ix2 r f) = x (ix3 0 r f) := fun x f => by
    pointwise
  have cg := fun f => (c ga f).trans (d (ga h) f)
  have cn := fun f => (c na f).trans (d (na h) f)
  revert cg cn
  unfold k0_pay24
  generalize concatenate S512x512 0 [⟨S256x512, shapeCast S256x512 (ga 0) shapeCasts_S1x256x512_S256x512⟩, ⟨S256x512, shapeCast S256x512 (ga 1) shapeCasts_S1x256x512_S256x512⟩] concatenates_S256x512_S256x512_S512x512_d0 = YA
  generalize concatenate S512x512 0 [⟨S256x512, shapeCast S256x512 (na 0) shapeCasts_S1x256x512_S256x512⟩, ⟨S256x512, shapeCast S256x512 (na 1) shapeCasts_S1x256x512_S256x512⟩] concatenates_S256x512_S256x512_S512x512_d0 = YN
  intro cg cn
  simp only [← cg, ← cn]
  generalize both h r = p
  pointwise

theorem pay23_at (v57 : FVec Ideal S512x1024 .f32) (p : Fin 512) (n : Fin 1024) : k0_pay23 v57 (ix2 p n) = Ideal.logistic (v57 (ix2 p n)) := by
  pointwise [k0_pay23]

theorem pay1_at (v0 : Vec Ideal S1x256x1024 .f32) (v60 v180 v181 : FVec Ideal S512x1024 .f32) (v182 v184 : Vec Ideal S1x256x512 .bf16) (v187 : Vec Ideal S1x512x1024 .bf16)
    (v193 v195 : Vec Ideal S1x256x512 .bf16) (v198 : Vec Ideal S1x512x1024 .bf16) (v204 : Vec Ideal S1x1024x1024 .bf16) (v207 : Vec Ideal S1x1x1024 .f32) (r : Fin 256) (n : Fin 1024) :
    k0_pay1 (k0_pay25 (k0_pay3 v0) v60 v180 v181 v182 v184 v187 v193 v195 v198 v204 v207) (ix3 0 r n)
      = (v0 (ix3 0 r n) + v207 (ix3 0 0 n) * k0_pay24 v60 v180 v181 v182 v184 v187 v193 v195 v198 v204 (ix2 (both 0 r) n) : EReal) := by
  unfold k0_pay25
  generalize k0_pay24 v60 v180 v181 v182 v184 v187 v193 v195 v198 v204 = y
  have e : (⟨r.val, by have := r.isLt; omega⟩ : Fin 512) = both 0 r := Fin.ext (by show r.val = 256 * 0 + r.val; omega)
  rw [← e]
  pointwise [k0_pay1, k0_pay3]

theorem pay2_at (v2 : Vec Ideal S1x256x1024 .f32) (y : FVec Ideal S512x1024 .f32) (v216 : Vec Ideal S1x1x1024 .f32) (r : Fin 256) (n : Fin 1024) :
    k0_pay2 (k0_pay4 v2) y v216 (ix3 0 r n) = (v2 (ix3 0 r n) + v216 (ix3 0 0 n) * y (ix2 (both 1 r) n) : EReal) := by
  have e : (⟨256 + r.val, by have := r.isLt; omega⟩ : Fin 512) = both 1 r := Fin.ext (by show 256 + r.val = 256 * 1 + r.val; omega)
  rw [← e]
  pointwise [k0_pay2, k0_pay4]

end Cert.Kernel3Ideal.Merge

end
-- ==== Proof.MergePieces.lean ====
module

public import proofs.«01_k».proof.Proof.MergeValue
public import proofs.«01_k».proof.Proof.Gen.Kernel3Ideal.Frame
public import Idealize.ShloMosaic.Lib.Pipeline.ValueKit

@[expose] public section

set_option maxRecDepth 16384

noncomputable section

namespace Cert.Kernel3Ideal.Merge

open Cert.Kernel3Ideal Cert.Kernel3Ideal.Gen
open Idealize.ShloMosaic Idealize.ShloMosaic.TcCoe Idealize.ShloMosaic.Tactic

/-! The body's stores: one block of each of its two batches into the output. -/

/-- What the body loads. -/
structure Loads where
  /-- The two batches' rows of the stream. -/
  x : Fin 2 → Vec Ideal S1x256x1024 .f32
  /-- Their modulation rows. -/
  md : Fin 2 → Fin 9 → Vec Ideal S1x1x1024 .f32
  /-- The gain. -/
  g : Vec Ideal S1x1024 .f32
  /-- The forward scan's blocks. -/
  f : Fin 3 → Fin 2 → Vec Ideal S1x256x128 .f32
  /-- The backward scan's blocks. -/
  b : Fin 3 → Fin 2 → Vec Ideal S1x256x128 .f32
  /-- The scans' input. -/
  u : Fin 3 → Fin 2 → Vec Ideal S1x256x128 .f32
  /-- The skip's weights. -/
  d : Vec Ideal S1x384 .f32
  /-- The windowed attention's rows. -/
  ga : Fin 2 → Vec Ideal S1x256x512 .bf16
  /-- The neighbourhood attention's rows. -/
  na : Fin 2 → Vec Ideal S1x256x512 .bf16
  /-- The three gates' weights. -/
  wg : Fin 3 → Vec Ideal S1x1024x1024 .bf16
  /-- The gated unit's weights. -/
  wl : Vec Ideal S1x384x384 .bf16
  /-- The scans' weights. -/
  ws : Vec Ideal S1x384x1024 .bf16
  /-- The windowed attention's weights. -/
  wa : Vec Ideal S1x512x1024 .bf16
  /-- The neighbourhood attention's weights. -/
  wn : Vec Ideal S1x512x1024 .bf16
  /-- The output's weights. -/
  wo : Vec Ideal S1x1024x1024 .bf16

/-- The modulated rows of both batches, stacked. -/
def hidS (A : Loads) : FVec Ideal S512x1024 .bf16 := stackH (A.x 0) (A.x 1) A.g (A.md 0 3) (A.md 0 4) (A.md 1 3) (A.md 1 4)

/-- The rows through the weights of gate `j`. -/
def gateS (A : Loads) (j : Fin 3) : FVec Ideal S512x1024 .f32 :=
  k0_pay11 (k0_pay4 (A.x 1)) (k0_pay5 A.g) (k0_pay6 (A.x 0) A.g (A.md 0 3) (A.md 0 4)) (k0_pay7 (A.md 1 3)) (k0_pay8 (A.md 1 4)) (k0_pay9 (A.x 1)) (A.wg j)

/-- The scans' gated part. -/
def ssmS (A : Loads) : FVec Ideal S512x1024 .f32 :=
  k0_pay22 (gateS A 0) (stackY A.f A.b) (k0_pay19 A.d) (k0_pay20 (A.u 0 0) (A.u 1 0) (A.u 2 0)) (k0_pay21 (A.u 0 1)) (A.u 1 1) (A.u 2 1) A.wl A.ws

/-- The merged rows through the output's weights. -/
def prodS (A : Loads) : FVec Ideal S512x1024 .f32 :=
  k0_pay24 (gateS A 2) (ssmS A) (k0_pay23 (gateS A 1)) (A.ga 0) (A.ga 1) A.wa (A.na 0) (A.na 1) A.wn A.wo

/-- The stored rows of the first batch. -/
def highS (A : Loads) : FVec Ideal S1x256x1024 .f32 :=
  k0_pay1 (k0_pay25 (k0_pay3 (A.x 0)) (gateS A 2) (ssmS A) (k0_pay23 (gateS A 1)) (A.ga 0) (A.ga 1) A.wa (A.na 0) (A.na 1) A.wn A.wo (A.md 0 5))

/-- The output's stores, the last first. -/
def oList (A : Loads) : List (View.Piece (Elt Ideal) S2x256x1024 .f32) :=
  [⟨Rect.unit (s := S2x256x1024) ![1, 0, 0] S1x256x1024.size inb_S2x256x1024_S1x256x1024_1_0_0, k0_pay2 (k0_pay4 (A.x 1)) (prodS A) (A.md 1 5)⟩,
    ⟨Rect.unit (s := S2x256x1024) ![0, 0, 0] S1x256x1024.size inb_S2x256x1024_S1x256x1024_0_0_0,
      highS A⟩]

theorem inb_x (b : Fin 2) (a : Fin 3) : (![b.val, 0, 0] : Fin 3 → Nat) a + S1x256x1024.size a ≤ S2x256x1024.size a := by
  have := b.isLt
  match a with
  | ⟨0, _⟩ => show b.val + 1 ≤ 2; omega
  | ⟨1, _⟩ => show 0 + 256 ≤ 256; omega
  | ⟨2, _⟩ => show 0 + 1024 ≤ 1024; omega

theorem inb_y (b : Fin 2) (a : Fin 3) : (![b.val, 0, 0] : Fin 3 → Nat) a + S1x256x512.size a ≤ S2x256x512.size a := by
  have := b.isLt
  match a with
  | ⟨0, _⟩ => show b.val + 1 ≤ 2; omega
  | ⟨1, _⟩ => show 0 + 256 ≤ 256; omega
  | ⟨2, _⟩ => show 0 + 512 ≤ 512; omega

theorem inb_md (b : Fin 2) (j : Fin 9) (a : Fin 3) : (![b.val, j.val, 0] : Fin 3 → Nat) a + S1x1x1024.size a ≤ S2x9x1024.size a := by
  have := b.isLt
  have := j.isLt
  match a with
  | ⟨0, _⟩ => show b.val + 1 ≤ 2; omega
  | ⟨1, _⟩ => show j.val + 1 ≤ 9; omega
  | ⟨2, _⟩ => show 0 + 1024 ≤ 1024; omega

theorem inb_wg (j : Fin 3) (a : Fin 3) : (![0, 0, 1024 * j.val] : Fin 3 → Nat) a + S1x1024x1024.size a ≤ S1x1024x3072.size a := by
  have := j.isLt
  match a with
  | ⟨0, _⟩ => show 0 + 1 ≤ 1; omega
  | ⟨1, _⟩ => show 0 + 1024 ≤ 1024; omega
  | ⟨2, _⟩ => show 1024 * j.val + 1024 ≤ 3072; omega

/-- Where the rows of batch `h` begin in block `g` of a slab. -/
def offs (i : grid0.Coords) (g : Fin 3) (h : Fin 2) : Fin 3 → Nat :=
  match g with
  | ⟨0, _⟩ => k0_off1 i (BitVec.ofNat 32 h.val)
  | ⟨1, _⟩ => k0_off2 i (BitVec.ofNat 32 h.val)
  | ⟨2, _⟩ => k0_off3 i (BitVec.ofNat 32 h.val)

theorem offs_inb (i : grid0.Coords) (g : Fin 3) (h : Fin 2) :
    ∀ a, S1x256x128.size a = 0 ∨ offs i g h a + (![1, 8, 1] : Fin 3 → Nat) a * (S1x256x128.size a - 1) < S3x2048x128.size a :=
  match g with
  | ⟨0, _⟩ => k0_off1_inb i h
  | ⟨1, _⟩ => k0_off2_inb i h
  | ⟨2, _⟩ => k0_off3_inb i h

theorem offs_eq (i : grid0.Coords) (g : Fin 3) (h : Fin 2) : offs i g h = ![g.val, 2 * (i 1).val + h.val, 0] :=
  match g with
  | ⟨0, _⟩ => k0_off1_eq i h
  | ⟨1, _⟩ => k0_off2_eq i h
  | ⟨2, _⟩ => k0_off3_eq i h

/-- Every eighth row of block `g` of a slab, from the row of batch `h` on. -/
abbrev slab (i : grid0.Coords) (g : Fin 3) (h : Fin 2) : LoadRect S3x2048x128 :=
  ⟨offs i g h, S1x256x128.size, ![1, 8, 1], offs_inb i g h⟩

/-- The loads from the windows' contents. -/
def loads (i : grid0.Coords) (x0 : Vec Ideal S2x256x1024 .f32) (x1 : Vec Ideal S2x9x1024 .f32) (x2 : Vec Ideal S3x1024 .f32) (x3 : Vec Ideal S3x2048x128 .f32) (x4 : Vec Ideal S3x2048x128 .f32) (x5 : Vec Ideal S3x2048x128 .f32) (x6 : Vec Ideal S2x256x512 .bf16) (x7 : Vec Ideal S2x256x512 .bf16) (x8 : Vec Ideal S1x384 .f32) (x9 : Vec Ideal S1x1024x3072 .bf16) (x10 : Vec Ideal S1x384x384 .bf16) (x11 : Vec Ideal S1x384x1024 .bf16) (x12 : Vec Ideal S1x512x1024 .bf16) (x13 : Vec Ideal S1x512x1024 .bf16) (x14 : Vec Ideal S1x1024x1024 .bf16) : Loads where
  x b := View.ld x0 (Rect.unit ![b.val, 0, 0] S1x256x1024.size (inb_x b))
  md b j := View.ld x1 (Rect.unit ![b.val, j.val, 0] S1x1x1024.size (inb_md b j))
  g := View.ld x2 (Rect.unit ![1, 0] S1x1024.size inb_S3x1024_S1x1024_1_0)
  f g h := fun y => x3 ((slab i g h).idx y)
  b g h := fun y => x4 ((slab i g h).idx y)
  u g h := fun y => x5 ((slab i g h).idx y)
  ga h := View.ld x6 (Rect.unit ![h.val, 0, 0] S1x256x512.size (inb_y h))
  na h := View.ld x7 (Rect.unit ![h.val, 0, 0] S1x256x512.size (inb_y h))
  d := View.ld x8 (Rect.unit ![0, 0] S1x384.size inb_S1x384_S1x384_0_0)
  wg j := View.ld x9 (Rect.unit ![0, 0, 1024 * j.val] S1x1024x1024.size (inb_wg j))
  wl := View.ld x10 (Rect.unit ![0, 0, 0] S1x384x384.size inb_S1x384x384_S1x384x384_0_0_0)
  ws := View.ld x11 (Rect.unit ![0, 0, 0] S1x384x1024.size inb_S1x384x1024_S1x384x1024_0_0_0)
  wa := View.ld x12 (Rect.unit ![0, 0, 0] S1x512x1024.size inb_S1x512x1024_S1x512x1024_0_0_0)
  wn := View.ld x13 (Rect.unit ![0, 0, 0] S1x512x1024.size inb_S1x512x1024_S1x512x1024_0_0_0)
  wo := View.ld x14 (Rect.unit ![0, 0, 0] S1x1024x1024.size inb_S1x1024x1024_S1x1024x1024_0_0_0)

section Words

variable (c : Dev nD) (i : grid0.Coords) (arg2 : Memref sig .tc .vmem S2x256x1024 .f32) (harg2 : arg2.IsWhole) (arg3 : Memref sig .tc .vmem S2x9x1024 .f32) (harg3 : arg3.IsWhole) (arg4 : Memref sig .tc .vmem S3x1024 .f32) (harg4 : arg4.IsWhole) (arg5 : Memref sig .tc .vmem S3x2048x128 .f32) (harg5 : arg5.IsWhole) (arg6 : Memref sig .tc .vmem S3x2048x128 .f32) (harg6 : arg6.IsWhole) (arg7 : Memref sig .tc .vmem S3x2048x128 .f32) (harg7 : arg7.IsWhole) (arg8 : Memref sig .tc .vmem S2x256x512 .bf16) (harg8 : arg8.IsWhole) (arg9 : Memref sig .tc .vmem S2x256x512 .bf16) (harg9 : arg9.IsWhole) (arg10 : Memref sig .tc .vmem S1x384 .f32) (harg10 : arg10.IsWhole) (arg11 : Memref sig .tc .vmem S1x1024x3072 .bf16) (harg11 : arg11.IsWhole) (arg12 : Memref sig .tc .vmem S1x384x384 .bf16) (harg12 : arg12.IsWhole) (arg13 : Memref sig .tc .vmem S1x384x1024 .bf16) (harg13 : arg13.IsWhole) (arg14 : Memref sig .tc .vmem S1x512x1024 .bf16) (harg14 : arg14.IsWhole) (arg15 : Memref sig .tc .vmem S1x512x1024 .bf16) (harg15 : arg15.IsWhole) (arg16 : Memref sig .tc .vmem S1x1024x1024 .bf16) (harg16 : arg16.IsWhole) (arg17 : Memref sig .tc .vmem S2x256x1024 .f32) (harg17 : arg17.IsWhole)
    (x0 : Vec Ideal S2x256x1024 .f32) (x1 : Vec Ideal S2x9x1024 .f32) (x2 : Vec Ideal S3x1024 .f32) (x3 : Vec Ideal S3x2048x128 .f32) (x4 : Vec Ideal S3x2048x128 .f32) (x5 : Vec Ideal S3x2048x128 .f32) (x6 : Vec Ideal S2x256x512 .bf16) (x7 : Vec Ideal S2x256x512 .bf16) (x8 : Vec Ideal S1x384 .f32) (x9 : Vec Ideal S1x1024x3072 .bf16) (x10 : Vec Ideal S1x384x384 .bf16) (x11 : Vec Ideal S1x384x1024 .bf16) (x12 : Vec Ideal S1x512x1024 .bf16) (x13 : Vec Ideal S1x512x1024 .bf16) (x14 : Vec Ideal S1x1024x1024 .bf16)

/-- The same loads through the windows' memory references. -/
def loadsM : Loads where
  x b := View.readAt (Elt Ideal) arg2.view (Rect.unit (s := S2x256x1024) ![b.val, 0, 0] S1x256x1024.size (inb_x b)).toLoadRect (harg2.unread x0)
  md b j := View.readAt (Elt Ideal) arg3.view (Rect.unit (s := S2x9x1024) ![b.val, j.val, 0] S1x1x1024.size (inb_md b j)).toLoadRect (harg3.unread x1)
  g := View.readAt (Elt Ideal) arg4.view (Rect.unit (s := S3x1024) ![1, 0] S1x1024.size inb_S3x1024_S1x1024_1_0).toLoadRect (harg4.unread x2)
  f g h := View.readAt (Elt Ideal) arg5.view (slab i g h) (harg5.unread x3)
  b g h := View.readAt (Elt Ideal) arg6.view (slab i g h) (harg6.unread x4)
  u g h := View.readAt (Elt Ideal) arg7.view (slab i g h) (harg7.unread x5)
  ga h := View.readAt (Elt Ideal) arg8.view (Rect.unit (s := S2x256x512) ![h.val, 0, 0] S1x256x512.size (inb_y h)).toLoadRect (harg8.unread x6)
  na h := View.readAt (Elt Ideal) arg9.view (Rect.unit (s := S2x256x512) ![h.val, 0, 0] S1x256x512.size (inb_y h)).toLoadRect (harg9.unread x7)
  d := View.readAt (Elt Ideal) arg10.view (Rect.unit (s := S1x384) ![0, 0] S1x384.size inb_S1x384_S1x384_0_0).toLoadRect (harg10.unread x8)
  wg j := View.readAt (Elt Ideal) arg11.view (Rect.unit (s := S1x1024x3072) ![0, 0, 1024 * j.val] S1x1024x1024.size (inb_wg j)).toLoadRect (harg11.unread x9)
  wl := View.readAt (Elt Ideal) arg12.view (Rect.unit (s := S1x384x384) ![0, 0, 0] S1x384x384.size inb_S1x384x384_S1x384x384_0_0_0).toLoadRect (harg12.unread x10)
  ws := View.readAt (Elt Ideal) arg13.view (Rect.unit (s := S1x384x1024) ![0, 0, 0] S1x384x1024.size inb_S1x384x1024_S1x384x1024_0_0_0).toLoadRect (harg13.unread x11)
  wa := View.readAt (Elt Ideal) arg14.view (Rect.unit (s := S1x512x1024) ![0, 0, 0] S1x512x1024.size inb_S1x512x1024_S1x512x1024_0_0_0).toLoadRect (harg14.unread x12)
  wn := View.readAt (Elt Ideal) arg15.view (Rect.unit (s := S1x512x1024) ![0, 0, 0] S1x512x1024.size inb_S1x512x1024_S1x512x1024_0_0_0).toLoadRect (harg15.unread x13)
  wo := View.readAt (Elt Ideal) arg16.view (Rect.unit (s := S1x1024x1024) ![0, 0, 0] S1x1024x1024.size inb_S1x1024x1024_S1x1024x1024_0_0_0).toLoadRect (harg16.unread x14)

/-- The loads of every eighth row of a window. -/
theorem slab_ld (a : Memref sig .tc .vmem S3x2048x128 .f32) (ha : a.IsWhole) (x : Vec Ideal S3x2048x128 .f32) :
    (fun (g : Fin 3) (h : Fin 2) => (View.readAt (Elt Ideal) a.view (slab i g h) (ha.unread x) : Vec Ideal S1x256x128 .f32))
      = fun g h y => x ((slab i g h).idx y) := by
  have e := ha.read_unread (Val := Elt Ideal) x
  funext g h y
  exact congrFun e _

/-- They are the loads of the windows' contents. -/
theorem loadsM_eq : loadsM i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 = loads i x0 x1 x2 x3 x4 x5 x6 x7 x8 x9 x10 x11 x12 x13 x14 := by
  unfold loadsM loads
  simp only [View.readAt_eq_ld, harg2.read_unread, harg3.read_unread, harg4.read_unread, harg8.read_unread, harg9.read_unread, harg10.read_unread, harg11.read_unread, harg12.read_unread, harg13.read_unread, harg14.read_unread, harg15.read_unread, harg16.read_unread]
  rw [slab_ld i arg5 harg5 x3, slab_ld i arg6 harg6 x4, slab_ld i arg7 harg7 x5]

theorem gate0_eq : kernelRun0_A.sl.r_7 (F := Ideal) c arg2 harg2 arg3 harg3 arg4 harg4 arg11 harg11 x0 x1 x2 x9 = gateS (loadsM i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14) 0 := rfl

theorem gate1_eq : kernelRun0_A.sl.r_8 (F := Ideal) c arg2 harg2 arg3 harg3 arg4 harg4 arg11 harg11 x0 x1 x2 x9 = gateS (loadsM i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14) 1 := rfl

theorem gate2_eq : kernelRun0_A.sl.r_9 (F := Ideal) c arg2 harg2 arg3 harg3 arg4 harg4 arg11 harg11 x0 x1 x2 x9 = gateS (loadsM i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14) 2 := rfl

theorem stackY_eq : kernelRun0_A.sl.r_14 (F := Ideal) c i arg5 harg5 arg6 harg6 x3 x4 = stackY (loadsM i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14).f (loadsM i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14).b := rfl

theorem ssm_eq : kernelRun0_A.sl.r_18 (F := Ideal) c i arg2 harg2 arg3 harg3 arg4 harg4 arg5 harg5 arg6 harg6 arg7 harg7 arg10 harg10 arg11 harg11 arg12 harg12 arg13 harg13 x0 x1 x2 x3 x4 x5 x8 x9 x10 x11 = ssmS (loadsM i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14) := by
  unfold kernelRun0_A.sl.r_18 ssmS
  rw [gate0_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14, stackY_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14]
  rfl

theorem prod_eq : kernelRun0_A.sl.r_20 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 = prodS (loadsM i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14) := by
  unfold kernelRun0_A.sl.r_20 kernelRun0_A.sl.r_19 prodS
  rw [gate1_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14, gate2_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14, ssm_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14]
  rfl

theorem high_eq : k0_pay1 (kernelRun0_A.sl.r_21 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14)
    = highS (loadsM i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14) := by
  unfold kernelRun0_A.sl.r_21 kernelRun0_A.sl.r_19 highS
  rw [gate1_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14, gate2_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14, ssm_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14]
  rfl

/-- The stores the body's run leaves in the output. -/
theorem run_pieces :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 x14).1
      = oList (loads i x0 x1 x2 x3 x4 x5 x6 x7 x8 x9 x10 x11 x12 x13 x14) := by
  rw [← loadsM_eq i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14]
  unfold oList
  rw [← prod_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14, ← high_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14]
  rfl

end Words

theorem canon_high (A : Loads) (r : Fin 256) (n : Fin 1024) :
    View.canon (oList A) (ix3 (0 : Fin 2) r n)
      = highS A (ix3 0 r n) := by
  unfold oList
  refine (View.canon_cons_of_not_mem _ _ ?_).trans ?_
  · intro hm
    have h : 1 ≤ 0 ∧ 0 < 1 + 1 := (Rect.mem_set_unit (inb := inb_S2x256x1024_S1x256x1024_1_0_0)).1 hm 0
    omega
  · have e : (Rect.unit (s := S2x256x1024) ![0, 0, 0] S1x256x1024.size inb_S2x256x1024_S1x256x1024_0_0_0).emb (ix3 (0 : Fin 1) r n) = ix3 (0 : Fin 2) r n := by
      funext a
      apply Fin.ext
      match a with
      | ⟨0, _⟩ => rfl
      | ⟨1, _⟩ => show 0 + 1 * r.val = r.val; omega
      | ⟨2, _⟩ => show 0 + 1 * n.val = n.val; omega
    rw [← e]
    exact View.canon_cons_emb (Val := Elt Ideal) _ _ _ _

theorem canon_low (A : Loads) (r : Fin 256) (n : Fin 1024) :
    View.canon (oList A) (ix3 (1 : Fin 2) r n) = k0_pay2 (k0_pay4 (A.x 1)) (prodS A) (A.md 1 5) (ix3 0 r n) := by
  unfold oList
  have e : (Rect.unit (s := S2x256x1024) ![1, 0, 0] S1x256x1024.size inb_S2x256x1024_S1x256x1024_1_0_0).emb (ix3 (0 : Fin 1) r n) = ix3 (1 : Fin 2) r n := by
    funext a
    apply Fin.ext
    match a with
    | ⟨0, _⟩ => rfl
    | ⟨1, _⟩ => show 0 + 1 * r.val = r.val; omega
    | ⟨2, _⟩ => show 0 + 1 * n.val = n.val; omega
  rw [← e]
  exact View.canon_cons_emb (Val := Elt Ideal) _ _ _ _

/-- The stored rows of batch `h`. -/
theorem canon_at (A : Loads) (h : Fin 2) (r : Fin 256) (n : Fin 1024) :
    View.canon (oList A) (ix3 h r n) = (A.x h (ix3 0 r n) + A.md h 5 (ix3 0 0 n) * prodS A (ix2 (both h r) n) : EReal) := by
  obtain rfl | rfl : h = 0 ∨ h = 1 := by omega
  · rw [canon_high]
    unfold highS
    rw [pay1_at]
    rfl
  · rw [canon_low, pay2_at]

/-- The modulated row of batch `h`. -/
def hidA (A : Loads) (h : Fin 2) (r : Fin 256) : Fin 1024 → EReal :=
  Cert.Ffn.hid (fun k => A.x h (ix3 0 r k)) (fun k => A.g (ix2 0 k)) (fun k => A.md h 3 (ix3 0 0 k)) (fun k => A.md h 4 (ix3 0 0 k))

theorem hidS_at (A : Loads) (h : Fin 2) (r : Fin 256) (k : Fin 1024) : hidS A (ix2 (both h r) k) = hidA A h r k := by
  unfold hidS hidA
  obtain rfl | rfl : h = 0 ∨ h = 1 := by omega
  · exact stackH_high _ _ _ _ _ _ _ _ _
  · exact stackH_low _ _ _ _ _ _ _ _ _

theorem gateS_at (A : Loads) (j : Fin 3) (h : Fin 2) (r : Fin 256) (n : Fin 1024) :
    Ideal.logistic (gateS A j (ix2 (both h r) n)) = Cert.Merge.gate (hidA A h r) (fun k n => A.wg j (ix3 0 k n)) n := by
  unfold gateS Cert.Merge.gate
  rw [pay11_at]
  exact congrArg Ideal.logistic (Finset.sum_congr rfl fun k _ => by rw [← hidS_at]; rfl)

/-- The token's values, of batch `h`. -/
def tokA (A : Loads) (h : Fin 2) (r : Fin 256) : Cert.Merge.Token where
  x k := A.x h (ix3 0 r k)
  g k := A.g (ix2 0 k)
  sh k := A.md h 3 (ix3 0 0 k)
  sc k := A.md h 4 (ix3 0 0 k)
  gt k := A.md h 5 (ix3 0 0 k)
  y f := A.f (blkOf f) h (ix3 0 r (laneOf f)) + A.b (blkOf f) h (ix3 0 r (laneOf f)) + A.d (ix2 0 f) * A.u (blkOf f) h (ix3 0 r (laneOf f))
  ya f := A.ga h (ix3 0 r f)
  yn f := A.na h (ix3 0 r f)

/-- The loaded weights. -/
def matA (A : Loads) : Cert.Merge.Mats where
  wg j k n := A.wg j (ix3 0 k n)
  wl k n := A.wl (ix3 0 k n)
  ws k n := A.ws (ix3 0 k n)
  wa k n := A.wa (ix3 0 k n)
  wn k n := A.wn (ix3 0 k n)
  wo k n := A.wo (ix3 0 k n)

/-- What the body leaves at an index of its block, in what it loads. -/
theorem store_at (A : Loads) (h : Fin 2) (r : Fin 256) (n : Fin 1024) :
    View.canon (oList A) (ix3 h r n) = Cert.Merge.out (tokA A h r) (matA A) n := by
  rw [canon_at]
  unfold prodS
  rw [pay24_at]
  unfold Cert.Merge.out Cert.Merge.mixed ssmS
  simp only [pay22_at, pay23_at, gateS_at, stackY_at, stackU_at]
  rfl

end Cert.Kernel3Ideal.Merge

end
-- ==== Proof.MergeHost.lean ====
module

public import proofs.«01_k».proof.Proof.MergePieces
public import proofs.«01_k».proof.Proof.Gen.Kernel3Ideal.Value

@[expose] public section

set_option maxRecDepth 16384

noncomputable section

namespace Cert.Kernel3Ideal.Merge

open Cert.Kernel3Ideal Cert.Kernel3Ideal.Gen
open Cert.Merge (headCol)
open Cert.Reference3Ideal.Merge (mod all tok gain gateCol)
open Idealize.ShloMosaic Idealize.ShloMosaic.TcCoe Idealize.ShloMosaic.Tactic

/-! The arrays the windows are cut from, in the arguments. -/

variable (m : (ℓ : Loc nD τ sig) → Buf (Elt Ideal) ℓ)

/-- The stream. -/
def a0 (c : Dev nD) : (⟨S8x4352x1024, .f32⟩ : BufTy).Contents (Elt Ideal) := m ((c : Thread nD τ).loc main_arg0)
/-- The modulation. -/
def a1 (c : Dev nD) : (⟨S8x9216, .f32⟩ : BufTy).Contents (Elt Ideal) := m ((c : Thread nD τ).loc main_arg1)
/-- The gains. -/
def a2 (c : Dev nD) : (⟨S2x3x1024, .f32⟩ : BufTy).Contents (Elt Ideal) := m ((c : Thread nD τ).loc main_arg2)
/-- The forward scan's output. -/
def a3 (c : Dev nD) : (⟨S8x4352x384, .f32⟩ : BufTy).Contents (Elt Ideal) := m ((c : Thread nD τ).loc main_arg3)
/-- The backward scan's output. -/
def a4 (c : Dev nD) : (⟨S8x4352x384, .f32⟩ : BufTy).Contents (Elt Ideal) := m ((c : Thread nD τ).loc main_arg4)
/-- The scans' input. -/
def a5 (c : Dev nD) : (⟨S8x4352x384, .f32⟩ : BufTy).Contents (Elt Ideal) := m ((c : Thread nD τ).loc main_arg5)
/-- The windowed attention's output. -/
def a6 (c : Dev nD) : (⟨S8x4096x512, .f32⟩ : BufTy).Contents (Elt Ideal) := m ((c : Thread nD τ).loc main_arg6)
/-- The neighbourhood attention's output. -/
def a7 (c : Dev nD) : (⟨S8x4096x512, .f32⟩ : BufTy).Contents (Elt Ideal) := m ((c : Thread nD τ).loc main_arg7)
/-- The skip's weights. -/
def a8 (c : Dev nD) : (⟨S2x384, .f32⟩ : BufTy).Contents (Elt Ideal) := m ((c : Thread nD τ).loc main_arg8)
/-- The joint projection's weights. -/
def a9 (c : Dev nD) : (⟨S2x1024x5760, .f32⟩ : BufTy).Contents (Elt Ideal) := m ((c : Thread nD τ).loc main_arg9)
/-- The gated unit's weights. -/
def a10 (c : Dev nD) : (⟨S2x384x384, .f32⟩ : BufTy).Contents (Elt Ideal) := m ((c : Thread nD τ).loc main_arg10)
/-- The scans' weights. -/
def a11 (c : Dev nD) : (⟨S2x384x1024, .f32⟩ : BufTy).Contents (Elt Ideal) := m ((c : Thread nD τ).loc main_arg11)
/-- The windowed attention's weights. -/
def a12 (c : Dev nD) : (⟨S2x512x1024, .f32⟩ : BufTy).Contents (Elt Ideal) := m ((c : Thread nD τ).loc main_arg12)
/-- The neighbourhood attention's weights. -/
def a13 (c : Dev nD) : (⟨S2x512x1024, .f32⟩ : BufTy).Contents (Elt Ideal) := m ((c : Thread nD τ).loc main_arg13)
/-- The output's weights. -/
def a14 (c : Dev nD) : (⟨S2x1024x1024, .f32⟩ : BufTy).Contents (Elt Ideal) := m ((c : Thread nD τ).loc main_arg14)

theorem V_x (c : Dev nD) : V m c main_arg0 = a0 m c := by
  show StableHlo.after (List.flatten [hostOps0]) _ (Proc.devRef .tc main_arg0) = _
  simp only [List.flatten_cons, List.flatten_nil, List.append_nil, List.cons_append, List.nil_append]
  after_results
  rfl

/-- The modulation's vectors, with as many vectors of zeros after them. -/
def padM (x1 : (⟨S8x9216, .f32⟩ : BufTy).Contents (Elt Ideal)) : (⟨S16x9x1024, .f32⟩ : BufTy).Contents (Elt Ideal) :=
  concatenate S16x9x1024 0 [⟨S8x9x1024, shapeCast S8x9x1024 x1 shapeCasts_S8x9216_S8x9x1024⟩,
    ⟨S8x9x1024, broadcastInDim S8x9x1024 ![] bcast_S_S8x9x1024 (constant (F := Ideal) S_ .f32 0x00000000#32)⟩]
    concatenates_S8x9x1024_S8x9x1024_S16x9x1024_d0

theorem padM_at (x1 : (⟨S8x9216, .f32⟩ : BufTy).Contents (Elt Ideal)) (b : Fin 8) (i : Fin 9) (k : Fin 1024) (b' : Fin 16) (hb : b'.val = b.val) :
    padM x1 (ix3 b' i k) = mod x1 b i k := by
  have h8 := b.isLt
  have := i.isLt
  have := k.isLt
  unfold padM
  pointwise
  rw [dif_pos (show b'.val < 8 by omega)]
  refine congrArg x1 ?_
  idx_ext

theorem V_mod (c : Dev nD) : V m c main_v2 = padM (a1 m c) := by
  show StableHlo.after (List.flatten [hostOps0]) _ (Proc.devRef .tc main_v2) = _
  simp only [List.flatten_cons, List.flatten_nil, List.append_nil, List.cons_append, List.nil_append]
  after_results
  simp -implicitDefEqProofs only [StableHlo.TRef.ofBuf, StableHlo.TRef.toBuf, cast_cast, cast_eq]
  rfl

theorem V_gain (c : Dev nD) (i : Fin 3) (k : Fin 1024) : V m c main_v22 (ix2 i k) = a2 m c (ix3 (1 : Fin 2) i k) := by
  have e : V m c main_v22 = shapeCast S3x1024 (extractStridedSlice S1x3x1024 ![1, 0, 0] (a2 m c) slices_S2x3x1024_S1x3x1024_1_0_0)
      shapeCasts_S1x3x1024_S3x1024 := by
    show StableHlo.after (List.flatten [hostOps0]) _ (Proc.devRef .tc main_v22) = _
    simp only [List.flatten_cons, List.flatten_nil, List.append_nil, List.cons_append, List.nil_append]
    after_results
    simp -implicitDefEqProofs only [StableHlo.TRef.ofBuf, StableHlo.TRef.toBuf, cast_cast, cast_eq]
    rfl
  rw [e]
  generalize a2 m c = y
  pointwise

/-- A scan's array as rows of tokens with their batches next to each other, cut into three blocks of columns. -/
def slabM (z : (⟨S8x4352x384, .f32⟩ : BufTy).Contents (Elt Ideal)) : (⟨S3x34816x128, .f32⟩ : BufTy).Contents (Elt Ideal) :=
  transpose S3x34816x128 [1, 0, 2] (shapeCast S34816x3x128 (transpose S4352x8x384 [1, 0, 2] z transposes_S8x4352x384_S4352x8x384_1_0_2)
    shapeCasts_S4352x8x384_S34816x3x128) transposes_S34816x3x128_S3x34816x128_1_0_2

theorem slabM_at (z : (⟨S8x4352x384, .f32⟩ : BufTy).Contents (Elt Ideal)) (g : Fin 3) (b : Fin 8) (t : Fin 4352) (l : Fin 128) (p : Fin 34816) (f : Fin 384)
    (hp : p.val = 8 * t.val + b.val) (hf : f.val = 128 * g.val + l.val) : slabM z (ix3 g p l) = z (ix3 b t f) := by
  have := b.isLt
  have := t.isLt
  have := g.isLt
  have := l.isLt
  unfold slabM
  pointwise
  refine congrArg z ?_
  idx_ext

theorem V_f (c : Dev nD) : V m c main_v25 = slabM (a3 m c) := by
  show StableHlo.after (List.flatten [hostOps0]) _ (Proc.devRef .tc main_v25) = _
  simp only [List.flatten_cons, List.flatten_nil, List.append_nil, List.cons_append, List.nil_append]
  after_results
  simp -implicitDefEqProofs only [StableHlo.TRef.ofBuf, StableHlo.TRef.toBuf, cast_cast, cast_eq]
  rfl

theorem V_b (c : Dev nD) : V m c main_v28 = slabM (a4 m c) := by
  show StableHlo.after (List.flatten [hostOps0]) _ (Proc.devRef .tc main_v28) = _
  simp only [List.flatten_cons, List.flatten_nil, List.append_nil, List.cons_append, List.nil_append]
  after_results
  simp -implicitDefEqProofs only [StableHlo.TRef.ofBuf, StableHlo.TRef.toBuf, cast_cast, cast_eq]
  rfl

theorem V_u (c : Dev nD) : V m c main_v31 = slabM (a5 m c) := by
  show StableHlo.after (List.flatten [hostOps0]) _ (Proc.devRef .tc main_v31) = _
  simp only [List.flatten_cons, List.flatten_nil, List.append_nil, List.cons_append, List.nil_append]
  after_results
  simp -implicitDefEqProofs only [StableHlo.TRef.ofBuf, StableHlo.TRef.toBuf, cast_cast, cast_eq]
  rfl

/-- The heads' order, as the host's gathers take it. -/
def headIdx : IVec S8x1 32 :=
  broadcastInDim S8x1 ![0] bcast_S8_S8x1_0 (select (constantI S8 1 0#1)
    (addi (fun i => lit0 (S8.rowMajor i) : IVec S8 32) (broadcastInDim S8 ![] bcast_S_S8 (constantI S_ 32 8#32)))
    (fun i => lit0 (S8.rowMajor i) : IVec S8 32))

theorem headIdx_at (q : Fin 8) : headIdx (ix2 q (0 : Fin 1)) = lit0 (S8.rowMajor (ix1 q)) := by
  unfold headIdx
  pointwise

theorem lit0_at : ∀ q : Fin 8, min (lit0 (S8.rowMajor (ix1 q))).toInt.toNat 7 = 4 * (q.val % 2) + q.val / 2 := by
  decide +kernel

/-- The gather of an array's heads, at an index. -/
theorem gather_y_apply (x : (⟨S8x4096x8x64, .f32⟩ : BufTy).Contents (Elt Ideal)) (idx : IVec S8x1 32) (b : Fin 8) (t : Fin 4096) (q : Fin 8) (l : Fin 64) :
    Host.gather gather_S8x4096x8x64_S8x1_S8x4096x8x64_013_2_n_n_2_1_84096164 x idx (ix4 b t q l)
      = x (ix4 b t ⟨min (idx (ix2 q 0)).toInt.toNat 7, by omega⟩ l) := by
  unfold Host.gather
  congr 1
  funext e
  refine Fin.ext ?_
  show GatherDims.start _ _ idx e + GatherDims.batchCoord _ _ e + GatherDims.offCoord _ _ e = _
  rw [GatherDims.batchCoord_eq_zero _ _ _ List.not_mem_nil]
  have ha : e = 2 ∨ e ∉ ([2] : List (Fin 4)) ∧ (e = 0 ∨ e = 1 ∨ e = 3) := by
    revert e
    decide
  have hsi : ∀ z, z.val = 0 → gather_S8x4096x8x64_S8x1_S8x4096x8x64_013_2_n_n_2_1_84096164.siIdx (ix4 b t q l) z = ix2 q 0 := by
    intro z hz
    obtain ⟨z, hz'⟩ := z
    obtain rfl : z = 0 := hz
    funext b; refine Fin.ext ?_
    match b with
    | ⟨0, _⟩ => rfl
    | ⟨1, _⟩ => rfl
  rcases ha with rfl | ⟨hm, ha⟩
  · rw [GatherDims.offCoord_eq_zero _ _ _ (fun h => ((GatherDims.mem_sKept _ _).mp h).1 (List.mem_singleton.mpr rfl))]
    simp only [Nat.add_zero]
    unfold GatherDims.start
    rw [dif_pos (show (2 : Fin 4) ∈ gather_S8x4096x8x64_S8x1_S8x4096x8x64_013_2_n_n_2_1_84096164.startIndexMap from (by decide : (2 : Fin 4) ∈ ([2] : List (Fin 4))))]
    exact congrArg (fun z => min (idx z).toInt.toNat 7) (hsi _ rfl)
  · unfold GatherDims.start
    rw [dif_neg (show ¬ e ∈ gather_S8x4096x8x64_S8x1_S8x4096x8x64_013_2_n_n_2_1_84096164.startIndexMap from hm)]
    simp only [Nat.zero_add]
    rcases ha with rfl | rfl | rfl <;> rfl

/-- The gather of the weights' heads, at an index. -/
theorem gather_w_apply (x : (⟨S2x8x64x1024, .f32⟩ : BufTy).Contents (Elt Ideal)) (idx : IVec S8x1 32) (a : Fin 2) (q : Fin 8) (l : Fin 64) (n : Fin 1024) :
    Host.gather gather_S2x8x64x1024_S8x1_S2x8x64x1024_023_1_n_n_1_1_21641024 x idx (ix4 a q l n)
      = x (ix4 a ⟨min (idx (ix2 q 0)).toInt.toNat 7, by omega⟩ l n) := by
  unfold Host.gather
  congr 1
  funext e
  refine Fin.ext ?_
  show GatherDims.start _ _ idx e + GatherDims.batchCoord _ _ e + GatherDims.offCoord _ _ e = _
  rw [GatherDims.batchCoord_eq_zero _ _ _ List.not_mem_nil]
  have ha : e = 1 ∨ e ∉ ([1] : List (Fin 4)) ∧ (e = 0 ∨ e = 2 ∨ e = 3) := by
    revert e
    decide
  have hsi : ∀ z, z.val = 0 → gather_S2x8x64x1024_S8x1_S2x8x64x1024_023_1_n_n_1_1_21641024.siIdx (ix4 a q l n) z = ix2 q 0 := by
    intro z hz
    obtain ⟨z, hz'⟩ := z
    obtain rfl : z = 0 := hz
    funext b; refine Fin.ext ?_
    match b with
    | ⟨0, _⟩ => rfl
    | ⟨1, _⟩ => rfl
  rcases ha with rfl | ⟨hm, ha⟩
  · rw [GatherDims.offCoord_eq_zero _ _ _ (fun h => ((GatherDims.mem_sKept _ _).mp h).1 (List.mem_singleton.mpr rfl))]
    simp only [Nat.add_zero]
    unfold GatherDims.start
    rw [dif_pos (show (1 : Fin 4) ∈ gather_S2x8x64x1024_S8x1_S2x8x64x1024_023_1_n_n_1_1_21641024.startIndexMap from (by decide : (1 : Fin 4) ∈ ([1] : List (Fin 4))))]
    exact congrArg (fun z => min (idx z).toInt.toNat 7) (hsi _ rfl)
  · unfold GatherDims.start
    rw [dif_neg (show ¬ e ∈ gather_S2x8x64x1024_S8x1_S2x8x64x1024_023_1_n_n_1_1_21641024.startIndexMap from hm)]
    simp only [Nat.zero_add]
    rcases ha with rfl | rfl | rfl <;> rfl

/-- The windowed attention's output with its heads in the call's order. -/
def headsY (y : (⟨S8x4096x512, .f32⟩ : BufTy).Contents (Elt Ideal)) : (⟨S8x4096x512, EltTy.bf16⟩ : BufTy).Contents (Elt Ideal) :=
  truncf (F := Ideal) .bf16 (φ := .f32) (s := S8x4096x512) (shapeCast S8x4096x512 (Host.gather gather_S8x4096x8x64_S8x1_S8x4096x8x64_013_2_n_n_2_1_84096164
    (shapeCast S8x4096x8x64 y shapeCasts_S8x4096x512_S8x4096x8x64) headIdx) shapeCasts_S8x4096x8x64_S8x4096x512) bitsLt_bf16_f32

theorem headsY_at (y : (⟨S8x4096x512, .f32⟩ : BufTy).Contents (Elt Ideal)) (b : Fin 8) (t : Fin 4096) (f : Fin 512) : headsY y (ix3 b t f) = y (ix3 b t (headCol f)) := by
  have hf := f.isLt
  have e := gather_y_apply (shapeCast S8x4096x8x64 y shapeCasts_S8x4096x512_S8x4096x8x64) headIdx b t ⟨f.val / 64, by omega⟩ ⟨f.val % 64, Nat.mod_lt _ (by decide)⟩
  simp only [headIdx_at, lit0_at] at e
  unfold headsY
  revert e
  generalize Host.gather gather_S8x4096x8x64_S8x1_S8x4096x8x64_013_2_n_n_2_1_84096164 (shapeCast S8x4096x8x64 y shapeCasts_S8x4096x512_S8x4096x8x64) headIdx = z
  intro e
  refine Eq.trans ?_ (e.trans ?_)
  · pointwise
  · pointwise
    refine congrArg y ?_
    have := b.isLt
    have := t.isLt
    unfold headCol
    idx_ext

/-- The windowed attention's weights with its heads in the call's order. -/
def headsW (w : (⟨S2x512x1024, .f32⟩ : BufTy).Contents (Elt Ideal)) : (⟨S2x512x1024, EltTy.bf16⟩ : BufTy).Contents (Elt Ideal) :=
  truncf (F := Ideal) .bf16 (φ := .f32) (s := S2x512x1024) (shapeCast S2x512x1024 (Host.gather gather_S2x8x64x1024_S8x1_S2x8x64x1024_023_1_n_n_1_1_21641024
    (shapeCast S2x8x64x1024 w shapeCasts_S2x512x1024_S2x8x64x1024) headIdx) shapeCasts_S2x8x64x1024_S2x512x1024) bitsLt_bf16_f32

theorem headsW_at (w : (⟨S2x512x1024, .f32⟩ : BufTy).Contents (Elt Ideal)) (a : Fin 2) (f : Fin 512) (n : Fin 1024) : headsW w (ix3 a f n) = w (ix3 a (headCol f) n) := by
  have hf := f.isLt
  have e := gather_w_apply (shapeCast S2x8x64x1024 w shapeCasts_S2x512x1024_S2x8x64x1024) headIdx a ⟨f.val / 64, by omega⟩ ⟨f.val % 64, Nat.mod_lt _ (by decide)⟩ n
  simp only [headIdx_at, lit0_at] at e
  unfold headsW
  revert e
  generalize Host.gather gather_S2x8x64x1024_S8x1_S2x8x64x1024_023_1_n_n_1_1_21641024 (shapeCast S2x8x64x1024 w shapeCasts_S2x512x1024_S2x8x64x1024) headIdx = z
  intro e
  refine Eq.trans ?_ (e.trans ?_)
  · pointwise
  · pointwise
    refine congrArg w ?_
    have := a.isLt
    have := n.isLt
    unfold headCol
    idx_ext

theorem V_ya (c : Dev nD) : V m c main_v10 = headsY (a6 m c) := by
  show StableHlo.after (List.flatten [hostOps0]) _ (Proc.devRef .tc main_v10) = _
  simp only [List.flatten_cons, List.flatten_nil, List.append_nil, List.cons_append, List.nil_append]
  after_results
  simp -implicitDefEqProofs only [StableHlo.TRef.ofBuf, StableHlo.TRef.toBuf, cast_cast, cast_eq]
  rfl

theorem V_wa (c : Dev nD) : V m c main_v20 = headsW (a12 m c) := by
  show StableHlo.after (List.flatten [hostOps0]) _ (Proc.devRef .tc main_v20) = _
  simp only [List.flatten_cons, List.flatten_nil, List.append_nil, List.cons_append, List.nil_append]
  after_results
  simp -implicitDefEqProofs only [StableHlo.TRef.ofBuf, StableHlo.TRef.toBuf, cast_cast, cast_eq]
  rfl

theorem V_d (c : Dev nD) (k : Fin 384) : V m c main_v39 (ix2 (0 : Fin 1) k) = a8 m c (ix2 (1 : Fin 2) k) := by
  have e : V m c main_v39 = shapeCast S1x384 (shapeCast S384 (extractStridedSlice S1x384 ![1, 0] (a8 m c) slices_S2x384_S1x384_1_0)
      shapeCasts_S1x384_S384) shapeCasts_S384_S1x384 := by
    show StableHlo.after (List.flatten [hostOps0]) _ (Proc.devRef .tc main_v39) = _
    simp only [List.flatten_cons, List.flatten_nil, List.append_nil, List.cons_append, List.nil_append]
    after_results
    simp -implicitDefEqProofs only [StableHlo.TRef.ofBuf, StableHlo.TRef.toBuf, cast_cast, cast_eq]
    rfl
  rw [e]
  generalize a8 m c = y
  pointwise

theorem V_wg (c : Dev nD) (k : Fin 1024) (j : Fin 3) (n : Fin 1024) (p : Fin 3072) (hp : p.val = 1024 * j.val + n.val) :
    V m c main_v12 (ix3 (1 : Fin 2) k p) = a9 m c (ix3 (1 : Fin 2) k (gateCol j n)) := by
  have e : V m c main_v12 = truncf (F := Ideal) .bf16 (φ := .f32) (s := S2x1024x3072)
      (extractStridedSlice S2x1024x3072 ![0, 0, 2688] (a9 m c) slices_S2x1024x5760_S2x1024x3072_0_0_2688) bitsLt_bf16_f32 := by
    show StableHlo.after (List.flatten [hostOps0]) _ (Proc.devRef .tc main_v12) = _
    simp only [List.flatten_cons, List.flatten_nil, List.append_nil, List.cons_append, List.nil_append]
    after_results
    rfl
  have q : (⟨2688 + p.val, by have := p.isLt; omega⟩ : Fin 5760) = gateCol j n := Fin.ext (by show 2688 + p.val = 2688 + (1024 * j.val + n.val); omega)
  rw [e, ← q]
  generalize a9 m c = y
  pointwise

theorem V_yn (c : Dev nD) (i : S8x4096x512.Idx) : V m c main_v32 i = a7 m c i := by
  have e : V m c main_v32 = truncf (F := Ideal) .bf16 (φ := .f32) (s := S8x4096x512) (m ((c : Thread nD τ).loc main_arg7)) bitsLt_bf16_f32 := by
    show StableHlo.after (List.flatten [hostOps0]) _ (Proc.devRef .tc main_v32) = _
    simp only [List.flatten_cons, List.flatten_nil, List.append_nil, List.cons_append, List.nil_append]
    after_results
  rw [e]
  rfl

theorem V_wl (c : Dev nD) (i : S2x384x384.Idx) : V m c main_v35 i = a10 m c i := by
  have e : V m c main_v35 = truncf (F := Ideal) .bf16 (φ := .f32) (s := S2x384x384) (m ((c : Thread nD τ).loc main_arg10)) bitsLt_bf16_f32 := by
    show StableHlo.after (List.flatten [hostOps0]) _ (Proc.devRef .tc main_v35) = _
    simp only [List.flatten_cons, List.flatten_nil, List.append_nil, List.cons_append, List.nil_append]
    after_results
  rw [e]
  rfl

theorem V_ws (c : Dev nD) (i : S2x384x1024.Idx) : V m c main_v36 i = a11 m c i := by
  have e : V m c main_v36 = truncf (F := Ideal) .bf16 (φ := .f32) (s := S2x384x1024) (m ((c : Thread nD τ).loc main_arg11)) bitsLt_bf16_f32 := by
    show StableHlo.after (List.flatten [hostOps0]) _ (Proc.devRef .tc main_v36) = _
    simp only [List.flatten_cons, List.flatten_nil, List.append_nil, List.cons_append, List.nil_append]
    after_results
  rw [e]
  rfl

theorem V_wn (c : Dev nD) (i : S2x512x1024.Idx) : V m c main_v37 i = a13 m c i := by
  have e : V m c main_v37 = truncf (F := Ideal) .bf16 (φ := .f32) (s := S2x512x1024) (m ((c : Thread nD τ).loc main_arg13)) bitsLt_bf16_f32 := by
    show StableHlo.after (List.flatten [hostOps0]) _ (Proc.devRef .tc main_v37) = _
    simp only [List.flatten_cons, List.flatten_nil, List.append_nil, List.cons_append, List.nil_append]
    after_results
  rw [e]
  rfl

theorem V_wo (c : Dev nD) (i : S2x1024x1024.Idx) : V m c main_v38 i = a14 m c i := by
  have e : V m c main_v38 = truncf (F := Ideal) .bf16 (φ := .f32) (s := S2x1024x1024) (m ((c : Thread nD τ).loc main_arg14)) bitsLt_bf16_f32 := by
    show StableHlo.after (List.flatten [hostOps0]) _ (Proc.devRef .tc main_v38) = _
    simp only [List.flatten_cons, List.flatten_nil, List.append_nil, List.cons_append, List.nil_append]
    after_results
  rw [e]
  rfl

end Cert.Kernel3Ideal.Merge

end
-- ==== Proof.MergeBlocks.lean ====
module

public import proofs.«01_k».proof.Proof.MergeHost

@[expose] public section

set_option maxRecDepth 16384

noncomputable section

namespace Cert.Kernel3Ideal.Merge

open Cert.Kernel3Ideal Cert.Kernel3Ideal.Gen
open Cert.Merge (headCol)
open Cert.Reference3Ideal.Merge (mod all tok gain gateCol)
open Idealize.ShloMosaic Idealize.ShloMosaic.TcCoe Idealize.ShloMosaic.Tactic

/-! The blocks of a grid point, in the arguments. -/

variable (m : (ℓ : Loc nD τ sig) → Buf (Elt Ideal) ℓ)

theorem idx0_eq : ∀ (t : Fin grid0.N) (a : Fin 3), win0_0.index t a = (![(grid0.coords t 1).val, (grid0.coords t 0).val, 0] : Fin 3 → Nat) a := by
  decide +kernel

theorem idx1_eq : ∀ (t : Fin grid0.N) (a : Fin 3), win0_1.index t a = (![(grid0.coords t 1).val, 0, 0] : Fin 3 → Nat) a := by
  decide +kernel

theorem idx2_eq : ∀ (t : Fin grid0.N) (a : Fin 2), win0_2.index t a = (![0, 0] : Fin 2 → Nat) a := by
  decide +kernel

theorem idx3_eq : ∀ (t : Fin grid0.N) (a : Fin 3), win0_3.index t a = (![0, (grid0.coords t 0).val, 0] : Fin 3 → Nat) a := by
  decide +kernel

theorem idx4_eq : ∀ (t : Fin grid0.N) (a : Fin 3), win0_4.index t a = (![0, (grid0.coords t 0).val, 0] : Fin 3 → Nat) a := by
  decide +kernel

theorem idx5_eq : ∀ (t : Fin grid0.N) (a : Fin 3), win0_5.index t a = (![0, (grid0.coords t 0).val, 0] : Fin 3 → Nat) a := by
  decide +kernel

theorem idx6_eq : ∀ (t : Fin grid0.N) (a : Fin 3), win0_6.index t a = (![(grid0.coords t 1).val, (grid0.coords t 0).val, 0] : Fin 3 → Nat) a := by
  decide +kernel

theorem idx7_eq : ∀ (t : Fin grid0.N) (a : Fin 3), win0_7.index t a = (![(grid0.coords t 1).val, (grid0.coords t 0).val, 0] : Fin 3 → Nat) a := by
  decide +kernel

theorem idx8_eq : ∀ (t : Fin grid0.N) (a : Fin 2), win0_8.index t a = (![0, 0] : Fin 2 → Nat) a := by
  decide +kernel

theorem idx9_eq : ∀ (t : Fin grid0.N) (a : Fin 3), win0_9.index t a = (![1, 0, 0] : Fin 3 → Nat) a := by
  decide +kernel

theorem idx10_eq : ∀ (t : Fin grid0.N) (a : Fin 3), win0_10.index t a = (![1, 0, 0] : Fin 3 → Nat) a := by
  decide +kernel

theorem idx11_eq : ∀ (t : Fin grid0.N) (a : Fin 3), win0_11.index t a = (![1, 0, 0] : Fin 3 → Nat) a := by
  decide +kernel

theorem idx12_eq : ∀ (t : Fin grid0.N) (a : Fin 3), win0_12.index t a = (![1, 0, 0] : Fin 3 → Nat) a := by
  decide +kernel

theorem idx13_eq : ∀ (t : Fin grid0.N) (a : Fin 3), win0_13.index t a = (![1, 0, 0] : Fin 3 → Nat) a := by
  decide +kernel

theorem idx14_eq : ∀ (t : Fin grid0.N) (a : Fin 3), win0_14.index t a = (![1, 0, 0] : Fin 3 → Nat) a := by
  decide +kernel

theorem idx15_eq : ∀ (t : Fin grid0.N) (a : Fin 3), win0_15.index t a = (![(grid0.coords t 1).val, (grid0.coords t 0).val, 0] : Fin 3 → Nat) a := by
  decide +kernel

/-- Every pair of a tile and a pair of batches is a grid point. -/
theorem point : ∀ (j : Fin 16) (b : Fin 4), ∃ t : Fin grid0.N, (grid0.coords t 0).val = j.val ∧ (grid0.coords t 1).val = b.val := by
  decide +kernel

/-- Batch `h` of the pair of a grid point. -/
def bat (t : Fin grid0.N) (h : Fin 2) : Fin 8 :=
  ⟨2 * (grid0.coords t 1).val + h.val, by have : (grid0.coords t 1).val < 4 := (grid0.coords t 1).isLt; have := h.isLt; omega⟩
/-- Token `r` of the tile of a grid point. -/
def row (t : Fin grid0.N) (r : Fin 256) : Fin 4096 :=
  ⟨256 * (grid0.coords t 0).val + r.val, by have : (grid0.coords t 0).val < 16 := (grid0.coords t 0).isLt; have := r.isLt; omega⟩

theorem blk0_at (c : Dev nD) (t : Fin grid0.N) (h : Fin 2) (r : Fin 256) (k : Fin 1024) :
    (iblk m c 0 t : Vec Ideal S2x256x1024 .f32) (ix3 h r k) = tok (a0 m c) (bat t h) (row t r) k := by
  unfold tok
  rw [← V_x]
  show V m c main_arg0 (((cfg0.win 0).blk t).view.emb (ix3 h r k)) = _
  refine congrArg (V m c main_arg0) ?_
  have e0 := idx0_eq t 0
  have e1 := idx0_eq t 1
  have e2 := idx0_eq t 2
  funext a
  apply Fin.ext
  match a with
  | ⟨0, _⟩ => show win0_0.index t 0 * 2 + 1 * h.val = 2 * (grid0.coords t 1).val + h.val; rw [e0]; show (grid0.coords t 1).val * 2 + 1 * h.val = _; omega
  | ⟨1, _⟩ => show win0_0.index t 1 * 256 + 1 * r.val = 256 * (grid0.coords t 0).val + r.val; rw [e1]; show (grid0.coords t 0).val * 256 + 1 * r.val = _; omega
  | ⟨2, _⟩ => show win0_0.index t 2 * 1024 + 1 * k.val = k.val; rw [e2]; show 0 * 1024 + 1 * k.val = _; omega

theorem blk1_at (c : Dev nD) (t : Fin grid0.N) (h : Fin 2) (i : Fin 9) (k : Fin 1024) :
    (iblk m c 1 t : Vec Ideal S2x9x1024 .f32) (ix3 h i k) = mod (a1 m c) (bat t h) i k := by
  have hb := (bat t h).isLt
  rw [← padM_at (a1 m c) (bat t h) i k ⟨(bat t h).val, by omega⟩ rfl, ← V_mod]
  show V m c main_v2 (((cfg0.win 1).blk t).view.emb (ix3 h i k)) = _
  refine congrArg (V m c main_v2) ?_
  have e0 := idx1_eq t 0
  have e1 := idx1_eq t 1
  have e2 := idx1_eq t 2
  funext a
  apply Fin.ext
  match a with
  | ⟨0, _⟩ => show win0_1.index t 0 * 2 + 1 * h.val = 2 * (grid0.coords t 1).val + h.val; rw [e0]; show (grid0.coords t 1).val * 2 + 1 * h.val = _; omega
  | ⟨1, _⟩ => show win0_1.index t 1 * 9 + 1 * i.val = i.val; rw [e1]; show 0 * 9 + 1 * i.val = _; omega
  | ⟨2, _⟩ => show win0_1.index t 2 * 1024 + 1 * k.val = k.val; rw [e2]; show 0 * 1024 + 1 * k.val = _; omega

theorem blk2_at (c : Dev nD) (t : Fin grid0.N) (k : Fin 1024) :
    (iblk m c 2 t : Vec Ideal S3x1024 .f32) (ix2 (1 : Fin 3) k) = gain (a2 m c) k := by
  unfold gain
  rw [← V_gain]
  show V m c main_v22 (((cfg0.win 2).blk t).view.emb (ix2 (1 : Fin 3) k)) = _
  refine congrArg (V m c main_v22) ?_
  have e0 := idx2_eq t 0
  have e1 := idx2_eq t 1
  funext a
  apply Fin.ext
  match a with
  | ⟨0, _⟩ => show win0_2.index t 0 * 3 + 1 * 1 = 1; rw [e0]; rfl
  | ⟨1, _⟩ => show win0_2.index t 1 * 1024 + 1 * k.val = k.val; rw [e1]; show 0 * 1024 + 1 * k.val = _; omega

theorem blk3_at (c : Dev nD) (t : Fin grid0.N) (g : Fin 3) (h : Fin 2) (r : Fin 256) (l : Fin 128) (p : Fin 2048) (f : Fin 384)
    (hp : p.val = 2 * (grid0.coords t 1).val + h.val + 8 * r.val) (hf : f.val = 128 * g.val + l.val) :
    (iblk m c 3 t : Vec Ideal S3x2048x128 .f32) (ix3 g p l) = a3 m c (ix3 (bat t h) (all (row t r)) f) := by
  have hj : (grid0.coords t 0).val < 16 := (grid0.coords t 0).isLt
  have hq := p.isLt
  rw [← slabM_at (a3 m c) g (bat t h) (all (row t r)) l ⟨2048 * (grid0.coords t 0).val + p.val, by omega⟩ f
    (by show 2048 * (grid0.coords t 0).val + p.val = 8 * (256 * (grid0.coords t 0).val + r.val) + (2 * (grid0.coords t 1).val + h.val); omega) hf, ← V_f]
  show V m c main_v25 (((cfg0.win 3).blk t).view.emb (ix3 g p l)) = _
  refine congrArg (V m c main_v25) ?_
  have e0 := idx3_eq t 0
  have e1 := idx3_eq t 1
  have e2 := idx3_eq t 2
  funext a
  apply Fin.ext
  match a with
  | ⟨0, _⟩ => show win0_3.index t 0 * 3 + 1 * g.val = g.val; rw [e0]; show 0 * 3 + 1 * g.val = _; omega
  | ⟨1, _⟩ => show win0_3.index t 1 * 2048 + 1 * p.val = 2048 * (grid0.coords t 0).val + p.val; rw [e1]; show (grid0.coords t 0).val * 2048 + 1 * p.val = _; omega
  | ⟨2, _⟩ => show win0_3.index t 2 * 128 + 1 * l.val = l.val; rw [e2]; show 0 * 128 + 1 * l.val = _; omega

theorem blk4_at (c : Dev nD) (t : Fin grid0.N) (g : Fin 3) (h : Fin 2) (r : Fin 256) (l : Fin 128) (p : Fin 2048) (f : Fin 384)
    (hp : p.val = 2 * (grid0.coords t 1).val + h.val + 8 * r.val) (hf : f.val = 128 * g.val + l.val) :
    (iblk m c 4 t : Vec Ideal S3x2048x128 .f32) (ix3 g p l) = a4 m c (ix3 (bat t h) (all (row t r)) f) := by
  have hj : (grid0.coords t 0).val < 16 := (grid0.coords t 0).isLt
  have hq := p.isLt
  rw [← slabM_at (a4 m c) g (bat t h) (all (row t r)) l ⟨2048 * (grid0.coords t 0).val + p.val, by omega⟩ f
    (by show 2048 * (grid0.coords t 0).val + p.val = 8 * (256 * (grid0.coords t 0).val + r.val) + (2 * (grid0.coords t 1).val + h.val); omega) hf, ← V_b]
  show V m c main_v28 (((cfg0.win 4).blk t).view.emb (ix3 g p l)) = _
  refine congrArg (V m c main_v28) ?_
  have e0 := idx4_eq t 0
  have e1 := idx4_eq t 1
  have e2 := idx4_eq t 2
  funext a
  apply Fin.ext
  match a with
  | ⟨0, _⟩ => show win0_4.index t 0 * 3 + 1 * g.val = g.val; rw [e0]; show 0 * 3 + 1 * g.val = _; omega
  | ⟨1, _⟩ => show win0_4.index t 1 * 2048 + 1 * p.val = 2048 * (grid0.coords t 0).val + p.val; rw [e1]; show (grid0.coords t 0).val * 2048 + 1 * p.val = _; omega
  | ⟨2, _⟩ => show win0_4.index t 2 * 128 + 1 * l.val = l.val; rw [e2]; show 0 * 128 + 1 * l.val = _; omega

theorem blk5_at (c : Dev nD) (t : Fin grid0.N) (g : Fin 3) (h : Fin 2) (r : Fin 256) (l : Fin 128) (p : Fin 2048) (f : Fin 384)
    (hp : p.val = 2 * (grid0.coords t 1).val + h.val + 8 * r.val) (hf : f.val = 128 * g.val + l.val) :
    (iblk m c 5 t : Vec Ideal S3x2048x128 .f32) (ix3 g p l) = a5 m c (ix3 (bat t h) (all (row t r)) f) := by
  have hj : (grid0.coords t 0).val < 16 := (grid0.coords t 0).isLt
  have hq := p.isLt
  rw [← slabM_at (a5 m c) g (bat t h) (all (row t r)) l ⟨2048 * (grid0.coords t 0).val + p.val, by omega⟩ f
    (by show 2048 * (grid0.coords t 0).val + p.val = 8 * (256 * (grid0.coords t 0).val + r.val) + (2 * (grid0.coords t 1).val + h.val); omega) hf, ← V_u]
  show V m c main_v31 (((cfg0.win 5).blk t).view.emb (ix3 g p l)) = _
  refine congrArg (V m c main_v31) ?_
  have e0 := idx5_eq t 0
  have e1 := idx5_eq t 1
  have e2 := idx5_eq t 2
  funext a
  apply Fin.ext
  match a with
  | ⟨0, _⟩ => show win0_5.index t 0 * 3 + 1 * g.val = g.val; rw [e0]; show 0 * 3 + 1 * g.val = _; omega
  | ⟨1, _⟩ => show win0_5.index t 1 * 2048 + 1 * p.val = 2048 * (grid0.coords t 0).val + p.val; rw [e1]; show (grid0.coords t 0).val * 2048 + 1 * p.val = _; omega
  | ⟨2, _⟩ => show win0_5.index t 2 * 128 + 1 * l.val = l.val; rw [e2]; show 0 * 128 + 1 * l.val = _; omega

theorem blk6_at (c : Dev nD) (t : Fin grid0.N) (h : Fin 2) (r : Fin 256) (f : Fin 512) :
    (iblk m c 6 t : Vec Ideal S2x256x512 .bf16) (ix3 h r f) = a6 m c (ix3 (bat t h) (row t r) (headCol f)) := by
  rw [← headsY_at (a6 m c), ← V_ya]
  show V m c main_v10 (((cfg0.win 6).blk t).view.emb (ix3 h r f)) = _
  refine congrArg (V m c main_v10) ?_
  have e0 := idx6_eq t 0
  have e1 := idx6_eq t 1
  have e2 := idx6_eq t 2
  funext a
  apply Fin.ext
  match a with
  | ⟨0, _⟩ => show win0_6.index t 0 * 2 + 1 * h.val = 2 * (grid0.coords t 1).val + h.val; rw [e0]; show (grid0.coords t 1).val * 2 + 1 * h.val = _; omega
  | ⟨1, _⟩ => show win0_6.index t 1 * 256 + 1 * r.val = 256 * (grid0.coords t 0).val + r.val; rw [e1]; show (grid0.coords t 0).val * 256 + 1 * r.val = _; omega
  | ⟨2, _⟩ => show win0_6.index t 2 * 512 + 1 * f.val = f.val; rw [e2]; show 0 * 512 + 1 * f.val = _; omega

theorem blk7_at (c : Dev nD) (t : Fin grid0.N) (h : Fin 2) (r : Fin 256) (f : Fin 512) :
    (iblk m c 7 t : Vec Ideal S2x256x512 .bf16) (ix3 h r f) = a7 m c (ix3 (bat t h) (row t r) f) := by
  rw [← V_yn]
  show V m c main_v32 (((cfg0.win 7).blk t).view.emb (ix3 h r f)) = _
  refine congrArg (V m c main_v32) ?_
  have e0 := idx7_eq t 0
  have e1 := idx7_eq t 1
  have e2 := idx7_eq t 2
  funext a
  apply Fin.ext
  match a with
  | ⟨0, _⟩ => show win0_7.index t 0 * 2 + 1 * h.val = 2 * (grid0.coords t 1).val + h.val; rw [e0]; show (grid0.coords t 1).val * 2 + 1 * h.val = _; omega
  | ⟨1, _⟩ => show win0_7.index t 1 * 256 + 1 * r.val = 256 * (grid0.coords t 0).val + r.val; rw [e1]; show (grid0.coords t 0).val * 256 + 1 * r.val = _; omega
  | ⟨2, _⟩ => show win0_7.index t 2 * 512 + 1 * f.val = f.val; rw [e2]; show 0 * 512 + 1 * f.val = _; omega

theorem blk8_at (c : Dev nD) (t : Fin grid0.N) (f : Fin 384) :
    (iblk m c 8 t : Vec Ideal S1x384 .f32) (ix2 (0 : Fin 1) f) = a8 m c (ix2 (1 : Fin 2) f) := by
  rw [← V_d]
  show V m c main_v39 (((cfg0.win 8).blk t).view.emb (ix2 (0 : Fin 1) f)) = _
  refine congrArg (V m c main_v39) ?_
  have e0 := idx8_eq t 0
  have e1 := idx8_eq t 1
  funext a
  apply Fin.ext
  match a with
  | ⟨0, _⟩ => show win0_8.index t 0 * 1 + 1 * 0 = 0; rw [e0]; rfl
  | ⟨1, _⟩ => show win0_8.index t 1 * 384 + 1 * f.val = f.val; rw [e1]; show 0 * 384 + 1 * f.val = _; omega

theorem blk9_at (c : Dev nD) (t : Fin grid0.N) (k : Fin 1024) (j : Fin 3) (n : Fin 1024) (p : Fin 3072) (hp : p.val = 1024 * j.val + n.val) :
    (iblk m c 9 t : Vec Ideal S1x1024x3072 .bf16) (ix3 (0 : Fin 1) k p) = a9 m c (ix3 (1 : Fin 2) k (gateCol j n)) := by
  rw [← V_wg m c k j n p hp]
  show V m c main_v12 (((cfg0.win 9).blk t).view.emb (ix3 (0 : Fin 1) k p)) = _
  refine congrArg (V m c main_v12) ?_
  have e0 := idx9_eq t 0
  have e1 := idx9_eq t 1
  have e2 := idx9_eq t 2
  funext a
  apply Fin.ext
  match a with
  | ⟨0, _⟩ => show win0_9.index t 0 * 1 + 1 * 0 = 1; rw [e0]; rfl
  | ⟨1, _⟩ => show win0_9.index t 1 * 1024 + 1 * k.val = k.val; rw [e1]; show 0 * 1024 + 1 * k.val = _; omega
  | ⟨2, _⟩ => show win0_9.index t 2 * 3072 + 1 * p.val = p.val; rw [e2]; show 0 * 3072 + 1 * p.val = _; omega

theorem blk10_at (c : Dev nD) (t : Fin grid0.N) (f : Fin 384) (n : Fin 384) :
    (iblk m c 10 t : Vec Ideal S1x384x384 .bf16) (ix3 (0 : Fin 1) f n) = a10 m c (ix3 (1 : Fin 2) f n) := by
  rw [← V_wl]
  show V m c main_v35 (((cfg0.win 10).blk t).view.emb (ix3 (0 : Fin 1) f n)) = _
  refine congrArg (V m c main_v35) ?_
  have e0 := idx10_eq t 0
  have e1 := idx10_eq t 1
  have e2 := idx10_eq t 2
  funext a
  apply Fin.ext
  match a with
  | ⟨0, _⟩ => show win0_10.index t 0 * 1 + 1 * 0 = 1; rw [e0]; rfl
  | ⟨1, _⟩ => show win0_10.index t 1 * 384 + 1 * f.val = f.val; rw [e1]; show 0 * 384 + 1 * f.val = _; omega
  | ⟨2, _⟩ => show win0_10.index t 2 * 384 + 1 * n.val = n.val; rw [e2]; show 0 * 384 + 1 * n.val = _; omega

theorem blk11_at (c : Dev nD) (t : Fin grid0.N) (f : Fin 384) (n : Fin 1024) :
    (iblk m c 11 t : Vec Ideal S1x384x1024 .bf16) (ix3 (0 : Fin 1) f n) = a11 m c (ix3 (1 : Fin 2) f n) := by
  rw [← V_ws]
  show V m c main_v36 (((cfg0.win 11).blk t).view.emb (ix3 (0 : Fin 1) f n)) = _
  refine congrArg (V m c main_v36) ?_
  have e0 := idx11_eq t 0
  have e1 := idx11_eq t 1
  have e2 := idx11_eq t 2
  funext a
  apply Fin.ext
  match a with
  | ⟨0, _⟩ => show win0_11.index t 0 * 1 + 1 * 0 = 1; rw [e0]; rfl
  | ⟨1, _⟩ => show win0_11.index t 1 * 384 + 1 * f.val = f.val; rw [e1]; show 0 * 384 + 1 * f.val = _; omega
  | ⟨2, _⟩ => show win0_11.index t 2 * 1024 + 1 * n.val = n.val; rw [e2]; show 0 * 1024 + 1 * n.val = _; omega

theorem blk12_at (c : Dev nD) (t : Fin grid0.N) (f : Fin 512) (n : Fin 1024) :
    (iblk m c 12 t : Vec Ideal S1x512x1024 .bf16) (ix3 (0 : Fin 1) f n) = a12 m c (ix3 (1 : Fin 2) (headCol f) n) := by
  rw [← headsW_at (a12 m c), ← V_wa]
  show V m c main_v20 (((cfg0.win 12).blk t).view.emb (ix3 (0 : Fin 1) f n)) = _
  refine congrArg (V m c main_v20) ?_
  have e0 := idx12_eq t 0
  have e1 := idx12_eq t 1
  have e2 := idx12_eq t 2
  funext a
  apply Fin.ext
  match a with
  | ⟨0, _⟩ => show win0_12.index t 0 * 1 + 1 * 0 = 1; rw [e0]; rfl
  | ⟨1, _⟩ => show win0_12.index t 1 * 512 + 1 * f.val = f.val; rw [e1]; show 0 * 512 + 1 * f.val = _; omega
  | ⟨2, _⟩ => show win0_12.index t 2 * 1024 + 1 * n.val = n.val; rw [e2]; show 0 * 1024 + 1 * n.val = _; omega

theorem blk13_at (c : Dev nD) (t : Fin grid0.N) (f : Fin 512) (n : Fin 1024) :
    (iblk m c 13 t : Vec Ideal S1x512x1024 .bf16) (ix3 (0 : Fin 1) f n) = a13 m c (ix3 (1 : Fin 2) f n) := by
  rw [← V_wn]
  show V m c main_v37 (((cfg0.win 13).blk t).view.emb (ix3 (0 : Fin 1) f n)) = _
  refine congrArg (V m c main_v37) ?_
  have e0 := idx13_eq t 0
  have e1 := idx13_eq t 1
  have e2 := idx13_eq t 2
  funext a
  apply Fin.ext
  match a with
  | ⟨0, _⟩ => show win0_13.index t 0 * 1 + 1 * 0 = 1; rw [e0]; rfl
  | ⟨1, _⟩ => show win0_13.index t 1 * 512 + 1 * f.val = f.val; rw [e1]; show 0 * 512 + 1 * f.val = _; omega
  | ⟨2, _⟩ => show win0_13.index t 2 * 1024 + 1 * n.val = n.val; rw [e2]; show 0 * 1024 + 1 * n.val = _; omega

theorem blk14_at (c : Dev nD) (t : Fin grid0.N) (f : Fin 1024) (n : Fin 1024) :
    (iblk m c 14 t : Vec Ideal S1x1024x1024 .bf16) (ix3 (0 : Fin 1) f n) = a14 m c (ix3 (1 : Fin 2) f n) := by
  rw [← V_wo]
  show V m c main_v38 (((cfg0.win 14).blk t).view.emb (ix3 (0 : Fin 1) f n)) = _
  refine congrArg (V m c main_v38) ?_
  have e0 := idx14_eq t 0
  have e1 := idx14_eq t 1
  have e2 := idx14_eq t 2
  funext a
  apply Fin.ext
  match a with
  | ⟨0, _⟩ => show win0_14.index t 0 * 1 + 1 * 0 = 1; rw [e0]; rfl
  | ⟨1, _⟩ => show win0_14.index t 1 * 1024 + 1 * f.val = f.val; rw [e1]; show 0 * 1024 + 1 * f.val = _; omega
  | ⟨2, _⟩ => show win0_14.index t 2 * 1024 + 1 * n.val = n.val; rw [e2]; show 0 * 1024 + 1 * n.val = _; omega

end Cert.Kernel3Ideal.Merge

end
-- ==== Proof.MergeEquation.lean ====
module

public import proofs.«01_k».proof.Proof.MergeBlocks

@[expose] public section

set_option maxRecDepth 16384

noncomputable section

namespace Cert.Kernel3Ideal.Merge

open Cert.Kernel3Ideal Cert.Kernel3Ideal.Gen Cert.Kernel3Ideal.Value
open Cert.Merge (headCol)
open Cert.Reference3Ideal.Merge (mod all tok gain gateCol token mats)
open Idealize.ShloMosaic Idealize.ShloMosaic.TcCoe Idealize.ShloMosaic.Tactic

/-! The block a grid point writes is its block of the reference. -/

variable (m : (ℓ : Loc nD τ sig) → Buf (Elt Ideal) ℓ)

/-- The loads of a grid point. -/
def lds (c : Dev nD) (t : Fin grid0.N) : Loads :=
  loads (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)

theorem x_at (c : Dev nD) (t : Fin grid0.N) (h : Fin 2) (r : Fin 256) (k : Fin 1024) :
    (lds m c t).x h (ix3 0 r k) = tok (a0 m c) (bat t h) (row t r) k := by
  rw [← blk0_at]
  refine View.ld_unit_apply_of (iblk m c 0 t : Vec Ideal S2x256x1024 .f32) _ _ (inb_x h) _ (ix3 h r k) fun a => ?_
  match a with
  | ⟨0, _⟩ => show h.val = h.val + 0; omega
  | ⟨1, _⟩ => show r.val = 0 + r.val; omega
  | ⟨2, _⟩ => show k.val = 0 + k.val; omega

theorem md_at (c : Dev nD) (t : Fin grid0.N) (h : Fin 2) (i : Fin 9) (k : Fin 1024) :
    (lds m c t).md h i (ix3 0 0 k) = mod (a1 m c) (bat t h) i k := by
  rw [← blk1_at]
  refine View.ld_unit_apply_of (iblk m c 1 t : Vec Ideal S2x9x1024 .f32) _ _ (inb_md h i) _ (ix3 h i k) fun a => ?_
  match a with
  | ⟨0, _⟩ => show h.val = h.val + 0; omega
  | ⟨1, _⟩ => show i.val = i.val + 0; omega
  | ⟨2, _⟩ => show k.val = 0 + k.val; omega

theorem g_at (c : Dev nD) (t : Fin grid0.N) (k : Fin 1024) : (lds m c t).g (ix2 0 k) = gain (a2 m c) k := by
  rw [← blk2_at m c t]
  refine View.ld_unit_apply_of (iblk m c 2 t : Vec Ideal S3x1024 .f32) _ _ inb_S3x1024_S1x1024_1_0 _ (ix2 (1 : Fin 3) k) fun a => ?_
  match a with
  | ⟨0, _⟩ => rfl
  | ⟨1, _⟩ => show k.val = 0 + k.val; omega

/-- An index of the rows of batch `h` in block `g` of a slab. -/
theorem slab_idx (i : grid0.Coords) (g : Fin 3) (h : Fin 2) (r : Fin 256) (l : Fin 128) (p : Fin 2048)
    (hp : p.val = 2 * (i 1).val + h.val + 8 * r.val) : (slab i g h).idx (ix3 0 r l) = ix3 g p l := by
  have e := offs_eq i g h
  funext a
  apply Fin.ext
  rw [LoadRect.idx_apply]
  show offs i g h a + _ = _
  rw [e]
  match a with
  | ⟨0, _⟩ => rfl
  | ⟨1, _⟩ => show 2 * (i 1).val + h.val + 8 * r.val = p.val; omega
  | ⟨2, _⟩ => show 0 + 1 * l.val = l.val; omega

/-- The row of a slab that holds token `r` of batch `h`. -/
def slabRow (t : Fin grid0.N) (h : Fin 2) (r : Fin 256) : Fin 2048 :=
  ⟨2 * (grid0.coords t 1).val + h.val + 8 * r.val, by have : (grid0.coords t 1).val < 4 := (grid0.coords t 1).isLt; have := h.isLt; have := r.isLt; omega⟩

theorem f_at (c : Dev nD) (t : Fin grid0.N) (h : Fin 2) (r : Fin 256) (f : Fin 384) :
    (lds m c t).f (blkOf f) h (ix3 0 r (laneOf f)) = a3 m c (ix3 (bat t h) (all (row t r)) f) := by
  rw [← blk3_at m c t (blkOf f) h r (laneOf f) (slabRow t h r) f rfl (by show f.val = 128 * (f.val / 128) + f.val % 128; omega)]
  exact congrArg (iblk m c 3 t : Vec Ideal S3x2048x128 .f32) (slab_idx _ _ _ _ _ _ rfl)

theorem b_at (c : Dev nD) (t : Fin grid0.N) (h : Fin 2) (r : Fin 256) (f : Fin 384) :
    (lds m c t).b (blkOf f) h (ix3 0 r (laneOf f)) = a4 m c (ix3 (bat t h) (all (row t r)) f) := by
  rw [← blk4_at m c t (blkOf f) h r (laneOf f) (slabRow t h r) f rfl (by show f.val = 128 * (f.val / 128) + f.val % 128; omega)]
  exact congrArg (iblk m c 4 t : Vec Ideal S3x2048x128 .f32) (slab_idx _ _ _ _ _ _ rfl)

theorem u_at (c : Dev nD) (t : Fin grid0.N) (h : Fin 2) (r : Fin 256) (f : Fin 384) :
    (lds m c t).u (blkOf f) h (ix3 0 r (laneOf f)) = a5 m c (ix3 (bat t h) (all (row t r)) f) := by
  rw [← blk5_at m c t (blkOf f) h r (laneOf f) (slabRow t h r) f rfl (by show f.val = 128 * (f.val / 128) + f.val % 128; omega)]
  exact congrArg (iblk m c 5 t : Vec Ideal S3x2048x128 .f32) (slab_idx _ _ _ _ _ _ rfl)

theorem ga_at (c : Dev nD) (t : Fin grid0.N) (h : Fin 2) (r : Fin 256) (f : Fin 512) :
    (lds m c t).ga h (ix3 0 r f) = a6 m c (ix3 (bat t h) (row t r) (headCol f)) := by
  rw [← blk6_at]
  refine View.ld_unit_apply_of (iblk m c 6 t : Vec Ideal S2x256x512 .bf16) _ _ (inb_y h) _ (ix3 h r f) fun a => ?_
  match a with
  | ⟨0, _⟩ => show h.val = h.val + 0; omega
  | ⟨1, _⟩ => show r.val = 0 + r.val; omega
  | ⟨2, _⟩ => show f.val = 0 + f.val; omega

theorem na_at (c : Dev nD) (t : Fin grid0.N) (h : Fin 2) (r : Fin 256) (f : Fin 512) :
    (lds m c t).na h (ix3 0 r f) = a7 m c (ix3 (bat t h) (row t r) f) := by
  rw [← blk7_at]
  refine View.ld_unit_apply_of (iblk m c 7 t : Vec Ideal S2x256x512 .bf16) _ _ (inb_y h) _ (ix3 h r f) fun a => ?_
  match a with
  | ⟨0, _⟩ => show h.val = h.val + 0; omega
  | ⟨1, _⟩ => show r.val = 0 + r.val; omega
  | ⟨2, _⟩ => show f.val = 0 + f.val; omega

theorem d_at (c : Dev nD) (t : Fin grid0.N) (f : Fin 384) : (lds m c t).d (ix2 0 f) = a8 m c (ix2 (1 : Fin 2) f) := by
  rw [← blk8_at m c t]
  refine View.ld_unit_apply_of (iblk m c 8 t : Vec Ideal S1x384 .f32) _ _ inb_S1x384_S1x384_0_0 _ (ix2 (0 : Fin 1) f) fun a => ?_
  match a with
  | ⟨0, _⟩ => rfl
  | ⟨1, _⟩ => show f.val = 0 + f.val; omega

theorem wg_at (c : Dev nD) (t : Fin grid0.N) (j : Fin 3) (k n : Fin 1024) :
    (lds m c t).wg j (ix3 0 k n) = a9 m c (ix3 (1 : Fin 2) k (gateCol j n)) := by
  have := j.isLt
  have := n.isLt
  rw [← blk9_at m c t k j n ⟨1024 * j.val + n.val, by omega⟩ rfl]
  refine View.ld_unit_apply_of (iblk m c 9 t : Vec Ideal S1x1024x3072 .bf16) _ _ (inb_wg j) _ (ix3 (0 : Fin 1) k ⟨1024 * j.val + n.val, by omega⟩) fun a => ?_
  match a with
  | ⟨0, _⟩ => rfl
  | ⟨1, _⟩ => show k.val = 0 + k.val; omega
  | ⟨2, _⟩ => rfl

theorem wl_at (c : Dev nD) (t : Fin grid0.N) (f : Fin 384) (n : Fin 384) :
    (lds m c t).wl (ix3 0 f n) = a10 m c (ix3 (1 : Fin 2) f n) := by
  rw [← blk10_at m c t]
  refine View.ld_unit_apply_of (iblk m c 10 t : Vec Ideal S1x384x384 .bf16) _ _ inb_S1x384x384_S1x384x384_0_0_0 _ (ix3 (0 : Fin 1) f n) fun a => ?_
  match a with
  | ⟨0, _⟩ => rfl
  | ⟨1, _⟩ => show f.val = 0 + f.val; omega
  | ⟨2, _⟩ => show n.val = 0 + n.val; omega

theorem ws_at (c : Dev nD) (t : Fin grid0.N) (f : Fin 384) (n : Fin 1024) :
    (lds m c t).ws (ix3 0 f n) = a11 m c (ix3 (1 : Fin 2) f n) := by
  rw [← blk11_at m c t]
  refine View.ld_unit_apply_of (iblk m c 11 t : Vec Ideal S1x384x1024 .bf16) _ _ inb_S1x384x1024_S1x384x1024_0_0_0 _ (ix3 (0 : Fin 1) f n) fun a => ?_
  match a with
  | ⟨0, _⟩ => rfl
  | ⟨1, _⟩ => show f.val = 0 + f.val; omega
  | ⟨2, _⟩ => show n.val = 0 + n.val; omega

theorem wa_at (c : Dev nD) (t : Fin grid0.N) (f : Fin 512) (n : Fin 1024) :
    (lds m c t).wa (ix3 0 f n) = a12 m c (ix3 (1 : Fin 2) (headCol f) n) := by
  rw [← blk12_at m c t]
  refine View.ld_unit_apply_of (iblk m c 12 t : Vec Ideal S1x512x1024 .bf16) _ _ inb_S1x512x1024_S1x512x1024_0_0_0 _ (ix3 (0 : Fin 1) f n) fun a => ?_
  match a with
  | ⟨0, _⟩ => rfl
  | ⟨1, _⟩ => show f.val = 0 + f.val; omega
  | ⟨2, _⟩ => show n.val = 0 + n.val; omega

theorem wn_at (c : Dev nD) (t : Fin grid0.N) (f : Fin 512) (n : Fin 1024) :
    (lds m c t).wn (ix3 0 f n) = a13 m c (ix3 (1 : Fin 2) f n) := by
  rw [← blk13_at m c t]
  refine View.ld_unit_apply_of (iblk m c 13 t : Vec Ideal S1x512x1024 .bf16) _ _ inb_S1x512x1024_S1x512x1024_0_0_0 _ (ix3 (0 : Fin 1) f n) fun a => ?_
  match a with
  | ⟨0, _⟩ => rfl
  | ⟨1, _⟩ => show f.val = 0 + f.val; omega
  | ⟨2, _⟩ => show n.val = 0 + n.val; omega

theorem wo_at (c : Dev nD) (t : Fin grid0.N) (f : Fin 1024) (n : Fin 1024) :
    (lds m c t).wo (ix3 0 f n) = a14 m c (ix3 (1 : Fin 2) f n) := by
  rw [← blk14_at m c t]
  refine View.ld_unit_apply_of (iblk m c 14 t : Vec Ideal S1x1024x1024 .bf16) _ _ inb_S1x1024x1024_S1x1024x1024_0_0_0 _ (ix3 (0 : Fin 1) f n) fun a => ?_
  match a with
  | ⟨0, _⟩ => rfl
  | ⟨1, _⟩ => show f.val = 0 + f.val; omega
  | ⟨2, _⟩ => show n.val = 0 + n.val; omega

/-- The token of a row of the tile, in the reference's order of heads. -/
def tokR (c : Dev nD) (b : Fin 8) (s : Fin 4096) : Cert.Merge.Token := token (a0 m c) (a1 m c) (a2 m c) (a3 m c) (a4 m c) (a5 m c) (a6 m c) (a7 m c) (a8 m c) b s
/-- The weights, in the reference's order of heads. -/
def matR (c : Dev nD) : Cert.Merge.Mats := mats (a9 m c) (a10 m c) (a11 m c) (a12 m c) (a13 m c) (a14 m c)

theorem tokA_eq (c : Dev nD) (t : Fin grid0.N) (h : Fin 2) (r : Fin 256) :
    tokA (lds m c t) h r = { tokR m c (bat t h) (row t r) with ya := fun f => (tokR m c (bat t h) (row t r)).ya (headCol f) } := by
  unfold tokA tokR
  simp only [x_at, md_at, g_at, f_at, b_at, u_at, d_at, ga_at, na_at]
  rfl

theorem matA_eq (c : Dev nD) (t : Fin grid0.N) : matA (lds m c t) = { matR m c with wa := fun f => (matR m c).wa (headCol f) } := by
  unfold matA matR
  simp only [wg_at, wl_at, ws_at, wa_at, wn_at, wo_at]
  rfl

/-- The reference of the arguments. -/
def G (c : Dev nD) : (⟨S8x4096x1024, .f32⟩ : BufTy).Contents (Elt Ideal) :=
  Cert.Reference3Ideal.Read.val_main_v106 (F := Ideal) (a0 m c) (a1 m c) (a2 m c) (a3 m c) (a4 m c) (a5 m c) (a6 m c) (a7 m c) (a8 m c) (a9 m c) (a10 m c) (a11 m c) (a12 m c) (a13 m c) (a14 m c)

theorem G_at (c : Dev nD) (b : Fin 8) (s : Fin 4096) (n : Fin 1024) :
    G m c (ix3 b s n) = Cert.Merge.out (tokR m c b s) (matR m c) n :=
  Cert.Reference3Ideal.Merge.v106_at (a0 m c) (a1 m c) (a2 m c) (a3 m c) (a4 m c) (a5 m c) (a6 m c) (a7 m c) (a8 m c) (a9 m c) (a10 m c) (a11 m c) (a12 m c) (a13 m c) (a14 m c) b s n

/-- What the body leaves at an index of its block. -/
theorem block_at (c : Dev nD) (t : Fin grid0.N) (h : Fin 2) (r : Fin 256) (n : Fin 1024) :
    View.canon (oList (lds m c t)) (ix3 h r n) = G m c (ix3 (bat t h) (row t r) n) := by
  rw [G_at, store_at, tokA_eq, matA_eq]
  exact Cert.Merge.out_heads _ _ _

theorem out_eq (c : Dev nD) (t : Fin cfg0.N) :
    (dats m 0 c).flushed 15 t = (cfg0.win 15).cut (grid0.coords t)
      (View.canon (oList (lds m c t)) : Vec Ideal S2x256x1024 .f32) := by
  rw [flushed15_A]
  unfold out0_A_15
  rw [View.read_writes_junk_eq_canon, run_pieces]
  rfl

theorem flushed15_eq (c : Dev nD) (t : Fin cfg0.N) :
    (dats m 0 c).flushed 15 t = ((cfg0.win 15).blk t).view.read (Elt Ideal) (G m c) := by
  rw [out_eq]
  funext i
  have h0 : (i 0).val < 2 := (i 0).isLt
  have h1 : (i 1).val < 256 := (i 1).isLt
  have h2 : (i 2).val < 1024 := (i 2).isLt
  show View.canon (oList (lds m c t)) i = G m c (((cfg0.win 15).blk t).view.emb i)
  have hn := block_at m c t ⟨(i 0).val, h0⟩ ⟨(i 1).val, h1⟩ ⟨(i 2).val, h2⟩
  refine Eq.trans (congrArg _ ?_) (hn.trans ?_)
  · funext a
    apply Fin.ext
    match a with
    | ⟨0, _⟩ => rfl
    | ⟨1, _⟩ => rfl
    | ⟨2, _⟩ => rfl
  · refine congrArg (G m c) ?_
    have w0 := idx15_eq t 0
    have w1 := idx15_eq t 1
    have w2 := idx15_eq t 2
    funext a
    apply Fin.ext
    match a with
    | ⟨0, _⟩ =>
      show 2 * (grid0.coords t 1).val + (i 0).val = win0_15.index t 0 * 2 + 1 * (i 0).val
      rw [w0]; show _ = (grid0.coords t 1).val * 2 + 1 * (i 0).val; omega
    | ⟨1, _⟩ =>
      show 256 * (grid0.coords t 0).val + (i 1).val = win0_15.index t 1 * 256 + 1 * (i 1).val
      rw [w1]; show _ = (grid0.coords t 0).val * 256 + 1 * (i 1).val; omega
    | ⟨2, _⟩ =>
      show (i 2).val = win0_15.index t 2 * 1024 + 1 * (i 2).val
      rw [w2]; show _ = 0 * 1024 + 1 * (i 2).val; omega

theorem covered15 (i : S8x4096x1024.Idx) :
    ∃ t : Fin cfg0.N, (cfg0.win 15).flush t = true ∧ i ∈ ((cfg0.win 15).blk t).view.set := by
  have h0 : (i 0).val < 8 := (i 0).isLt
  have h1 : (i 1).val < 4096 := (i 1).isLt
  have h2 : (i 2).val < 1024 := (i 2).isLt
  obtain ⟨t, hg, hb⟩ := point ⟨(i 1).val / 256, by omega⟩ ⟨(i 0).val / 2, by omega⟩
  refine ⟨t, flush0_15 t, ?_⟩
  have h := ((cfg0.win 15).blk t).view.emb_mem_set (ix3 (⟨(i 0).val % 2, Nat.mod_lt _ (by decide)⟩ : Fin 2) (⟨(i 1).val % 256, Nat.mod_lt _ (by decide)⟩ : Fin 256) (⟨(i 2).val, h2⟩ : Fin 1024))
  have e : ((cfg0.win 15).blk t).view.emb (ix3 (⟨(i 0).val % 2, Nat.mod_lt _ (by decide)⟩ : Fin 2) (⟨(i 1).val % 256, Nat.mod_lt _ (by decide)⟩ : Fin 256) (⟨(i 2).val, h2⟩ : Fin 1024)) = i := by
    have w0 := idx15_eq t 0
    have w1 := idx15_eq t 1
    have w2 := idx15_eq t 2
    have hg' : (grid0.coords t 0).val = (i 1).val / 256 := hg
    have hb' : (grid0.coords t 1).val = (i 0).val / 2 := hb
    funext a
    apply Fin.ext
    match a with
    | ⟨0, _⟩ =>
      show win0_15.index t 0 * 2 + 1 * ((i 0).val % 2) = (i 0).val
      rw [w0]; show (grid0.coords t 1).val * 2 + 1 * ((i 0).val % 2) = (i 0).val; omega
    | ⟨1, _⟩ =>
      show win0_15.index t 1 * 256 + 1 * ((i 1).val % 256) = (i 1).val
      rw [w1]; show (grid0.coords t 0).val * 256 + 1 * ((i 1).val % 256) = (i 1).val; omega
    | ⟨2, _⟩ =>
      show win0_15.index t 2 * 1024 + 1 * (i 2).val = (i 2).val
      rw [w2]; show 0 * 1024 + 1 * (i 2).val = (i 2).val; omega
  rwa [e] at h

/-- The array the kernel leaves is the reference of the arguments. -/
theorem final15 (c : Dev nD) : (dats m 0 c).arrAt 15 cfg0.N = G m c :=
  (dats m 0 c).arrAt_eq_of_cover 15 (G m c) (fun t _ => flushed15_eq m c t) covered15

end Cert.Kernel3Ideal.Merge

end
-- ==== Proof.MidPieces.lean ====
module

public import proofs.«01_k».proof.Proof.FfnPieces
public import proofs.«01_k».proof.Proof.Gen.Kernel4Ideal.Frame
public import Idealize.ShloMosaic.Lib.Pipeline.ValueKit

@[expose] public section

set_option maxRecDepth 16384

noncomputable section

namespace Cert.Kernel4Ideal.Mid

open Cert.Kernel4Ideal Cert.Kernel4Ideal.Gen
open Cert.Kernel2Ideal.Ffn (Loads hidS tList tPiece ch inb_w inb_x inb_md canon_tList pay14_at pay25_at high low resK)
open Idealize.ShloMosaic Idealize.ShloMosaic.TcCoe Idealize.ShloMosaic.Tactic

/-! The body without the final norm: its loads and its hidden units are those of the half with the norm, and it stores one
block of each of its two batches into the output. -/

/-- The hidden units read back. -/
def tRead (v : View sig .tc .vmem S512x2816 .bf16) (A : Loads) : Vec Ideal S512x2816 .bf16 :=
  v.readCov (tList A 10) (Rect.unit (s := S512x2816) ![0, 0] S512x2816.size inb_S512x2816_S512x2816_0_0).toLoadRect

/-- The product with the output weights. -/
def prod (v : View sig .tc .vmem S512x2816 .bf16) (A : Loads) : FVec Ideal S512x1024 .f32 := k0_pay26 (tRead v A) A.w

/-- The output's stores, the last first. -/
def oList (v : View sig .tc .vmem S512x2816 .bf16) (A : Loads) : List (View.Piece (Elt Ideal) S2x256x1024 .f32) :=
  [⟨Rect.unit (s := S2x256x1024) ![1, 0, 0] S1x256x1024.size inb_S2x256x1024_S1x256x1024_1_0_0,
      k0_pay2 (k0_pay4 (A.x 1)) (prod v A) (A.md 1 8)⟩,
    ⟨Rect.unit (s := S2x256x1024) ![0, 0, 0] S1x256x1024.size inb_S2x256x1024_S1x256x1024_0_0_0,
      k0_pay1 (k0_pay3 (A.x 0)) (prod v A) (A.md 0 8)⟩]

/-- The loads from the windows' contents. There is no final gain: the norm's gain stands in its place. -/
def loads (x0 : Vec Ideal S2x256x1024 .f32) (x1 : Vec Ideal S2x9x1024 .f32) (x2 : Vec Ideal S3x1024 .f32)
    (x3 x4 : Vec Ideal S1x1024x2816 .bf16) (x5 : Vec Ideal S1x2816x1024 .bf16) : Loads where
  x b := View.ld x0 (Rect.unit ![b.val, 0, 0] S1x256x1024.size (inb_x b))
  md b j := View.ld x1 (Rect.unit ![b.val, j.val, 0] S1x1x1024.size (inb_md b j))
  g := View.ld x2 (Rect.unit ![2, 0] S1x1024.size inb_S3x1024_S1x1024_2_0)
  a n := View.ld x3 (Rect.unit ![0, 0, 256 * n.val] S1x1024x256.size (inb_w n))
  u n := View.ld x4 (Rect.unit ![0, 0, 256 * n.val] S1x1024x256.size (inb_w n))
  w := View.ld x5 (Rect.unit ![0, 0, 0] S1x2816x1024.size inb_S1x2816x1024_S1x2816x1024_0_0_0)
  fg := View.ld x2 (Rect.unit ![2, 0] S1x1024.size inb_S3x1024_S1x1024_2_0)

section Words

variable (c : Dev nD) (i : grid0.Coords) (arg2 : Memref sig .tc .vmem S2x256x1024 .f32) (harg2 : arg2.IsWhole) (arg3 : Memref sig .tc .vmem S2x9x1024 .f32) (harg3 : arg3.IsWhole) (arg4 : Memref sig .tc .vmem S3x1024 .f32) (harg4 : arg4.IsWhole) (arg5 : Memref sig .tc .vmem S1x1024x2816 .bf16) (harg5 : arg5.IsWhole) (arg6 : Memref sig .tc .vmem S1x1024x2816 .bf16) (harg6 : arg6.IsWhole) (arg7 : Memref sig .tc .vmem S1x2816x1024 .bf16) (harg7 : arg7.IsWhole) (arg8 : Memref sig .tc .vmem S2x256x1024 .f32) (harg8 : arg8.IsWhole) (arg9 : Memref sig .tc .vmem S512x2816 .bf16) (harg9 : arg9.IsWhole)
    (x0 : Vec Ideal S2x256x1024 .f32) (x1 : Vec Ideal S2x9x1024 .f32) (x2 : Vec Ideal S3x1024 .f32) (x3 : Vec Ideal S1x1024x2816 .bf16) (x4 : Vec Ideal S1x1024x2816 .bf16) (x5 : Vec Ideal S1x2816x1024 .bf16)

/-- The same loads through the windows' memory references. -/
def loadsM : Loads where
  x b := View.readAt (Elt Ideal) arg2.view (Rect.unit (s := S2x256x1024) ![b.val, 0, 0] S1x256x1024.size (inb_x b)).toLoadRect (harg2.unread x0)
  md b j := View.readAt (Elt Ideal) arg3.view (Rect.unit (s := S2x9x1024) ![b.val, j.val, 0] S1x1x1024.size (inb_md b j)).toLoadRect (harg3.unread x1)
  g := View.readAt (Elt Ideal) arg4.view (Rect.unit (s := S3x1024) ![2, 0] S1x1024.size inb_S3x1024_S1x1024_2_0).toLoadRect (harg4.unread x2)
  a n := View.readAt (Elt Ideal) arg5.view (Rect.unit (s := S1x1024x2816) ![0, 0, 256 * n.val] S1x1024x256.size (inb_w n)).toLoadRect (harg5.unread x3)
  u n := View.readAt (Elt Ideal) arg6.view (Rect.unit (s := S1x1024x2816) ![0, 0, 256 * n.val] S1x1024x256.size (inb_w n)).toLoadRect (harg6.unread x4)
  w := View.readAt (Elt Ideal) arg7.view (Rect.unit (s := S1x2816x1024) ![0, 0, 0] S1x2816x1024.size inb_S1x2816x1024_S1x2816x1024_0_0_0).toLoadRect (harg7.unread x5)
  fg := View.readAt (Elt Ideal) arg4.view (Rect.unit (s := S3x1024) ![2, 0] S1x1024.size inb_S3x1024_S1x1024_2_0).toLoadRect (harg4.unread x2)

/-- They are the loads of the windows' contents. -/
theorem loadsM_eq : loadsM arg2 harg2 arg3 harg3 arg4 harg4 arg5 harg5 arg6 harg6 arg7 harg7 x0 x1 x2 x3 x4 x5 = loads x0 x1 x2 x3 x4 x5 := by
  unfold loadsM loads
  simp only [View.readAt_eq_ld, harg2.read_unread, harg3.read_unread, harg4.read_unread, harg5.read_unread, harg6.read_unread, harg7.read_unread]

theorem hid_eq : kernelRun0_A.sl.r_7 (F := Ideal) c arg2 harg2 arg3 harg3 arg4 harg4 x0 x1 x2
    = hidS (loadsM arg2 harg2 arg3 harg3 arg4 harg4 arg5 harg5 arg6 harg6 arg7 harg7 x0 x1 x2 x3 x4 x5) := rfl

set_option maxHeartbeats 4000000 in
/-- The stored chunks are those of the half with the norm. -/
theorem tList_eq : kernelRun0_A.sl.HS0_11 (F := Ideal) c arg2 harg2 arg3 harg3 arg4 harg4 arg5 harg5 arg6 harg6 x0 x1 x2 x3 x4
    = tList (loadsM arg2 harg2 arg3 harg3 arg4 harg4 arg5 harg5 arg6 harg6 arg7 harg7 x0 x1 x2 x3 x4 x5) 10 := rfl

theorem prod_eq : kernelRun0_A.sl.r_12 (F := Ideal) c arg2 harg2 arg3 harg3 arg4 harg4 arg5 harg5 arg6 harg6 arg7 harg7 arg9 x0 x1 x2 x3 x4 x5
    = prod arg9.view (loadsM arg2 harg2 arg3 harg3 arg4 harg4 arg5 harg5 arg6 harg6 arg7 harg7 x0 x1 x2 x3 x4 x5) := by
  unfold prod tRead
  rw [← tList_eq c arg2 harg2 arg3 harg3 arg4 harg4 arg5 harg5 arg6 harg6 arg7 harg7 x0 x1 x2 x3 x4 x5]
  rfl

/-- The stores the body's run leaves in the output. -/
theorem run_pieces :
    (kernelRun0_A (F := Ideal) c i arg2 harg2 arg3 harg3 arg4 harg4 arg5 harg5 arg6 harg6 arg7 harg7 arg8 harg8 arg9 harg9 x0 x1 x2 x3 x4 x5).1
      = oList arg9.view (loads x0 x1 x2 x3 x4 x5) := by
  rw [← loadsM_eq arg2 harg2 arg3 harg3 arg4 harg4 arg5 harg5 arg6 harg6 arg7 harg7 x0 x1 x2 x3 x4 x5]
  unfold oList kernelRun0_A
  dsimp only
  rw [prod_eq c arg2 harg2 arg3 harg3 arg4 harg4 arg5 harg5 arg6 harg6 arg7 harg7 arg9 x0 x1 x2 x3 x4 x5]
  rfl

end Words

/-- The product with the output weights, at an index. -/
theorem prod_at (v : View sig .tc .vmem S512x2816 .bf16) (A : Loads) (p : Fin 512) (n : Fin 1024) :
    prod v A (ix2 p n) = ∑ f : Fin 2816, Cert.Ffn.unit (fun k => hidS A (ix2 p k))
      (fun k => A.a (ch (f.val / 256)) (ix3 0 k ⟨f.val % 256, Nat.mod_lt _ (by decide)⟩))
      (fun k => A.u (ch (f.val / 256)) (ix3 0 k ⟨f.val % 256, Nat.mod_lt _ (by decide)⟩)) * A.w (ix3 0 f n) := by
  refine (pay25_at (tRead v A) A.w p n).trans (Finset.sum_congr rfl fun f _ => ?_)
  have hf := f.isLt
  refine congrArg (· * _) ?_
  unfold tRead
  rw [View.readCov_eq_canon', ← pay14_at, ← canon_tList A (f.val / 256) p ⟨f.val % 256, Nat.mod_lt _ (by decide)⟩ 10 (by omega) (by omega)]
  refine congrArg (View.canon (tList A 10)) ?_
  funext a
  apply Fin.ext
  match a with
  | ⟨0, _⟩ => show 0 + 1 * p.val = p.val; omega
  | ⟨1, _⟩ => show 0 + 1 * f.val = 256 * (f.val / 256 % 11) + f.val % 256; omega

theorem pay1_at (v0 : Vec Ideal S1x256x1024 .f32) (y : FVec Ideal S512x1024 .f32) (v199 : Vec Ideal S1x1x1024 .f32) (r : Fin 256) (n : Fin 1024) :
    k0_pay1 (k0_pay3 v0) y v199 (ix3 0 r n)
      = resK (fun k => v0 (ix3 0 r k)) (fun k => v199 (ix3 0 0 k)) (fun k => y (ix2 (high r) k)) n := by
  pointwise [k0_pay1, k0_pay3]
  unfold resK
  rfl

theorem pay2_at (v2 : Vec Ideal S1x256x1024 .f32) (y : FVec Ideal S512x1024 .f32) (v210 : Vec Ideal S1x1x1024 .f32) (r : Fin 256) (n : Fin 1024) :
    k0_pay2 (k0_pay4 v2) y v210 (ix3 0 r n)
      = resK (fun k => v2 (ix3 0 r k)) (fun k => v210 (ix3 0 0 k)) (fun k => y (ix2 (low r) k)) n := by
  pointwise [k0_pay2, k0_pay4]
  unfold resK
  rfl

theorem canon_high (v : View sig .tc .vmem S512x2816 .bf16) (A : Loads) (r : Fin 256) (n : Fin 1024) :
    View.canon (oList v A) (ix3 (0 : Fin 2) r n) = k0_pay1 (k0_pay3 (A.x 0)) (prod v A) (A.md 0 8) (ix3 0 r n) := by
  unfold oList
  refine (View.canon_cons_of_not_mem _ _ ?_).trans ?_
  · intro hm
    have h : 1 ≤ 0 ∧ 0 < 1 + 1 := (Rect.mem_set_unit (inb := inb_S2x256x1024_S1x256x1024_1_0_0)).1 hm 0
    omega
  · have e : (Rect.unit (s := S2x256x1024) ![0, 0, 0] S1x256x1024.size inb_S2x256x1024_S1x256x1024_0_0_0).emb (ix3 (0 : Fin 1) r n) = ix3 (0 : Fin 2) r n := by
      funext a
      apply Fin.ext
      match a with
      | ⟨0, _⟩ => rfl
      | ⟨1, _⟩ => show 0 + 1 * r.val = r.val; omega
      | ⟨2, _⟩ => show 0 + 1 * n.val = n.val; omega
    rw [← e]
    exact View.canon_cons_emb (Val := Elt Ideal) _ _ _ _

theorem canon_low (v : View sig .tc .vmem S512x2816 .bf16) (A : Loads) (r : Fin 256) (n : Fin 1024) :
    View.canon (oList v A) (ix3 (1 : Fin 2) r n) = k0_pay2 (k0_pay4 (A.x 1)) (prod v A) (A.md 1 8) (ix3 0 r n) := by
  unfold oList
  have e : (Rect.unit (s := S2x256x1024) ![1, 0, 0] S1x256x1024.size inb_S2x256x1024_S1x256x1024_1_0_0).emb (ix3 (0 : Fin 1) r n) = ix3 (1 : Fin 2) r n := by
    funext a
    apply Fin.ext
    match a with
    | ⟨0, _⟩ => rfl
    | ⟨1, _⟩ => show 0 + 1 * r.val = r.val; omega
    | ⟨2, _⟩ => show 0 + 1 * n.val = n.val; omega
  rw [← e]
  exact View.canon_cons_emb (Val := Elt Ideal) _ _ _ _

end Cert.Kernel4Ideal.Mid

end
-- ==== Proof.MidRef.lean ====
module

public import proofs.«01_k».proof.Proof.Gen.Reference4Ideal.Read
public import proofs.«01_k».proof.Proof.FfnRef
public import Idealize.ShloMosaic.Lib.Pointwise

@[expose] public section

set_option maxRecDepth 16384

noncomputable section

open Idealize.ShloMosaic

namespace Cert.Reference4Ideal.Mid

open Cert.Reference4Ideal Cert.Reference4Ideal.Gen Cert.Reference4Ideal.Read
open Idealize.ShloMosaic.TcCoe Idealize.ShloMosaic.Tactic

/-! The reference of the first layer's second half at an index is the feed-forward half of the token's row, by the modulation
of its batch for a latent token and by the context's for a context token. -/

variable (x0 : (⟨S8x4352x1024, .f32⟩ : BufTy).Contents (Elt Ideal)) (x1 : (⟨S8x9216, .f32⟩ : BufTy).Contents (Elt Ideal))
  (x2 : (⟨S9216, .f32⟩ : BufTy).Contents (Elt Ideal)) (x3 : (⟨S2x3x1024, .f32⟩ : BufTy).Contents (Elt Ideal))
  (x4 x5 : (⟨S2x1024x2816, .f32⟩ : BufTy).Contents (Elt Ideal)) (x6 : (⟨S2x2816x1024, .f32⟩ : BufTy).Contents (Elt Ideal))

/-- Vector `i` of a token's modulation. -/
def mod (b : Fin 8) (s : Fin 4352) (i : Fin 9) (k : Fin 1024) : EReal :=
  if s.val < 4096 then x1 (ix2 b (⟨1024 * i.val + k.val, by have := i.isLt; have := k.isLt; omega⟩ : Fin 9216))
  else x2 (ix1 (⟨1024 * i.val + k.val, by have := i.isLt; have := k.isLt; omega⟩ : Fin 9216))

/-- A token's row. -/
def tok (b : Fin 8) (s : Fin 4352) (k : Fin 1024) : EReal := x0 (ix3 b s k)

/-- The norm's gains. -/
def gain (k : Fin 1024) : EReal := x3 (ix3 (0 : Fin 2) (2 : Fin 3) k)

/-- A matrix of the first layer. -/
def wt (w : (⟨S2x1024x2816, .f32⟩ : BufTy).Contents (Elt Ideal)) (k : Fin 1024) (f : Fin 2816) : EReal := w (ix3 (0 : Fin 2) k f)

/-- The last matrix of the first layer. -/
def wo (f : Fin 2816) (n : Fin 1024) : EReal := x6 (ix3 (0 : Fin 2) f n)

theorem v2_at (b : Fin 8) (s : Fin 4096) (j : Fin 3072) :
    val_main_v2 (F := Ideal) x1 (ix3 b s j) = x1 (ix2 b (⟨6144 + j.val, by have := j.isLt; omega⟩ : Fin 9216)) := by
  have := j.isLt; have := b.isLt
  rw [val_main_v2_apply, val_main_v1_apply, val_main_v0_apply]
  refine congrArg x1 ?_
  idx_ext

theorem v5_at (b : Fin 8) (s : Fin 256) (j : Fin 3072) :
    val_main_v5 (F := Ideal) x2 (ix3 b s j) = x2 (ix1 (⟨6144 + j.val, by have := j.isLt; omega⟩ : Fin 9216)) := by
  have := j.isLt
  rw [val_main_v5_apply, val_main_v4_apply, val_main_v3_apply]
  refine congrArg x2 ?_
  idx_ext

/-- The modulation vectors of the latent tokens, then those of the context. -/
theorem v6_at (b : Fin 8) (s : Fin 4352) (j : Fin 3072) (i : Fin 9) (k : Fin 1024) (h : 6144 + j.val = 1024 * i.val + k.val) :
    val_main_v6 (F := Ideal) x1 x2 (ix3 b s j) = mod x1 x2 b s i k := by
  have := s.isLt
  have hl := v2_at x1 b
  have hc := v5_at x2 b
  have ej : (⟨6144 + j.val, by have := j.isLt; omega⟩ : Fin 9216) = ⟨1024 * i.val + k.val, by have := i.isLt; have := k.isLt; omega⟩ := Fin.ext h
  unfold val_main_v6 mod
  revert hl hc
  generalize val_main_v2 (F := Ideal) x1 = y
  generalize val_main_v5 (F := Ideal) x2 = z
  intro hl hc
  pointwise
  by_cases hs : s.val < 4096
  · rw [dif_pos hs, if_pos hs, ← ej]
    exact hl ⟨s.val, hs⟩ j
  · rw [dif_neg hs, if_neg hs, ← ej]
    exact hc ⟨s.val - 4096, by omega⟩ j

theorem v7_at (b : Fin 8) (s : Fin 4352) (k : Fin 1024) : val_main_v7 (F := Ideal) x1 x2 (ix3 b s k) = mod x1 x2 b s 6 k := by
  have := k.isLt
  have e : idx_main_v7 (ix3 b s k) = ix3 b s (⟨k.val, by omega⟩ : Fin 3072) := by idx_ext
  rw [val_main_v7_apply, e]
  exact v6_at x1 x2 b s _ 6 k rfl

theorem v8_at (b : Fin 8) (s : Fin 4352) (k : Fin 1024) : val_main_v8 (F := Ideal) x1 x2 (ix3 b s k) = mod x1 x2 b s 7 k := by
  have := k.isLt
  have e : idx_main_v8 (ix3 b s k) = ix3 b s (⟨1024 + k.val, by omega⟩ : Fin 3072) := by idx_ext
  rw [val_main_v8_apply, e]
  exact v6_at x1 x2 b s _ 7 k (by show 6144 + (1024 + k.val) = 1024 * 7 + k.val; omega)

theorem v9_at (b : Fin 8) (s : Fin 4352) (k : Fin 1024) : val_main_v9 (F := Ideal) x1 x2 (ix3 b s k) = mod x1 x2 b s 8 k := by
  have := k.isLt
  have e : idx_main_v9 (ix3 b s k) = ix3 b s (⟨2048 + k.val, by omega⟩ : Fin 3072) := by idx_ext
  rw [val_main_v9_apply, e]
  exact v6_at x1 x2 b s _ 8 k (by show 6144 + (2048 + k.val) = 1024 * 8 + k.val; omega)

theorem v23_at (k : Fin 1024) : val_main_v23 (F := Ideal) x3 (ix1 k) = gain x3 k := by
  have := k.isLt
  rw [val_main_v23_apply, val_main_v22_apply, val_main_v21_apply, val_main_v20_apply]
  refine congrArg x3 ?_
  idx_ext

theorem v19_at (b : Fin 8) (s : Fin 4352) (k : Fin 1024) :
    val_main_v19 (F := Ideal) x0 (ix3 b s k) = Cert.Ffn.rms (tok x0 b s) k := by
  have e : idx_main_v18 (ix3 b s k) = ix3 b s (0 : Fin 1) := by idx_ext
  have e1 : idx_main_v12 (ix3 b s (0 : Fin 1)) = ix2 b s := by idx_ext
  have e2 : ∀ k : Fin 1024, idx_main_v11 (ix2 b s) k = ix3 b s k := fun k => by idx_ext
  rw [val_main_v19_apply, val_main_v18_apply, e, val_main_v17_apply, val_main_v16_apply, val_main_v14_apply, val_main_v12_apply, e1,
    val_main_v11_apply, val_main_v13_apply, val_main_cst_0_apply, val_main_v15_apply, val_main_cst_1_apply, val_main_cst_apply]
  simp only [e2, val_main_v10_apply]
  have z : (FloatOps.ofBits (F := Ideal) .f32 0x00000000#32 : EReal) = 0 := Ideal.ofBits_zero_f32
  have h := fun s : EReal => (congrArg (· + s) z).trans (zero_add s)
  exact congrArg (fun r : EReal => x0 (ix3 b s k) * Ideal.rsqrt (Ideal.div r _ + _)) (h _)

/-- The modulated row of a token. -/
def hidR (b : Fin 8) (s : Fin 4352) : Fin 1024 → EReal :=
  Cert.Ffn.hid (tok x0 b s) (gain x3) (mod x1 x2 b s 6) (mod x1 x2 b s 7)

theorem v30_at (b : Fin 8) (s : Fin 4352) (k : Fin 1024) :
    val_main_v30 (F := Ideal) x0 x1 x2 x3 (ix3 b s k) = hidR x0 x1 x2 x3 b s k := by
  have e2 : idx_main_v24 (idx_main_v25 (ix3 b s k)) = ix1 k := by idx_ext
  rw [val_main_v30_apply, val_main_v29_apply, val_main_v26_apply, v19_at, val_main_v25_apply, val_main_v24_apply, e2, v23_at,
    val_main_v28_apply, val_main_v27_apply, val_main_cst_2_apply, v8_at, v7_at]
  rfl

theorem v32_at (k : Fin 1024) (f : Fin 2816) : val_main_v32 (F := Ideal) x4 (ix2 k f) = wt x4 k f := by
  have := k.isLt; have := f.isLt
  rw [val_main_v32_apply, val_main_v31_apply]
  refine congrArg x4 ?_
  idx_ext

theorem v36_at (k : Fin 1024) (f : Fin 2816) : val_main_v36 (F := Ideal) x5 (ix2 k f) = wt x5 k f := by
  have := k.isLt; have := f.isLt
  rw [val_main_v36_apply, val_main_v35_apply]
  refine congrArg x5 ?_
  idx_ext

theorem v40_at (f : Fin 2816) (n : Fin 1024) : val_main_v40 (F := Ideal) x6 (ix2 f n) = wo x6 f n := by
  have := n.isLt; have := f.isLt
  rw [val_main_v40_apply, val_main_v39_apply]
  refine congrArg x6 ?_
  idx_ext

theorem v33_at (b : Fin 8) (s : Fin 4352) (f : Fin 2816) :
    val_main_v33 (F := Ideal) x0 x1 x2 x3 x4 (ix3 b s f) = ∑ k : Fin 1024, hidR x0 x1 x2 x3 b s k * wt x4 k f := by
  have e : ∀ k : Fin 1024, lidx_main_v33 (ix3 b s f) k = ix3 b s k := fun k => by idx_ext
  have e1 : ∀ k : Fin 1024, ridx_main_v33 (ix3 b s f) k = ix2 k f := fun k => by idx_ext
  rw [val_main_v33_apply]
  simp only [e, e1, v30_at, v32_at]

theorem v37_at (b : Fin 8) (s : Fin 4352) (f : Fin 2816) :
    val_main_v37 (F := Ideal) x0 x1 x2 x3 x5 (ix3 b s f) = ∑ k : Fin 1024, hidR x0 x1 x2 x3 b s k * wt x5 k f := by
  have e : ∀ k : Fin 1024, lidx_main_v37 (ix3 b s f) k = ix3 b s k := fun k => by idx_ext
  have e1 : ∀ k : Fin 1024, ridx_main_v37 (ix3 b s f) k = ix2 k f := fun k => by idx_ext
  rw [val_main_v37_apply]
  simp only [e, e1, v30_at, v36_at]

theorem v38_at (b : Fin 8) (s : Fin 4352) (f : Fin 2816) :
    val_main_v38 (F := Ideal) x0 x1 x2 x3 x4 x5 (ix3 b s f)
      = Cert.Ffn.unit (hidR x0 x1 x2 x3 b s) (fun k => wt x4 k f) (fun k => wt x5 k f) := by
  rw [val_main_v38_apply, val_main_v34_apply, v37_at, val_main_call0_v5_apply, val_main_call0_v4_apply, val_main_call0_cst_0_apply,
    val_main_call0_v3_apply, val_main_call0_v2_apply, val_main_call0_cst_apply, val_main_call0_v1_apply, val_main_call0_v0_apply, v33_at]
  unfold Cert.Ffn.unit Ideal.logistic
  rw [← Cert.Ffn.one_f32]
  rfl

/-- The reference at an index. -/
theorem v45_at (b : Fin 8) (s : Fin 4352) (n : Fin 1024) :
    val_main_v45 (F := Ideal) x0 x1 x2 x3 x4 x5 x6 (ix3 b s n)
      = Cert.Ffn.res (tok x0 b s) (gain x3) (mod x1 x2 b s 6) (mod x1 x2 b s 7) (mod x1 x2 b s 8) (wt x4) (wt x5) (wo x6) n := by
  have e1 : ∀ k : Fin 2816, lidx_main_v41 (ix3 b s n) k = ix3 b s k := fun k => by idx_ext
  have e2 : ∀ k : Fin 2816, ridx_main_v41 (ix3 b s n) k = ix2 k n := fun k => by idx_ext
  rw [val_main_v45_apply, val_main_v44_apply, val_main_v43_apply, val_main_v42_apply, val_main_cst_3_apply, v9_at, val_main_v41_apply]
  simp only [e1, e2, v38_at, v40_at]
  rfl

end Cert.Reference4Ideal.Mid

end
-- ==== Proof.MidBlocks.lean ====
module

public import proofs.«01_k».proof.Proof.MidPieces
public import proofs.«01_k».proof.Proof.MidRef
public import proofs.«01_k».proof.Proof.Gen.Kernel4Ideal.Value

@[expose] public section

set_option maxRecDepth 16384

noncomputable section

namespace Cert.Kernel4Ideal.Mid

open Cert.Kernel4Ideal Cert.Kernel4Ideal.Gen
open Cert.Reference4Ideal.Mid (mod tok gain wt wo)
open Idealize.ShloMosaic Idealize.ShloMosaic.TcCoe Idealize.ShloMosaic.Tactic

/-! What the windows are cut from, and the blocks of a grid point, in the arguments. -/

variable (m : (ℓ : Loc nD τ sig) → Buf (Elt Ideal) ℓ)

/-- The stream. -/
def a0 (c : Dev nD) : (⟨S8x4352x1024, .f32⟩ : BufTy).Contents (Elt Ideal) := m ((c : Thread nD τ).loc main_arg0)
/-- The latent tokens' modulation. -/
def a1 (c : Dev nD) : (⟨S8x9216, .f32⟩ : BufTy).Contents (Elt Ideal) := m ((c : Thread nD τ).loc main_arg1)
/-- The context tokens' modulation. -/
def a2 (c : Dev nD) : (⟨S9216, .f32⟩ : BufTy).Contents (Elt Ideal) := m ((c : Thread nD τ).loc main_arg2)
/-- The gains. -/
def a3 (c : Dev nD) : (⟨S2x3x1024, .f32⟩ : BufTy).Contents (Elt Ideal) := m ((c : Thread nD τ).loc main_arg3)
/-- The gates' weights. -/
def a4 (c : Dev nD) : (⟨S2x1024x2816, .f32⟩ : BufTy).Contents (Elt Ideal) := m ((c : Thread nD τ).loc main_arg4)
/-- The values' weights. -/
def a5 (c : Dev nD) : (⟨S2x1024x2816, .f32⟩ : BufTy).Contents (Elt Ideal) := m ((c : Thread nD τ).loc main_arg5)
/-- The output weights. -/
def a6 (c : Dev nD) : (⟨S2x2816x1024, .f32⟩ : BufTy).Contents (Elt Ideal) := m ((c : Thread nD τ).loc main_arg6)

theorem V_x (c : Dev nD) : V m c main_arg0 = a0 m c := by
  show StableHlo.after (List.flatten [hostOps0]) _ (Proc.devRef .tc main_arg0) = _
  simp only [List.flatten_cons, List.flatten_nil, List.append_nil, List.cons_append, List.nil_append]
  after_results
  rfl

/-- The table of modulation vectors: of the eight batches, twice the context's, then zeros. -/
def padM (x1 : (⟨S8x9216, .f32⟩ : BufTy).Contents (Elt Ideal)) (x2 : (⟨S9216, .f32⟩ : BufTy).Contents (Elt Ideal)) : (⟨S16x9x1024, .f32⟩ : BufTy).Contents (Elt Ideal) :=
  concatenate S16x9x1024 0 [⟨S8x9x1024, shapeCast S8x9x1024 x1 shapeCasts_S8x9216_S8x9x1024⟩,
    ⟨S2x9x1024, broadcastInDim S2x9x1024 ![0, 1, 2] bcast_S1x9x1024_S2x9x1024_0_1_2 (shapeCast S1x9x1024 x2 shapeCasts_S9216_S1x9x1024)⟩,
    ⟨S6x9x1024, broadcastInDim S6x9x1024 ![] bcast_S_S6x9x1024 (constant (F := Ideal) S_ .f32 0x00000000#32)⟩]
    concatenates_S8x9x1024_S2x9x1024_S6x9x1024_S16x9x1024_d0

/-- A row of a latent token. -/
theorem padM_lat (x1 : (⟨S8x9216, .f32⟩ : BufTy).Contents (Elt Ideal)) (x2 : (⟨S9216, .f32⟩ : BufTy).Contents (Elt Ideal)) (b : Fin 8)
    (s : Fin 4352) (i : Fin 9) (k : Fin 1024) (b' : Fin 16) (hs : s.val < 4096) (hb : b'.val = b.val) :
    padM x1 x2 (ix3 b' i k) = mod x1 x2 b s i k := by
  have h8 := b.isLt
  have := i.isLt
  have := k.isLt
  unfold padM mod
  pointwise
  rw [dif_pos (show b'.val < 8 by omega), if_pos hs]
  refine congrArg x1 ?_
  idx_ext

/-- A row of a context token. -/
theorem padM_ctx (x1 : (⟨S8x9216, .f32⟩ : BufTy).Contents (Elt Ideal)) (x2 : (⟨S9216, .f32⟩ : BufTy).Contents (Elt Ideal)) (b : Fin 8)
    (s : Fin 4352) (i : Fin 9) (k : Fin 1024) (b' : Fin 16) (hs : ¬ s.val < 4096) (hb : 8 ≤ b'.val ∧ b'.val < 10) :
    padM x1 x2 (ix3 b' i k) = mod x1 x2 b s i k := by
  have := i.isLt
  have := k.isLt
  unfold padM mod
  pointwise
  rw [dif_neg (show ¬ b'.val < 8 by omega), dif_pos (show b'.val - 8 < 2 by omega), if_neg hs]
  refine congrArg x2 ?_
  idx_ext

theorem V_mod (c : Dev nD) : V m c main_v4 = padM (a1 m c) (a2 m c) := by
  show StableHlo.after (List.flatten [hostOps0]) _ (Proc.devRef .tc main_v4) = _
  simp only [List.flatten_cons, List.flatten_nil, List.append_nil, List.cons_append, List.nil_append]
  after_results
  simp -implicitDefEqProofs only [StableHlo.TRef.ofBuf, StableHlo.TRef.toBuf, cast_cast, cast_eq]
  rfl

theorem V_gain (c : Dev nD) (i : Fin 3) (k : Fin 1024) : V m c main_v6 (ix2 i k) = a3 m c (ix3 (0 : Fin 2) i k) := by
  have e : V m c main_v6 = shapeCast S3x1024 (extractStridedSlice S1x3x1024 ![0, 0, 0] (a3 m c) slices_S2x3x1024_S1x3x1024_0_0_0)
      shapeCasts_S1x3x1024_S3x1024 := by
    show StableHlo.after (List.flatten [hostOps0]) _ (Proc.devRef .tc main_v6) = _
    simp only [List.flatten_cons, List.flatten_nil, List.append_nil, List.cons_append, List.nil_append]
    after_results
    simp -implicitDefEqProofs only [StableHlo.TRef.ofBuf, StableHlo.TRef.toBuf, cast_cast, cast_eq]
    rfl
  rw [e]
  generalize a3 m c = y
  pointwise

theorem V_w3 (c : Dev nD) (i : S2x1024x2816.Idx) : V m c main_v7 i = a4 m c i := by
  have e : V m c main_v7 = truncf (F := Ideal) .bf16 (φ := .f32) (s := S2x1024x2816) (m ((c : Thread nD τ).loc main_arg4)) bitsLt_bf16_f32 := by
    show StableHlo.after (List.flatten [hostOps0]) _ (Proc.devRef .tc main_v7) = _
    simp only [List.flatten_cons, List.flatten_nil, List.append_nil, List.cons_append, List.nil_append]
    after_results
  rw [e]
  rfl

theorem V_w4 (c : Dev nD) (i : S2x1024x2816.Idx) : V m c main_v8 i = a5 m c i := by
  have e : V m c main_v8 = truncf (F := Ideal) .bf16 (φ := .f32) (s := S2x1024x2816) (m ((c : Thread nD τ).loc main_arg5)) bitsLt_bf16_f32 := by
    show StableHlo.after (List.flatten [hostOps0]) _ (Proc.devRef .tc main_v8) = _
    simp only [List.flatten_cons, List.flatten_nil, List.append_nil, List.cons_append, List.nil_append]
    after_results
  rw [e]
  rfl

theorem V_w5 (c : Dev nD) (i : S2x2816x1024.Idx) : V m c main_v9 i = a6 m c i := by
  have e : V m c main_v9 = truncf (F := Ideal) .bf16 (φ := .f32) (s := S2x2816x1024) (m ((c : Thread nD τ).loc main_arg6)) bitsLt_bf16_f32 := by
    show StableHlo.after (List.flatten [hostOps0]) _ (Proc.devRef .tc main_v9) = _
    simp only [List.flatten_cons, List.flatten_nil, List.append_nil, List.cons_append, List.nil_append]
    after_results
  rw [e]
  rfl

theorem idx0_eq : ∀ (t : Fin grid0.N) (a : Fin 3), win0_0.index t a = (![(grid0.coords t 1).val, (grid0.coords t 0).val, 0] : Fin 3 → Nat) a := by
  decide +kernel

theorem idx1_eq : ∀ (t : Fin grid0.N) (a : Fin 3), win0_1.index t a
    = (![if 16 ≤ (grid0.coords t 0).val then 4 else (grid0.coords t 1).val, 0, 0] : Fin 3 → Nat) a := by
  decide +kernel

theorem idx2_eq : ∀ (t : Fin grid0.N) (a : Fin 2), win0_2.index t a = (![0, 0] : Fin 2 → Nat) a := by
  decide +kernel

theorem idx3_eq : ∀ (t : Fin grid0.N) (a : Fin 3), win0_3.index t a = (![0, 0, 0] : Fin 3 → Nat) a := by
  decide +kernel

theorem idx4_eq : ∀ (t : Fin grid0.N) (a : Fin 3), win0_4.index t a = (![0, 0, 0] : Fin 3 → Nat) a := by
  decide +kernel

theorem idx5_eq : ∀ (t : Fin grid0.N) (a : Fin 3), win0_5.index t a = (![0, 0, 0] : Fin 3 → Nat) a := by
  decide +kernel

theorem idx6_eq : ∀ (t : Fin grid0.N) (a : Fin 3), win0_6.index t a = (![(grid0.coords t 1).val, (grid0.coords t 0).val, 0] : Fin 3 → Nat) a := by
  decide +kernel

/-- Every pair of a tile and a pair of batches is a grid point. -/
theorem point : ∀ (j : Fin 17) (b : Fin 4), ∃ t : Fin grid0.N, (grid0.coords t 0).val = j.val ∧ (grid0.coords t 1).val = b.val := by
  decide +kernel

/-- Batch `h` of the pair of a grid point. -/
def bat (t : Fin grid0.N) (h : Fin 2) : Fin 8 :=
  ⟨2 * (grid0.coords t 1).val + h.val, by have : (grid0.coords t 1).val < 4 := (grid0.coords t 1).isLt; have := h.isLt; omega⟩
/-- Token `r` of the tile of a grid point. -/
def row (t : Fin grid0.N) (r : Fin 256) : Fin 4352 :=
  ⟨256 * (grid0.coords t 0).val + r.val, by have : (grid0.coords t 0).val < 17 := (grid0.coords t 0).isLt; have := r.isLt; omega⟩

theorem blk0_at (c : Dev nD) (t : Fin grid0.N) (h : Fin 2) (r : Fin 256) (k : Fin 1024) :
    (iblk m c 0 t : Vec Ideal S2x256x1024 .f32) (ix3 h r k) = tok (a0 m c) (bat t h) (row t r) k := by
  unfold tok
  rw [← V_x]
  show V m c main_arg0 (((cfg0.win 0).blk t).view.emb (ix3 h r k)) = _
  refine congrArg (V m c main_arg0) ?_
  have e0 := idx0_eq t 0
  have e1 := idx0_eq t 1
  have e2 := idx0_eq t 2
  funext a
  apply Fin.ext
  match a with
  | ⟨0, _⟩ => show win0_0.index t 0 * 2 + 1 * h.val = 2 * (grid0.coords t 1).val + h.val; rw [e0]; show (grid0.coords t 1).val * 2 + 1 * h.val = _; omega
  | ⟨1, _⟩ => show win0_0.index t 1 * 256 + 1 * r.val = 256 * (grid0.coords t 0).val + r.val; rw [e1]; show (grid0.coords t 0).val * 256 + 1 * r.val = _; omega
  | ⟨2, _⟩ => show win0_0.index t 2 * 1024 + 1 * k.val = k.val; rw [e2]; show 0 * 1024 + 1 * k.val = k.val; omega

theorem blk1_at (c : Dev nD) (t : Fin grid0.N) (h : Fin 2) (r : Fin 256) (i : Fin 9) (k : Fin 1024) :
    (iblk m c 1 t : Vec Ideal S2x9x1024 .f32) (ix3 h i k) = mod (a1 m c) (a2 m c) (bat t h) (row t r) i k := by
  have hb : (grid0.coords t 1).val < 4 := (grid0.coords t 1).isLt
  have hh := h.isLt
  have hr := r.isLt
  have e0 : win0_1.index t 0 = if 16 ≤ (grid0.coords t 0).val then 4 else (grid0.coords t 1).val := idx1_eq t 0
  have e1 : win0_1.index t 1 = 0 := idx1_eq t 1
  have e2 : win0_1.index t 2 = 0 := idx1_eq t 2
  have cut : ∀ b' : Fin 16, b'.val = win0_1.index t 0 * 2 + h.val →
      (iblk m c 1 t : Vec Ideal S2x9x1024 .f32) (ix3 h i k) = padM (a1 m c) (a2 m c) (ix3 b' i k) := by
    intro b' eb
    rw [← V_mod]
    show V m c main_v4 (((cfg0.win 1).blk t).view.emb (ix3 h i k)) = _
    refine congrArg (V m c main_v4) ?_
    funext a
    apply Fin.ext
    match a with
    | ⟨0, _⟩ => show win0_1.index t 0 * 2 + 1 * h.val = b'.val; omega
    | ⟨1, _⟩ => show win0_1.index t 1 * 9 + 1 * i.val = i.val; rw [e1]; omega
    | ⟨2, _⟩ => show win0_1.index t 2 * 1024 + 1 * k.val = k.val; rw [e2]; omega
  by_cases hj : 16 ≤ (grid0.coords t 0).val
  · rw [if_pos hj] at e0
    rw [cut ⟨8 + h.val, by omega⟩ (by show 8 + h.val = _; omega)]
    exact padM_ctx _ _ _ _ i k _ (by show ¬ 256 * (grid0.coords t 0).val + r.val < 4096; omega) ⟨by show 8 ≤ 8 + h.val; omega, by show 8 + h.val < 10; omega⟩
  · rw [if_neg hj] at e0
    rw [cut ⟨2 * (grid0.coords t 1).val + h.val, by omega⟩ (by show 2 * (grid0.coords t 1).val + h.val = _; omega)]
    exact padM_lat _ _ _ _ i k _ (by show 256 * (grid0.coords t 0).val + r.val < 4096; omega) rfl

theorem blk2_at (c : Dev nD) (t : Fin grid0.N) (k : Fin 1024) :
    (iblk m c 2 t : Vec Ideal S3x1024 .f32) (ix2 (2 : Fin 3) k) = gain (a3 m c) k := by
  unfold gain
  rw [← V_gain]
  show V m c main_v6 (((cfg0.win 2).blk t).view.emb (ix2 (2 : Fin 3) k)) = _
  refine congrArg (V m c main_v6) ?_
  have e0 := idx2_eq t 0
  have e1 := idx2_eq t 1
  funext a
  apply Fin.ext
  match a with
  | ⟨0, _⟩ => show win0_2.index t 0 * 3 + 1 * 2 = 2; rw [e0]; rfl
  | ⟨1, _⟩ => show win0_2.index t 1 * 1024 + 1 * k.val = k.val; rw [e1]; show 0 * 1024 + 1 * k.val = k.val; omega

theorem blk3_at (c : Dev nD) (t : Fin grid0.N) (k : Fin 1024) (f : Fin 2816) :
    (iblk m c 3 t : Vec Ideal S1x1024x2816 .bf16) (ix3 (0 : Fin 1) k f) = wt (a4 m c) k f := by
  unfold wt
  rw [← V_w3]
  show V m c main_v7 (((cfg0.win 3).blk t).view.emb (ix3 (0 : Fin 1) k f)) = _
  refine congrArg (V m c main_v7) ?_
  have e0 := idx3_eq t 0
  have e1 := idx3_eq t 1
  have e2 := idx3_eq t 2
  funext a
  apply Fin.ext
  match a with
  | ⟨0, _⟩ => show win0_3.index t 0 * 1 + 1 * 0 = 0; rw [e0]; rfl
  | ⟨1, _⟩ => show win0_3.index t 1 * 1024 + 1 * k.val = k.val; rw [e1]; show 0 * 1024 + 1 * k.val = k.val; omega
  | ⟨2, _⟩ => show win0_3.index t 2 * 2816 + 1 * f.val = f.val; rw [e2]; show 0 * 2816 + 1 * f.val = f.val; omega

theorem blk4_at (c : Dev nD) (t : Fin grid0.N) (k : Fin 1024) (f : Fin 2816) :
    (iblk m c 4 t : Vec Ideal S1x1024x2816 .bf16) (ix3 (0 : Fin 1) k f) = wt (a5 m c) k f := by
  unfold wt
  rw [← V_w4]
  show V m c main_v8 (((cfg0.win 4).blk t).view.emb (ix3 (0 : Fin 1) k f)) = _
  refine congrArg (V m c main_v8) ?_
  have e0 := idx4_eq t 0
  have e1 := idx4_eq t 1
  have e2 := idx4_eq t 2
  funext a
  apply Fin.ext
  match a with
  | ⟨0, _⟩ => show win0_4.index t 0 * 1 + 1 * 0 = 0; rw [e0]; rfl
  | ⟨1, _⟩ => show win0_4.index t 1 * 1024 + 1 * k.val = k.val; rw [e1]; show 0 * 1024 + 1 * k.val = k.val; omega
  | ⟨2, _⟩ => show win0_4.index t 2 * 2816 + 1 * f.val = f.val; rw [e2]; show 0 * 2816 + 1 * f.val = f.val; omega

theorem blk5_at (c : Dev nD) (t : Fin grid0.N) (f : Fin 2816) (n : Fin 1024) :
    (iblk m c 5 t : Vec Ideal S1x2816x1024 .bf16) (ix3 (0 : Fin 1) f n) = wo (a6 m c) f n := by
  unfold wo
  rw [← V_w5]
  show V m c main_v9 (((cfg0.win 5).blk t).view.emb (ix3 (0 : Fin 1) f n)) = _
  refine congrArg (V m c main_v9) ?_
  have e0 := idx5_eq t 0
  have e1 := idx5_eq t 1
  have e2 := idx5_eq t 2
  funext a
  apply Fin.ext
  match a with
  | ⟨0, _⟩ => show win0_5.index t 0 * 1 + 1 * 0 = 0; rw [e0]; rfl
  | ⟨1, _⟩ => show win0_5.index t 1 * 2816 + 1 * f.val = f.val; rw [e1]; show 0 * 2816 + 1 * f.val = f.val; omega
  | ⟨2, _⟩ => show win0_5.index t 2 * 1024 + 1 * n.val = n.val; rw [e2]; show 0 * 1024 + 1 * n.val = n.val; omega

end Cert.Kernel4Ideal.Mid

end
-- ==== Proof.MidEquation.lean ====
module

public import proofs.«01_k».proof.Proof.MidBlocks

@[expose] public section

set_option maxRecDepth 16384

noncomputable section

namespace Cert.Kernel4Ideal.Mid

open Cert.Kernel4Ideal Cert.Kernel4Ideal.Gen Cert.Kernel4Ideal.Value
open Cert.Reference4Ideal.Mid (mod tok gain wt wo hidR)
open Cert.Kernel2Ideal.Ffn (Loads hidS ch inb_w inb_x inb_md high low resK pay9_high pay9_low)
open Idealize.ShloMosaic Idealize.ShloMosaic.TcCoe Idealize.ShloMosaic.Tactic

/-! The block a grid point writes is its block of the reference. -/

variable (m : (ℓ : Loc nD τ sig) → Buf (Elt Ideal) ℓ)

/-- The loads of a grid point. -/
def lds (c : Dev nD) (t : Fin grid0.N) : Loads :=
  loads (iblk m c 0 t) (iblk m c 1 t) (iblk m c 2 t) (iblk m c 3 t) (iblk m c 4 t) (iblk m c 5 t)

theorem x_at (c : Dev nD) (t : Fin grid0.N) (h : Fin 2) (r : Fin 256) (k : Fin 1024) :
    (lds m c t).x h (ix3 0 r k) = tok (a0 m c) (bat t h) (row t r) k := by
  rw [← blk0_at]
  refine View.ld_unit_apply_of (iblk m c 0 t : Vec Ideal S2x256x1024 .f32) _ _ (inb_x h) _ (ix3 h r k) fun a => ?_
  match a with
  | ⟨0, _⟩ => show h.val = h.val + 0; omega
  | ⟨1, _⟩ => show r.val = 0 + r.val; omega
  | ⟨2, _⟩ => show k.val = 0 + k.val; omega

theorem md_at (c : Dev nD) (t : Fin grid0.N) (h : Fin 2) (r : Fin 256) (i : Fin 9) (k : Fin 1024) :
    (lds m c t).md h i (ix3 0 0 k) = mod (a1 m c) (a2 m c) (bat t h) (row t r) i k := by
  rw [← blk1_at]
  refine View.ld_unit_apply_of (iblk m c 1 t : Vec Ideal S2x9x1024 .f32) _ _ (inb_md h i) _ (ix3 h i k) fun a => ?_
  match a with
  | ⟨0, _⟩ => show h.val = h.val + 0; omega
  | ⟨1, _⟩ => show i.val = i.val + 0; omega
  | ⟨2, _⟩ => show k.val = 0 + k.val; omega

theorem g_at (c : Dev nD) (t : Fin grid0.N) (k : Fin 1024) : (lds m c t).g (ix2 0 k) = gain (a3 m c) k := by
  rw [← blk2_at m c t]
  refine View.ld_unit_apply_of (iblk m c 2 t : Vec Ideal S3x1024 .f32) _ _ inb_S3x1024_S1x1024_2_0 _ (ix2 (2 : Fin 3) k) fun a => ?_
  match a with
  | ⟨0, _⟩ => rfl
  | ⟨1, _⟩ => show k.val = 0 + k.val; omega

theorem a_at (c : Dev nD) (t : Fin grid0.N) (k : Fin 1024) (f : Fin 2816) :
    (lds m c t).a (ch (f.val / 256)) (ix3 0 k ⟨f.val % 256, Nat.mod_lt _ (by decide)⟩) = wt (a4 m c) k f := by
  have hf := f.isLt
  rw [← blk3_at m c t]
  refine View.ld_unit_apply_of (iblk m c 3 t : Vec Ideal S1x1024x2816 .bf16) _ _ (inb_w (ch (f.val / 256))) _ (ix3 (0 : Fin 1) k f) fun a => ?_
  match a with
  | ⟨0, _⟩ => rfl
  | ⟨1, _⟩ => show k.val = 0 + k.val; omega
  | ⟨2, _⟩ => show f.val = 256 * (f.val / 256 % 11) + f.val % 256; omega

theorem u_at (c : Dev nD) (t : Fin grid0.N) (k : Fin 1024) (f : Fin 2816) :
    (lds m c t).u (ch (f.val / 256)) (ix3 0 k ⟨f.val % 256, Nat.mod_lt _ (by decide)⟩) = wt (a5 m c) k f := by
  have hf := f.isLt
  rw [← blk4_at m c t]
  refine View.ld_unit_apply_of (iblk m c 4 t : Vec Ideal S1x1024x2816 .bf16) _ _ (inb_w (ch (f.val / 256))) _ (ix3 (0 : Fin 1) k f) fun a => ?_
  match a with
  | ⟨0, _⟩ => rfl
  | ⟨1, _⟩ => show k.val = 0 + k.val; omega
  | ⟨2, _⟩ => show f.val = 256 * (f.val / 256 % 11) + f.val % 256; omega

theorem w_at (c : Dev nD) (t : Fin grid0.N) (f : Fin 2816) (n : Fin 1024) : (lds m c t).w (ix3 0 f n) = wo (a6 m c) f n := by
  rw [← blk5_at m c t]
  refine View.ld_unit_apply_of (iblk m c 5 t : Vec Ideal S1x2816x1024 .bf16) _ _ inb_S1x2816x1024_S1x2816x1024_0_0_0 _ (ix3 (0 : Fin 1) f n) fun a => ?_
  match a with
  | ⟨0, _⟩ => rfl
  | ⟨1, _⟩ => show f.val = 0 + f.val; omega
  | ⟨2, _⟩ => show n.val = 0 + n.val; omega

/-- The modulated row of a token of the arguments. -/
abbrev hidA (c : Dev nD) (b : Fin 8) (s : Fin 4352) : Fin 1024 → EReal := hidR (a0 m c) (a1 m c) (a2 m c) (a3 m c) b s

theorem hid_high (c : Dev nD) (t : Fin grid0.N) (r : Fin 256) (k : Fin 1024) :
    hidS (lds m c t) (ix2 (high r) k) = hidA m c (bat t 0) (row t r) k := by
  unfold hidS hidA hidR
  rw [pay9_high]
  simp only [x_at, md_at m c t _ r, g_at]

theorem hid_low (c : Dev nD) (t : Fin grid0.N) (r : Fin 256) (k : Fin 1024) :
    hidS (lds m c t) (ix2 (low r) k) = hidA m c (bat t 1) (row t r) k := by
  unfold hidS hidA hidR
  rw [pay9_low]
  simp only [x_at, md_at m c t _ r, g_at]

/-- The feed-forward half of a token's row. -/
def ffR (c : Dev nD) (b : Fin 8) (s : Fin 4352) (n : Fin 1024) : EReal :=
  ∑ f : Fin 2816, Cert.Ffn.unit (hidA m c b s) (fun k => wt (a4 m c) k f) (fun k => wt (a5 m c) k f) * wo (a6 m c) f n

theorem prod_high (v : View sig .tc .vmem S512x2816 .bf16) (c : Dev nD) (t : Fin grid0.N) (r : Fin 256) (n : Fin 1024) :
    prod v (lds m c t) (ix2 (high r) n) = ffR m c (bat t 0) (row t r) n := by
  rw [prod_at]
  unfold ffR
  simp only [hid_high, a_at, u_at, w_at]

theorem prod_low (v : View sig .tc .vmem S512x2816 .bf16) (c : Dev nD) (t : Fin grid0.N) (r : Fin 256) (n : Fin 1024) :
    prod v (lds m c t) (ix2 (low r) n) = ffR m c (bat t 1) (row t r) n := by
  rw [prod_at]
  unfold ffR
  simp only [hid_low, a_at, u_at, w_at]

/-- The reference of the arguments. -/
def G (c : Dev nD) : (⟨S8x4352x1024, .f32⟩ : BufTy).Contents (Elt Ideal) :=
  Cert.Reference4Ideal.Read.val_main_v45 (F := Ideal) (a0 m c) (a1 m c) (a2 m c) (a3 m c) (a4 m c) (a5 m c) (a6 m c)

theorem G_at (c : Dev nD) (b : Fin 8) (s : Fin 4352) (n : Fin 1024) :
    G m c (ix3 b s n) = resK (tok (a0 m c) b s) (mod (a1 m c) (a2 m c) b s 8) (ffR m c b s) n :=
  Cert.Reference4Ideal.Mid.v45_at (a0 m c) (a1 m c) (a2 m c) (a3 m c) (a4 m c) (a5 m c) (a6 m c) b s n

/-- What the body leaves at an index of its block. -/
theorem block_at (v : View sig .tc .vmem S512x2816 .bf16) (c : Dev nD) (t : Fin grid0.N) (h : Fin 2) (r : Fin 256) (n : Fin 1024) :
    View.canon (oList v (lds m c t)) (ix3 h r n) = G m c (ix3 (bat t h) (row t r) n) := by
  rw [G_at]
  match h with
  | ⟨0, _⟩ =>
    refine (canon_high v (lds m c t) r n).trans ?_
    rw [pay1_at]
    simp only [x_at, md_at m c t _ r, prod_high]
    rfl
  | ⟨1, _⟩ =>
    refine (canon_low v (lds m c t) r n).trans ?_
    rw [pay2_at]
    simp only [x_at, md_at m c t _ r, prod_low]
    rfl

theorem out_eq (c : Dev nD) (t : Fin cfg0.N) :
    (dats m 0 c).flushed 6 t = (cfg0.win 6).cut (grid0.coords t)
      (View.canon (oList scM0_0.view (lds m c t)) : Vec Ideal S2x256x1024 .f32) := by
  rw [flushed6_A]
  unfold out0_A_6
  rw [View.read_writes_junk_eq_canon, run_pieces]
  rfl

theorem flushed6_eq (c : Dev nD) (t : Fin cfg0.N) :
    (dats m 0 c).flushed 6 t = ((cfg0.win 6).blk t).view.read (Elt Ideal) (G m c) := by
  rw [out_eq]
  funext i
  have h0 : (i 0).val < 2 := (i 0).isLt
  have h1 : (i 1).val < 256 := (i 1).isLt
  have h2 : (i 2).val < 1024 := (i 2).isLt
  show View.canon (oList scM0_0.view (lds m c t)) i = G m c (((cfg0.win 6).blk t).view.emb i)
  have hn := block_at m scM0_0.view c t ⟨(i 0).val, h0⟩ ⟨(i 1).val, h1⟩ ⟨(i 2).val, h2⟩
  refine Eq.trans (congrArg _ ?_) (hn.trans ?_)
  · funext a
    apply Fin.ext
    match a with
    | ⟨0, _⟩ => rfl
    | ⟨1, _⟩ => rfl
    | ⟨2, _⟩ => rfl
  · refine congrArg (G m c) ?_
    have w0 := idx6_eq t 0
    have w1 := idx6_eq t 1
    have w2 := idx6_eq t 2
    funext a
    apply Fin.ext
    match a with
    | ⟨0, _⟩ =>
      show 2 * (grid0.coords t 1).val + (i 0).val = win0_6.index t 0 * 2 + 1 * (i 0).val
      rw [w0]; show _ = (grid0.coords t 1).val * 2 + 1 * (i 0).val; omega
    | ⟨1, _⟩ =>
      show 256 * (grid0.coords t 0).val + (i 1).val = win0_6.index t 1 * 256 + 1 * (i 1).val
      rw [w1]; show _ = (grid0.coords t 0).val * 256 + 1 * (i 1).val; omega
    | ⟨2, _⟩ =>
      show (i 2).val = win0_6.index t 2 * 1024 + 1 * (i 2).val
      rw [w2]; show _ = 0 * 1024 + 1 * (i 2).val; omega

theorem covered6 (i : S8x4352x1024.Idx) :
    ∃ t : Fin cfg0.N, (cfg0.win 6).flush t = true ∧ i ∈ ((cfg0.win 6).blk t).view.set := by
  have h0 : (i 0).val < 8 := (i 0).isLt
  have h1 : (i 1).val < 4352 := (i 1).isLt
  have h2 : (i 2).val < 1024 := (i 2).isLt
  obtain ⟨t, hg, hb⟩ := point ⟨(i 1).val / 256, by omega⟩ ⟨(i 0).val / 2, by omega⟩
  refine ⟨t, flush0_6 t, ?_⟩
  have h := ((cfg0.win 6).blk t).view.emb_mem_set (ix3 (⟨(i 0).val % 2, Nat.mod_lt _ (by decide)⟩ : Fin 2) (⟨(i 1).val % 256, Nat.mod_lt _ (by decide)⟩ : Fin 256) (⟨(i 2).val, h2⟩ : Fin 1024))
  have e : ((cfg0.win 6).blk t).view.emb (ix3 (⟨(i 0).val % 2, Nat.mod_lt _ (by decide)⟩ : Fin 2) (⟨(i 1).val % 256, Nat.mod_lt _ (by decide)⟩ : Fin 256) (⟨(i 2).val, h2⟩ : Fin 1024)) = i := by
    have w0 := idx6_eq t 0
    have w1 := idx6_eq t 1
    have w2 := idx6_eq t 2
    have hg' : (grid0.coords t 0).val = (i 1).val / 256 := hg
    have hb' : (grid0.coords t 1).val = (i 0).val / 2 := hb
    funext a
    apply Fin.ext
    match a with
    | ⟨0, _⟩ =>
      show win0_6.index t 0 * 2 + 1 * ((i 0).val % 2) = (i 0).val
      rw [w0]; show (grid0.coords t 1).val * 2 + 1 * ((i 0).val % 2) = (i 0).val; omega
    | ⟨1, _⟩ =>
      show win0_6.index t 1 * 256 + 1 * ((i 1).val % 256) = (i 1).val
      rw [w1]; show (grid0.coords t 0).val * 256 + 1 * ((i 1).val % 256) = (i 1).val; omega
    | ⟨2, _⟩ =>
      show win0_6.index t 2 * 1024 + 1 * (i 2).val = (i 2).val
      rw [w2]; show 0 * 1024 + 1 * (i 2).val = (i 2).val; omega
  rwa [e] at h

/-- The array the kernel leaves is the reference of the arguments. -/
theorem final6 (c : Dev nD) : (dats m 0 c).arrAt 6 cfg0.N = G m c :=
  (dats m 0 c).arrAt_eq_of_cover 6 (G m c) (fun t _ => flushed6_eq m c t) covered6

end Cert.Kernel4Ideal.Mid

end
-- ==== Proof.FirstPieces.lean ====
module

public import proofs.«01_k».proof.Proof.FfnPieces
public import proofs.«01_k».proof.Proof.Gen.Kernel5Ideal.Frame
public import Idealize.ShloMosaic.Lib.Pipeline.ValueKit

@[expose] public section

set_option maxRecDepth 16384

noncomputable section

namespace Cert.Kernel5Ideal.First

open Cert.Kernel5Ideal Cert.Kernel5Ideal.Gen
open Cert.Kernel2Ideal.Ffn (Loads hidS tList tPiece ch inb_w inb_t inb_x inb_md canon_tList pay14_at pay25_at high low resK)
open Idealize.ShloMosaic Idealize.ShloMosaic.TcCoe Idealize.ShloMosaic.Tactic

/-! The body whose stream stands in two windows: it takes its rows from the latent window in the latent tiles and from the
context window in the context tiles, and from there on it is the half without the final norm, with other vectors. -/

/-- The window's rows by the tile: the latent window's, or the context window's. -/
def pick (i : grid0.Coords) (v0 v5 : Vec Ideal S1x256x1024 .f32) : Vec Ideal S1x256x1024 .f32 :=
  Scalar.select (Scalar.cmpi .sge (BitVec.ofNat 32 (i 0).val) 16#32) v5 v0

/-- A block's rows. -/
def rows (v : Vec Ideal S1x256x1024 .f32) : FVec Ideal S256x1024 .f32 := shapeCast S256x1024 v shapeCasts_S1x256x1024_S256x1024

theorem pay4_pick (i : grid0.Coords) (v0 v5 : Vec Ideal S1x256x1024 .f32) : k0_pay4 i v0 v5 = rows (pick i v0 v5) := by
  unfold k0_pay4 rows pick
  dsimp only
  generalize Scalar.cmpi .sge (BitVec.ofNat 32 (i 0).val) 16#32 = t
  unfold Scalar.select
  split <;> rfl

theorem pay5_pick (i : grid0.Coords) (v0 v5 : Vec Ideal S1x256x1024 .f32) : k0_pay5 i v0 v5 = rows (pick i v0 v5) := pay4_pick i v0 v5

/-- The chunk of number `n` stored for the hidden units of `H`. -/
def piece (H : FVec Ideal S512x1024 .bf16) (A : Loads) (n : Fin 11) : View.Piece (Elt Ideal) S512x2816 .bf16 :=
  ⟨Rect.unit (s := S512x2816) ![0, 256 * n.val] S512x256.size (inb_t n), Cert.Kernel2Ideal.Gen.k0_pay14 H (A.a n) (A.u n)⟩

/-- The chunks stored after chunk `n`, the last first. -/
def pList (H : FVec Ideal S512x1024 .bf16) (A : Loads) : Nat → List (View.Piece (Elt Ideal) S512x2816 .bf16)
  | 0 => [piece H A (ch 0)]
  | n + 1 => piece H A (ch (n + 1)) :: pList H A n

theorem pList_eq (A : Loads) (n : Nat) : pList (hidS A) A n = tList A n := by
  induction n with
  | zero => rfl
  | succ n ih => exact congrArg (List.cons _) ih

/-- The hidden units read back. -/
def tRead (v : View sig .tc .vmem S512x2816 .bf16) (A : Loads) : Vec Ideal S512x2816 .bf16 :=
  v.readCov (tList A 10) (Rect.unit (s := S512x2816) ![0, 0] S512x2816.size inb_S512x2816_S512x2816_0_0).toLoadRect

/-- The output's stores, the last first. -/
def oList (v : View sig .tc .vmem S512x2816 .bf16) (A : Loads) : List (View.Piece (Elt Ideal) S2x256x1024 .f32) :=
  [⟨Rect.unit (s := S2x256x1024) ![1, 0, 0] S1x256x1024.size inb_S2x256x1024_S1x256x1024_1_0_0,
      k0_pay3 (rows (A.x 1)) (tRead v A) A.w (A.md 1 8)⟩,
    ⟨Rect.unit (s := S2x256x1024) ![0, 0, 0] S1x256x1024.size inb_S2x256x1024_S1x256x1024_0_0_0,
      k0_pay2 (rows (A.x 0)) (tRead v A) A.w (A.md 0 8)⟩]

/-- The row that the half with the norm reads at `j`: its three vectors stand three rows before its own, at the table's start. -/
def at3 (j : Fin 9) : Fin 9 := ⟨(j.val + 3) % 9, Nat.mod_lt _ (by decide)⟩

/-- The loads from the windows' contents. There is no final gain: the norm's gain stands in its place. -/
def loads (i : grid0.Coords) (x0 x1 : Vec Ideal S2x256x1024 .f32) (x2 : Vec Ideal S2x9x1024 .f32) (x3 : Vec Ideal S3x1024 .f32)
    (x4 x5 : Vec Ideal S1x1024x2816 .bf16) (x6 : Vec Ideal S1x2816x1024 .bf16) : Loads where
  x b := pick i (View.ld x0 (Rect.unit ![b.val, 0, 0] S1x256x1024.size (inb_x b))) (View.ld x1 (Rect.unit ![b.val, 0, 0] S1x256x1024.size (inb_x b)))
  md b j := View.ld x2 (Rect.unit ![b.val, (at3 j).val, 0] S1x1x1024.size (inb_md b (at3 j)))
  g := View.ld x3 (Rect.unit ![0, 0] S1x1024.size inb_S3x1024_S1x1024_0_0)
  a n := View.ld x4 (Rect.unit ![0, 0, 256 * n.val] S1x1024x256.size (inb_w n))
  u n := View.ld x5 (Rect.unit ![0, 0, 256 * n.val] S1x1024x256.size (inb_w n))
  w := View.ld x6 (Rect.unit ![0, 0, 0] S1x2816x1024.size inb_S1x2816x1024_S1x2816x1024_0_0_0)
  fg := View.ld x3 (Rect.unit ![0, 0] S1x1024.size inb_S3x1024_S1x1024_0_0)

/-- The hidden units of the rows picked are those of the half with the norm, with the vectors in the place of its own. -/
theorem hid5_eq (i : grid0.Coords) (A : Loads) (v0 v5 v2 v8 : Vec Ideal S1x256x1024 .f32) (h0 : A.x 0 = pick i v0 v5) (h1 : A.x 1 = pick i v2 v8) :
    k0_pay9 (k0_pay5 i v2 v8) (k0_pay6 A.g) (k0_pay7 (A.md 0 6)) (k0_pay8 i v0 v5 A.g (A.md 0 7)) (A.md 1 6) (A.md 1 7) = hidS A := by
  unfold k0_pay8
  rw [pay5_pick, pay4_pick, ← h0, ← h1]
  rfl

section Words

variable (c : Dev nD) (i : grid0.Coords) (arg2 : Memref sig .tc .vmem S2x256x1024 .f32) (harg2 : arg2.IsWhole) (arg3 : Memref sig .tc .vmem S2x256x1024 .f32) (harg3 : arg3.IsWhole) (arg4 : Memref sig .tc .vmem S2x9x1024 .f32) (harg4 : arg4.IsWhole) (arg5 : Memref sig .tc .vmem S3x1024 .f32) (harg5 : arg5.IsWhole) (arg6 : Memref sig .tc .vmem S1x1024x2816 .bf16) (harg6 : arg6.IsWhole) (arg7 : Memref sig .tc .vmem S1x1024x2816 .bf16) (harg7 : arg7.IsWhole) (arg8 : Memref sig .tc .vmem S1x2816x1024 .bf16) (harg8 : arg8.IsWhole) (arg9 : Memref sig .tc .vmem S2x256x1024 .f32) (harg9 : arg9.IsWhole) (arg10 : Memref sig .tc .vmem S512x2816 .bf16) (harg10 : arg10.IsWhole)
    (x0 : Vec Ideal S2x256x1024 .f32) (x1 : Vec Ideal S2x256x1024 .f32) (x2 : Vec Ideal S2x9x1024 .f32) (x3 : Vec Ideal S3x1024 .f32) (x4 : Vec Ideal S1x1024x2816 .bf16) (x5 : Vec Ideal S1x1024x2816 .bf16) (x6 : Vec Ideal S1x2816x1024 .bf16)

/-- The same loads through the windows' memory references. -/
def loadsM : Loads where
  x b := pick i (View.readAt (Elt Ideal) arg2.view (Rect.unit (s := S2x256x1024) ![b.val, 0, 0] S1x256x1024.size (inb_x b)).toLoadRect (harg2.unread x0))
    (View.readAt (Elt Ideal) arg3.view (Rect.unit (s := S2x256x1024) ![b.val, 0, 0] S1x256x1024.size (inb_x b)).toLoadRect (harg3.unread x1))
  md b j := View.readAt (Elt Ideal) arg4.view (Rect.unit (s := S2x9x1024) ![b.val, (at3 j).val, 0] S1x1x1024.size (inb_md b (at3 j))).toLoadRect (harg4.unread x2)
  g := View.readAt (Elt Ideal) arg5.view (Rect.unit (s := S3x1024) ![0, 0] S1x1024.size inb_S3x1024_S1x1024_0_0).toLoadRect (harg5.unread x3)
  a n := View.readAt (Elt Ideal) arg6.view (Rect.unit (s := S1x1024x2816) ![0, 0, 256 * n.val] S1x1024x256.size (inb_w n)).toLoadRect (harg6.unread x4)
  u n := View.readAt (Elt Ideal) arg7.view (Rect.unit (s := S1x1024x2816) ![0, 0, 256 * n.val] S1x1024x256.size (inb_w n)).toLoadRect (harg7.unread x5)
  w := View.readAt (Elt Ideal) arg8.view (Rect.unit (s := S1x2816x1024) ![0, 0, 0] S1x2816x1024.size inb_S1x2816x1024_S1x2816x1024_0_0_0).toLoadRect (harg8.unread x6)
  fg := View.readAt (Elt Ideal) arg5.view (Rect.unit (s := S3x1024) ![0, 0] S1x1024.size inb_S3x1024_S1x1024_0_0).toLoadRect (harg5.unread x3)

/-- They are the loads of the windows' contents. -/
theorem loadsM_eq : loadsM i arg2 harg2 arg3 harg3 arg4 harg4 arg5 harg5 arg6 harg6 arg7 harg7 arg8 harg8 x0 x1 x2 x3 x4 x5 x6 = loads i x0 x1 x2 x3 x4 x5 x6 := by
  unfold loadsM loads
  simp only [View.readAt_eq_ld, harg2.read_unread, harg3.read_unread, harg4.read_unread, harg5.read_unread, harg6.read_unread, harg7.read_unread,
    harg8.read_unread]

theorem hid_eq : kernelRun0_A.sl.r_5 (F := Ideal) c i arg2 harg2 arg3 harg3 arg4 harg4 arg5 harg5 x0 x1 x2 x3
    = hidS (loadsM i arg2 harg2 arg3 harg3 arg4 harg4 arg5 harg5 arg6 harg6 arg7 harg7 arg8 harg8 x0 x1 x2 x3 x4 x5 x6) :=
  hid5_eq i (loadsM i arg2 harg2 arg3 harg3 arg4 harg4 arg5 harg5 arg6 harg6 arg7 harg7 arg8 harg8 x0 x1 x2 x3 x4 x5 x6)
    (View.readAt (Elt Ideal) arg2.view (Rect.unit (s := S2x256x1024) ![0, 0, 0] S1x256x1024.size inb_S2x256x1024_S1x256x1024_0_0_0).toLoadRect (harg2.unread x0))
    (View.readAt (Elt Ideal) arg3.view (Rect.unit (s := S2x256x1024) ![0, 0, 0] S1x256x1024.size inb_S2x256x1024_S1x256x1024_0_0_0).toLoadRect (harg3.unread x1))
    (View.readAt (Elt Ideal) arg2.view (Rect.unit (s := S2x256x1024) ![1, 0, 0] S1x256x1024.size inb_S2x256x1024_S1x256x1024_1_0_0).toLoadRect (harg2.unread x0))
    (View.readAt (Elt Ideal) arg3.view (Rect.unit (s := S2x256x1024) ![1, 0, 0] S1x256x1024.size inb_S2x256x1024_S1x256x1024_1_0_0).toLoadRect (harg3.unread x1))
    rfl rfl

set_option maxHeartbeats 4000000 in
/-- The stored chunks are those of the run's hidden units. -/
theorem pList_run : kernelRun0_A.sl.HS0_11 (F := Ideal) c i arg2 harg2 arg3 harg3 arg4 harg4 arg5 harg5 arg6 harg6 arg7 harg7 x0 x1 x2 x3 x4 x5
    = pList (kernelRun0_A.sl.r_5 (F := Ideal) c i arg2 harg2 arg3 harg3 arg4 harg4 arg5 harg5 x0 x1 x2 x3) (loadsM i arg2 harg2 arg3 harg3 arg4 harg4 arg5 harg5 arg6 harg6 arg7 harg7 arg8 harg8 x0 x1 x2 x3 x4 x5 x6) 10 := rfl

theorem tList_eq : kernelRun0_A.sl.HS0_11 (F := Ideal) c i arg2 harg2 arg3 harg3 arg4 harg4 arg5 harg5 arg6 harg6 arg7 harg7 x0 x1 x2 x3 x4 x5
    = tList (loadsM i arg2 harg2 arg3 harg3 arg4 harg4 arg5 harg5 arg6 harg6 arg7 harg7 arg8 harg8 x0 x1 x2 x3 x4 x5 x6) 10 := by
  rw [pList_run c i arg2 harg2 arg3 harg3 arg4 harg4 arg5 harg5 arg6 harg6 arg7 harg7 arg8 harg8 x0 x1 x2 x3 x4 x5 x6, hid_eq c i arg2 harg2 arg3 harg3 arg4 harg4 arg5 harg5 arg6 harg6 arg7 harg7 arg8 harg8 x0 x1 x2 x3 x4 x5 x6, pList_eq]

theorem read_eq : kernelRun0_A.sl.v202 (F := Ideal) c i arg2 harg2 arg3 harg3 arg4 harg4 arg5 harg5 arg6 harg6 arg7 harg7 arg10 x0 x1 x2 x3 x4 x5
    = tRead arg10.view (loadsM i arg2 harg2 arg3 harg3 arg4 harg4 arg5 harg5 arg6 harg6 arg7 harg7 arg8 harg8 x0 x1 x2 x3 x4 x5 x6) := by
  unfold tRead
  rw [← tList_eq c i arg2 harg2 arg3 harg3 arg4 harg4 arg5 harg5 arg6 harg6 arg7 harg7 arg8 harg8 x0 x1 x2 x3 x4 x5 x6]
  rfl

/-- The stores the body's run leaves in the output. -/
theorem run_pieces :
    (kernelRun0_A (F := Ideal) c i arg2 harg2 arg3 harg3 arg4 harg4 arg5 harg5 arg6 harg6 arg7 harg7 arg8 harg8 arg9 harg9 arg10 harg10 x0 x1 x2 x3 x4 x5 x6).1
      = oList arg10.view (loads i x0 x1 x2 x3 x4 x5 x6) := by
  rw [← loadsM_eq i arg2 harg2 arg3 harg3 arg4 harg4 arg5 harg5 arg6 harg6 arg7 harg7 arg8 harg8 x0 x1 x2 x3 x4 x5 x6]
  unfold oList kernelRun0_A
  dsimp only
  unfold kernelRun0_A.sl.r kernelRun0_A.sl.r_1
  rw [read_eq c i arg2 harg2 arg3 harg3 arg4 harg4 arg5 harg5 arg6 harg6 arg7 harg7 arg8 harg8 arg10 x0 x1 x2 x3 x4 x5 x6, pay4_pick, pay5_pick]
  rfl

end Words

/-- The product with the output weights, at an index. -/
theorem prod_at (v : View sig .tc .vmem S512x2816 .bf16) (A : Loads) (p : Fin 512) (n : Fin 1024) :
    k0_pay1 (tRead v A) A.w (ix2 p n) = ∑ f : Fin 2816, Cert.Ffn.unit (fun k => hidS A (ix2 p k))
      (fun k => A.a (ch (f.val / 256)) (ix3 0 k ⟨f.val % 256, Nat.mod_lt _ (by decide)⟩))
      (fun k => A.u (ch (f.val / 256)) (ix3 0 k ⟨f.val % 256, Nat.mod_lt _ (by decide)⟩)) * A.w (ix3 0 f n) := by
  refine (pay25_at (tRead v A) A.w p n).trans (Finset.sum_congr rfl fun f _ => ?_)
  have hf := f.isLt
  refine congrArg (· * _) ?_
  unfold tRead
  rw [View.readCov_eq_canon', ← pay14_at, ← canon_tList A (f.val / 256) p ⟨f.val % 256, Nat.mod_lt _ (by decide)⟩ 10 (by omega) (by omega)]
  refine congrArg (View.canon (tList A 10)) ?_
  funext a
  apply Fin.ext
  match a with
  | ⟨0, _⟩ => show 0 + 1 * p.val = p.val; omega
  | ⟨1, _⟩ => show 0 + 1 * f.val = 256 * (f.val / 256 % 11) + f.val % 256; omega

theorem pay2_at (v0 : Vec Ideal S1x256x1024 .f32) (y : Vec Ideal S512x2816 .bf16) (w : Vec Ideal S1x2816x1024 .bf16) (v206 : Vec Ideal S1x1x1024 .f32) (r : Fin 256) (n : Fin 1024) :
    k0_pay2 (rows v0) y w v206 (ix3 0 r n)
      = resK (fun k => v0 (ix3 0 r k)) (fun k => v206 (ix3 0 0 k)) (fun k => k0_pay1 y w (ix2 (high r) k)) n := by
  unfold k0_pay2
  generalize k0_pay1 y w = z
  pointwise [rows]
  unfold resK
  rfl

theorem pay3_at (v2 : Vec Ideal S1x256x1024 .f32) (y : Vec Ideal S512x2816 .bf16) (w : Vec Ideal S1x2816x1024 .bf16) (v217 : Vec Ideal S1x1x1024 .f32) (r : Fin 256) (n : Fin 1024) :
    k0_pay3 (rows v2) y w v217 (ix3 0 r n)
      = resK (fun k => v2 (ix3 0 r k)) (fun k => v217 (ix3 0 0 k)) (fun k => k0_pay1 y w (ix2 (low r) k)) n := by
  unfold k0_pay3
  generalize k0_pay1 y w = z
  pointwise [rows]
  unfold resK
  rfl

theorem canon_high (v : View sig .tc .vmem S512x2816 .bf16) (A : Loads) (r : Fin 256) (n : Fin 1024) :
    View.canon (oList v A) (ix3 (0 : Fin 2) r n) = k0_pay2 (rows (A.x 0)) (tRead v A) A.w (A.md 0 8) (ix3 0 r n) := by
  unfold oList
  refine (View.canon_cons_of_not_mem _ _ ?_).trans ?_
  · intro hm
    have h : 1 ≤ 0 ∧ 0 < 1 + 1 := (Rect.mem_set_unit (inb := inb_S2x256x1024_S1x256x1024_1_0_0)).1 hm 0
    omega
  · have e : (Rect.unit (s := S2x256x1024) ![0, 0, 0] S1x256x1024.size inb_S2x256x1024_S1x256x1024_0_0_0).emb (ix3 (0 : Fin 1) r n) = ix3 (0 : Fin 2) r n := by
      funext a
      apply Fin.ext
      match a with
      | ⟨0, _⟩ => rfl
      | ⟨1, _⟩ => show 0 + 1 * r.val = r.val; omega
      | ⟨2, _⟩ => show 0 + 1 * n.val = n.val; omega
    rw [← e]
    exact View.canon_cons_emb (Val := Elt Ideal) _ _ _ _

theorem canon_low (v : View sig .tc .vmem S512x2816 .bf16) (A : Loads) (r : Fin 256) (n : Fin 1024) :
    View.canon (oList v A) (ix3 (1 : Fin 2) r n) = k0_pay3 (rows (A.x 1)) (tRead v A) A.w (A.md 1 8) (ix3 0 r n) := by
  unfold oList
  have e : (Rect.unit (s := S2x256x1024) ![1, 0, 0] S1x256x1024.size inb_S2x256x1024_S1x256x1024_1_0_0).emb (ix3 (0 : Fin 1) r n) = ix3 (1 : Fin 2) r n := by
    funext a
    apply Fin.ext
    match a with
    | ⟨0, _⟩ => rfl
    | ⟨1, _⟩ => show 0 + 1 * r.val = r.val; omega
    | ⟨2, _⟩ => show 0 + 1 * n.val = n.val; omega
  rw [← e]
  exact View.canon_cons_emb (Val := Elt Ideal) _ _ _ _

end Cert.Kernel5Ideal.First

end
-- ==== Proof.FirstRef.lean ====
module

public import proofs.«01_k».proof.Proof.Gen.Reference5Ideal.Read
public import proofs.«01_k».proof.Proof.MidRef

@[expose] public section

set_option maxRecDepth 16384

noncomputable section

open Idealize.ShloMosaic

namespace Cert.Reference5Ideal.First

open Cert.Reference5Ideal Cert.Reference5Ideal.Gen Cert.Reference5Ideal.Read
open Cert.Reference4Ideal.Mid (mod wt wo)
open Idealize.ShloMosaic.TcCoe Idealize.ShloMosaic.Tactic

/-! The reference of the first layer's first half at an index is the feed-forward half of the row of a latent token or of a
context token, by the first three modulation vectors of its batch or of the context. -/

variable (x0 : (⟨S8x4096x1024, .f32⟩ : BufTy).Contents (Elt Ideal)) (x1 : (⟨S8x256x1024, .f32⟩ : BufTy).Contents (Elt Ideal))
  (x2 : (⟨S8x9216, .f32⟩ : BufTy).Contents (Elt Ideal))
  (x3 : (⟨S9216, .f32⟩ : BufTy).Contents (Elt Ideal)) (x4 : (⟨S2x3x1024, .f32⟩ : BufTy).Contents (Elt Ideal))
  (x5 x6 : (⟨S2x1024x2816, .f32⟩ : BufTy).Contents (Elt Ideal)) (x7 : (⟨S2x2816x1024, .f32⟩ : BufTy).Contents (Elt Ideal))

/-- A token's row: the latent tokens, then the context. -/
def tok (b : Fin 8) (s : Fin 4352) (k : Fin 1024) : EReal :=
  if h : s.val < 4096 then x0 (ix3 b (⟨s.val, h⟩ : Fin 4096) k)
  else x1 (ix3 b (⟨s.val - 4096, by have := s.isLt; omega⟩ : Fin 256) k)

/-- The norm's gains. -/
def gain (k : Fin 1024) : EReal := x4 (ix3 (0 : Fin 2) (0 : Fin 3) k)

theorem v0_at (b : Fin 8) (s : Fin 4352) (k : Fin 1024) : val_main_v0 (F := Ideal) x0 x1 (ix3 b s k) = tok x0 x1 b s k := by
  have := s.isLt
  unfold val_main_v0 tok
  pointwise

theorem v3_at (b : Fin 8) (s : Fin 4096) (j : Fin 3072) :
    val_main_v3 (F := Ideal) x2 (ix3 b s j) = x2 (ix2 b (⟨0 + j.val, by have := j.isLt; omega⟩ : Fin 9216)) := by
  have := j.isLt; have := b.isLt
  rw [val_main_v3_apply, val_main_v2_apply, val_main_v1_apply]
  refine congrArg x2 ?_
  idx_ext

theorem v6_at (b : Fin 8) (s : Fin 256) (j : Fin 3072) :
    val_main_v6 (F := Ideal) x3 (ix3 b s j) = x3 (ix1 (⟨0 + j.val, by have := j.isLt; omega⟩ : Fin 9216)) := by
  have := j.isLt
  rw [val_main_v6_apply, val_main_v5_apply, val_main_v4_apply]
  refine congrArg x3 ?_
  idx_ext

/-- The modulation vectors of the latent tokens, then those of the context. -/
theorem v7_at (b : Fin 8) (s : Fin 4352) (j : Fin 3072) (i : Fin 9) (k : Fin 1024) (h : 0 + j.val = 1024 * i.val + k.val) :
    val_main_v7 (F := Ideal) x2 x3 (ix3 b s j) = mod x2 x3 b s i k := by
  have := s.isLt
  have hl := v3_at x2 b
  have hc := v6_at x3 b
  have ej : (⟨0 + j.val, by have := j.isLt; omega⟩ : Fin 9216) = ⟨1024 * i.val + k.val, by have := i.isLt; have := k.isLt; omega⟩ := Fin.ext h
  unfold val_main_v7 mod
  revert hl hc
  generalize val_main_v3 (F := Ideal) x2 = y
  generalize val_main_v6 (F := Ideal) x3 = z
  intro hl hc
  pointwise
  by_cases hs : s.val < 4096
  · rw [dif_pos hs, if_pos hs, ← ej]
    exact hl ⟨s.val, hs⟩ j
  · rw [dif_neg hs, if_neg hs, ← ej]
    exact hc ⟨s.val - 4096, by omega⟩ j

theorem v8_at (b : Fin 8) (s : Fin 4352) (k : Fin 1024) : val_main_v8 (F := Ideal) x2 x3 (ix3 b s k) = mod x2 x3 b s 0 k := by
  have := k.isLt
  have e : idx_main_v8 (ix3 b s k) = ix3 b s (⟨k.val, by omega⟩ : Fin 3072) := by idx_ext
  rw [val_main_v8_apply, e]
  exact v7_at x2 x3 b s _ 0 k (by show 0 + k.val = 1024 * 0 + k.val; omega)

theorem v9_at (b : Fin 8) (s : Fin 4352) (k : Fin 1024) : val_main_v9 (F := Ideal) x2 x3 (ix3 b s k) = mod x2 x3 b s 1 k := by
  have := k.isLt
  have e : idx_main_v9 (ix3 b s k) = ix3 b s (⟨1024 + k.val, by omega⟩ : Fin 3072) := by idx_ext
  rw [val_main_v9_apply, e]
  exact v7_at x2 x3 b s _ 1 k (by show 0 + (1024 + k.val) = 1024 * 1 + k.val; omega)

theorem v10_at (b : Fin 8) (s : Fin 4352) (k : Fin 1024) : val_main_v10 (F := Ideal) x2 x3 (ix3 b s k) = mod x2 x3 b s 2 k := by
  have := k.isLt
  have e : idx_main_v10 (ix3 b s k) = ix3 b s (⟨2048 + k.val, by omega⟩ : Fin 3072) := by idx_ext
  rw [val_main_v10_apply, e]
  exact v7_at x2 x3 b s _ 2 k (by show 0 + (2048 + k.val) = 1024 * 2 + k.val; omega)

theorem v24_at (k : Fin 1024) : val_main_v24 (F := Ideal) x4 (ix1 k) = gain x4 k := by
  have := k.isLt
  rw [val_main_v24_apply, val_main_v23_apply, val_main_v22_apply, val_main_v21_apply]
  refine congrArg x4 ?_
  idx_ext

theorem v20_at (b : Fin 8) (s : Fin 4352) (k : Fin 1024) :
    val_main_v20 (F := Ideal) x0 x1 (ix3 b s k) = Cert.Ffn.rms (tok x0 x1 b s) k := by
  have e : idx_main_v19 (ix3 b s k) = ix3 b s (0 : Fin 1) := by idx_ext
  have e1 : idx_main_v13 (ix3 b s (0 : Fin 1)) = ix2 b s := by idx_ext
  have e2 : ∀ k : Fin 1024, idx_main_v12 (ix2 b s) k = ix3 b s k := fun k => by idx_ext
  rw [val_main_v20_apply, v0_at, val_main_v19_apply, e, val_main_v18_apply, val_main_v17_apply, val_main_v15_apply, val_main_v13_apply, e1,
    val_main_v12_apply, val_main_v14_apply, val_main_cst_0_apply, val_main_v16_apply, val_main_cst_1_apply, val_main_cst_apply]
  simp only [e2, val_main_v11_apply, v0_at]
  have z : (FloatOps.ofBits (F := Ideal) .f32 0x00000000#32 : EReal) = 0 := Ideal.ofBits_zero_f32
  have h := fun s : EReal => (congrArg (· + s) z).trans (zero_add s)
  exact congrArg (fun r : EReal => tok x0 x1 b s k * Ideal.rsqrt (Ideal.div r _ + _)) (h _)

/-- The modulated row of a token. -/
def hidR (b : Fin 8) (s : Fin 4352) : Fin 1024 → EReal :=
  Cert.Ffn.hid (tok x0 x1 b s) (gain x4) (mod x2 x3 b s 0) (mod x2 x3 b s 1)

theorem v31_at (b : Fin 8) (s : Fin 4352) (k : Fin 1024) :
    val_main_v31 (F := Ideal) x0 x1 x2 x3 x4 (ix3 b s k) = hidR x0 x1 x2 x3 x4 b s k := by
  have e2 : idx_main_v25 (idx_main_v26 (ix3 b s k)) = ix1 k := by idx_ext
  rw [val_main_v31_apply, val_main_v30_apply, val_main_v27_apply, v20_at, val_main_v26_apply, val_main_v25_apply, e2, v24_at,
    val_main_v29_apply, val_main_v28_apply, val_main_cst_2_apply, v9_at, v8_at]
  rfl

theorem v33_at (k : Fin 1024) (f : Fin 2816) : val_main_v33 (F := Ideal) x5 (ix2 k f) = wt x5 k f := by
  have := k.isLt; have := f.isLt
  rw [val_main_v33_apply, val_main_v32_apply]
  refine congrArg x5 ?_
  idx_ext

theorem v37_at (k : Fin 1024) (f : Fin 2816) : val_main_v37 (F := Ideal) x6 (ix2 k f) = wt x6 k f := by
  have := k.isLt; have := f.isLt
  rw [val_main_v37_apply, val_main_v36_apply]
  refine congrArg x6 ?_
  idx_ext

theorem v41_at (f : Fin 2816) (n : Fin 1024) : val_main_v41 (F := Ideal) x7 (ix2 f n) = wo x7 f n := by
  have := n.isLt; have := f.isLt
  rw [val_main_v41_apply, val_main_v40_apply]
  refine congrArg x7 ?_
  idx_ext

theorem v34_at (b : Fin 8) (s : Fin 4352) (f : Fin 2816) :
    val_main_v34 (F := Ideal) x0 x1 x2 x3 x4 x5 (ix3 b s f) = ∑ k : Fin 1024, hidR x0 x1 x2 x3 x4 b s k * wt x5 k f := by
  have e : ∀ k : Fin 1024, lidx_main_v34 (ix3 b s f) k = ix3 b s k := fun k => by idx_ext
  have e1 : ∀ k : Fin 1024, ridx_main_v34 (ix3 b s f) k = ix2 k f := fun k => by idx_ext
  rw [val_main_v34_apply]
  simp only [e, e1, v31_at, v33_at]

theorem v38_at (b : Fin 8) (s : Fin 4352) (f : Fin 2816) :
    val_main_v38 (F := Ideal) x0 x1 x2 x3 x4 x6 (ix3 b s f) = ∑ k : Fin 1024, hidR x0 x1 x2 x3 x4 b s k * wt x6 k f := by
  have e : ∀ k : Fin 1024, lidx_main_v38 (ix3 b s f) k = ix3 b s k := fun k => by idx_ext
  have e1 : ∀ k : Fin 1024, ridx_main_v38 (ix3 b s f) k = ix2 k f := fun k => by idx_ext
  rw [val_main_v38_apply]
  simp only [e, e1, v31_at, v37_at]

theorem v39_at (b : Fin 8) (s : Fin 4352) (f : Fin 2816) :
    val_main_v39 (F := Ideal) x0 x1 x2 x3 x4 x5 x6 (ix3 b s f)
      = Cert.Ffn.unit (hidR x0 x1 x2 x3 x4 b s) (fun k => wt x5 k f) (fun k => wt x6 k f) := by
  rw [val_main_v39_apply, val_main_v35_apply, v38_at, val_main_call0_v5_apply, val_main_call0_v4_apply, val_main_call0_cst_0_apply,
    val_main_call0_v3_apply, val_main_call0_v2_apply, val_main_call0_cst_apply, val_main_call0_v1_apply, val_main_call0_v0_apply, v34_at]
  unfold Cert.Ffn.unit Ideal.logistic
  rw [← Cert.Ffn.one_f32]
  rfl

/-- The reference at an index. -/
theorem v46_at (b : Fin 8) (s : Fin 4352) (n : Fin 1024) :
    val_main_v46 (F := Ideal) x0 x1 x2 x3 x4 x5 x6 x7 (ix3 b s n)
      = Cert.Ffn.res (tok x0 x1 b s) (gain x4) (mod x2 x3 b s 0) (mod x2 x3 b s 1) (mod x2 x3 b s 2) (wt x5) (wt x6) (wo x7) n := by
  have e1 : ∀ k : Fin 2816, lidx_main_v42 (ix3 b s n) k = ix3 b s k := fun k => by idx_ext
  have e2 : ∀ k : Fin 2816, ridx_main_v42 (ix3 b s n) k = ix2 k n := fun k => by idx_ext
  rw [val_main_v46_apply, v0_at, val_main_v45_apply, val_main_v44_apply, val_main_v43_apply, val_main_cst_3_apply, v10_at, val_main_v42_apply]
  simp only [e1, e2, v39_at, v41_at]
  rfl

end Cert.Reference5Ideal.First

end
-- ==== Proof.FirstBlocks.lean ====
module

public import proofs.«01_k».proof.Proof.FirstPieces
public import proofs.«01_k».proof.Proof.FirstRef
public import proofs.«01_k».proof.Proof.MidBlocks
public import proofs.«01_k».proof.Proof.Gen.Kernel5Ideal.Value

@[expose] public section

set_option maxRecDepth 16384

noncomputable section

namespace Cert.Kernel5Ideal.First

open Cert.Kernel5Ideal Cert.Kernel5Ideal.Gen
open Cert.Reference4Ideal.Mid (mod wt wo)
open Cert.Reference5Ideal.First (tok gain)
open Cert.Kernel4Ideal.Mid (padM padM_lat padM_ctx)
open Idealize.ShloMosaic Idealize.ShloMosaic.TcCoe Idealize.ShloMosaic.Tactic

/-! What the windows are cut from, and the blocks of a grid point, in the arguments. -/

variable (m : (ℓ : Loc nD τ sig) → Buf (Elt Ideal) ℓ)

/-- The latent tokens. -/
def a0 (c : Dev nD) : (⟨S8x4096x1024, .f32⟩ : BufTy).Contents (Elt Ideal) := m ((c : Thread nD τ).loc main_arg0)
/-- The context tokens. -/
def a1 (c : Dev nD) : (⟨S8x256x1024, .f32⟩ : BufTy).Contents (Elt Ideal) := m ((c : Thread nD τ).loc main_arg1)
/-- The latent tokens' modulation. -/
def a2 (c : Dev nD) : (⟨S8x9216, .f32⟩ : BufTy).Contents (Elt Ideal) := m ((c : Thread nD τ).loc main_arg2)
/-- The context tokens' modulation. -/
def a3 (c : Dev nD) : (⟨S9216, .f32⟩ : BufTy).Contents (Elt Ideal) := m ((c : Thread nD τ).loc main_arg3)
/-- The gains. -/
def a4 (c : Dev nD) : (⟨S2x3x1024, .f32⟩ : BufTy).Contents (Elt Ideal) := m ((c : Thread nD τ).loc main_arg4)
/-- The gates' weights. -/
def a5 (c : Dev nD) : (⟨S2x1024x2816, .f32⟩ : BufTy).Contents (Elt Ideal) := m ((c : Thread nD τ).loc main_arg5)
/-- The values' weights. -/
def a6 (c : Dev nD) : (⟨S2x1024x2816, .f32⟩ : BufTy).Contents (Elt Ideal) := m ((c : Thread nD τ).loc main_arg6)
/-- The output weights. -/
def a7 (c : Dev nD) : (⟨S2x2816x1024, .f32⟩ : BufTy).Contents (Elt Ideal) := m ((c : Thread nD τ).loc main_arg7)

theorem V_x (c : Dev nD) : V m c main_arg0 = a0 m c := by
  show StableHlo.after (List.flatten [hostOps0]) _ (Proc.devRef .tc main_arg0) = _
  simp only [List.flatten_cons, List.flatten_nil, List.append_nil, List.cons_append, List.nil_append]
  after_results
  rfl

theorem V_ctx (c : Dev nD) : V m c main_arg1 = a1 m c := by
  show StableHlo.after (List.flatten [hostOps0]) _ (Proc.devRef .tc main_arg1) = _
  simp only [List.flatten_cons, List.flatten_nil, List.append_nil, List.cons_append, List.nil_append]
  after_results
  rfl

theorem V_mod (c : Dev nD) : V m c main_v4 = padM (a2 m c) (a3 m c) := by
  show StableHlo.after (List.flatten [hostOps0]) _ (Proc.devRef .tc main_v4) = _
  simp only [List.flatten_cons, List.flatten_nil, List.append_nil, List.cons_append, List.nil_append]
  after_results
  simp -implicitDefEqProofs only [StableHlo.TRef.ofBuf, StableHlo.TRef.toBuf, cast_cast, cast_eq]
  rfl

theorem V_gain (c : Dev nD) (i : Fin 3) (k : Fin 1024) : V m c main_v6 (ix2 i k) = a4 m c (ix3 (0 : Fin 2) i k) := by
  have e : V m c main_v6 = shapeCast S3x1024 (extractStridedSlice S1x3x1024 ![0, 0, 0] (a4 m c) slices_S2x3x1024_S1x3x1024_0_0_0)
      shapeCasts_S1x3x1024_S3x1024 := by
    show StableHlo.after (List.flatten [hostOps0]) _ (Proc.devRef .tc main_v6) = _
    simp only [List.flatten_cons, List.flatten_nil, List.append_nil, List.cons_append, List.nil_append]
    after_results
    simp -implicitDefEqProofs only [StableHlo.TRef.ofBuf, StableHlo.TRef.toBuf, cast_cast, cast_eq]
    rfl
  rw [e]
  generalize a4 m c = y
  pointwise

theorem V_w3 (c : Dev nD) (i : S2x1024x2816.Idx) : V m c main_v7 i = a5 m c i := by
  have e : V m c main_v7 = truncf (F := Ideal) .bf16 (φ := .f32) (s := S2x1024x2816) (m ((c : Thread nD τ).loc main_arg5)) bitsLt_bf16_f32 := by
    show StableHlo.after (List.flatten [hostOps0]) _ (Proc.devRef .tc main_v7) = _
    simp only [List.flatten_cons, List.flatten_nil, List.append_nil, List.cons_append, List.nil_append]
    after_results
  rw [e]
  rfl

theorem V_w4 (c : Dev nD) (i : S2x1024x2816.Idx) : V m c main_v8 i = a6 m c i := by
  have e : V m c main_v8 = truncf (F := Ideal) .bf16 (φ := .f32) (s := S2x1024x2816) (m ((c : Thread nD τ).loc main_arg6)) bitsLt_bf16_f32 := by
    show StableHlo.after (List.flatten [hostOps0]) _ (Proc.devRef .tc main_v8) = _
    simp only [List.flatten_cons, List.flatten_nil, List.append_nil, List.cons_append, List.nil_append]
    after_results
  rw [e]
  rfl

theorem V_w5 (c : Dev nD) (i : S2x2816x1024.Idx) : V m c main_v9 i = a7 m c i := by
  have e : V m c main_v9 = truncf (F := Ideal) .bf16 (φ := .f32) (s := S2x2816x1024) (m ((c : Thread nD τ).loc main_arg7)) bitsLt_bf16_f32 := by
    show StableHlo.after (List.flatten [hostOps0]) _ (Proc.devRef .tc main_v9) = _
    simp only [List.flatten_cons, List.flatten_nil, List.append_nil, List.cons_append, List.nil_append]
    after_results
  rw [e]
  rfl

theorem idx0_eq : ∀ (t : Fin grid0.N) (a : Fin 3), win0_0.index t a = (![(grid0.coords t 1).val, min (grid0.coords t 0).val 15, 0] : Fin 3 → Nat) a := by
  decide +kernel

theorem idx1_eq : ∀ (t : Fin grid0.N) (a : Fin 3), win0_1.index t a = (![(grid0.coords t 1).val, (grid0.coords t 0).val - 16, 0] : Fin 3 → Nat) a := by
  decide +kernel

theorem idx2_eq : ∀ (t : Fin grid0.N) (a : Fin 3), win0_2.index t a
    = (![if 16 ≤ (grid0.coords t 0).val then 4 else (grid0.coords t 1).val, 0, 0] : Fin 3 → Nat) a := by
  decide +kernel

theorem idx3_eq : ∀ (t : Fin grid0.N) (a : Fin 2), win0_3.index t a = (![0, 0] : Fin 2 → Nat) a := by
  decide +kernel

theorem idx4_eq : ∀ (t : Fin grid0.N) (a : Fin 3), win0_4.index t a = (![0, 0, 0] : Fin 3 → Nat) a := by
  decide +kernel

theorem idx5_eq : ∀ (t : Fin grid0.N) (a : Fin 3), win0_5.index t a = (![0, 0, 0] : Fin 3 → Nat) a := by
  decide +kernel

theorem idx6_eq : ∀ (t : Fin grid0.N) (a : Fin 3), win0_6.index t a = (![0, 0, 0] : Fin 3 → Nat) a := by
  decide +kernel

theorem idx7_eq : ∀ (t : Fin grid0.N) (a : Fin 3), win0_7.index t a = (![(grid0.coords t 1).val, (grid0.coords t 0).val, 0] : Fin 3 → Nat) a := by
  decide +kernel

/-- Every pair of a tile and a pair of batches is a grid point. -/
theorem point : ∀ (j : Fin 17) (b : Fin 4), ∃ t : Fin grid0.N, (grid0.coords t 0).val = j.val ∧ (grid0.coords t 1).val = b.val := by
  decide +kernel

/-- Batch `h` of the pair of a grid point. -/
def bat (t : Fin grid0.N) (h : Fin 2) : Fin 8 :=
  ⟨2 * (grid0.coords t 1).val + h.val, by have : (grid0.coords t 1).val < 4 := (grid0.coords t 1).isLt; have := h.isLt; omega⟩
/-- Token `r` of the tile of a grid point. -/
def row (t : Fin grid0.N) (r : Fin 256) : Fin 4352 :=
  ⟨256 * (grid0.coords t 0).val + r.val, by have : (grid0.coords t 0).val < 17 := (grid0.coords t 0).isLt; have := r.isLt; omega⟩

theorem blk0_at (c : Dev nD) (t : Fin grid0.N) (h : Fin 2) (r : Fin 256) (k : Fin 1024) (hj : (grid0.coords t 0).val < 16) :
    (iblk m c 0 t : Vec Ideal S2x256x1024 .f32) (ix3 h r k) = tok (a0 m c) (a1 m c) (bat t h) (row t r) k := by
  have hr := r.isLt
  have hs : (row t r).val < 4096 := by show 256 * (grid0.coords t 0).val + r.val < 4096; omega
  unfold tok
  rw [dif_pos hs, ← V_x]
  show V m c main_arg0 (((cfg0.win 0).blk t).view.emb (ix3 h r k)) = _
  refine congrArg (V m c main_arg0) ?_
  have e0 : win0_0.index t 0 = (grid0.coords t 1).val := idx0_eq t 0
  have e1 : win0_0.index t 1 = min (grid0.coords t 0).val 15 := idx0_eq t 1
  have e2 : win0_0.index t 2 = 0 := idx0_eq t 2
  funext a
  apply Fin.ext
  match a with
  | ⟨0, _⟩ => show win0_0.index t 0 * 2 + 1 * h.val = 2 * (grid0.coords t 1).val + h.val; omega
  | ⟨1, _⟩ => show win0_0.index t 1 * 256 + 1 * r.val = 256 * (grid0.coords t 0).val + r.val; omega
  | ⟨2, _⟩ => show win0_0.index t 2 * 1024 + 1 * k.val = k.val; omega

theorem blk1_at (c : Dev nD) (t : Fin grid0.N) (h : Fin 2) (r : Fin 256) (k : Fin 1024) (hj : 16 ≤ (grid0.coords t 0).val) :
    (iblk m c 1 t : Vec Ideal S2x256x1024 .f32) (ix3 h r k) = tok (a0 m c) (a1 m c) (bat t h) (row t r) k := by
  have hr := r.isLt
  have hs : ¬ (row t r).val < 4096 := by show ¬ 256 * (grid0.coords t 0).val + r.val < 4096; omega
  unfold tok
  rw [dif_neg hs, ← V_ctx]
  show V m c main_arg1 (((cfg0.win 1).blk t).view.emb (ix3 h r k)) = _
  refine congrArg (V m c main_arg1) ?_
  have e0 : win0_1.index t 0 = (grid0.coords t 1).val := idx1_eq t 0
  have e1 : win0_1.index t 1 = (grid0.coords t 0).val - 16 := idx1_eq t 1
  have e2 : win0_1.index t 2 = 0 := idx1_eq t 2
  funext a
  apply Fin.ext
  match a with
  | ⟨0, _⟩ => show win0_1.index t 0 * 2 + 1 * h.val = 2 * (grid0.coords t 1).val + h.val; omega
  | ⟨1, _⟩ => show win0_1.index t 1 * 256 + 1 * r.val = 256 * (grid0.coords t 0).val + r.val - 4096; omega
  | ⟨2, _⟩ => show win0_1.index t 2 * 1024 + 1 * k.val = k.val; omega

theorem blk2_at (c : Dev nD) (t : Fin grid0.N) (h : Fin 2) (r : Fin 256) (i : Fin 9) (k : Fin 1024) :
    (iblk m c 2 t : Vec Ideal S2x9x1024 .f32) (ix3 h i k) = mod (a2 m c) (a3 m c) (bat t h) (row t r) i k := by
  have hb : (grid0.coords t 1).val < 4 := (grid0.coords t 1).isLt
  have hh := h.isLt
  have hr := r.isLt
  have e0 : win0_2.index t 0 = if 16 ≤ (grid0.coords t 0).val then 4 else (grid0.coords t 1).val := idx2_eq t 0
  have e1 : win0_2.index t 1 = 0 := idx2_eq t 1
  have e2 : win0_2.index t 2 = 0 := idx2_eq t 2
  have cut : ∀ b' : Fin 16, b'.val = win0_2.index t 0 * 2 + h.val →
      (iblk m c 2 t : Vec Ideal S2x9x1024 .f32) (ix3 h i k) = padM (a2 m c) (a3 m c) (ix3 b' i k) := by
    intro b' eb
    rw [← V_mod]
    show V m c main_v4 (((cfg0.win 2).blk t).view.emb (ix3 h i k)) = _
    refine congrArg (V m c main_v4) ?_
    funext a
    apply Fin.ext
    match a with
    | ⟨0, _⟩ => show win0_2.index t 0 * 2 + 1 * h.val = b'.val; omega
    | ⟨1, _⟩ => show win0_2.index t 1 * 9 + 1 * i.val = i.val; rw [e1]; omega
    | ⟨2, _⟩ => show win0_2.index t 2 * 1024 + 1 * k.val = k.val; rw [e2]; omega
  by_cases hj : 16 ≤ (grid0.coords t 0).val
  · rw [if_pos hj] at e0
    rw [cut ⟨8 + h.val, by omega⟩ (by show 8 + h.val = _; omega)]
    exact padM_ctx _ _ _ _ i k _ (by show ¬ 256 * (grid0.coords t 0).val + r.val < 4096; omega) ⟨by show 8 ≤ 8 + h.val; omega, by show 8 + h.val < 10; omega⟩
  · rw [if_neg hj] at e0
    rw [cut ⟨2 * (grid0.coords t 1).val + h.val, by omega⟩ (by show 2 * (grid0.coords t 1).val + h.val = _; omega)]
    exact padM_lat _ _ _ _ i k _ (by show 256 * (grid0.coords t 0).val + r.val < 4096; omega) rfl

theorem blk3_at (c : Dev nD) (t : Fin grid0.N) (k : Fin 1024) :
    (iblk m c 3 t : Vec Ideal S3x1024 .f32) (ix2 (0 : Fin 3) k) = gain (a4 m c) k := by
  unfold gain
  rw [← V_gain]
  show V m c main_v6 (((cfg0.win 3).blk t).view.emb (ix2 (0 : Fin 3) k)) = _
  refine congrArg (V m c main_v6) ?_
  have e0 := idx3_eq t 0
  have e1 := idx3_eq t 1
  funext a
  apply Fin.ext
  match a with
  | ⟨0, _⟩ => show win0_3.index t 0 * 3 + 1 * 0 = 0; rw [e0]; rfl
  | ⟨1, _⟩ => show win0_3.index t 1 * 1024 + 1 * k.val = k.val; rw [e1]; show 0 * 1024 + 1 * k.val = k.val; omega

theorem blk4_at (c : Dev nD) (t : Fin grid0.N) (k : Fin 1024) (f : Fin 2816) :
    (iblk m c 4 t : Vec Ideal S1x1024x2816 .bf16) (ix3 (0 : Fin 1) k f) = wt (a5 m c) k f := by
  unfold wt
  rw [← V_w3]
  show V m c main_v7 (((cfg0.win 4).blk t).view.emb (ix3 (0 : Fin 1) k f)) = _
  refine congrArg (V m c main_v7) ?_
  have e0 := idx4_eq t 0
  have e1 := idx4_eq t 1
  have e2 := idx4_eq t 2
  funext a
  apply Fin.ext
  match a with
  | ⟨0, _⟩ => show win0_4.index t 0 * 1 + 1 * 0 = 0; rw [e0]; rfl
  | ⟨1, _⟩ => show win0_4.index t 1 * 1024 + 1 * k.val = k.val; rw [e1]; show 0 * 1024 + 1 * k.val = k.val; omega
  | ⟨2, _⟩ => show win0_4.index t 2 * 2816 + 1 * f.val = f.val; rw [e2]; show 0 * 2816 + 1 * f.val = f.val; omega

theorem blk5_at (c : Dev nD) (t : Fin grid0.N) (k : Fin 1024) (f : Fin 2816) :
    (iblk m c 5 t : Vec Ideal S1x1024x2816 .bf16) (ix3 (0 : Fin 1) k f) = wt (a6 m c) k f := by
  unfold wt
  rw [← V_w4]
  show V m c main_v8 (((cfg0.win 5).blk t).view.emb (ix3 (0 : Fin 1) k f)) = _
  refine congrArg (V m c main_v8) ?_
  have e0 := idx5_eq t 0
  have e1 := idx5_eq t 1
  have e2 := idx5_eq t 2
  funext a
  apply Fin.ext
  match a with
  | ⟨0, _⟩ => show win0_5.index t 0 * 1 + 1 * 0 = 0; rw [e0]; rfl
  | ⟨1, _⟩ => show win0_5.index t 1 * 1024 + 1 * k.val = k.val; rw [e1]; show 0 * 1024 + 1 * k.val = k.val; omega
  | ⟨2, _⟩ => show win0_5.index t 2 * 2816 + 1 * f.val = f.val; rw [e2]; show 0 * 2816 + 1 * f.val = f.val; omega

theorem blk6_at (c : Dev nD) (t : Fin grid0.N) (f : Fin 2816) (n : Fin 1024) :
    (iblk m c 6 t : Vec Ideal S1x2816x1024 .bf16) (ix3 (0 : Fin 1) f n) = wo (a7 m c) f n := by
  unfold wo
  rw [← V_w5]
  show V m c main_v9 (((cfg0.win 6).blk t).view.emb (ix3 (0 : Fin 1) f n)) = _
  refine congrArg (V m c main_v9) ?_
  have e0 := idx6_eq t 0
  have e1 := idx6_eq t 1
  have e2 := idx6_eq t 2
  funext a
  apply Fin.ext
  match a with
  | ⟨0, _⟩ => show win0_6.index t 0 * 1 + 1 * 0 = 0; rw [e0]; rfl
  | ⟨1, _⟩ => show win0_6.index t 1 * 2816 + 1 * f.val = f.val; rw [e1]; show 0 * 2816 + 1 * f.val = f.val; omega
  | ⟨2, _⟩ => show win0_6.index t 2 * 1024 + 1 * n.val = n.val; rw [e2]; show 0 * 1024 + 1 * n.val = n.val; omega

end Cert.Kernel5Ideal.First

end
-- ==== Proof.FirstEquation.lean ====
module

public import proofs.«01_k».proof.Proof.FirstBlocks

@[expose] public section

set_option maxRecDepth 16384

noncomputable section

namespace Cert.Kernel5Ideal.First

open Cert.Kernel5Ideal Cert.Kernel5Ideal.Gen Cert.Kernel5Ideal.Value
open Cert.Reference4Ideal.Mid (mod wt wo)
open Cert.Reference5Ideal.First (tok gain hidR)
open Cert.Kernel2Ideal.Ffn (Loads hidS ch inb_w inb_x inb_md high low resK pay9_high pay9_low)
open Idealize.ShloMosaic Idealize.ShloMosaic.TcCoe Idealize.ShloMosaic.Tactic

/-! The block a grid point writes is its block of the reference. -/

variable (m : (ℓ : Loc nD τ sig) → Buf (Elt Ideal) ℓ)

/-- The loads of a grid point. -/
def lds (c : Dev nD) (t : Fin grid0.N) : Loads :=
  loads (grid0.coords t) (iblk m c 0 t) (iblk m c 1 t) (iblk m c 2 t) (iblk m c 3 t) (iblk m c 4 t) (iblk m c 5 t) (iblk m c 6 t)

theorem sge16 : ∀ n : Fin 17, Scalar.cmpi .sge (BitVec.ofNat 32 n.val) 16#32 = if 16 ≤ n.val then 1#1 else 0#1 := by decide

theorem pick_lat (i : grid0.Coords) (v0 v5 : Vec Ideal S1x256x1024 .f32) (h : (i 0).val < 16) : pick i v0 v5 = v0 := by
  unfold pick
  rw [sge16 (i 0), if_neg (by omega)]
  rfl

theorem pick_ctx (i : grid0.Coords) (v0 v5 : Vec Ideal S1x256x1024 .f32) (h : 16 ≤ (i 0).val) : pick i v0 v5 = v5 := by
  unfold pick
  rw [sge16 (i 0), if_pos h]
  rfl

theorem x_at (c : Dev nD) (t : Fin grid0.N) (h : Fin 2) (r : Fin 256) (k : Fin 1024) :
    (lds m c t).x h (ix3 0 r k) = tok (a0 m c) (a1 m c) (bat t h) (row t r) k := by
  have ld : ∀ v : Vec Ideal S2x256x1024 .f32, View.ld v (Rect.unit (s := S2x256x1024) ![h.val, 0, 0] S1x256x1024.size (inb_x h)) (ix3 0 r k) = v (ix3 h r k) := by
    intro v
    refine View.ld_unit_apply_of v _ _ (inb_x h) _ (ix3 h r k) fun a => ?_
    match a with
    | ⟨0, _⟩ => show h.val = h.val + 0; omega
    | ⟨1, _⟩ => show r.val = 0 + r.val; omega
    | ⟨2, _⟩ => show k.val = 0 + k.val; omega
  show pick (grid0.coords t) _ _ (ix3 0 r k) = _
  by_cases hj : 16 ≤ (grid0.coords t 0).val
  · rw [pick_ctx _ _ _ hj, ← blk1_at m c t h r k hj]
    exact ld _
  · rw [pick_lat _ _ _ (by omega), ← blk0_at m c t h r k (by omega)]
    exact ld _

theorem md_at (c : Dev nD) (t : Fin grid0.N) (h : Fin 2) (r : Fin 256) (i : Fin 9) (k : Fin 1024) :
    (lds m c t).md h i (ix3 0 0 k) = mod (a2 m c) (a3 m c) (bat t h) (row t r) (at3 i) k := by
  rw [← blk2_at]
  refine View.ld_unit_apply_of (iblk m c 2 t : Vec Ideal S2x9x1024 .f32) _ _ (inb_md h (at3 i)) _ (ix3 h (at3 i) k) fun a => ?_
  match a with
  | ⟨0, _⟩ => show h.val = h.val + 0; omega
  | ⟨1, _⟩ => show (at3 i).val = (at3 i).val + 0; omega
  | ⟨2, _⟩ => show k.val = 0 + k.val; omega

theorem g_at (c : Dev nD) (t : Fin grid0.N) (k : Fin 1024) : (lds m c t).g (ix2 0 k) = gain (a4 m c) k := by
  rw [← blk3_at m c t]
  refine View.ld_unit_apply_of (iblk m c 3 t : Vec Ideal S3x1024 .f32) _ _ inb_S3x1024_S1x1024_0_0 _ (ix2 (0 : Fin 3) k) fun a => ?_
  match a with
  | ⟨0, _⟩ => rfl
  | ⟨1, _⟩ => show k.val = 0 + k.val; omega

theorem a_at (c : Dev nD) (t : Fin grid0.N) (k : Fin 1024) (f : Fin 2816) :
    (lds m c t).a (ch (f.val / 256)) (ix3 0 k ⟨f.val % 256, Nat.mod_lt _ (by decide)⟩) = wt (a5 m c) k f := by
  have hf := f.isLt
  rw [← blk4_at m c t]
  refine View.ld_unit_apply_of (iblk m c 4 t : Vec Ideal S1x1024x2816 .bf16) _ _ (inb_w (ch (f.val / 256))) _ (ix3 (0 : Fin 1) k f) fun a => ?_
  match a with
  | ⟨0, _⟩ => rfl
  | ⟨1, _⟩ => show k.val = 0 + k.val; omega
  | ⟨2, _⟩ => show f.val = 256 * (f.val / 256 % 11) + f.val % 256; omega

theorem u_at (c : Dev nD) (t : Fin grid0.N) (k : Fin 1024) (f : Fin 2816) :
    (lds m c t).u (ch (f.val / 256)) (ix3 0 k ⟨f.val % 256, Nat.mod_lt _ (by decide)⟩) = wt (a6 m c) k f := by
  have hf := f.isLt
  rw [← blk5_at m c t]
  refine View.ld_unit_apply_of (iblk m c 5 t : Vec Ideal S1x1024x2816 .bf16) _ _ (inb_w (ch (f.val / 256))) _ (ix3 (0 : Fin 1) k f) fun a => ?_
  match a with
  | ⟨0, _⟩ => rfl
  | ⟨1, _⟩ => show k.val = 0 + k.val; omega
  | ⟨2, _⟩ => show f.val = 256 * (f.val / 256 % 11) + f.val % 256; omega

theorem w_at (c : Dev nD) (t : Fin grid0.N) (f : Fin 2816) (n : Fin 1024) : (lds m c t).w (ix3 0 f n) = wo (a7 m c) f n := by
  rw [← blk6_at m c t]
  refine View.ld_unit_apply_of (iblk m c 6 t : Vec Ideal S1x2816x1024 .bf16) _ _ inb_S1x2816x1024_S1x2816x1024_0_0_0 _ (ix3 (0 : Fin 1) f n) fun a => ?_
  match a with
  | ⟨0, _⟩ => rfl
  | ⟨1, _⟩ => show f.val = 0 + f.val; omega
  | ⟨2, _⟩ => show n.val = 0 + n.val; omega

/-- The modulated row of a token of the arguments. -/
abbrev hidA (c : Dev nD) (b : Fin 8) (s : Fin 4352) : Fin 1024 → EReal := hidR (a0 m c) (a1 m c) (a2 m c) (a3 m c) (a4 m c) b s

theorem hid_high (c : Dev nD) (t : Fin grid0.N) (r : Fin 256) (k : Fin 1024) :
    hidS (lds m c t) (ix2 (high r) k) = hidA m c (bat t 0) (row t r) k := by
  unfold hidS hidA hidR
  rw [pay9_high]
  simp only [x_at, md_at m c t _ r, g_at]
  rfl

theorem hid_low (c : Dev nD) (t : Fin grid0.N) (r : Fin 256) (k : Fin 1024) :
    hidS (lds m c t) (ix2 (low r) k) = hidA m c (bat t 1) (row t r) k := by
  unfold hidS hidA hidR
  rw [pay9_low]
  simp only [x_at, md_at m c t _ r, g_at]
  rfl

/-- The feed-forward half of a token's row. -/
def ffR (c : Dev nD) (b : Fin 8) (s : Fin 4352) (n : Fin 1024) : EReal :=
  ∑ f : Fin 2816, Cert.Ffn.unit (hidA m c b s) (fun k => wt (a5 m c) k f) (fun k => wt (a6 m c) k f) * wo (a7 m c) f n

theorem prod_high (v : View sig .tc .vmem S512x2816 .bf16) (c : Dev nD) (t : Fin grid0.N) (r : Fin 256) (n : Fin 1024) :
    k0_pay1 (tRead v (lds m c t)) (lds m c t).w (ix2 (high r) n) = ffR m c (bat t 0) (row t r) n := by
  rw [prod_at]
  unfold ffR
  simp only [hid_high, a_at, u_at, w_at]

theorem prod_low (v : View sig .tc .vmem S512x2816 .bf16) (c : Dev nD) (t : Fin grid0.N) (r : Fin 256) (n : Fin 1024) :
    k0_pay1 (tRead v (lds m c t)) (lds m c t).w (ix2 (low r) n) = ffR m c (bat t 1) (row t r) n := by
  rw [prod_at]
  unfold ffR
  simp only [hid_low, a_at, u_at, w_at]

/-- The reference of the arguments. -/
def G (c : Dev nD) : (⟨S8x4352x1024, .f32⟩ : BufTy).Contents (Elt Ideal) :=
  Cert.Reference5Ideal.Read.val_main_v46 (F := Ideal) (a0 m c) (a1 m c) (a2 m c) (a3 m c) (a4 m c) (a5 m c) (a6 m c) (a7 m c)

theorem G_at (c : Dev nD) (b : Fin 8) (s : Fin 4352) (n : Fin 1024) :
    G m c (ix3 b s n) = resK (tok (a0 m c) (a1 m c) b s) (mod (a2 m c) (a3 m c) b s 2) (ffR m c b s) n :=
  Cert.Reference5Ideal.First.v46_at (a0 m c) (a1 m c) (a2 m c) (a3 m c) (a4 m c) (a5 m c) (a6 m c) (a7 m c) b s n

/-- What the body leaves at an index of its block. -/
theorem block_at (v : View sig .tc .vmem S512x2816 .bf16) (c : Dev nD) (t : Fin grid0.N) (h : Fin 2) (r : Fin 256) (n : Fin 1024) :
    View.canon (oList v (lds m c t)) (ix3 h r n) = G m c (ix3 (bat t h) (row t r) n) := by
  rw [G_at]
  match h with
  | ⟨0, _⟩ =>
    refine (canon_high v (lds m c t) r n).trans ?_
    rw [pay2_at]
    simp only [x_at, md_at m c t _ r, prod_high]
    rfl
  | ⟨1, _⟩ =>
    refine (canon_low v (lds m c t) r n).trans ?_
    rw [pay3_at]
    simp only [x_at, md_at m c t _ r, prod_low]
    rfl

theorem out_eq (c : Dev nD) (t : Fin cfg0.N) :
    (dats m 0 c).flushed 7 t = (cfg0.win 7).cut (grid0.coords t)
      (View.canon (oList scM0_0.view (lds m c t)) : Vec Ideal S2x256x1024 .f32) := by
  rw [flushed7_A]
  unfold out0_A_7
  rw [View.read_writes_junk_eq_canon, run_pieces]
  rfl

theorem flushed7_eq (c : Dev nD) (t : Fin cfg0.N) :
    (dats m 0 c).flushed 7 t = ((cfg0.win 7).blk t).view.read (Elt Ideal) (G m c) := by
  rw [out_eq]
  funext i
  have h0 : (i 0).val < 2 := (i 0).isLt
  have h1 : (i 1).val < 256 := (i 1).isLt
  have h2 : (i 2).val < 1024 := (i 2).isLt
  show View.canon (oList scM0_0.view (lds m c t)) i = G m c (((cfg0.win 7).blk t).view.emb i)
  have hn := block_at m scM0_0.view c t ⟨(i 0).val, h0⟩ ⟨(i 1).val, h1⟩ ⟨(i 2).val, h2⟩
  refine Eq.trans (congrArg _ ?_) (hn.trans ?_)
  · funext a
    apply Fin.ext
    match a with
    | ⟨0, _⟩ => rfl
    | ⟨1, _⟩ => rfl
    | ⟨2, _⟩ => rfl
  · refine congrArg (G m c) ?_
    have w0 := idx7_eq t 0
    have w1 := idx7_eq t 1
    have w2 := idx7_eq t 2
    funext a
    apply Fin.ext
    match a with
    | ⟨0, _⟩ =>
      show 2 * (grid0.coords t 1).val + (i 0).val = win0_7.index t 0 * 2 + 1 * (i 0).val
      rw [w0]; show _ = (grid0.coords t 1).val * 2 + 1 * (i 0).val; omega
    | ⟨1, _⟩ =>
      show 256 * (grid0.coords t 0).val + (i 1).val = win0_7.index t 1 * 256 + 1 * (i 1).val
      rw [w1]; show _ = (grid0.coords t 0).val * 256 + 1 * (i 1).val; omega
    | ⟨2, _⟩ =>
      show (i 2).val = win0_7.index t 2 * 1024 + 1 * (i 2).val
      rw [w2]; show _ = 0 * 1024 + 1 * (i 2).val; omega

theorem covered7 (i : S8x4352x1024.Idx) :
    ∃ t : Fin cfg0.N, (cfg0.win 7).flush t = true ∧ i ∈ ((cfg0.win 7).blk t).view.set := by
  have h0 : (i 0).val < 8 := (i 0).isLt
  have h1 : (i 1).val < 4352 := (i 1).isLt
  have h2 : (i 2).val < 1024 := (i 2).isLt
  obtain ⟨t, hg, hb⟩ := point ⟨(i 1).val / 256, by omega⟩ ⟨(i 0).val / 2, by omega⟩
  refine ⟨t, flush0_7 t, ?_⟩
  have h := ((cfg0.win 7).blk t).view.emb_mem_set (ix3 (⟨(i 0).val % 2, Nat.mod_lt _ (by decide)⟩ : Fin 2) (⟨(i 1).val % 256, Nat.mod_lt _ (by decide)⟩ : Fin 256) (⟨(i 2).val, h2⟩ : Fin 1024))
  have e : ((cfg0.win 7).blk t).view.emb (ix3 (⟨(i 0).val % 2, Nat.mod_lt _ (by decide)⟩ : Fin 2) (⟨(i 1).val % 256, Nat.mod_lt _ (by decide)⟩ : Fin 256) (⟨(i 2).val, h2⟩ : Fin 1024)) = i := by
    have w0 := idx7_eq t 0
    have w1 := idx7_eq t 1
    have w2 := idx7_eq t 2
    have hg' : (grid0.coords t 0).val = (i 1).val / 256 := hg
    have hb' : (grid0.coords t 1).val = (i 0).val / 2 := hb
    funext a
    apply Fin.ext
    match a with
    | ⟨0, _⟩ =>
      show win0_7.index t 0 * 2 + 1 * ((i 0).val % 2) = (i 0).val
      rw [w0]; show (grid0.coords t 1).val * 2 + 1 * ((i 0).val % 2) = (i 0).val; omega
    | ⟨1, _⟩ =>
      show win0_7.index t 1 * 256 + 1 * ((i 1).val % 256) = (i 1).val
      rw [w1]; show (grid0.coords t 0).val * 256 + 1 * ((i 1).val % 256) = (i 1).val; omega
    | ⟨2, _⟩ =>
      show win0_7.index t 2 * 1024 + 1 * (i 2).val = (i 2).val
      rw [w2]; show 0 * 1024 + 1 * (i 2).val = (i 2).val; omega
  rwa [e] at h

/-- The array the kernel leaves is the reference of the arguments. -/
theorem final7 (c : Dev nD) : (dats m 0 c).arrAt 7 cfg0.N = G m c :=
  (dats m 0 c).arrAt_eq_of_cover 7 (G m c) (fun t _ => flushed7_eq m c t) covered7

end Cert.Kernel5Ideal.First

end
-- ==== Proof.lean ====
/- The kernel, its form with the penalty read as minus infinity, and the reference each run and keep their arguments; and
   on finite queries, keys and biases the second and the third leave the same output array. The same of the last feed-forward
   half, of the last merge of the mixers and of both feed-forward halves of the first layer, for all arguments. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Ref
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Finite
public import proofs.«01_k».proof.Proof.FfnEquation
public import proofs.«01_k».proof.Proof.MergeEquation
public import proofs.«01_k».proof.Proof.MidEquation
public import proofs.«01_k».proof.Proof.FirstEquation
public import Idealize.ShloMosaic.Adequacy
public import Idealize.ShloMosaic.Init

@[expose] public section

noncomputable section

namespace Cert.Proof

open Idealize.ShloMosaic Idealize.SL.Sem Cert.Kernel

/-- The reference runs, keeps its arguments and leaves every counter at zero. -/
theorem frame_ref : Cert.quiescent_ReferenceIdeal (hReferenceIdeal := Cert.ReferenceIdeal.Gen.facts) := fun m ρ _ =>
  (θ_run (Cert.ReferenceIdeal.defs (F := Ideal)) _ _).mono (fun r h =>
      ⟨fun c => (h c).2, Idealize.ShloMosaic.sem_eq_zero_of_no_sems (by decide) r.2⟩)
    (Cert.ReferenceIdeal.Value.run (F := Ideal) m ρ)

/-- The kernel's output array is the reference's. -/
theorem value : Cert.algebraic_KernelIdeal_ReferenceIdeal_pre_finite (hKernelIdeal := Cert.KernelIdeal.Gen.facts)
    (hReferenceIdeal := Cert.ReferenceIdeal.Gen.facts) (hPre_finite := facts_finite) := by
  intro m g m' g' hpre hargs
  refine ⟨fun c => Cert.KernelIdeal.Attn.G m c, ?_, ?_⟩
  · exact (θ_run (Cert.KernelIdeal.defs (F := Ideal)) _ _).mono
      (fun r h c => ⟨(h c).1.trans (Cert.KernelIdeal.Attn.final6 m c (fin0 m hpre c)), (h c).2⟩)
      (Cert.KernelIdeal.Value.run_blocks (F := Ideal) m g)
  · refine (θ_run (Cert.ReferenceIdeal.defs (F := Ideal)) _ _).mono (fun r h c => ⟨?_, (h c).2⟩)
      (Cert.ReferenceIdeal.Value.run (F := Ideal) m' g')
    refine (h c).1.trans ((Cert.ReferenceIdeal.Read.val_main_v131_eq (F := Ideal) (StableHlo.launchContents m' c)).trans ?_)
    obtain ⟨e0, e1, e2, e3⟩ := hargs c
    have f0 : StableHlo.launchContents m' c (Proc.devRef .tc Cert.ReferenceIdeal.main_arg0) = Cert.KernelIdeal.Attn.a0 m c := e0
    have f1 : StableHlo.launchContents m' c (Proc.devRef .tc Cert.ReferenceIdeal.main_arg1) = Cert.KernelIdeal.Attn.a1 m c := e1
    have f2 : StableHlo.launchContents m' c (Proc.devRef .tc Cert.ReferenceIdeal.main_arg2) = Cert.KernelIdeal.Attn.a2 m c := e2
    have f3 : StableHlo.launchContents m' c (Proc.devRef .tc Cert.ReferenceIdeal.main_arg3) = Cert.KernelIdeal.Attn.a3 m c := e3
    rw [f0, f1, f2, f3]
    rfl

/-- The feed-forward half's reference runs, keeps its arguments and leaves every counter at zero. -/
theorem frame_ref2 : Cert.quiescent_Reference2Ideal (hReference2Ideal := Cert.Reference2Ideal.Gen.facts) := fun m ρ _ =>
  (θ_run (Cert.Reference2Ideal.defs (F := Ideal)) _ _).mono (fun r h =>
      ⟨fun c => (h c).2, Idealize.ShloMosaic.sem_eq_zero_of_no_sems (by decide) r.2⟩)
    (Cert.Reference2Ideal.Value.run (F := Ideal) m ρ)

/-- The feed-forward half's output array is its reference's. -/
theorem value2 : Cert.algebraic_Kernel2Ideal_Reference2Ideal (hKernel2Ideal := Cert.Kernel2Ideal.Gen.facts)
    (hReference2Ideal := Cert.Reference2Ideal.Gen.facts) := by
  intro m g m' g' _ hargs
  refine ⟨fun c => Cert.Kernel2Ideal.Ffn.G m c, ?_, ?_⟩
  · exact (θ_run (Cert.Kernel2Ideal.defs (F := Ideal)) _ _).mono
      (fun r h c => ⟨(h c).1.trans (Cert.Kernel2Ideal.Ffn.final7 m c), (h c).2⟩)
      (Cert.Kernel2Ideal.Value.run_blocks (F := Ideal) m g)
  · refine (θ_run (Cert.Reference2Ideal.defs (F := Ideal)) _ _).mono (fun r h c => ⟨?_, (h c).2⟩)
      (Cert.Reference2Ideal.Value.run (F := Ideal) m' g')
    refine (h c).1.trans ((Cert.Reference2Ideal.Read.val_main_v61_eq (F := Ideal) m' c).trans ?_)
    obtain ⟨e0, e1, e2, e3, e4, e5, e6⟩ := hargs c
    have f0 : m' ((c.tc : Thread Cert.Reference2Ideal.nD Cert.Reference2Ideal.τ).loc Cert.Reference2Ideal.main_arg0) = Cert.Kernel2Ideal.Ffn.a0 m c := e0
    have f1 : m' ((c.tc : Thread Cert.Reference2Ideal.nD Cert.Reference2Ideal.τ).loc Cert.Reference2Ideal.main_arg1) = Cert.Kernel2Ideal.Ffn.a1 m c := e1
    have f2 : m' ((c.tc : Thread Cert.Reference2Ideal.nD Cert.Reference2Ideal.τ).loc Cert.Reference2Ideal.main_arg2) = Cert.Kernel2Ideal.Ffn.a2 m c := e2
    have f3 : m' ((c.tc : Thread Cert.Reference2Ideal.nD Cert.Reference2Ideal.τ).loc Cert.Reference2Ideal.main_arg3) = Cert.Kernel2Ideal.Ffn.a3 m c := e3
    have f4 : m' ((c.tc : Thread Cert.Reference2Ideal.nD Cert.Reference2Ideal.τ).loc Cert.Reference2Ideal.main_arg4) = Cert.Kernel2Ideal.Ffn.a4 m c := e4
    have f5 : m' ((c.tc : Thread Cert.Reference2Ideal.nD Cert.Reference2Ideal.τ).loc Cert.Reference2Ideal.main_arg5) = Cert.Kernel2Ideal.Ffn.a5 m c := e5
    have f6 : m' ((c.tc : Thread Cert.Reference2Ideal.nD Cert.Reference2Ideal.τ).loc Cert.Reference2Ideal.main_arg6) = Cert.Kernel2Ideal.Ffn.a6 m c := e6
    rw [f0, f1, f2, f3, f4, f5, f6]
    rfl

/-- The merge's reference runs, keeps its arguments and leaves every counter at zero. -/
theorem frame_ref3 : Cert.quiescent_Reference3Ideal (hReference3Ideal := Cert.Reference3Ideal.Gen.facts) := fun m ρ _ =>
  (θ_run (Cert.Reference3Ideal.defs (F := Ideal)) _ _).mono (fun r h =>
      ⟨fun c => (h c).2, Idealize.ShloMosaic.sem_eq_zero_of_no_sems (by decide) r.2⟩)
    (Cert.Reference3Ideal.Value.run (F := Ideal) m ρ)

/-- The merge's output array is its reference's. -/
theorem value3 : Cert.algebraic_Kernel3Ideal_Reference3Ideal (hKernel3Ideal := Cert.Kernel3Ideal.Gen.facts)
    (hReference3Ideal := Cert.Reference3Ideal.Gen.facts) := by
  intro m g m' g' _ hargs
  refine ⟨fun c => Cert.Kernel3Ideal.Merge.G m c, ?_, ?_⟩
  · exact (θ_run (Cert.Kernel3Ideal.defs (F := Ideal)) _ _).mono
      (fun r h c => ⟨(h c).1.trans (Cert.Kernel3Ideal.Merge.final15 m c), (h c).2⟩)
      (Cert.Kernel3Ideal.Value.run_blocks (F := Ideal) m g)
  · refine (θ_run (Cert.Reference3Ideal.defs (F := Ideal)) _ _).mono (fun r h c => ⟨?_, (h c).2⟩)
      (Cert.Reference3Ideal.Value.run (F := Ideal) m' g')
    refine (h c).1.trans ((Cert.Reference3Ideal.Read.val_main_v106_eq (F := Ideal) m' c).trans ?_)
    obtain ⟨e0, e1, e2, e3, e4, e5, e6, e7, e8, e9, e10, e11, e12, e13, e14⟩ := hargs c
    have f0 : m' ((c.tc : Thread Cert.Reference3Ideal.nD Cert.Reference3Ideal.τ).loc Cert.Reference3Ideal.main_arg0) = Cert.Kernel3Ideal.Merge.a0 m c := e0
    have f1 : m' ((c.tc : Thread Cert.Reference3Ideal.nD Cert.Reference3Ideal.τ).loc Cert.Reference3Ideal.main_arg1) = Cert.Kernel3Ideal.Merge.a1 m c := e1
    have f2 : m' ((c.tc : Thread Cert.Reference3Ideal.nD Cert.Reference3Ideal.τ).loc Cert.Reference3Ideal.main_arg2) = Cert.Kernel3Ideal.Merge.a2 m c := e2
    have f3 : m' ((c.tc : Thread Cert.Reference3Ideal.nD Cert.Reference3Ideal.τ).loc Cert.Reference3Ideal.main_arg3) = Cert.Kernel3Ideal.Merge.a3 m c := e3
    have f4 : m' ((c.tc : Thread Cert.Reference3Ideal.nD Cert.Reference3Ideal.τ).loc Cert.Reference3Ideal.main_arg4) = Cert.Kernel3Ideal.Merge.a4 m c := e4
    have f5 : m' ((c.tc : Thread Cert.Reference3Ideal.nD Cert.Reference3Ideal.τ).loc Cert.Reference3Ideal.main_arg5) = Cert.Kernel3Ideal.Merge.a5 m c := e5
    have f6 : m' ((c.tc : Thread Cert.Reference3Ideal.nD Cert.Reference3Ideal.τ).loc Cert.Reference3Ideal.main_arg6) = Cert.Kernel3Ideal.Merge.a6 m c := e6
    have f7 : m' ((c.tc : Thread Cert.Reference3Ideal.nD Cert.Reference3Ideal.τ).loc Cert.Reference3Ideal.main_arg7) = Cert.Kernel3Ideal.Merge.a7 m c := e7
    have f8 : m' ((c.tc : Thread Cert.Reference3Ideal.nD Cert.Reference3Ideal.τ).loc Cert.Reference3Ideal.main_arg8) = Cert.Kernel3Ideal.Merge.a8 m c := e8
    have f9 : m' ((c.tc : Thread Cert.Reference3Ideal.nD Cert.Reference3Ideal.τ).loc Cert.Reference3Ideal.main_arg9) = Cert.Kernel3Ideal.Merge.a9 m c := e9
    have f10 : m' ((c.tc : Thread Cert.Reference3Ideal.nD Cert.Reference3Ideal.τ).loc Cert.Reference3Ideal.main_arg10) = Cert.Kernel3Ideal.Merge.a10 m c := e10
    have f11 : m' ((c.tc : Thread Cert.Reference3Ideal.nD Cert.Reference3Ideal.τ).loc Cert.Reference3Ideal.main_arg11) = Cert.Kernel3Ideal.Merge.a11 m c := e11
    have f12 : m' ((c.tc : Thread Cert.Reference3Ideal.nD Cert.Reference3Ideal.τ).loc Cert.Reference3Ideal.main_arg12) = Cert.Kernel3Ideal.Merge.a12 m c := e12
    have f13 : m' ((c.tc : Thread Cert.Reference3Ideal.nD Cert.Reference3Ideal.τ).loc Cert.Reference3Ideal.main_arg13) = Cert.Kernel3Ideal.Merge.a13 m c := e13
    have f14 : m' ((c.tc : Thread Cert.Reference3Ideal.nD Cert.Reference3Ideal.τ).loc Cert.Reference3Ideal.main_arg14) = Cert.Kernel3Ideal.Merge.a14 m c := e14
    rw [f0, f1, f2, f3, f4, f5, f6, f7, f8, f9, f10, f11, f12, f13, f14]
    rfl

/-- The first layer's second feed-forward half's reference runs, keeps its arguments and leaves every counter at zero. -/
theorem frame_ref4 : Cert.quiescent_Reference4Ideal (hReference4Ideal := Cert.Reference4Ideal.Gen.facts) := fun m ρ _ =>
  (θ_run (Cert.Reference4Ideal.defs (F := Ideal)) _ _).mono (fun r h =>
      ⟨fun c => (h c).2, Idealize.ShloMosaic.sem_eq_zero_of_no_sems (by decide) r.2⟩)
    (Cert.Reference4Ideal.Value.run (F := Ideal) m ρ)

/-- The first layer's second feed-forward half's output array is its reference's. -/
theorem value4 : Cert.algebraic_Kernel4Ideal_Reference4Ideal (hKernel4Ideal := Cert.Kernel4Ideal.Gen.facts)
    (hReference4Ideal := Cert.Reference4Ideal.Gen.facts) := by
  intro m g m' g' _ hargs
  refine ⟨fun c => Cert.Kernel4Ideal.Mid.G m c, ?_, ?_⟩
  · exact (θ_run (Cert.Kernel4Ideal.defs (F := Ideal)) _ _).mono
      (fun r h c => ⟨(h c).1.trans (Cert.Kernel4Ideal.Mid.final6 m c), (h c).2⟩)
      (Cert.Kernel4Ideal.Value.run_blocks (F := Ideal) m g)
  · refine (θ_run (Cert.Reference4Ideal.defs (F := Ideal)) _ _).mono (fun r h c => ⟨?_, (h c).2⟩)
      (Cert.Reference4Ideal.Value.run (F := Ideal) m' g')
    refine (h c).1.trans ((Cert.Reference4Ideal.Read.val_main_v45_eq (F := Ideal) m' c).trans ?_)
    obtain ⟨e0, e1, e2, e3, e4, e5, e6⟩ := hargs c
    have f0 : m' ((c.tc : Thread Cert.Reference4Ideal.nD Cert.Reference4Ideal.τ).loc Cert.Reference4Ideal.main_arg0) = Cert.Kernel4Ideal.Mid.a0 m c := e0
    have f1 : m' ((c.tc : Thread Cert.Reference4Ideal.nD Cert.Reference4Ideal.τ).loc Cert.Reference4Ideal.main_arg1) = Cert.Kernel4Ideal.Mid.a1 m c := e1
    have f2 : m' ((c.tc : Thread Cert.Reference4Ideal.nD Cert.Reference4Ideal.τ).loc Cert.Reference4Ideal.main_arg2) = Cert.Kernel4Ideal.Mid.a2 m c := e2
    have f3 : m' ((c.tc : Thread Cert.Reference4Ideal.nD Cert.Reference4Ideal.τ).loc Cert.Reference4Ideal.main_arg3) = Cert.Kernel4Ideal.Mid.a3 m c := e3
    have f4 : m' ((c.tc : Thread Cert.Reference4Ideal.nD Cert.Reference4Ideal.τ).loc Cert.Reference4Ideal.main_arg4) = Cert.Kernel4Ideal.Mid.a4 m c := e4
    have f5 : m' ((c.tc : Thread Cert.Reference4Ideal.nD Cert.Reference4Ideal.τ).loc Cert.Reference4Ideal.main_arg5) = Cert.Kernel4Ideal.Mid.a5 m c := e5
    have f6 : m' ((c.tc : Thread Cert.Reference4Ideal.nD Cert.Reference4Ideal.τ).loc Cert.Reference4Ideal.main_arg6) = Cert.Kernel4Ideal.Mid.a6 m c := e6
    rw [f0, f1, f2, f3, f4, f5, f6]
    rfl

/-- The first layer's first feed-forward half's reference runs, keeps its arguments and leaves every counter at zero. -/
theorem frame_ref5 : Cert.quiescent_Reference5Ideal (hReference5Ideal := Cert.Reference5Ideal.Gen.facts) := fun m ρ _ =>
  (θ_run (Cert.Reference5Ideal.defs (F := Ideal)) _ _).mono (fun r h =>
      ⟨fun c => (h c).2, Idealize.ShloMosaic.sem_eq_zero_of_no_sems (by decide) r.2⟩)
    (Cert.Reference5Ideal.Value.run (F := Ideal) m ρ)

/-- The first layer's first feed-forward half's output array is its reference's. -/
theorem value5 : Cert.algebraic_Kernel5Ideal_Reference5Ideal (hKernel5Ideal := Cert.Kernel5Ideal.Gen.facts)
    (hReference5Ideal := Cert.Reference5Ideal.Gen.facts) := by
  intro m g m' g' _ hargs
  refine ⟨fun c => Cert.Kernel5Ideal.First.G m c, ?_, ?_⟩
  · exact (θ_run (Cert.Kernel5Ideal.defs (F := Ideal)) _ _).mono
      (fun r h c => ⟨(h c).1.trans (Cert.Kernel5Ideal.First.final7 m c), (h c).2⟩)
      (Cert.Kernel5Ideal.Value.run_blocks (F := Ideal) m g)
  · refine (θ_run (Cert.Reference5Ideal.defs (F := Ideal)) _ _).mono (fun r h c => ⟨?_, (h c).2⟩)
      (Cert.Reference5Ideal.Value.run (F := Ideal) m' g')
    refine (h c).1.trans ((Cert.Reference5Ideal.Read.val_main_v46_eq (F := Ideal) m' c).trans ?_)
    obtain ⟨e0, e1, e2, e3, e4, e5, e6, e7⟩ := hargs c
    have f0 : m' ((c.tc : Thread Cert.Reference5Ideal.nD Cert.Reference5Ideal.τ).loc Cert.Reference5Ideal.main_arg0) = Cert.Kernel5Ideal.First.a0 m c := e0
    have f1 : m' ((c.tc : Thread Cert.Reference5Ideal.nD Cert.Reference5Ideal.τ).loc Cert.Reference5Ideal.main_arg1) = Cert.Kernel5Ideal.First.a1 m c := e1
    have f2 : m' ((c.tc : Thread Cert.Reference5Ideal.nD Cert.Reference5Ideal.τ).loc Cert.Reference5Ideal.main_arg2) = Cert.Kernel5Ideal.First.a2 m c := e2
    have f3 : m' ((c.tc : Thread Cert.Reference5Ideal.nD Cert.Reference5Ideal.τ).loc Cert.Reference5Ideal.main_arg3) = Cert.Kernel5Ideal.First.a3 m c := e3
    have f4 : m' ((c.tc : Thread Cert.Reference5Ideal.nD Cert.Reference5Ideal.τ).loc Cert.Reference5Ideal.main_arg4) = Cert.Kernel5Ideal.First.a4 m c := e4
    have f5 : m' ((c.tc : Thread Cert.Reference5Ideal.nD Cert.Reference5Ideal.τ).loc Cert.Reference5Ideal.main_arg5) = Cert.Kernel5Ideal.First.a5 m c := e5
    have f6 : m' ((c.tc : Thread Cert.Reference5Ideal.nD Cert.Reference5Ideal.τ).loc Cert.Reference5Ideal.main_arg6) = Cert.Kernel5Ideal.First.a6 m c := e6
    have f7 : m' ((c.tc : Thread Cert.Reference5Ideal.nD Cert.Reference5Ideal.τ).loc Cert.Reference5Ideal.main_arg7) = Cert.Kernel5Ideal.First.a7 m c := e7
    rw [f0, f1, f2, f3, f4, f5, f6, f7]
    rfl

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, facts_finite,
    fun m ρ _ => Cert.Kernel.Gen.frame m ρ, fun m ρ _ => Cert.KernelIdeal.Gen.frame m ρ, fun m ρ _ => Cert.KernelIdeal.Gen.frame m ρ,
    frame_ref, fun m ρ _ => frame_ref m ρ trivial,
    fun m ρ _ => Cert.Kernel2.Gen.frame m ρ, fun m ρ _ => Cert.Kernel2Ideal.Gen.frame m ρ, frame_ref2,
    fun m ρ _ => Cert.Kernel3.Gen.frame m ρ, fun m ρ _ => Cert.Kernel3Ideal.Gen.frame m ρ, frame_ref3,
    fun m ρ _ => Cert.Kernel4.Gen.frame m ρ, fun m ρ _ => Cert.Kernel4Ideal.Gen.frame m ρ, frame_ref4,
    fun m ρ _ => Cert.Kernel5.Gen.frame m ρ, fun m ρ _ => Cert.Kernel5Ideal.Gen.frame m ρ, frame_ref5,
    IdealRules.named_const.statement Cert.KernelIdeal.κ "neg" .f32 0xF149F2CA#32 ⊥ rfl, value, trivial, value2, trivial, value3,
    trivial, value4, trivial, value5⟩

end Cert.Proof

end
